-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn_ranges [hPre_drawn_ranges : Cert.Pre_drawn_ranges.Facts] (m : (ℓ : Loc Cert.KernelIdeal.nD Cert.KernelIdeal.τ Cert.KernelIdeal.sig) → Buf (Elt Ideal) ℓ) : Prop :=
  ∀ c : Dev Cert.KernelIdeal.nD,
    (Cert.Pre_drawn_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).1 = (fun _ => 1#1)
    ∧ (Cert.Pre_drawn_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn_ranges [hPre_drawn_ranges : Cert.Pre_drawn_ranges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).1 = (fun _ => 1#1)
    ∧ (Cert.Pre_drawn_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_KernelIdeal_pre_drawn_ranges [hKernelIdeal : Cert.KernelIdeal.Facts] [hPre_drawn_ranges : Cert.Pre_drawn_ranges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn_ranges m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def quiescent_ReferenceIdeal_pre_drawn_ranges [hReferenceIdeal : Cert.ReferenceIdeal.Facts] [hPre_drawn_ranges : Cert.Pre_drawn_ranges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn_ranges m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def preserves_Kernel_KernelIdeal : Prop :=
  IdealRules.named_const.Statement Cert.KernelIdeal.κ "masked_bias" .f32 0xF149F2CA#32 ⊥

def algebraic_KernelIdeal_ReferenceIdeal_pre_drawn_ranges [hKernelIdeal : Cert.KernelIdeal.Facts] [hReferenceIdeal : Cert.ReferenceIdeal.Facts] [hPre_drawn_ranges : Cert.Pre_drawn_ranges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn_ranges m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v1057)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1057) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2231) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_drawn_ranges : Cert.Pre_drawn_ranges.Facts),
    quiescent_Kernel (hKernel := hKernel)
    ∧ quiescent_KernelIdeal (hKernelIdeal := hKernelIdeal)
    ∧ quiescent_KernelIdeal_pre_drawn_ranges (hKernelIdeal := hKernelIdeal) (hPre_drawn_ranges := hPre_drawn_ranges)
    ∧ quiescent_ReferenceIdeal (hReferenceIdeal := hReferenceIdeal)
    ∧ quiescent_ReferenceIdeal_pre_drawn_ranges (hReferenceIdeal := hReferenceIdeal) (hPre_drawn_ranges := hPre_drawn_ranges)
    ∧ preserves_Kernel_KernelIdeal
    ∧ algebraic_KernelIdeal_ReferenceIdeal_pre_drawn_ranges (hKernelIdeal := hKernelIdeal) (hReferenceIdeal := hReferenceIdeal) (hPre_drawn_ranges := hPre_drawn_ranges)
-- ==== Pre_drawn_ranges.lean ====
abbrev S10000x1 : Shape := ⟨2, ![10000, 1]⟩
abbrev S2x320000 : Shape := ⟨2, ![2, 320000]⟩
abbrev S320000x3 : Shape := ⟨2, ![320000, 3]⟩
abbrev S125x1x32 : Shape := ⟨3, ![125, 1, 32]⟩
abbrev S1x32 : Shape := ⟨2, ![1, 32]⟩
abbrev S32 : Shape := ⟨1, ![32]⟩
abbrev S125x32x64 : Shape := ⟨3, ![125, 32, 64]⟩
abbrev S32x64 : Shape := ⟨2, ![32, 64]⟩
abbrev S64 : Shape := ⟨1, ![64]⟩
abbrev S125x64x64 : Shape := ⟨3, ![125, 64, 64]⟩
abbrev S64x64 : Shape := ⟨2, ![64, 64]⟩
abbrev S64x256 : Shape := ⟨2, ![64, 256]⟩
abbrev S256 : Shape := ⟨1, ![256]⟩
abbrev S256x6890 : Shape := ⟨2, ![256, 6890]⟩
abbrev S6890 : Shape := ⟨1, ![6890]⟩
abbrev S1x320000 : Shape := ⟨2, ![1, 320000]⟩
abbrev S320000 : Shape := ⟨1, ![320000]⟩
abbrev S_ : Shape := ⟨0, ![]⟩

class Facts : Prop where
  slices_S2x320000_S1x320000_1_0 : S2x320000.Slices ![1, 0] S1x320000
  shapeCasts_S1x320000_S320000 : S1x320000.ShapeCasts S320000
  bcast_S_S320000 : S_.BroadcastsInDim S320000 (![] : Fin 0 → Fin S320000.rank)
  bcast_S_S320000x3 : S_.BroadcastsInDim S320000x3 (![] : Fin 0 → Fin S320000x3.rank)

variable [Facts]

def fn {F : FTy → Type} [FloatOps F] (main_arg0 : FVec F S10000x1 .f32) (main_arg1 : IVec S2x320000 32) (main_arg2 : FVec F S320000x3 .f32) (main_arg3 : FVec F S125x1x32 .f32) (main_arg4 : FVec F S1x32 .f32) (main_arg5 : FVec F S32 .f32) (main_arg6 : FVec F S125x32x64 .f32) (main_arg7 : FVec F S32x64 .f32) (main_arg8 : FVec F S64 .f32) (main_arg9 : FVec F S125x64x64 .f32) (main_arg10 : FVec F S64x64 .f32) (main_arg11 : FVec F S64 .f32) (main_arg12 : FVec F S125x64x64 .f32) (main_arg13 : FVec F S64x64 .f32) (main_arg14 : FVec F S64 .f32) (main_arg15 : FVec F S125x64x64 .f32) (main_arg16 : FVec F S64x64 .f32) (main_arg17 : FVec F S64 .f32) (main_arg18 : FVec F S125x64x64 .f32) (main_arg19 : FVec F S64x64 .f32) (main_arg20 : FVec F S64 .f32) (main_arg21 : FVec F S64x256 .f32) (main_arg22 : FVec F S256 .f32) (main_arg23 : FVec F S256x6890 .f32) (main_arg24 : FVec F S6890 .f32) : IVec S320000 1 × IVec S320000x3 1 :=
  let main_v0 : IVec S1x320000 32 := (extractStridedSlice S1x320000 ![1, 0] · slices_S2x320000_S1x320000_1_0) main_arg1
  let main_v1 : IVec S320000 32 := shapeCast S320000 main_v0 shapeCasts_S1x320000_S320000
  let main_c : IVec S_ 32 := constantI S_ 32 0#32
  let main_v2 : IVec S320000 32 := broadcastInDim S320000 ![] bcast_S_S320000 main_c
  let main_v3 : IVec S320000 1 := cmpi .sge main_v1 main_v2
  let main_c_0 : IVec S_ 32 := constantI S_ 32 10000#32
  let main_v4 : IVec S320000 32 := broadcastInDim S320000 ![] bcast_S_S320000 main_c_0
  let main_v5 : IVec S320000 1 := cmpi .slt main_v1 main_v4
  let main_v6 : IVec S320000 1 := andi main_v3 main_v5
  let main_cst : FVec F S_ .f32 := constant S_ .f32 0x00000000#32
  let main_v7 : FVec F S320000x3 .f32 := broadcastInDim S320000x3 ![] bcast_S_S320000x3 main_cst
  let main_v8 : IVec S320000x3 1 := cmpf .oge main_arg2 main_v7
  let main_cst_1 : FVec F S_ .f32 := constant S_ .f32 0x3F800000#32
  let main_v9 : FVec F S320000x3 .f32 := broadcastInDim S320000x3 ![] bcast_S_S320000x3 main_cst_1
  let main_v10 : IVec S320000x3 1 := cmpf .olt main_arg2 main_v9
  let main_v11 : IVec S320000x3 1 := andi main_v8 main_v10
  (main_v6, main_v11)
-- ==== Kernel.lean ====
abbrev S10000x1 : Shape := ⟨2, ![10000, 1]⟩
abbrev S2x320000 : Shape := ⟨2, ![2, 320000]⟩
abbrev S320000x3 : Shape := ⟨2, ![320000, 3]⟩
abbrev S125x1x32 : Shape := ⟨3, ![125, 1, 32]⟩
abbrev S1x32 : Shape := ⟨2, ![1, 32]⟩
abbrev S32 : Shape := ⟨1, ![32]⟩
abbrev S125x32x64 : Shape := ⟨3, ![125, 32, 64]⟩
abbrev S32x64 : Shape := ⟨2, ![32, 64]⟩
abbrev S64 : Shape := ⟨1, ![64]⟩
abbrev S125x64x64 : Shape := ⟨3, ![125, 64, 64]⟩
abbrev S64x64 : Shape := ⟨2, ![64, 64]⟩
abbrev S64x256 : Shape := ⟨2, ![64, 256]⟩
abbrev S256 : Shape := ⟨1, ![256]⟩
abbrev S256x6890 : Shape := ⟨2, ![256, 6890]⟩
abbrev S6890 : Shape := ⟨1, ![6890]⟩
abbrev S1x320000 : Shape := ⟨2, ![1, 320000]⟩
abbrev S320000 : Shape := ⟨1, ![320000]⟩
abbrev S_ : Shape := ⟨0, ![]⟩
abbrev S10000 : Shape := ⟨1, ![10000]⟩
abbrev S320000x1 : Shape := ⟨2, ![320000, 1]⟩
abbrev S8x320000 : Shape := ⟨2, ![8, 320000]⟩
abbrev S1250000x1 : Shape := ⟨2, ![1250000, 1]⟩
abbrev S10000x125 : Shape := ⟨2, ![10000, 125]⟩
abbrev S125x32 : Shape := ⟨2, ![125, 32]⟩
abbrev S10000x32 : Shape := ⟨2, ![10000, 32]⟩
abbrev S400x125 : Shape := ⟨2, ![400, 125]⟩
abbrev S400x1 : Shape := ⟨2, ![400, 1]⟩
abbrev S400x32 : Shape := ⟨2, ![400, 32]⟩
abbrev S320000x32 : Shape := ⟨2, ![320000, 32]⟩
abbrev S1250000x32 : Shape := ⟨2, ![1250000, 32]⟩
abbrev S10000x4000 : Shape := ⟨2, ![10000, 4000]⟩
abbrev S4000x64 : Shape := ⟨2, ![4000, 64]⟩
abbrev S1x64 : Shape := ⟨2, ![1, 64]⟩
abbrev S10000x64 : Shape := ⟨2, ![10000, 64]⟩
abbrev S400x4000 : Shape := ⟨2, ![400, 4000]⟩
abbrev S400x64 : Shape := ⟨2, ![400, 64]⟩
abbrev S320000x64 : Shape := ⟨2, ![320000, 64]⟩
abbrev S1250000x64 : Shape := ⟨2, ![1250000, 64]⟩
abbrev S10000x8000 : Shape := ⟨2, ![10000, 8000]⟩
abbrev S8000x64 : Shape := ⟨2, ![8000, 64]⟩
abbrev S400x8000 : Shape := ⟨2, ![400, 8000]⟩
abbrev S256x6912 : Shape := ⟨2, ![256, 6912]⟩
abbrev S1 : Shape := ⟨1, ![1]⟩
abbrev S1x6912 : Shape := ⟨2, ![1, 6912]⟩
abbrev S2 : Shape := ⟨1, ![2]⟩
abbrev S1x256 : Shape := ⟨2, ![1, 256]⟩
abbrev S10000x6912 : Shape := ⟨2, ![10000, 6912]⟩
abbrev S400x6912 : Shape := ⟨2, ![400, 6912]⟩
abbrev S400x256 : Shape := ⟨2, ![400, 256]⟩
abbrev S400 : Shape := ⟨1, ![400]⟩
abbrev S10000x6890 : Shape := ⟨2, ![10000, 6890]⟩

abbrev nBuf : Space → Nat
  | .hbm => 1273
  | .vmem => 62
  | .smem => 0
  | _ => 0

abbrev hbmTy0_0 (i : Nat) : BufTy := match i % 128 with
  | 0 => ⟨S10000x1, .f32⟩
  | 1 => ⟨S2x320000, .i32⟩
  | 2 => ⟨S320000x3, .f32⟩
  | 3 => ⟨S125x1x32, .f32⟩
  | 4 => ⟨S1x32, .f32⟩
  | 5 => ⟨S32, .f32⟩
  | 6 => ⟨S125x32x64, .f32⟩
  | 7 => ⟨S32x64, .f32⟩
  | 8 => ⟨S64, .f32⟩
  | 9 => ⟨S125x64x64, .f32⟩
  | 10 => ⟨S64x64, .f32⟩
  | 11 => ⟨S64, .f32⟩
  | 12 => ⟨S125x64x64, .f32⟩
  | 13 => ⟨S64x64, .f32⟩
  | 14 => ⟨S64, .f32⟩
  | 15 => ⟨S125x64x64, .f32⟩
  | 16 => ⟨S64x64, .f32⟩
  | 17 => ⟨S64, .f32⟩
  | 18 => ⟨S125x64x64, .f32⟩
  | 19 => ⟨S64x64, .f32⟩
  | 20 => ⟨S64, .f32⟩
  | 21 => ⟨S64x256, .f32⟩
  | 22 => ⟨S256, .f32⟩
  | 23 => ⟨S256x6890, .f32⟩
  | 24 => ⟨S6890, .f32⟩
  | 25 => ⟨S1x320000, .i32⟩
  | 26 => ⟨S320000, .i32⟩
  | 27 => ⟨S1x320000, .i32⟩
  | 28 => ⟨S320000, .i32⟩
  | 29 => ⟨S_, .f32⟩
  | 30 => ⟨S320000x3, .f32⟩
  | 31 => ⟨S320000x3, .f32⟩
  | 32 => ⟨S320000x3, .f32⟩
  | 33 => ⟨S320000x3, .i32⟩
  | 34 => ⟨S320000x3, .f32⟩
  | 35 => ⟨S320000x3, .f32⟩
  | 36 => ⟨S_, .f32⟩
  | 37 => ⟨S10000, .f32⟩
  | 38 => ⟨S_, .i32⟩
  | 39 => ⟨S320000, .i32⟩
  | 40 => ⟨S320000, .i1⟩
  | 41 => ⟨S_, .i32⟩
  | 42 => ⟨S320000, .i32⟩
  | 43 => ⟨S320000, .i32⟩
  | 44 => ⟨S320000, .i32⟩
  | 45 => ⟨S320000x1, .i32⟩
  | 46 => ⟨S_, .f32⟩
  | 47 => ⟨S320000, .f32⟩
  | 48 => ⟨S10000, .f32⟩
  | 49 => ⟨S_, .f32⟩
  | 50 => ⟨S_, .f32⟩
  | 51 => ⟨S10000, .f32⟩
  | 52 => ⟨S10000, .f32⟩
  | 53 => ⟨S_, .f32⟩
  | 54 => ⟨S10000, .f32⟩
  | 55 => ⟨S10000, .f32⟩
  | 56 => ⟨S_, .i32⟩
  | 57 => ⟨S320000, .i32⟩
  | 58 => ⟨S320000, .i1⟩
  | 59 => ⟨S_, .i32⟩
  | 60 => ⟨S320000, .i32⟩
  | 61 => ⟨S320000, .i32⟩
  | 62 => ⟨S320000, .i32⟩
  | 63 => ⟨S320000x1, .i32⟩
  | 64 => ⟨S320000, .f32⟩
  | 65 => ⟨S320000x1, .f32⟩
  | 66 => ⟨S320000, .f32⟩
  | 67 => ⟨S_, .f32⟩
  | 68 => ⟨S320000, .f32⟩
  | 69 => ⟨S320000, .f32⟩
  | 70 => ⟨S320000x1, .f32⟩
  | 71 => ⟨S320000, .f32⟩
  | 72 => ⟨S_, .f32⟩
  | 73 => ⟨S320000, .f32⟩
  | 74 => ⟨S320000, .f32⟩
  | 75 => ⟨S320000x1, .f32⟩
  | 76 => ⟨S320000, .f32⟩
  | 77 => ⟨S_, .f32⟩
  | 78 => ⟨S320000, .f32⟩
  | 79 => ⟨S320000, .f32⟩
  | 80 => ⟨S320000, .f32⟩
  | 81 => ⟨S320000, .f32⟩
  | 82 => ⟨S320000, .f32⟩
  | 83 => ⟨S320000x1, .i32⟩
  | 84 => ⟨S320000, .i32⟩
  | 85 => ⟨S_, .i32⟩
  | 86 => ⟨S320000, .i32⟩
  | 87 => ⟨S320000, .i32⟩
  | 88 => ⟨S320000x1, .i32⟩
  | 89 => ⟨S320000, .i32⟩
  | 90 => ⟨S_, .i32⟩
  | 91 => ⟨S320000, .i32⟩
  | 92 => ⟨S320000, .i32⟩
  | 93 => ⟨S_, .i32⟩
  | 94 => ⟨S320000, .i32⟩
  | 95 => ⟨S320000, .i32⟩
  | 96 => ⟨S320000, .i32⟩
  | 97 => ⟨S320000x1, .i32⟩
  | 98 => ⟨S320000, .i32⟩
  | 99 => ⟨S_, .i32⟩
  | 100 => ⟨S320000, .i32⟩
  | 101 => ⟨S320000, .i32⟩
  | 102 => ⟨S_, .i32⟩
  | 103 => ⟨S320000, .i32⟩
  | 104 => ⟨S320000, .i32⟩
  | 105 => ⟨S320000, .i32⟩
  | 106 => ⟨S_, .i32⟩
  | 107 => ⟨S320000, .i32⟩
  | 108 => ⟨S320000, .i32⟩
  | 109 => ⟨S320000, .i32⟩
  | 110 => ⟨S320000x1, .f32⟩
  | 111 => ⟨S320000, .f32⟩
  | 112 => ⟨S_, .f32⟩
  | 113 => ⟨S320000, .f32⟩
  | 114 => ⟨S320000, .f32⟩
  | 115 => ⟨S320000x1, .f32⟩
  | 116 => ⟨S320000, .f32⟩
  | 117 => ⟨S_, .f32⟩
  | 118 => ⟨S320000, .f32⟩
  | 119 => ⟨S320000, .f32⟩
  | 120 => ⟨S320000x1, .f32⟩
  | 121 => ⟨S320000, .f32⟩
  | 122 => ⟨S320000, .f32⟩
  | 123 => ⟨S320000, .f32⟩
  | 124 => ⟨S320000, .f32⟩
  | 125 => ⟨S320000x1, .i32⟩
  | 126 => ⟨S320000, .i32⟩
  | 127 => ⟨S_, .i32⟩
  | _ => ⟨S10000x1, .f32⟩

abbrev hbmTy0_1 (i : Nat) : BufTy := match i % 128 with
  | 0 => ⟨S320000, .i32⟩
  | 1 => ⟨S320000, .i32⟩
  | 2 => ⟨S320000x1, .i32⟩
  | 3 => ⟨S320000, .i32⟩
  | 4 => ⟨S_, .i32⟩
  | 5 => ⟨S320000, .i32⟩
  | 6 => ⟨S320000, .i32⟩
  | 7 => ⟨S_, .i32⟩
  | 8 => ⟨S320000, .i32⟩
  | 9 => ⟨S320000, .i32⟩
  | 10 => ⟨S320000, .i32⟩
  | 11 => ⟨S320000x1, .i32⟩
  | 12 => ⟨S320000, .i32⟩
  | 13 => ⟨S_, .i32⟩
  | 14 => ⟨S320000, .i32⟩
  | 15 => ⟨S320000, .i32⟩
  | 16 => ⟨S_, .i32⟩
  | 17 => ⟨S320000, .i32⟩
  | 18 => ⟨S320000, .i32⟩
  | 19 => ⟨S320000, .i32⟩
  | 20 => ⟨S_, .i32⟩
  | 21 => ⟨S320000, .i32⟩
  | 22 => ⟨S320000, .i32⟩
  | 23 => ⟨S320000, .i32⟩
  | 24 => ⟨S320000x1, .f32⟩
  | 25 => ⟨S320000, .f32⟩
  | 26 => ⟨S_, .f32⟩
  | 27 => ⟨S320000, .f32⟩
  | 28 => ⟨S320000, .f32⟩
  | 29 => ⟨S320000x1, .f32⟩
  | 30 => ⟨S320000, .f32⟩
  | 31 => ⟨S320000x1, .f32⟩
  | 32 => ⟨S320000, .f32⟩
  | 33 => ⟨S_, .f32⟩
  | 34 => ⟨S320000, .f32⟩
  | 35 => ⟨S320000, .f32⟩
  | 36 => ⟨S320000, .f32⟩
  | 37 => ⟨S320000, .f32⟩
  | 38 => ⟨S320000, .f32⟩
  | 39 => ⟨S320000x1, .i32⟩
  | 40 => ⟨S320000, .i32⟩
  | 41 => ⟨S_, .i32⟩
  | 42 => ⟨S320000, .i32⟩
  | 43 => ⟨S320000, .i32⟩
  | 44 => ⟨S320000x1, .i32⟩
  | 45 => ⟨S320000, .i32⟩
  | 46 => ⟨S_, .i32⟩
  | 47 => ⟨S320000, .i32⟩
  | 48 => ⟨S320000, .i32⟩
  | 49 => ⟨S_, .i32⟩
  | 50 => ⟨S320000, .i32⟩
  | 51 => ⟨S320000, .i32⟩
  | 52 => ⟨S320000, .i32⟩
  | 53 => ⟨S320000x1, .i32⟩
  | 54 => ⟨S320000, .i32⟩
  | 55 => ⟨S_, .i32⟩
  | 56 => ⟨S320000, .i32⟩
  | 57 => ⟨S320000, .i32⟩
  | 58 => ⟨S_, .i32⟩
  | 59 => ⟨S320000, .i32⟩
  | 60 => ⟨S320000, .i32⟩
  | 61 => ⟨S320000, .i32⟩
  | 62 => ⟨S_, .i32⟩
  | 63 => ⟨S320000, .i32⟩
  | 64 => ⟨S320000, .i32⟩
  | 65 => ⟨S320000, .i32⟩
  | 66 => ⟨S320000x1, .f32⟩
  | 67 => ⟨S320000, .f32⟩
  | 68 => ⟨S_, .f32⟩
  | 69 => ⟨S320000, .f32⟩
  | 70 => ⟨S320000, .f32⟩
  | 71 => ⟨S320000x1, .f32⟩
  | 72 => ⟨S320000, .f32⟩
  | 73 => ⟨S320000x1, .f32⟩
  | 74 => ⟨S320000, .f32⟩
  | 75 => ⟨S320000, .f32⟩
  | 76 => ⟨S320000, .f32⟩
  | 77 => ⟨S320000, .f32⟩
  | 78 => ⟨S320000x1, .i32⟩
  | 79 => ⟨S320000, .i32⟩
  | 80 => ⟨S_, .i32⟩
  | 81 => ⟨S320000, .i32⟩
  | 82 => ⟨S320000, .i32⟩
  | 83 => ⟨S320000x1, .i32⟩
  | 84 => ⟨S320000, .i32⟩
  | 85 => ⟨S_, .i32⟩
  | 86 => ⟨S320000, .i32⟩
  | 87 => ⟨S320000, .i32⟩
  | 88 => ⟨S_, .i32⟩
  | 89 => ⟨S320000, .i32⟩
  | 90 => ⟨S320000, .i32⟩
  | 91 => ⟨S320000, .i32⟩
  | 92 => ⟨S320000x1, .i32⟩
  | 93 => ⟨S320000, .i32⟩
  | 94 => ⟨S_, .i32⟩
  | 95 => ⟨S320000, .i32⟩
  | 96 => ⟨S320000, .i32⟩
  | 97 => ⟨S_, .i32⟩
  | 98 => ⟨S320000, .i32⟩
  | 99 => ⟨S320000, .i32⟩
  | 100 => ⟨S320000, .i32⟩
  | 101 => ⟨S_, .i32⟩
  | 102 => ⟨S320000, .i32⟩
  | 103 => ⟨S320000, .i32⟩
  | 104 => ⟨S320000, .i32⟩
  | 105 => ⟨S320000x1, .f32⟩
  | 106 => ⟨S320000, .f32⟩
  | 107 => ⟨S320000x1, .f32⟩
  | 108 => ⟨S320000, .f32⟩
  | 109 => ⟨S_, .f32⟩
  | 110 => ⟨S320000, .f32⟩
  | 111 => ⟨S320000, .f32⟩
  | 112 => ⟨S320000x1, .f32⟩
  | 113 => ⟨S320000, .f32⟩
  | 114 => ⟨S_, .f32⟩
  | 115 => ⟨S320000, .f32⟩
  | 116 => ⟨S320000, .f32⟩
  | 117 => ⟨S320000, .f32⟩
  | 118 => ⟨S320000, .f32⟩
  | 119 => ⟨S320000, .f32⟩
  | 120 => ⟨S320000x1, .i32⟩
  | 121 => ⟨S320000, .i32⟩
  | 122 => ⟨S_, .i32⟩
  | 123 => ⟨S320000, .i32⟩
  | 124 => ⟨S320000, .i32⟩
  | 125 => ⟨S320000x1, .i32⟩
  | 126 => ⟨S320000, .i32⟩
  | 127 => ⟨S_, .i32⟩
  | _ => ⟨S10000x1, .f32⟩

abbrev hbmTy0_2 (i : Nat) : BufTy := match i % 128 with
  | 0 => ⟨S320000, .i32⟩
  | 1 => ⟨S320000, .i32⟩
  | 2 => ⟨S_, .i32⟩
  | 3 => ⟨S320000, .i32⟩
  | 4 => ⟨S320000, .i32⟩
  | 5 => ⟨S320000, .i32⟩
  | 6 => ⟨S320000x1, .i32⟩
  | 7 => ⟨S320000, .i32⟩
  | 8 => ⟨S_, .i32⟩
  | 9 => ⟨S320000, .i32⟩
  | 10 => ⟨S320000, .i32⟩
  | 11 => ⟨S_, .i32⟩
  | 12 => ⟨S320000, .i32⟩
  | 13 => ⟨S320000, .i32⟩
  | 14 => ⟨S320000, .i32⟩
  | 15 => ⟨S_, .i32⟩
  | 16 => ⟨S320000, .i32⟩
  | 17 => ⟨S320000, .i32⟩
  | 18 => ⟨S320000, .i32⟩
  | 19 => ⟨S320000x1, .f32⟩
  | 20 => ⟨S320000, .f32⟩
  | 21 => ⟨S320000x1, .f32⟩
  | 22 => ⟨S320000, .f32⟩
  | 23 => ⟨S_, .f32⟩
  | 24 => ⟨S320000, .f32⟩
  | 25 => ⟨S320000, .f32⟩
  | 26 => ⟨S320000x1, .f32⟩
  | 27 => ⟨S320000, .f32⟩
  | 28 => ⟨S320000, .f32⟩
  | 29 => ⟨S320000, .f32⟩
  | 30 => ⟨S320000, .f32⟩
  | 31 => ⟨S320000x1, .i32⟩
  | 32 => ⟨S320000, .i32⟩
  | 33 => ⟨S_, .i32⟩
  | 34 => ⟨S320000, .i32⟩
  | 35 => ⟨S320000, .i32⟩
  | 36 => ⟨S320000x1, .i32⟩
  | 37 => ⟨S320000, .i32⟩
  | 38 => ⟨S_, .i32⟩
  | 39 => ⟨S320000, .i32⟩
  | 40 => ⟨S320000, .i32⟩
  | 41 => ⟨S_, .i32⟩
  | 42 => ⟨S320000, .i32⟩
  | 43 => ⟨S320000, .i32⟩
  | 44 => ⟨S320000, .i32⟩
  | 45 => ⟨S320000x1, .i32⟩
  | 46 => ⟨S320000, .i32⟩
  | 47 => ⟨S_, .i32⟩
  | 48 => ⟨S320000, .i32⟩
  | 49 => ⟨S320000, .i32⟩
  | 50 => ⟨S_, .i32⟩
  | 51 => ⟨S320000, .i32⟩
  | 52 => ⟨S320000, .i32⟩
  | 53 => ⟨S320000, .i32⟩
  | 54 => ⟨S_, .i32⟩
  | 55 => ⟨S320000, .i32⟩
  | 56 => ⟨S320000, .i32⟩
  | 57 => ⟨S320000, .i32⟩
  | 58 => ⟨S320000x1, .f32⟩
  | 59 => ⟨S320000, .f32⟩
  | 60 => ⟨S320000x1, .f32⟩
  | 61 => ⟨S320000, .f32⟩
  | 62 => ⟨S320000x1, .f32⟩
  | 63 => ⟨S320000, .f32⟩
  | 64 => ⟨S_, .f32⟩
  | 65 => ⟨S320000, .f32⟩
  | 66 => ⟨S320000, .f32⟩
  | 67 => ⟨S320000, .f32⟩
  | 68 => ⟨S320000, .f32⟩
  | 69 => ⟨S320000, .f32⟩
  | 70 => ⟨S320000x1, .i32⟩
  | 71 => ⟨S320000, .i32⟩
  | 72 => ⟨S_, .i32⟩
  | 73 => ⟨S320000, .i32⟩
  | 74 => ⟨S320000, .i32⟩
  | 75 => ⟨S320000x1, .i32⟩
  | 76 => ⟨S320000, .i32⟩
  | 77 => ⟨S_, .i32⟩
  | 78 => ⟨S320000, .i32⟩
  | 79 => ⟨S320000, .i32⟩
  | 80 => ⟨S_, .i32⟩
  | 81 => ⟨S320000, .i32⟩
  | 82 => ⟨S320000, .i32⟩
  | 83 => ⟨S320000, .i32⟩
  | 84 => ⟨S320000x1, .i32⟩
  | 85 => ⟨S320000, .i32⟩
  | 86 => ⟨S_, .i32⟩
  | 87 => ⟨S320000, .i32⟩
  | 88 => ⟨S320000, .i32⟩
  | 89 => ⟨S_, .i32⟩
  | 90 => ⟨S320000, .i32⟩
  | 91 => ⟨S320000, .i32⟩
  | 92 => ⟨S320000, .i32⟩
  | 93 => ⟨S_, .i32⟩
  | 94 => ⟨S320000, .i32⟩
  | 95 => ⟨S320000, .i32⟩
  | 96 => ⟨S320000, .i32⟩
  | 97 => ⟨S320000x1, .f32⟩
  | 98 => ⟨S320000, .f32⟩
  | 99 => ⟨S320000x1, .f32⟩
  | 100 => ⟨S320000, .f32⟩
  | 101 => ⟨S320000x1, .f32⟩
  | 102 => ⟨S320000, .f32⟩
  | 103 => ⟨S320000, .f32⟩
  | 104 => ⟨S320000, .f32⟩
  | 105 => ⟨S320000, .f32⟩
  | 106 => ⟨S320000x1, .i32⟩
  | 107 => ⟨S320000, .i32⟩
  | 108 => ⟨S_, .i32⟩
  | 109 => ⟨S320000, .i32⟩
  | 110 => ⟨S320000, .i32⟩
  | 111 => ⟨S320000x1, .i32⟩
  | 112 => ⟨S320000, .i32⟩
  | 113 => ⟨S_, .i32⟩
  | 114 => ⟨S320000, .i32⟩
  | 115 => ⟨S320000, .i32⟩
  | 116 => ⟨S_, .i32⟩
  | 117 => ⟨S320000, .i32⟩
  | 118 => ⟨S320000, .i32⟩
  | 119 => ⟨S320000, .i32⟩
  | 120 => ⟨S320000x1, .i32⟩
  | 121 => ⟨S320000, .i32⟩
  | 122 => ⟨S_, .i32⟩
  | 123 => ⟨S320000, .i32⟩
  | 124 => ⟨S320000, .i32⟩
  | 125 => ⟨S_, .i32⟩
  | 126 => ⟨S320000, .i32⟩
  | 127 => ⟨S320000, .i32⟩
  | _ => ⟨S10000x1, .f32⟩

abbrev hbmTy0_3 (i : Nat) : BufTy := match i % 128 with
  | 0 => ⟨S320000, .i32⟩
  | 1 => ⟨S_, .i32⟩
  | 2 => ⟨S320000, .i32⟩
  | 3 => ⟨S320000, .i32⟩
  | 4 => ⟨S320000, .i32⟩
  | 5 => ⟨S1x320000, .f32⟩
  | 6 => ⟨S1x320000, .f32⟩
  | 7 => ⟨S1x320000, .f32⟩
  | 8 => ⟨S1x320000, .f32⟩
  | 9 => ⟨S1x320000, .f32⟩
  | 10 => ⟨S1x320000, .f32⟩
  | 11 => ⟨S1x320000, .f32⟩
  | 12 => ⟨S1x320000, .f32⟩
  | 13 => ⟨S8x320000, .f32⟩
  | 14 => ⟨S1x320000, .i32⟩
  | 15 => ⟨S1x320000, .i32⟩
  | 16 => ⟨S1x320000, .i32⟩
  | 17 => ⟨S1x320000, .i32⟩
  | 18 => ⟨S1x320000, .i32⟩
  | 19 => ⟨S1x320000, .i32⟩
  | 20 => ⟨S1x320000, .i32⟩
  | 21 => ⟨S1x320000, .i32⟩
  | 22 => ⟨S8x320000, .i32⟩
  | 23 => ⟨S_, .i32⟩
  | 24 => ⟨S320000, .i32⟩
  | 25 => ⟨S320000, .i1⟩
  | 26 => ⟨S_, .i32⟩
  | 27 => ⟨S320000, .i32⟩
  | 28 => ⟨S320000, .i32⟩
  | 29 => ⟨S320000, .i32⟩
  | 30 => ⟨S320000x1, .i32⟩
  | 31 => ⟨S320000x1, .f32⟩
  | 32 => ⟨S_, .f32⟩
  | 33 => ⟨S1250000x1, .f32⟩
  | 34 => ⟨S1x320000, .i32⟩
  | 35 => ⟨S320000, .i32⟩
  | 36 => ⟨S1x320000, .f32⟩
  | 37 => ⟨S320000, .f32⟩
  | 38 => ⟨S320000x1, .f32⟩
  | 39 => ⟨S320000x1, .f32⟩
  | 40 => ⟨S_, .i32⟩
  | 41 => ⟨S320000, .i32⟩
  | 42 => ⟨S320000, .i1⟩
  | 43 => ⟨S_, .i32⟩
  | 44 => ⟨S320000, .i32⟩
  | 45 => ⟨S320000, .i32⟩
  | 46 => ⟨S320000, .i32⟩
  | 47 => ⟨S320000x1, .i32⟩
  | 48 => ⟨S1250000x1, .f32⟩
  | 49 => ⟨S1x320000, .i32⟩
  | 50 => ⟨S320000, .i32⟩
  | 51 => ⟨S1x320000, .f32⟩
  | 52 => ⟨S320000, .f32⟩
  | 53 => ⟨S320000x1, .f32⟩
  | 54 => ⟨S320000x1, .f32⟩
  | 55 => ⟨S_, .i32⟩
  | 56 => ⟨S320000, .i32⟩
  | 57 => ⟨S320000, .i1⟩
  | 58 => ⟨S_, .i32⟩
  | 59 => ⟨S320000, .i32⟩
  | 60 => ⟨S320000, .i32⟩
  | 61 => ⟨S320000, .i32⟩
  | 62 => ⟨S320000x1, .i32⟩
  | 63 => ⟨S1250000x1, .f32⟩
  | 64 => ⟨S1x320000, .i32⟩
  | 65 => ⟨S320000, .i32⟩
  | 66 => ⟨S1x320000, .f32⟩
  | 67 => ⟨S320000, .f32⟩
  | 68 => ⟨S320000x1, .f32⟩
  | 69 => ⟨S320000x1, .f32⟩
  | 70 => ⟨S_, .i32⟩
  | 71 => ⟨S320000, .i32⟩
  | 72 => ⟨S320000, .i1⟩
  | 73 => ⟨S_, .i32⟩
  | 74 => ⟨S320000, .i32⟩
  | 75 => ⟨S320000, .i32⟩
  | 76 => ⟨S320000, .i32⟩
  | 77 => ⟨S320000x1, .i32⟩
  | 78 => ⟨S1250000x1, .f32⟩
  | 79 => ⟨S1x320000, .i32⟩
  | 80 => ⟨S320000, .i32⟩
  | 81 => ⟨S1x320000, .f32⟩
  | 82 => ⟨S320000, .f32⟩
  | 83 => ⟨S320000x1, .f32⟩
  | 84 => ⟨S320000x1, .f32⟩
  | 85 => ⟨S_, .i32⟩
  | 86 => ⟨S320000, .i32⟩
  | 87 => ⟨S320000, .i1⟩
  | 88 => ⟨S_, .i32⟩
  | 89 => ⟨S320000, .i32⟩
  | 90 => ⟨S320000, .i32⟩
  | 91 => ⟨S320000, .i32⟩
  | 92 => ⟨S320000x1, .i32⟩
  | 93 => ⟨S1250000x1, .f32⟩
  | 94 => ⟨S1x320000, .i32⟩
  | 95 => ⟨S320000, .i32⟩
  | 96 => ⟨S1x320000, .f32⟩
  | 97 => ⟨S320000, .f32⟩
  | 98 => ⟨S320000x1, .f32⟩
  | 99 => ⟨S320000x1, .f32⟩
  | 100 => ⟨S_, .i32⟩
  | 101 => ⟨S320000, .i32⟩
  | 102 => ⟨S320000, .i1⟩
  | 103 => ⟨S_, .i32⟩
  | 104 => ⟨S320000, .i32⟩
  | 105 => ⟨S320000, .i32⟩
  | 106 => ⟨S320000, .i32⟩
  | 107 => ⟨S320000x1, .i32⟩
  | 108 => ⟨S1250000x1, .f32⟩
  | 109 => ⟨S1x320000, .i32⟩
  | 110 => ⟨S320000, .i32⟩
  | 111 => ⟨S1x320000, .f32⟩
  | 112 => ⟨S320000, .f32⟩
  | 113 => ⟨S320000x1, .f32⟩
  | 114 => ⟨S320000x1, .f32⟩
  | 115 => ⟨S_, .i32⟩
  | 116 => ⟨S320000, .i32⟩
  | 117 => ⟨S320000, .i1⟩
  | 118 => ⟨S_, .i32⟩
  | 119 => ⟨S320000, .i32⟩
  | 120 => ⟨S320000, .i32⟩
  | 121 => ⟨S320000, .i32⟩
  | 122 => ⟨S320000x1, .i32⟩
  | 123 => ⟨S1250000x1, .f32⟩
  | 124 => ⟨S1x320000, .i32⟩
  | 125 => ⟨S320000, .i32⟩
  | 126 => ⟨S1x320000, .f32⟩
  | 127 => ⟨S320000, .f32⟩
  | _ => ⟨S10000x1, .f32⟩

abbrev hbmTy0_4 (i : Nat) : BufTy := match i % 128 with
  | 0 => ⟨S320000x1, .f32⟩
  | 1 => ⟨S320000x1, .f32⟩
  | 2 => ⟨S_, .i32⟩
  | 3 => ⟨S320000, .i32⟩
  | 4 => ⟨S320000, .i1⟩
  | 5 => ⟨S_, .i32⟩
  | 6 => ⟨S320000, .i32⟩
  | 7 => ⟨S320000, .i32⟩
  | 8 => ⟨S320000, .i32⟩
  | 9 => ⟨S320000x1, .i32⟩
  | 10 => ⟨S1250000x1, .f32⟩
  | 11 => ⟨S1x320000, .i32⟩
  | 12 => ⟨S320000, .i32⟩
  | 13 => ⟨S1x320000, .f32⟩
  | 14 => ⟨S320000, .f32⟩
  | 15 => ⟨S320000x1, .f32⟩
  | 16 => ⟨S320000x1, .f32⟩
  | 17 => ⟨S_, .i32⟩
  | 18 => ⟨S320000, .i32⟩
  | 19 => ⟨S320000, .i1⟩
  | 20 => ⟨S_, .i32⟩
  | 21 => ⟨S320000, .i32⟩
  | 22 => ⟨S320000, .i32⟩
  | 23 => ⟨S320000, .i32⟩
  | 24 => ⟨S320000x1, .i32⟩
  | 25 => ⟨S1250000x1, .f32⟩
  | 26 => ⟨S10000x125, .f32⟩
  | 27 => ⟨S125x32, .f32⟩
  | 28 => ⟨S1x32, .f32⟩
  | 29 => ⟨S10000x32, .f32⟩
  | 30 => ⟨S_, .i32⟩
  | 31 => ⟨S320000, .i32⟩
  | 32 => ⟨S320000, .i1⟩
  | 33 => ⟨S_, .i32⟩
  | 34 => ⟨S320000, .i32⟩
  | 35 => ⟨S320000, .i32⟩
  | 36 => ⟨S320000, .i32⟩
  | 37 => ⟨S320000x1, .i32⟩
  | 38 => ⟨S320000x32, .f32⟩
  | 39 => ⟨S_, .f32⟩
  | 40 => ⟨S1250000x32, .f32⟩
  | 41 => ⟨S1x320000, .i32⟩
  | 42 => ⟨S320000, .i32⟩
  | 43 => ⟨S1x320000, .f32⟩
  | 44 => ⟨S320000, .f32⟩
  | 45 => ⟨S320000x1, .f32⟩
  | 46 => ⟨S320000x32, .f32⟩
  | 47 => ⟨S320000x32, .f32⟩
  | 48 => ⟨S_, .i32⟩
  | 49 => ⟨S320000, .i32⟩
  | 50 => ⟨S320000, .i1⟩
  | 51 => ⟨S_, .i32⟩
  | 52 => ⟨S320000, .i32⟩
  | 53 => ⟨S320000, .i32⟩
  | 54 => ⟨S320000, .i32⟩
  | 55 => ⟨S320000x1, .i32⟩
  | 56 => ⟨S1250000x32, .f32⟩
  | 57 => ⟨S1x320000, .i32⟩
  | 58 => ⟨S320000, .i32⟩
  | 59 => ⟨S1x320000, .f32⟩
  | 60 => ⟨S320000, .f32⟩
  | 61 => ⟨S320000x1, .f32⟩
  | 62 => ⟨S320000x32, .f32⟩
  | 63 => ⟨S320000x32, .f32⟩
  | 64 => ⟨S_, .i32⟩
  | 65 => ⟨S320000, .i32⟩
  | 66 => ⟨S320000, .i1⟩
  | 67 => ⟨S_, .i32⟩
  | 68 => ⟨S320000, .i32⟩
  | 69 => ⟨S320000, .i32⟩
  | 70 => ⟨S320000, .i32⟩
  | 71 => ⟨S320000x1, .i32⟩
  | 72 => ⟨S1250000x32, .f32⟩
  | 73 => ⟨S1x320000, .i32⟩
  | 74 => ⟨S320000, .i32⟩
  | 75 => ⟨S1x320000, .f32⟩
  | 76 => ⟨S320000, .f32⟩
  | 77 => ⟨S320000x1, .f32⟩
  | 78 => ⟨S320000x32, .f32⟩
  | 79 => ⟨S320000x32, .f32⟩
  | 80 => ⟨S_, .i32⟩
  | 81 => ⟨S320000, .i32⟩
  | 82 => ⟨S320000, .i1⟩
  | 83 => ⟨S_, .i32⟩
  | 84 => ⟨S320000, .i32⟩
  | 85 => ⟨S320000, .i32⟩
  | 86 => ⟨S320000, .i32⟩
  | 87 => ⟨S320000x1, .i32⟩
  | 88 => ⟨S1250000x32, .f32⟩
  | 89 => ⟨S1x320000, .i32⟩
  | 90 => ⟨S320000, .i32⟩
  | 91 => ⟨S1x320000, .f32⟩
  | 92 => ⟨S320000, .f32⟩
  | 93 => ⟨S320000x1, .f32⟩
  | 94 => ⟨S320000x32, .f32⟩
  | 95 => ⟨S320000x32, .f32⟩
  | 96 => ⟨S_, .i32⟩
  | 97 => ⟨S320000, .i32⟩
  | 98 => ⟨S320000, .i1⟩
  | 99 => ⟨S_, .i32⟩
  | 100 => ⟨S320000, .i32⟩
  | 101 => ⟨S320000, .i32⟩
  | 102 => ⟨S320000, .i32⟩
  | 103 => ⟨S320000x1, .i32⟩
  | 104 => ⟨S1250000x32, .f32⟩
  | 105 => ⟨S1x320000, .i32⟩
  | 106 => ⟨S320000, .i32⟩
  | 107 => ⟨S1x320000, .f32⟩
  | 108 => ⟨S320000, .f32⟩
  | 109 => ⟨S320000x1, .f32⟩
  | 110 => ⟨S320000x32, .f32⟩
  | 111 => ⟨S320000x32, .f32⟩
  | 112 => ⟨S_, .i32⟩
  | 113 => ⟨S320000, .i32⟩
  | 114 => ⟨S320000, .i1⟩
  | 115 => ⟨S_, .i32⟩
  | 116 => ⟨S320000, .i32⟩
  | 117 => ⟨S320000, .i32⟩
  | 118 => ⟨S320000, .i32⟩
  | 119 => ⟨S320000x1, .i32⟩
  | 120 => ⟨S1250000x32, .f32⟩
  | 121 => ⟨S1x320000, .i32⟩
  | 122 => ⟨S320000, .i32⟩
  | 123 => ⟨S1x320000, .f32⟩
  | 124 => ⟨S320000, .f32⟩
  | 125 => ⟨S320000x1, .f32⟩
  | 126 => ⟨S320000x32, .f32⟩
  | 127 => ⟨S320000x32, .f32⟩
  | _ => ⟨S10000x1, .f32⟩

abbrev hbmTy0_5 (i : Nat) : BufTy := match i % 128 with
  | 0 => ⟨S_, .i32⟩
  | 1 => ⟨S320000, .i32⟩
  | 2 => ⟨S320000, .i1⟩
  | 3 => ⟨S_, .i32⟩
  | 4 => ⟨S320000, .i32⟩
  | 5 => ⟨S320000, .i32⟩
  | 6 => ⟨S320000, .i32⟩
  | 7 => ⟨S320000x1, .i32⟩
  | 8 => ⟨S1250000x32, .f32⟩
  | 9 => ⟨S1x320000, .i32⟩
  | 10 => ⟨S320000, .i32⟩
  | 11 => ⟨S1x320000, .f32⟩
  | 12 => ⟨S320000, .f32⟩
  | 13 => ⟨S320000x1, .f32⟩
  | 14 => ⟨S320000x32, .f32⟩
  | 15 => ⟨S320000x32, .f32⟩
  | 16 => ⟨S_, .i32⟩
  | 17 => ⟨S320000, .i32⟩
  | 18 => ⟨S320000, .i1⟩
  | 19 => ⟨S_, .i32⟩
  | 20 => ⟨S320000, .i32⟩
  | 21 => ⟨S320000, .i32⟩
  | 22 => ⟨S320000, .i32⟩
  | 23 => ⟨S320000x1, .i32⟩
  | 24 => ⟨S1250000x32, .f32⟩
  | 25 => ⟨S1x320000, .i32⟩
  | 26 => ⟨S320000, .i32⟩
  | 27 => ⟨S1x320000, .f32⟩
  | 28 => ⟨S320000, .f32⟩
  | 29 => ⟨S320000x1, .f32⟩
  | 30 => ⟨S320000x32, .f32⟩
  | 31 => ⟨S320000x32, .f32⟩
  | 32 => ⟨S_, .i32⟩
  | 33 => ⟨S320000, .i32⟩
  | 34 => ⟨S320000, .i1⟩
  | 35 => ⟨S_, .i32⟩
  | 36 => ⟨S320000, .i32⟩
  | 37 => ⟨S320000, .i32⟩
  | 38 => ⟨S320000, .i32⟩
  | 39 => ⟨S320000x1, .i32⟩
  | 40 => ⟨S1250000x32, .f32⟩
  | 41 => ⟨S10000x4000, .f32⟩
  | 42 => ⟨S4000x64, .f32⟩
  | 43 => ⟨S1x64, .f32⟩
  | 44 => ⟨S10000x64, .f32⟩
  | 45 => ⟨S_, .i32⟩
  | 46 => ⟨S320000, .i32⟩
  | 47 => ⟨S320000, .i1⟩
  | 48 => ⟨S_, .i32⟩
  | 49 => ⟨S320000, .i32⟩
  | 50 => ⟨S320000, .i32⟩
  | 51 => ⟨S320000, .i32⟩
  | 52 => ⟨S320000x1, .i32⟩
  | 53 => ⟨S320000x64, .f32⟩
  | 54 => ⟨S_, .f32⟩
  | 55 => ⟨S1250000x64, .f32⟩
  | 56 => ⟨S1x320000, .i32⟩
  | 57 => ⟨S320000, .i32⟩
  | 58 => ⟨S1x320000, .f32⟩
  | 59 => ⟨S320000, .f32⟩
  | 60 => ⟨S320000x1, .f32⟩
  | 61 => ⟨S320000x64, .f32⟩
  | 62 => ⟨S320000x64, .f32⟩
  | 63 => ⟨S_, .i32⟩
  | 64 => ⟨S320000, .i32⟩
  | 65 => ⟨S320000, .i1⟩
  | 66 => ⟨S_, .i32⟩
  | 67 => ⟨S320000, .i32⟩
  | 68 => ⟨S320000, .i32⟩
  | 69 => ⟨S320000, .i32⟩
  | 70 => ⟨S320000x1, .i32⟩
  | 71 => ⟨S1250000x64, .f32⟩
  | 72 => ⟨S1x320000, .i32⟩
  | 73 => ⟨S320000, .i32⟩
  | 74 => ⟨S1x320000, .f32⟩
  | 75 => ⟨S320000, .f32⟩
  | 76 => ⟨S320000x1, .f32⟩
  | 77 => ⟨S320000x64, .f32⟩
  | 78 => ⟨S320000x64, .f32⟩
  | 79 => ⟨S_, .i32⟩
  | 80 => ⟨S320000, .i32⟩
  | 81 => ⟨S320000, .i1⟩
  | 82 => ⟨S_, .i32⟩
  | 83 => ⟨S320000, .i32⟩
  | 84 => ⟨S320000, .i32⟩
  | 85 => ⟨S320000, .i32⟩
  | 86 => ⟨S320000x1, .i32⟩
  | 87 => ⟨S1250000x64, .f32⟩
  | 88 => ⟨S1x320000, .i32⟩
  | 89 => ⟨S320000, .i32⟩
  | 90 => ⟨S1x320000, .f32⟩
  | 91 => ⟨S320000, .f32⟩
  | 92 => ⟨S320000x1, .f32⟩
  | 93 => ⟨S320000x64, .f32⟩
  | 94 => ⟨S320000x64, .f32⟩
  | 95 => ⟨S_, .i32⟩
  | 96 => ⟨S320000, .i32⟩
  | 97 => ⟨S320000, .i1⟩
  | 98 => ⟨S_, .i32⟩
  | 99 => ⟨S320000, .i32⟩
  | 100 => ⟨S320000, .i32⟩
  | 101 => ⟨S320000, .i32⟩
  | 102 => ⟨S320000x1, .i32⟩
  | 103 => ⟨S1250000x64, .f32⟩
  | 104 => ⟨S1x320000, .i32⟩
  | 105 => ⟨S320000, .i32⟩
  | 106 => ⟨S1x320000, .f32⟩
  | 107 => ⟨S320000, .f32⟩
  | 108 => ⟨S320000x1, .f32⟩
  | 109 => ⟨S320000x64, .f32⟩
  | 110 => ⟨S320000x64, .f32⟩
  | 111 => ⟨S_, .i32⟩
  | 112 => ⟨S320000, .i32⟩
  | 113 => ⟨S320000, .i1⟩
  | 114 => ⟨S_, .i32⟩
  | 115 => ⟨S320000, .i32⟩
  | 116 => ⟨S320000, .i32⟩
  | 117 => ⟨S320000, .i32⟩
  | 118 => ⟨S320000x1, .i32⟩
  | 119 => ⟨S1250000x64, .f32⟩
  | 120 => ⟨S1x320000, .i32⟩
  | 121 => ⟨S320000, .i32⟩
  | 122 => ⟨S1x320000, .f32⟩
  | 123 => ⟨S320000, .f32⟩
  | 124 => ⟨S320000x1, .f32⟩
  | 125 => ⟨S320000x64, .f32⟩
  | 126 => ⟨S320000x64, .f32⟩
  | 127 => ⟨S_, .i32⟩
  | _ => ⟨S10000x1, .f32⟩

abbrev hbmTy0_6 (i : Nat) : BufTy := match i % 128 with
  | 0 => ⟨S320000, .i32⟩
  | 1 => ⟨S320000, .i1⟩
  | 2 => ⟨S_, .i32⟩
  | 3 => ⟨S320000, .i32⟩
  | 4 => ⟨S320000, .i32⟩
  | 5 => ⟨S320000, .i32⟩
  | 6 => ⟨S320000x1, .i32⟩
  | 7 => ⟨S1250000x64, .f32⟩
  | 8 => ⟨S1x320000, .i32⟩
  | 9 => ⟨S320000, .i32⟩
  | 10 => ⟨S1x320000, .f32⟩
  | 11 => ⟨S320000, .f32⟩
  | 12 => ⟨S320000x1, .f32⟩
  | 13 => ⟨S320000x64, .f32⟩
  | 14 => ⟨S320000x64, .f32⟩
  | 15 => ⟨S_, .i32⟩
  | 16 => ⟨S320000, .i32⟩
  | 17 => ⟨S320000, .i1⟩
  | 18 => ⟨S_, .i32⟩
  | 19 => ⟨S320000, .i32⟩
  | 20 => ⟨S320000, .i32⟩
  | 21 => ⟨S320000, .i32⟩
  | 22 => ⟨S320000x1, .i32⟩
  | 23 => ⟨S1250000x64, .f32⟩
  | 24 => ⟨S1x320000, .i32⟩
  | 25 => ⟨S320000, .i32⟩
  | 26 => ⟨S1x320000, .f32⟩
  | 27 => ⟨S320000, .f32⟩
  | 28 => ⟨S320000x1, .f32⟩
  | 29 => ⟨S320000x64, .f32⟩
  | 30 => ⟨S320000x64, .f32⟩
  | 31 => ⟨S_, .i32⟩
  | 32 => ⟨S320000, .i32⟩
  | 33 => ⟨S320000, .i1⟩
  | 34 => ⟨S_, .i32⟩
  | 35 => ⟨S320000, .i32⟩
  | 36 => ⟨S320000, .i32⟩
  | 37 => ⟨S320000, .i32⟩
  | 38 => ⟨S320000x1, .i32⟩
  | 39 => ⟨S1250000x64, .f32⟩
  | 40 => ⟨S1x320000, .i32⟩
  | 41 => ⟨S320000, .i32⟩
  | 42 => ⟨S1x320000, .f32⟩
  | 43 => ⟨S320000, .f32⟩
  | 44 => ⟨S320000x1, .f32⟩
  | 45 => ⟨S320000x64, .f32⟩
  | 46 => ⟨S320000x64, .f32⟩
  | 47 => ⟨S_, .i32⟩
  | 48 => ⟨S320000, .i32⟩
  | 49 => ⟨S320000, .i1⟩
  | 50 => ⟨S_, .i32⟩
  | 51 => ⟨S320000, .i32⟩
  | 52 => ⟨S320000, .i32⟩
  | 53 => ⟨S320000, .i32⟩
  | 54 => ⟨S320000x1, .i32⟩
  | 55 => ⟨S1250000x64, .f32⟩
  | 56 => ⟨S10000x8000, .f32⟩
  | 57 => ⟨S8000x64, .f32⟩
  | 58 => ⟨S1x64, .f32⟩
  | 59 => ⟨S10000x64, .f32⟩
  | 60 => ⟨S_, .i32⟩
  | 61 => ⟨S320000, .i32⟩
  | 62 => ⟨S320000, .i1⟩
  | 63 => ⟨S_, .i32⟩
  | 64 => ⟨S320000, .i32⟩
  | 65 => ⟨S320000, .i32⟩
  | 66 => ⟨S320000, .i32⟩
  | 67 => ⟨S320000x1, .i32⟩
  | 68 => ⟨S320000x64, .f32⟩
  | 69 => ⟨S_, .f32⟩
  | 70 => ⟨S1250000x64, .f32⟩
  | 71 => ⟨S1x320000, .i32⟩
  | 72 => ⟨S320000, .i32⟩
  | 73 => ⟨S1x320000, .f32⟩
  | 74 => ⟨S320000, .f32⟩
  | 75 => ⟨S320000x1, .f32⟩
  | 76 => ⟨S320000x64, .f32⟩
  | 77 => ⟨S320000x64, .f32⟩
  | 78 => ⟨S_, .i32⟩
  | 79 => ⟨S320000, .i32⟩
  | 80 => ⟨S320000, .i1⟩
  | 81 => ⟨S_, .i32⟩
  | 82 => ⟨S320000, .i32⟩
  | 83 => ⟨S320000, .i32⟩
  | 84 => ⟨S320000, .i32⟩
  | 85 => ⟨S320000x1, .i32⟩
  | 86 => ⟨S1250000x64, .f32⟩
  | 87 => ⟨S1x320000, .i32⟩
  | 88 => ⟨S320000, .i32⟩
  | 89 => ⟨S1x320000, .f32⟩
  | 90 => ⟨S320000, .f32⟩
  | 91 => ⟨S320000x1, .f32⟩
  | 92 => ⟨S320000x64, .f32⟩
  | 93 => ⟨S320000x64, .f32⟩
  | 94 => ⟨S_, .i32⟩
  | 95 => ⟨S320000, .i32⟩
  | 96 => ⟨S320000, .i1⟩
  | 97 => ⟨S_, .i32⟩
  | 98 => ⟨S320000, .i32⟩
  | 99 => ⟨S320000, .i32⟩
  | 100 => ⟨S320000, .i32⟩
  | 101 => ⟨S320000x1, .i32⟩
  | 102 => ⟨S1250000x64, .f32⟩
  | 103 => ⟨S1x320000, .i32⟩
  | 104 => ⟨S320000, .i32⟩
  | 105 => ⟨S1x320000, .f32⟩
  | 106 => ⟨S320000, .f32⟩
  | 107 => ⟨S320000x1, .f32⟩
  | 108 => ⟨S320000x64, .f32⟩
  | 109 => ⟨S320000x64, .f32⟩
  | 110 => ⟨S_, .i32⟩
  | 111 => ⟨S320000, .i32⟩
  | 112 => ⟨S320000, .i1⟩
  | 113 => ⟨S_, .i32⟩
  | 114 => ⟨S320000, .i32⟩
  | 115 => ⟨S320000, .i32⟩
  | 116 => ⟨S320000, .i32⟩
  | 117 => ⟨S320000x1, .i32⟩
  | 118 => ⟨S1250000x64, .f32⟩
  | 119 => ⟨S1x320000, .i32⟩
  | 120 => ⟨S320000, .i32⟩
  | 121 => ⟨S1x320000, .f32⟩
  | 122 => ⟨S320000, .f32⟩
  | 123 => ⟨S320000x1, .f32⟩
  | 124 => ⟨S320000x64, .f32⟩
  | 125 => ⟨S320000x64, .f32⟩
  | 126 => ⟨S_, .i32⟩
  | 127 => ⟨S320000, .i32⟩
  | _ => ⟨S10000x1, .f32⟩

abbrev hbmTy0_7 (i : Nat) : BufTy := match i % 128 with
  | 0 => ⟨S320000, .i1⟩
  | 1 => ⟨S_, .i32⟩
  | 2 => ⟨S320000, .i32⟩
  | 3 => ⟨S320000, .i32⟩
  | 4 => ⟨S320000, .i32⟩
  | 5 => ⟨S320000x1, .i32⟩
  | 6 => ⟨S1250000x64, .f32⟩
  | 7 => ⟨S1x320000, .i32⟩
  | 8 => ⟨S320000, .i32⟩
  | 9 => ⟨S1x320000, .f32⟩
  | 10 => ⟨S320000, .f32⟩
  | 11 => ⟨S320000x1, .f32⟩
  | 12 => ⟨S320000x64, .f32⟩
  | 13 => ⟨S320000x64, .f32⟩
  | 14 => ⟨S_, .i32⟩
  | 15 => ⟨S320000, .i32⟩
  | 16 => ⟨S320000, .i1⟩
  | 17 => ⟨S_, .i32⟩
  | 18 => ⟨S320000, .i32⟩
  | 19 => ⟨S320000, .i32⟩
  | 20 => ⟨S320000, .i32⟩
  | 21 => ⟨S320000x1, .i32⟩
  | 22 => ⟨S1250000x64, .f32⟩
  | 23 => ⟨S1x320000, .i32⟩
  | 24 => ⟨S320000, .i32⟩
  | 25 => ⟨S1x320000, .f32⟩
  | 26 => ⟨S320000, .f32⟩
  | 27 => ⟨S320000x1, .f32⟩
  | 28 => ⟨S320000x64, .f32⟩
  | 29 => ⟨S320000x64, .f32⟩
  | 30 => ⟨S_, .i32⟩
  | 31 => ⟨S320000, .i32⟩
  | 32 => ⟨S320000, .i1⟩
  | 33 => ⟨S_, .i32⟩
  | 34 => ⟨S320000, .i32⟩
  | 35 => ⟨S320000, .i32⟩
  | 36 => ⟨S320000, .i32⟩
  | 37 => ⟨S320000x1, .i32⟩
  | 38 => ⟨S1250000x64, .f32⟩
  | 39 => ⟨S1x320000, .i32⟩
  | 40 => ⟨S320000, .i32⟩
  | 41 => ⟨S1x320000, .f32⟩
  | 42 => ⟨S320000, .f32⟩
  | 43 => ⟨S320000x1, .f32⟩
  | 44 => ⟨S320000x64, .f32⟩
  | 45 => ⟨S320000x64, .f32⟩
  | 46 => ⟨S_, .i32⟩
  | 47 => ⟨S320000, .i32⟩
  | 48 => ⟨S320000, .i1⟩
  | 49 => ⟨S_, .i32⟩
  | 50 => ⟨S320000, .i32⟩
  | 51 => ⟨S320000, .i32⟩
  | 52 => ⟨S320000, .i32⟩
  | 53 => ⟨S320000x1, .i32⟩
  | 54 => ⟨S1250000x64, .f32⟩
  | 55 => ⟨S1x320000, .i32⟩
  | 56 => ⟨S320000, .i32⟩
  | 57 => ⟨S1x320000, .f32⟩
  | 58 => ⟨S320000, .f32⟩
  | 59 => ⟨S320000x1, .f32⟩
  | 60 => ⟨S320000x64, .f32⟩
  | 61 => ⟨S320000x64, .f32⟩
  | 62 => ⟨S_, .i32⟩
  | 63 => ⟨S320000, .i32⟩
  | 64 => ⟨S320000, .i1⟩
  | 65 => ⟨S_, .i32⟩
  | 66 => ⟨S320000, .i32⟩
  | 67 => ⟨S320000, .i32⟩
  | 68 => ⟨S320000, .i32⟩
  | 69 => ⟨S320000x1, .i32⟩
  | 70 => ⟨S1250000x64, .f32⟩
  | 71 => ⟨S10000x8000, .f32⟩
  | 72 => ⟨S8000x64, .f32⟩
  | 73 => ⟨S1x64, .f32⟩
  | 74 => ⟨S10000x64, .f32⟩
  | 75 => ⟨S_, .i32⟩
  | 76 => ⟨S320000, .i32⟩
  | 77 => ⟨S320000, .i1⟩
  | 78 => ⟨S_, .i32⟩
  | 79 => ⟨S320000, .i32⟩
  | 80 => ⟨S320000, .i32⟩
  | 81 => ⟨S320000, .i32⟩
  | 82 => ⟨S320000x1, .i32⟩
  | 83 => ⟨S320000x64, .f32⟩
  | 84 => ⟨S_, .f32⟩
  | 85 => ⟨S1250000x64, .f32⟩
  | 86 => ⟨S1x320000, .i32⟩
  | 87 => ⟨S320000, .i32⟩
  | 88 => ⟨S1x320000, .f32⟩
  | 89 => ⟨S320000, .f32⟩
  | 90 => ⟨S320000x1, .f32⟩
  | 91 => ⟨S320000x64, .f32⟩
  | 92 => ⟨S320000x64, .f32⟩
  | 93 => ⟨S_, .i32⟩
  | 94 => ⟨S320000, .i32⟩
  | 95 => ⟨S320000, .i1⟩
  | 96 => ⟨S_, .i32⟩
  | 97 => ⟨S320000, .i32⟩
  | 98 => ⟨S320000, .i32⟩
  | 99 => ⟨S320000, .i32⟩
  | 100 => ⟨S320000x1, .i32⟩
  | 101 => ⟨S1250000x64, .f32⟩
  | 102 => ⟨S1x320000, .i32⟩
  | 103 => ⟨S320000, .i32⟩
  | 104 => ⟨S1x320000, .f32⟩
  | 105 => ⟨S320000, .f32⟩
  | 106 => ⟨S320000x1, .f32⟩
  | 107 => ⟨S320000x64, .f32⟩
  | 108 => ⟨S320000x64, .f32⟩
  | 109 => ⟨S_, .i32⟩
  | 110 => ⟨S320000, .i32⟩
  | 111 => ⟨S320000, .i1⟩
  | 112 => ⟨S_, .i32⟩
  | 113 => ⟨S320000, .i32⟩
  | 114 => ⟨S320000, .i32⟩
  | 115 => ⟨S320000, .i32⟩
  | 116 => ⟨S320000x1, .i32⟩
  | 117 => ⟨S1250000x64, .f32⟩
  | 118 => ⟨S1x320000, .i32⟩
  | 119 => ⟨S320000, .i32⟩
  | 120 => ⟨S1x320000, .f32⟩
  | 121 => ⟨S320000, .f32⟩
  | 122 => ⟨S320000x1, .f32⟩
  | 123 => ⟨S320000x64, .f32⟩
  | 124 => ⟨S320000x64, .f32⟩
  | 125 => ⟨S_, .i32⟩
  | 126 => ⟨S320000, .i32⟩
  | 127 => ⟨S320000, .i1⟩
  | _ => ⟨S10000x1, .f32⟩

abbrev hbmTy0_8 (i : Nat) : BufTy := match i % 128 with
  | 0 => ⟨S_, .i32⟩
  | 1 => ⟨S320000, .i32⟩
  | 2 => ⟨S320000, .i32⟩
  | 3 => ⟨S320000, .i32⟩
  | 4 => ⟨S320000x1, .i32⟩
  | 5 => ⟨S1250000x64, .f32⟩
  | 6 => ⟨S1x320000, .i32⟩
  | 7 => ⟨S320000, .i32⟩
  | 8 => ⟨S1x320000, .f32⟩
  | 9 => ⟨S320000, .f32⟩
  | 10 => ⟨S320000x1, .f32⟩
  | 11 => ⟨S320000x64, .f32⟩
  | 12 => ⟨S320000x64, .f32⟩
  | 13 => ⟨S_, .i32⟩
  | 14 => ⟨S320000, .i32⟩
  | 15 => ⟨S320000, .i1⟩
  | 16 => ⟨S_, .i32⟩
  | 17 => ⟨S320000, .i32⟩
  | 18 => ⟨S320000, .i32⟩
  | 19 => ⟨S320000, .i32⟩
  | 20 => ⟨S320000x1, .i32⟩
  | 21 => ⟨S1250000x64, .f32⟩
  | 22 => ⟨S1x320000, .i32⟩
  | 23 => ⟨S320000, .i32⟩
  | 24 => ⟨S1x320000, .f32⟩
  | 25 => ⟨S320000, .f32⟩
  | 26 => ⟨S320000x1, .f32⟩
  | 27 => ⟨S320000x64, .f32⟩
  | 28 => ⟨S320000x64, .f32⟩
  | 29 => ⟨S_, .i32⟩
  | 30 => ⟨S320000, .i32⟩
  | 31 => ⟨S320000, .i1⟩
  | 32 => ⟨S_, .i32⟩
  | 33 => ⟨S320000, .i32⟩
  | 34 => ⟨S320000, .i32⟩
  | 35 => ⟨S320000, .i32⟩
  | 36 => ⟨S320000x1, .i32⟩
  | 37 => ⟨S1250000x64, .f32⟩
  | 38 => ⟨S1x320000, .i32⟩
  | 39 => ⟨S320000, .i32⟩
  | 40 => ⟨S1x320000, .f32⟩
  | 41 => ⟨S320000, .f32⟩
  | 42 => ⟨S320000x1, .f32⟩
  | 43 => ⟨S320000x64, .f32⟩
  | 44 => ⟨S320000x64, .f32⟩
  | 45 => ⟨S_, .i32⟩
  | 46 => ⟨S320000, .i32⟩
  | 47 => ⟨S320000, .i1⟩
  | 48 => ⟨S_, .i32⟩
  | 49 => ⟨S320000, .i32⟩
  | 50 => ⟨S320000, .i32⟩
  | 51 => ⟨S320000, .i32⟩
  | 52 => ⟨S320000x1, .i32⟩
  | 53 => ⟨S1250000x64, .f32⟩
  | 54 => ⟨S1x320000, .i32⟩
  | 55 => ⟨S320000, .i32⟩
  | 56 => ⟨S1x320000, .f32⟩
  | 57 => ⟨S320000, .f32⟩
  | 58 => ⟨S320000x1, .f32⟩
  | 59 => ⟨S320000x64, .f32⟩
  | 60 => ⟨S320000x64, .f32⟩
  | 61 => ⟨S_, .i32⟩
  | 62 => ⟨S320000, .i32⟩
  | 63 => ⟨S320000, .i1⟩
  | 64 => ⟨S_, .i32⟩
  | 65 => ⟨S320000, .i32⟩
  | 66 => ⟨S320000, .i32⟩
  | 67 => ⟨S320000, .i32⟩
  | 68 => ⟨S320000x1, .i32⟩
  | 69 => ⟨S1250000x64, .f32⟩
  | 70 => ⟨S1x320000, .i32⟩
  | 71 => ⟨S320000, .i32⟩
  | 72 => ⟨S1x320000, .f32⟩
  | 73 => ⟨S320000, .f32⟩
  | 74 => ⟨S320000x1, .f32⟩
  | 75 => ⟨S320000x64, .f32⟩
  | 76 => ⟨S320000x64, .f32⟩
  | 77 => ⟨S_, .i32⟩
  | 78 => ⟨S320000, .i32⟩
  | 79 => ⟨S320000, .i1⟩
  | 80 => ⟨S_, .i32⟩
  | 81 => ⟨S320000, .i32⟩
  | 82 => ⟨S320000, .i32⟩
  | 83 => ⟨S320000, .i32⟩
  | 84 => ⟨S320000x1, .i32⟩
  | 85 => ⟨S1250000x64, .f32⟩
  | 86 => ⟨S10000x8000, .f32⟩
  | 87 => ⟨S8000x64, .f32⟩
  | 88 => ⟨S1x64, .f32⟩
  | 89 => ⟨S10000x64, .f32⟩
  | 90 => ⟨S_, .i32⟩
  | 91 => ⟨S320000, .i32⟩
  | 92 => ⟨S320000, .i1⟩
  | 93 => ⟨S_, .i32⟩
  | 94 => ⟨S320000, .i32⟩
  | 95 => ⟨S320000, .i32⟩
  | 96 => ⟨S320000, .i32⟩
  | 97 => ⟨S320000x1, .i32⟩
  | 98 => ⟨S320000x64, .f32⟩
  | 99 => ⟨S_, .f32⟩
  | 100 => ⟨S1250000x64, .f32⟩
  | 101 => ⟨S1x320000, .i32⟩
  | 102 => ⟨S320000, .i32⟩
  | 103 => ⟨S1x320000, .f32⟩
  | 104 => ⟨S320000, .f32⟩
  | 105 => ⟨S320000x1, .f32⟩
  | 106 => ⟨S320000x64, .f32⟩
  | 107 => ⟨S320000x64, .f32⟩
  | 108 => ⟨S_, .i32⟩
  | 109 => ⟨S320000, .i32⟩
  | 110 => ⟨S320000, .i1⟩
  | 111 => ⟨S_, .i32⟩
  | 112 => ⟨S320000, .i32⟩
  | 113 => ⟨S320000, .i32⟩
  | 114 => ⟨S320000, .i32⟩
  | 115 => ⟨S320000x1, .i32⟩
  | 116 => ⟨S1250000x64, .f32⟩
  | 117 => ⟨S1x320000, .i32⟩
  | 118 => ⟨S320000, .i32⟩
  | 119 => ⟨S1x320000, .f32⟩
  | 120 => ⟨S320000, .f32⟩
  | 121 => ⟨S320000x1, .f32⟩
  | 122 => ⟨S320000x64, .f32⟩
  | 123 => ⟨S320000x64, .f32⟩
  | 124 => ⟨S_, .i32⟩
  | 125 => ⟨S320000, .i32⟩
  | 126 => ⟨S320000, .i1⟩
  | 127 => ⟨S_, .i32⟩
  | _ => ⟨S10000x1, .f32⟩

abbrev hbmTy0_9 (i : Nat) : BufTy := match i % 128 with
  | 0 => ⟨S320000, .i32⟩
  | 1 => ⟨S320000, .i32⟩
  | 2 => ⟨S320000, .i32⟩
  | 3 => ⟨S320000x1, .i32⟩
  | 4 => ⟨S1250000x64, .f32⟩
  | 5 => ⟨S1x320000, .i32⟩
  | 6 => ⟨S320000, .i32⟩
  | 7 => ⟨S1x320000, .f32⟩
  | 8 => ⟨S320000, .f32⟩
  | 9 => ⟨S320000x1, .f32⟩
  | 10 => ⟨S320000x64, .f32⟩
  | 11 => ⟨S320000x64, .f32⟩
  | 12 => ⟨S_, .i32⟩
  | 13 => ⟨S320000, .i32⟩
  | 14 => ⟨S320000, .i1⟩
  | 15 => ⟨S_, .i32⟩
  | 16 => ⟨S320000, .i32⟩
  | 17 => ⟨S320000, .i32⟩
  | 18 => ⟨S320000, .i32⟩
  | 19 => ⟨S320000x1, .i32⟩
  | 20 => ⟨S1250000x64, .f32⟩
  | 21 => ⟨S1x320000, .i32⟩
  | 22 => ⟨S320000, .i32⟩
  | 23 => ⟨S1x320000, .f32⟩
  | 24 => ⟨S320000, .f32⟩
  | 25 => ⟨S320000x1, .f32⟩
  | 26 => ⟨S320000x64, .f32⟩
  | 27 => ⟨S320000x64, .f32⟩
  | 28 => ⟨S_, .i32⟩
  | 29 => ⟨S320000, .i32⟩
  | 30 => ⟨S320000, .i1⟩
  | 31 => ⟨S_, .i32⟩
  | 32 => ⟨S320000, .i32⟩
  | 33 => ⟨S320000, .i32⟩
  | 34 => ⟨S320000, .i32⟩
  | 35 => ⟨S320000x1, .i32⟩
  | 36 => ⟨S1250000x64, .f32⟩
  | 37 => ⟨S1x320000, .i32⟩
  | 38 => ⟨S320000, .i32⟩
  | 39 => ⟨S1x320000, .f32⟩
  | 40 => ⟨S320000, .f32⟩
  | 41 => ⟨S320000x1, .f32⟩
  | 42 => ⟨S320000x64, .f32⟩
  | 43 => ⟨S320000x64, .f32⟩
  | 44 => ⟨S_, .i32⟩
  | 45 => ⟨S320000, .i32⟩
  | 46 => ⟨S320000, .i1⟩
  | 47 => ⟨S_, .i32⟩
  | 48 => ⟨S320000, .i32⟩
  | 49 => ⟨S320000, .i32⟩
  | 50 => ⟨S320000, .i32⟩
  | 51 => ⟨S320000x1, .i32⟩
  | 52 => ⟨S1250000x64, .f32⟩
  | 53 => ⟨S1x320000, .i32⟩
  | 54 => ⟨S320000, .i32⟩
  | 55 => ⟨S1x320000, .f32⟩
  | 56 => ⟨S320000, .f32⟩
  | 57 => ⟨S320000x1, .f32⟩
  | 58 => ⟨S320000x64, .f32⟩
  | 59 => ⟨S320000x64, .f32⟩
  | 60 => ⟨S_, .i32⟩
  | 61 => ⟨S320000, .i32⟩
  | 62 => ⟨S320000, .i1⟩
  | 63 => ⟨S_, .i32⟩
  | 64 => ⟨S320000, .i32⟩
  | 65 => ⟨S320000, .i32⟩
  | 66 => ⟨S320000, .i32⟩
  | 67 => ⟨S320000x1, .i32⟩
  | 68 => ⟨S1250000x64, .f32⟩
  | 69 => ⟨S1x320000, .i32⟩
  | 70 => ⟨S320000, .i32⟩
  | 71 => ⟨S1x320000, .f32⟩
  | 72 => ⟨S320000, .f32⟩
  | 73 => ⟨S320000x1, .f32⟩
  | 74 => ⟨S320000x64, .f32⟩
  | 75 => ⟨S320000x64, .f32⟩
  | 76 => ⟨S_, .i32⟩
  | 77 => ⟨S320000, .i32⟩
  | 78 => ⟨S320000, .i1⟩
  | 79 => ⟨S_, .i32⟩
  | 80 => ⟨S320000, .i32⟩
  | 81 => ⟨S320000, .i32⟩
  | 82 => ⟨S320000, .i32⟩
  | 83 => ⟨S320000x1, .i32⟩
  | 84 => ⟨S1250000x64, .f32⟩
  | 85 => ⟨S1x320000, .i32⟩
  | 86 => ⟨S320000, .i32⟩
  | 87 => ⟨S1x320000, .f32⟩
  | 88 => ⟨S320000, .f32⟩
  | 89 => ⟨S320000x1, .f32⟩
  | 90 => ⟨S320000x64, .f32⟩
  | 91 => ⟨S320000x64, .f32⟩
  | 92 => ⟨S_, .i32⟩
  | 93 => ⟨S320000, .i32⟩
  | 94 => ⟨S320000, .i1⟩
  | 95 => ⟨S_, .i32⟩
  | 96 => ⟨S320000, .i32⟩
  | 97 => ⟨S320000, .i32⟩
  | 98 => ⟨S320000, .i32⟩
  | 99 => ⟨S320000x1, .i32⟩
  | 100 => ⟨S1250000x64, .f32⟩
  | 101 => ⟨S10000x8000, .f32⟩
  | 102 => ⟨S8000x64, .f32⟩
  | 103 => ⟨S1x64, .f32⟩
  | 104 => ⟨S10000x64, .f32⟩
  | 105 => ⟨S_, .f32⟩
  | 106 => ⟨S256x6912, .f32⟩
  | 107 => ⟨S_, .i32⟩
  | 108 => ⟨S1, .i32⟩
  | 109 => ⟨S256x6912, .f32⟩
  | 110 => ⟨S_, .f32⟩
  | 111 => ⟨S1x6912, .f32⟩
  | 112 => ⟨S_, .i32⟩
  | 113 => ⟨S1, .i32⟩
  | 114 => ⟨S_, .i32⟩
  | 115 => ⟨S1, .i32⟩
  | 116 => ⟨S2, .i32⟩
  | 117 => ⟨S1x6912, .f32⟩
  | 118 => ⟨S1x256, .f32⟩
  | 119 => ⟨S10000x6912, .f32⟩
  | 120 => ⟨S10000x6890, .f32⟩
  | _ => ⟨S10000x1, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S10000x1, .f32⟩

abbrev bufTy : (tb : Table) → Fin (tcTables nBuf tb) → BufTy
  | .hbm, ⟨i, _⟩ => hbmTy i
  | .local _ .vmem, ⟨0, _⟩ => ⟨S400x125, .f32⟩
  | .local _ .vmem, ⟨1, _⟩ => ⟨S400x125, .f32⟩
  | .local _ .vmem, ⟨2, _⟩ => ⟨S400x1, .f32⟩
  | .local _ .vmem, ⟨3, _⟩ => ⟨S400x1, .f32⟩
  | .local _ .vmem, ⟨4, _⟩ => ⟨S125x32, .f32⟩
  | .local _ .vmem, ⟨5, _⟩ => ⟨S1x32, .f32⟩
  | .local _ .vmem, ⟨6, _⟩ => ⟨S1x32, .f32⟩
  | .local _ .vmem, ⟨7, _⟩ => ⟨S400x32, .f32⟩
  | .local _ .vmem, ⟨8, _⟩ => ⟨S400x32, .f32⟩
  | .local _ .vmem, ⟨9, _⟩ => ⟨S400x4000, .f32⟩
  | .local _ .vmem, ⟨10, _⟩ => ⟨S400x4000, .f32⟩
  | .local _ .vmem, ⟨11, _⟩ => ⟨S400x32, .f32⟩
  | .local _ .vmem, ⟨12, _⟩ => ⟨S400x32, .f32⟩
  | .local _ .vmem, ⟨13, _⟩ => ⟨S4000x64, .f32⟩
  | .local _ .vmem, ⟨14, _⟩ => ⟨S32x64, .f32⟩
  | .local _ .vmem, ⟨15, _⟩ => ⟨S1x64, .f32⟩
  | .local _ .vmem, ⟨16, _⟩ => ⟨S400x64, .f32⟩
  | .local _ .vmem, ⟨17, _⟩ => ⟨S400x64, .f32⟩
  | .local _ .vmem, ⟨18, _⟩ => ⟨S400x8000, .f32⟩
  | .local _ .vmem, ⟨19, _⟩ => ⟨S400x8000, .f32⟩
  | .local _ .vmem, ⟨20, _⟩ => ⟨S400x64, .f32⟩
  | .local _ .vmem, ⟨21, _⟩ => ⟨S400x64, .f32⟩
  | .local _ .vmem, ⟨22, _⟩ => ⟨S8000x64, .f32⟩
  | .local _ .vmem, ⟨23, _⟩ => ⟨S64x64, .f32⟩
  | .local _ .vmem, ⟨24, _⟩ => ⟨S1x64, .f32⟩
  | .local _ .vmem, ⟨25, _⟩ => ⟨S400x64, .f32⟩
  | .local _ .vmem, ⟨26, _⟩ => ⟨S400x64, .f32⟩
  | .local _ .vmem, ⟨27, _⟩ => ⟨S400x8000, .f32⟩
  | .local _ .vmem, ⟨28, _⟩ => ⟨S400x8000, .f32⟩
  | .local _ .vmem, ⟨29, _⟩ => ⟨S400x64, .f32⟩
  | .local _ .vmem, ⟨30, _⟩ => ⟨S400x64, .f32⟩
  | .local _ .vmem, ⟨31, _⟩ => ⟨S8000x64, .f32⟩
  | .local _ .vmem, ⟨32, _⟩ => ⟨S64x64, .f32⟩
  | .local _ .vmem, ⟨33, _⟩ => ⟨S1x64, .f32⟩
  | .local _ .vmem, ⟨34, _⟩ => ⟨S400x64, .f32⟩
  | .local _ .vmem, ⟨35, _⟩ => ⟨S400x64, .f32⟩
  | .local _ .vmem, ⟨36, _⟩ => ⟨S400x8000, .f32⟩
  | .local _ .vmem, ⟨37, _⟩ => ⟨S400x8000, .f32⟩
  | .local _ .vmem, ⟨38, _⟩ => ⟨S400x64, .f32⟩
  | .local _ .vmem, ⟨39, _⟩ => ⟨S400x64, .f32⟩
  | .local _ .vmem, ⟨40, _⟩ => ⟨S8000x64, .f32⟩
  | .local _ .vmem, ⟨41, _⟩ => ⟨S64x64, .f32⟩
  | .local _ .vmem, ⟨42, _⟩ => ⟨S1x64, .f32⟩
  | .local _ .vmem, ⟨43, _⟩ => ⟨S400x64, .f32⟩
  | .local _ .vmem, ⟨44, _⟩ => ⟨S400x64, .f32⟩
  | .local _ .vmem, ⟨45, _⟩ => ⟨S400x8000, .f32⟩
  | .local _ .vmem, ⟨46, _⟩ => ⟨S400x8000, .f32⟩
  | .local _ .vmem, ⟨47, _⟩ => ⟨S400x64, .f32⟩
  | .local _ .vmem, ⟨48, _⟩ => ⟨S400x64, .f32⟩
  | .local _ .vmem, ⟨49, _⟩ => ⟨S8000x64, .f32⟩
  | .local _ .vmem, ⟨50, _⟩ => ⟨S64x64, .f32⟩
  | .local _ .vmem, ⟨51, _⟩ => ⟨S1x64, .f32⟩
  | .local _ .vmem, ⟨52, _⟩ => ⟨S400x64, .f32⟩
  | .local _ .vmem, ⟨53, _⟩ => ⟨S400x64, .f32⟩
  | .local _ .vmem, ⟨54, _⟩ => ⟨S400x64, .f32⟩
  | .local _ .vmem, ⟨55, _⟩ => ⟨S400x64, .f32⟩
  | .local _ .vmem, ⟨56, _⟩ => ⟨S64x256, .f32⟩
  | .local _ .vmem, ⟨57, _⟩ => ⟨S1x256, .f32⟩
  | .local _ .vmem, ⟨58, _⟩ => ⟨S256x6912, .f32⟩
  | .local _ .vmem, ⟨59, _⟩ => ⟨S1x6912, .f32⟩
  | .local _ .vmem, ⟨60, _⟩ => ⟨S400x6912, .f32⟩
  | .local _ .vmem, ⟨61, _⟩ => ⟨S400x6912, .f32⟩
  | _, _ => ⟨S10000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst_0 : Ref sig .tc := ⟨.hbm, 36, rfl⟩
abbrev main_v10 : Ref sig .tc := ⟨.hbm, 37, rfl⟩
abbrev main_c : Ref sig .tc := ⟨.hbm, 38, rfl⟩
abbrev main_v11 : Ref sig .tc := ⟨.hbm, 39, rfl⟩
abbrev main_v12 : Ref sig .tc := ⟨.hbm, 40, rfl⟩
abbrev main_c_1 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_2 : Ref sig .tc := ⟨.hbm, 46, rfl⟩
abbrev main_v17 : Ref sig .tc := ⟨.hbm, 47, rfl⟩
abbrev main_v18 : Ref sig .tc := ⟨.hbm, 48, rfl⟩
abbrev main_cst_3 : Ref sig .tc := ⟨.hbm, 49, rfl⟩
abbrev main_call0_v0 : Ref sig .tc := ⟨.hbm, 50, rfl⟩
abbrev main_call0_v1 : Ref sig .tc := ⟨.hbm, 51, rfl⟩
abbrev main_v19 : Ref sig .tc := ⟨.hbm, 52, rfl⟩
abbrev main_cst_4 : Ref sig .tc := ⟨.hbm, 53, rfl⟩
abbrev main_v20 : Ref sig .tc := ⟨.hbm, 54, rfl⟩
abbrev main_v21 : Ref sig .tc := ⟨.hbm, 55, rfl⟩
abbrev main_c_5 : Ref sig .tc := ⟨.hbm, 56, rfl⟩
abbrev main_v22 : Ref sig .tc := ⟨.hbm, 57, rfl⟩
abbrev main_v23 : Ref sig .tc := ⟨.hbm, 58, rfl⟩
abbrev main_c_6 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_cst_7 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_8 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_cst_9 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_c_10 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_c_11 : Ref sig .tc := ⟨.hbm, 90, rfl⟩
abbrev main_v50 : Ref sig .tc := ⟨.hbm, 91, rfl⟩
abbrev main_v51 : Ref sig .tc := ⟨.hbm, 92, rfl⟩
abbrev main_c_12 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_c_13 : Ref sig .tc := ⟨.hbm, 99, rfl⟩
abbrev main_v57 : Ref sig .tc := ⟨.hbm, 100, rfl⟩
abbrev main_v58 : Ref sig .tc := ⟨.hbm, 101, rfl⟩
abbrev main_c_14 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_c_15 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_cst_16 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_cst_17 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_c_18 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_c_19 : Ref sig .tc := ⟨.hbm, 132, rfl⟩
abbrev main_v84 : Ref sig .tc := ⟨.hbm, 133, rfl⟩
abbrev main_v85 : Ref sig .tc := ⟨.hbm, 134, rfl⟩
abbrev main_c_20 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_c_21 : Ref sig .tc := ⟨.hbm, 141, rfl⟩
abbrev main_v91 : Ref sig .tc := ⟨.hbm, 142, rfl⟩
abbrev main_v92 : Ref sig .tc := ⟨.hbm, 143, rfl⟩
abbrev main_c_22 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_c_23 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_cst_24 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_cst_25 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_c_26 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_c_27 : Ref sig .tc := ⟨.hbm, 174, rfl⟩
abbrev main_v118 : Ref sig .tc := ⟨.hbm, 175, rfl⟩
abbrev main_v119 : Ref sig .tc := ⟨.hbm, 176, rfl⟩
abbrev main_c_28 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_c_29 : Ref sig .tc := ⟨.hbm, 183, rfl⟩
abbrev main_v125 : Ref sig .tc := ⟨.hbm, 184, rfl⟩
abbrev main_v126 : Ref sig .tc := ⟨.hbm, 185, rfl⟩
abbrev main_c_30 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_c_31 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_cst_32 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_c_33 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_c_34 : Ref sig .tc := ⟨.hbm, 213, rfl⟩
abbrev main_v150 : Ref sig .tc := ⟨.hbm, 214, rfl⟩
abbrev main_v151 : Ref sig .tc := ⟨.hbm, 215, rfl⟩
abbrev main_c_35 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_c_36 : Ref sig .tc := ⟨.hbm, 222, rfl⟩
abbrev main_v157 : Ref sig .tc := ⟨.hbm, 223, rfl⟩
abbrev main_v158 : Ref sig .tc := ⟨.hbm, 224, rfl⟩
abbrev main_c_37 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_c_38 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_v168 : Ref sig .tc := ⟨.hbm, 236, rfl⟩
abbrev main_cst_39 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_cst_40 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_c_41 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_c_42 : Ref sig .tc := ⟨.hbm, 255, rfl⟩
abbrev main_v184 : Ref sig .tc := ⟨.hbm, 256, rfl⟩
abbrev main_v185 : Ref sig .tc := ⟨.hbm, 257, rfl⟩
abbrev main_c_43 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_c_44 : Ref sig .tc := ⟨.hbm, 264, rfl⟩
abbrev main_v191 : Ref sig .tc := ⟨.hbm, 265, rfl⟩
abbrev main_v192 : Ref sig .tc := ⟨.hbm, 266, rfl⟩
abbrev main_c_45 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_c_46 : Ref sig .tc := ⟨.hbm, 271, rfl⟩
abbrev main_v196 : Ref sig .tc := ⟨.hbm, 272, rfl⟩
abbrev main_v197 : Ref sig .tc := ⟨.hbm, 273, rfl⟩
abbrev main_v198 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_cst_47 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_c_48 : Ref sig .tc := ⟨.hbm, 289, rfl⟩
abbrev main_v212 : Ref sig .tc := ⟨.hbm, 290, rfl⟩
abbrev main_v213 : Ref sig .tc := ⟨.hbm, 291, rfl⟩
abbrev main_v214 : Ref sig .tc := ⟨.hbm, 292, rfl⟩
abbrev main_v215 : Ref sig .tc := ⟨.hbm, 293, rfl⟩
abbrev main_c_49 : Ref sig .tc := ⟨.hbm, 294, rfl⟩
abbrev main_v216 : Ref sig .tc := ⟨.hbm, 295, rfl⟩
abbrev main_v217 : Ref sig .tc := ⟨.hbm, 296, rfl⟩
abbrev main_c_50 : Ref sig .tc := ⟨.hbm, 297, rfl⟩
abbrev main_v218 : Ref sig .tc := ⟨.hbm, 298, rfl⟩
abbrev main_v219 : Ref sig .tc := ⟨.hbm, 299, rfl⟩
abbrev main_v220 : Ref sig .tc := ⟨.hbm, 300, rfl⟩
abbrev main_v221 : Ref sig .tc := ⟨.hbm, 301, rfl⟩
abbrev main_v222 : Ref sig .tc := ⟨.hbm, 302, rfl⟩
abbrev main_c_51 : Ref sig .tc := ⟨.hbm, 303, rfl⟩
abbrev main_v223 : Ref sig .tc := ⟨.hbm, 304, rfl⟩
abbrev main_v224 : Ref sig .tc := ⟨.hbm, 305, rfl⟩
abbrev main_c_52 : Ref sig .tc := ⟨.hbm, 306, rfl⟩
abbrev main_v225 : Ref sig .tc := ⟨.hbm, 307, rfl⟩
abbrev main_v226 : Ref sig .tc := ⟨.hbm, 308, rfl⟩
abbrev main_v227 : Ref sig .tc := ⟨.hbm, 309, rfl⟩
abbrev main_c_53 : Ref sig .tc := ⟨.hbm, 310, rfl⟩
abbrev main_v228 : Ref sig .tc := ⟨.hbm, 311, rfl⟩
abbrev main_v229 : Ref sig .tc := ⟨.hbm, 312, rfl⟩
abbrev main_v230 : Ref sig .tc := ⟨.hbm, 313, rfl⟩
abbrev main_v231 : Ref sig .tc := ⟨.hbm, 314, rfl⟩
abbrev main_v232 : Ref sig .tc := ⟨.hbm, 315, rfl⟩
abbrev main_v233 : Ref sig .tc := ⟨.hbm, 316, rfl⟩
abbrev main_v234 : Ref sig .tc := ⟨.hbm, 317, rfl⟩
abbrev main_v235 : Ref sig .tc := ⟨.hbm, 318, rfl⟩
abbrev main_v236 : Ref sig .tc := ⟨.hbm, 319, rfl⟩
abbrev main_cst_54 : Ref sig .tc := ⟨.hbm, 320, rfl⟩
abbrev main_v237 : Ref sig .tc := ⟨.hbm, 321, rfl⟩
abbrev main_v238 : Ref sig .tc := ⟨.hbm, 322, rfl⟩
abbrev main_v239 : Ref sig .tc := ⟨.hbm, 323, rfl⟩
abbrev main_v240 : Ref sig .tc := ⟨.hbm, 324, rfl⟩
abbrev main_v241 : Ref sig .tc := ⟨.hbm, 325, rfl⟩
abbrev main_v242 : Ref sig .tc := ⟨.hbm, 326, rfl⟩
abbrev main_v243 : Ref sig .tc := ⟨.hbm, 327, rfl⟩
abbrev main_c_55 : Ref sig .tc := ⟨.hbm, 328, rfl⟩
abbrev main_v244 : Ref sig .tc := ⟨.hbm, 329, rfl⟩
abbrev main_v245 : Ref sig .tc := ⟨.hbm, 330, rfl⟩
abbrev main_v246 : Ref sig .tc := ⟨.hbm, 331, rfl⟩
abbrev main_v247 : Ref sig .tc := ⟨.hbm, 332, rfl⟩
abbrev main_c_56 : Ref sig .tc := ⟨.hbm, 333, rfl⟩
abbrev main_v248 : Ref sig .tc := ⟨.hbm, 334, rfl⟩
abbrev main_v249 : Ref sig .tc := ⟨.hbm, 335, rfl⟩
abbrev main_c_57 : Ref sig .tc := ⟨.hbm, 336, rfl⟩
abbrev main_v250 : Ref sig .tc := ⟨.hbm, 337, rfl⟩
abbrev main_v251 : Ref sig .tc := ⟨.hbm, 338, rfl⟩
abbrev main_v252 : Ref sig .tc := ⟨.hbm, 339, rfl⟩
abbrev main_v253 : Ref sig .tc := ⟨.hbm, 340, rfl⟩
abbrev main_v254 : Ref sig .tc := ⟨.hbm, 341, rfl⟩
abbrev main_c_58 : Ref sig .tc := ⟨.hbm, 342, rfl⟩
abbrev main_v255 : Ref sig .tc := ⟨.hbm, 343, rfl⟩
abbrev main_v256 : Ref sig .tc := ⟨.hbm, 344, rfl⟩
abbrev main_c_59 : Ref sig .tc := ⟨.hbm, 345, rfl⟩
abbrev main_v257 : Ref sig .tc := ⟨.hbm, 346, rfl⟩
abbrev main_v258 : Ref sig .tc := ⟨.hbm, 347, rfl⟩
abbrev main_v259 : Ref sig .tc := ⟨.hbm, 348, rfl⟩
abbrev main_c_60 : Ref sig .tc := ⟨.hbm, 349, rfl⟩
abbrev main_v260 : Ref sig .tc := ⟨.hbm, 350, rfl⟩
abbrev main_v261 : Ref sig .tc := ⟨.hbm, 351, rfl⟩
abbrev main_v262 : Ref sig .tc := ⟨.hbm, 352, rfl⟩
abbrev main_v263 : Ref sig .tc := ⟨.hbm, 353, rfl⟩
abbrev main_v264 : Ref sig .tc := ⟨.hbm, 354, rfl⟩
abbrev main_v265 : Ref sig .tc := ⟨.hbm, 355, rfl⟩
abbrev main_v266 : Ref sig .tc := ⟨.hbm, 356, rfl⟩
abbrev main_v267 : Ref sig .tc := ⟨.hbm, 357, rfl⟩
abbrev main_v268 : Ref sig .tc := ⟨.hbm, 358, rfl⟩
abbrev main_v269 : Ref sig .tc := ⟨.hbm, 359, rfl⟩
abbrev main_v270 : Ref sig .tc := ⟨.hbm, 360, rfl⟩
abbrev main_v271 : Ref sig .tc := ⟨.hbm, 361, rfl⟩
abbrev main_v272 : Ref sig .tc := ⟨.hbm, 362, rfl⟩
abbrev main_v273 : Ref sig .tc := ⟨.hbm, 363, rfl⟩
abbrev main_c_61 : Ref sig .tc := ⟨.hbm, 364, rfl⟩
abbrev main_v274 : Ref sig .tc := ⟨.hbm, 365, rfl⟩
abbrev main_v275 : Ref sig .tc := ⟨.hbm, 366, rfl⟩
abbrev main_v276 : Ref sig .tc := ⟨.hbm, 367, rfl⟩
abbrev main_v277 : Ref sig .tc := ⟨.hbm, 368, rfl⟩
abbrev main_c_62 : Ref sig .tc := ⟨.hbm, 369, rfl⟩
abbrev main_v278 : Ref sig .tc := ⟨.hbm, 370, rfl⟩
abbrev main_v279 : Ref sig .tc := ⟨.hbm, 371, rfl⟩
abbrev main_c_63 : Ref sig .tc := ⟨.hbm, 372, rfl⟩
abbrev main_v280 : Ref sig .tc := ⟨.hbm, 373, rfl⟩
abbrev main_v281 : Ref sig .tc := ⟨.hbm, 374, rfl⟩
abbrev main_v282 : Ref sig .tc := ⟨.hbm, 375, rfl⟩
abbrev main_v283 : Ref sig .tc := ⟨.hbm, 376, rfl⟩
abbrev main_v284 : Ref sig .tc := ⟨.hbm, 377, rfl⟩
abbrev main_c_64 : Ref sig .tc := ⟨.hbm, 378, rfl⟩
abbrev main_v285 : Ref sig .tc := ⟨.hbm, 379, rfl⟩
abbrev main_v286 : Ref sig .tc := ⟨.hbm, 380, rfl⟩
abbrev main_c_65 : Ref sig .tc := ⟨.hbm, 381, rfl⟩
abbrev main_v287 : Ref sig .tc := ⟨.hbm, 382, rfl⟩
abbrev main_v288 : Ref sig .tc := ⟨.hbm, 383, rfl⟩
abbrev main_v289 : Ref sig .tc := ⟨.hbm, 384, rfl⟩
abbrev main_c_66 : Ref sig .tc := ⟨.hbm, 385, rfl⟩
abbrev main_v290 : Ref sig .tc := ⟨.hbm, 386, rfl⟩
abbrev main_v291 : Ref sig .tc := ⟨.hbm, 387, rfl⟩
abbrev main_v292 : Ref sig .tc := ⟨.hbm, 388, rfl⟩
abbrev main_v293 : Ref sig .tc := ⟨.hbm, 389, rfl⟩
abbrev main_v294 : Ref sig .tc := ⟨.hbm, 390, rfl⟩
abbrev main_v295 : Ref sig .tc := ⟨.hbm, 391, rfl⟩
abbrev main_v296 : Ref sig .tc := ⟨.hbm, 392, rfl⟩
abbrev main_v297 : Ref sig .tc := ⟨.hbm, 393, rfl⟩
abbrev main_v298 : Ref sig .tc := ⟨.hbm, 394, rfl⟩
abbrev main_v299 : Ref sig .tc := ⟨.hbm, 395, rfl⟩
abbrev main_v300 : Ref sig .tc := ⟨.hbm, 396, rfl⟩
abbrev main_v301 : Ref sig .tc := ⟨.hbm, 397, rfl⟩
abbrev main_v302 : Ref sig .tc := ⟨.hbm, 398, rfl⟩
abbrev main_v303 : Ref sig .tc := ⟨.hbm, 399, rfl⟩
abbrev main_v304 : Ref sig .tc := ⟨.hbm, 400, rfl⟩
abbrev main_v305 : Ref sig .tc := ⟨.hbm, 401, rfl⟩
abbrev main_v306 : Ref sig .tc := ⟨.hbm, 402, rfl⟩
abbrev main_v307 : Ref sig .tc := ⟨.hbm, 403, rfl⟩
abbrev main_v308 : Ref sig .tc := ⟨.hbm, 404, rfl⟩
abbrev main_v309 : Ref sig .tc := ⟨.hbm, 405, rfl⟩
abbrev main_v310 : Ref sig .tc := ⟨.hbm, 406, rfl⟩
abbrev main_c_67 : Ref sig .tc := ⟨.hbm, 407, rfl⟩
abbrev main_v311 : Ref sig .tc := ⟨.hbm, 408, rfl⟩
abbrev main_v312 : Ref sig .tc := ⟨.hbm, 409, rfl⟩
abbrev main_c_68 : Ref sig .tc := ⟨.hbm, 410, rfl⟩
abbrev main_v313 : Ref sig .tc := ⟨.hbm, 411, rfl⟩
abbrev main_v314 : Ref sig .tc := ⟨.hbm, 412, rfl⟩
abbrev main_v315 : Ref sig .tc := ⟨.hbm, 413, rfl⟩
abbrev main_v316 : Ref sig .tc := ⟨.hbm, 414, rfl⟩
abbrev main_v317 : Ref sig .tc := ⟨.hbm, 415, rfl⟩
abbrev main_cst_69 : Ref sig .tc := ⟨.hbm, 416, rfl⟩
abbrev main_v318 : Ref sig .tc := ⟨.hbm, 417, rfl⟩
abbrev main_v319 : Ref sig .tc := ⟨.hbm, 418, rfl⟩
abbrev main_v320 : Ref sig .tc := ⟨.hbm, 419, rfl⟩
abbrev main_v321 : Ref sig .tc := ⟨.hbm, 420, rfl⟩
abbrev main_v322 : Ref sig .tc := ⟨.hbm, 421, rfl⟩
abbrev main_v323 : Ref sig .tc := ⟨.hbm, 422, rfl⟩
abbrev main_v324 : Ref sig .tc := ⟨.hbm, 423, rfl⟩
abbrev main_c_70 : Ref sig .tc := ⟨.hbm, 424, rfl⟩
abbrev main_v325 : Ref sig .tc := ⟨.hbm, 425, rfl⟩
abbrev main_v326 : Ref sig .tc := ⟨.hbm, 426, rfl⟩
abbrev main_c_71 : Ref sig .tc := ⟨.hbm, 427, rfl⟩
abbrev main_v327 : Ref sig .tc := ⟨.hbm, 428, rfl⟩
abbrev main_v328 : Ref sig .tc := ⟨.hbm, 429, rfl⟩
abbrev main_v329 : Ref sig .tc := ⟨.hbm, 430, rfl⟩
abbrev main_v330 : Ref sig .tc := ⟨.hbm, 431, rfl⟩
abbrev main_v331 : Ref sig .tc := ⟨.hbm, 432, rfl⟩
abbrev main_v332 : Ref sig .tc := ⟨.hbm, 433, rfl⟩
abbrev main_v333 : Ref sig .tc := ⟨.hbm, 434, rfl⟩
abbrev main_v334 : Ref sig .tc := ⟨.hbm, 435, rfl⟩
abbrev main_v335 : Ref sig .tc := ⟨.hbm, 436, rfl⟩
abbrev main_v336 : Ref sig .tc := ⟨.hbm, 437, rfl⟩
abbrev main_v337 : Ref sig .tc := ⟨.hbm, 438, rfl⟩
abbrev main_c_72 : Ref sig .tc := ⟨.hbm, 439, rfl⟩
abbrev main_v338 : Ref sig .tc := ⟨.hbm, 440, rfl⟩
abbrev main_v339 : Ref sig .tc := ⟨.hbm, 441, rfl⟩
abbrev main_c_73 : Ref sig .tc := ⟨.hbm, 442, rfl⟩
abbrev main_v340 : Ref sig .tc := ⟨.hbm, 443, rfl⟩
abbrev main_v341 : Ref sig .tc := ⟨.hbm, 444, rfl⟩
abbrev main_v342 : Ref sig .tc := ⟨.hbm, 445, rfl⟩
abbrev main_v343 : Ref sig .tc := ⟨.hbm, 446, rfl⟩
abbrev main_v344 : Ref sig .tc := ⟨.hbm, 447, rfl⟩
abbrev main_v345 : Ref sig .tc := ⟨.hbm, 448, rfl⟩
abbrev main_v346 : Ref sig .tc := ⟨.hbm, 449, rfl⟩
abbrev main_v347 : Ref sig .tc := ⟨.hbm, 450, rfl⟩
abbrev main_v348 : Ref sig .tc := ⟨.hbm, 451, rfl⟩
abbrev main_v349 : Ref sig .tc := ⟨.hbm, 452, rfl⟩
abbrev main_v350 : Ref sig .tc := ⟨.hbm, 453, rfl⟩
abbrev main_c_74 : Ref sig .tc := ⟨.hbm, 454, rfl⟩
abbrev main_v351 : Ref sig .tc := ⟨.hbm, 455, rfl⟩
abbrev main_v352 : Ref sig .tc := ⟨.hbm, 456, rfl⟩
abbrev main_c_75 : Ref sig .tc := ⟨.hbm, 457, rfl⟩
abbrev main_v353 : Ref sig .tc := ⟨.hbm, 458, rfl⟩
abbrev main_v354 : Ref sig .tc := ⟨.hbm, 459, rfl⟩
abbrev main_v355 : Ref sig .tc := ⟨.hbm, 460, rfl⟩
abbrev main_v356 : Ref sig .tc := ⟨.hbm, 461, rfl⟩
abbrev main_v357 : Ref sig .tc := ⟨.hbm, 462, rfl⟩
abbrev main_v358 : Ref sig .tc := ⟨.hbm, 463, rfl⟩
abbrev main_v359 : Ref sig .tc := ⟨.hbm, 464, rfl⟩
abbrev main_v360 : Ref sig .tc := ⟨.hbm, 465, rfl⟩
abbrev main_v361 : Ref sig .tc := ⟨.hbm, 466, rfl⟩
abbrev main_v362 : Ref sig .tc := ⟨.hbm, 467, rfl⟩
abbrev main_v363 : Ref sig .tc := ⟨.hbm, 468, rfl⟩
abbrev main_c_76 : Ref sig .tc := ⟨.hbm, 469, rfl⟩
abbrev main_v364 : Ref sig .tc := ⟨.hbm, 470, rfl⟩
abbrev main_v365 : Ref sig .tc := ⟨.hbm, 471, rfl⟩
abbrev main_c_77 : Ref sig .tc := ⟨.hbm, 472, rfl⟩
abbrev main_v366 : Ref sig .tc := ⟨.hbm, 473, rfl⟩
abbrev main_v367 : Ref sig .tc := ⟨.hbm, 474, rfl⟩
abbrev main_v368 : Ref sig .tc := ⟨.hbm, 475, rfl⟩
abbrev main_v369 : Ref sig .tc := ⟨.hbm, 476, rfl⟩
abbrev main_v370 : Ref sig .tc := ⟨.hbm, 477, rfl⟩
abbrev main_v371 : Ref sig .tc := ⟨.hbm, 478, rfl⟩
abbrev main_v372 : Ref sig .tc := ⟨.hbm, 479, rfl⟩
abbrev main_v373 : Ref sig .tc := ⟨.hbm, 480, rfl⟩
abbrev main_v374 : Ref sig .tc := ⟨.hbm, 481, rfl⟩
abbrev main_v375 : Ref sig .tc := ⟨.hbm, 482, rfl⟩
abbrev main_v376 : Ref sig .tc := ⟨.hbm, 483, rfl⟩
abbrev main_c_78 : Ref sig .tc := ⟨.hbm, 484, rfl⟩
abbrev main_v377 : Ref sig .tc := ⟨.hbm, 485, rfl⟩
abbrev main_v378 : Ref sig .tc := ⟨.hbm, 486, rfl⟩
abbrev main_c_79 : Ref sig .tc := ⟨.hbm, 487, rfl⟩
abbrev main_v379 : Ref sig .tc := ⟨.hbm, 488, rfl⟩
abbrev main_v380 : Ref sig .tc := ⟨.hbm, 489, rfl⟩
abbrev main_v381 : Ref sig .tc := ⟨.hbm, 490, rfl⟩
abbrev main_v382 : Ref sig .tc := ⟨.hbm, 491, rfl⟩
abbrev main_v383 : Ref sig .tc := ⟨.hbm, 492, rfl⟩
abbrev main_v384 : Ref sig .tc := ⟨.hbm, 493, rfl⟩
abbrev main_v385 : Ref sig .tc := ⟨.hbm, 494, rfl⟩
abbrev main_v386 : Ref sig .tc := ⟨.hbm, 495, rfl⟩
abbrev main_v387 : Ref sig .tc := ⟨.hbm, 496, rfl⟩
abbrev main_v388 : Ref sig .tc := ⟨.hbm, 497, rfl⟩
abbrev main_v389 : Ref sig .tc := ⟨.hbm, 498, rfl⟩
abbrev main_c_80 : Ref sig .tc := ⟨.hbm, 499, rfl⟩
abbrev main_v390 : Ref sig .tc := ⟨.hbm, 500, rfl⟩
abbrev main_v391 : Ref sig .tc := ⟨.hbm, 501, rfl⟩
abbrev main_c_81 : Ref sig .tc := ⟨.hbm, 502, rfl⟩
abbrev main_v392 : Ref sig .tc := ⟨.hbm, 503, rfl⟩
abbrev main_v393 : Ref sig .tc := ⟨.hbm, 504, rfl⟩
abbrev main_v394 : Ref sig .tc := ⟨.hbm, 505, rfl⟩
abbrev main_v395 : Ref sig .tc := ⟨.hbm, 506, rfl⟩
abbrev main_v396 : Ref sig .tc := ⟨.hbm, 507, rfl⟩
abbrev main_v397 : Ref sig .tc := ⟨.hbm, 508, rfl⟩
abbrev main_v398 : Ref sig .tc := ⟨.hbm, 509, rfl⟩
abbrev main_v399 : Ref sig .tc := ⟨.hbm, 510, rfl⟩
abbrev main_v400 : Ref sig .tc := ⟨.hbm, 511, rfl⟩
abbrev main_v401 : Ref sig .tc := ⟨.hbm, 512, rfl⟩
abbrev main_v402 : Ref sig .tc := ⟨.hbm, 513, rfl⟩
abbrev main_c_82 : Ref sig .tc := ⟨.hbm, 514, rfl⟩
abbrev main_v403 : Ref sig .tc := ⟨.hbm, 515, rfl⟩
abbrev main_v404 : Ref sig .tc := ⟨.hbm, 516, rfl⟩
abbrev main_c_83 : Ref sig .tc := ⟨.hbm, 517, rfl⟩
abbrev main_v405 : Ref sig .tc := ⟨.hbm, 518, rfl⟩
abbrev main_v406 : Ref sig .tc := ⟨.hbm, 519, rfl⟩
abbrev main_v407 : Ref sig .tc := ⟨.hbm, 520, rfl⟩
abbrev main_v408 : Ref sig .tc := ⟨.hbm, 521, rfl⟩
abbrev main_v409 : Ref sig .tc := ⟨.hbm, 522, rfl⟩
abbrev main_v410 : Ref sig .tc := ⟨.hbm, 523, rfl⟩
abbrev main_v411 : Ref sig .tc := ⟨.hbm, 524, rfl⟩
abbrev main_v412 : Ref sig .tc := ⟨.hbm, 525, rfl⟩
abbrev main_v413 : Ref sig .tc := ⟨.hbm, 526, rfl⟩
abbrev main_v414 : Ref sig .tc := ⟨.hbm, 527, rfl⟩
abbrev main_v415 : Ref sig .tc := ⟨.hbm, 528, rfl⟩
abbrev main_c_84 : Ref sig .tc := ⟨.hbm, 529, rfl⟩
abbrev main_v416 : Ref sig .tc := ⟨.hbm, 530, rfl⟩
abbrev main_v417 : Ref sig .tc := ⟨.hbm, 531, rfl⟩
abbrev main_c_85 : Ref sig .tc := ⟨.hbm, 532, rfl⟩
abbrev main_v418 : Ref sig .tc := ⟨.hbm, 533, rfl⟩
abbrev main_v419 : Ref sig .tc := ⟨.hbm, 534, rfl⟩
abbrev main_v420 : Ref sig .tc := ⟨.hbm, 535, rfl⟩
abbrev main_v421 : Ref sig .tc := ⟨.hbm, 536, rfl⟩
abbrev main_v422 : Ref sig .tc := ⟨.hbm, 537, rfl⟩
abbrev main_v423 : Ref sig .tc := ⟨.hbm, 538, rfl⟩
abbrev main_v424 : Ref sig .tc := ⟨.hbm, 539, rfl⟩
abbrev main_v425 : Ref sig .tc := ⟨.hbm, 540, rfl⟩
abbrev main_v426 : Ref sig .tc := ⟨.hbm, 541, rfl⟩
abbrev main_c_86 : Ref sig .tc := ⟨.hbm, 542, rfl⟩
abbrev main_v427 : Ref sig .tc := ⟨.hbm, 543, rfl⟩
abbrev main_v428 : Ref sig .tc := ⟨.hbm, 544, rfl⟩
abbrev main_c_87 : Ref sig .tc := ⟨.hbm, 545, rfl⟩
abbrev main_v429 : Ref sig .tc := ⟨.hbm, 546, rfl⟩
abbrev main_v430 : Ref sig .tc := ⟨.hbm, 547, rfl⟩
abbrev main_v431 : Ref sig .tc := ⟨.hbm, 548, rfl⟩
abbrev main_v432 : Ref sig .tc := ⟨.hbm, 549, rfl⟩
abbrev main_v433 : Ref sig .tc := ⟨.hbm, 550, rfl⟩
abbrev main_cst_88 : Ref sig .tc := ⟨.hbm, 551, rfl⟩
abbrev main_v434 : Ref sig .tc := ⟨.hbm, 552, rfl⟩
abbrev main_v435 : Ref sig .tc := ⟨.hbm, 553, rfl⟩
abbrev main_v436 : Ref sig .tc := ⟨.hbm, 554, rfl⟩
abbrev main_v437 : Ref sig .tc := ⟨.hbm, 555, rfl⟩
abbrev main_v438 : Ref sig .tc := ⟨.hbm, 556, rfl⟩
abbrev main_v439 : Ref sig .tc := ⟨.hbm, 557, rfl⟩
abbrev main_v440 : Ref sig .tc := ⟨.hbm, 558, rfl⟩
abbrev main_v441 : Ref sig .tc := ⟨.hbm, 559, rfl⟩
abbrev main_c_89 : Ref sig .tc := ⟨.hbm, 560, rfl⟩
abbrev main_v442 : Ref sig .tc := ⟨.hbm, 561, rfl⟩
abbrev main_v443 : Ref sig .tc := ⟨.hbm, 562, rfl⟩
abbrev main_c_90 : Ref sig .tc := ⟨.hbm, 563, rfl⟩
abbrev main_v444 : Ref sig .tc := ⟨.hbm, 564, rfl⟩
abbrev main_v445 : Ref sig .tc := ⟨.hbm, 565, rfl⟩
abbrev main_v446 : Ref sig .tc := ⟨.hbm, 566, rfl⟩
abbrev main_v447 : Ref sig .tc := ⟨.hbm, 567, rfl⟩
abbrev main_v448 : Ref sig .tc := ⟨.hbm, 568, rfl⟩
abbrev main_v449 : Ref sig .tc := ⟨.hbm, 569, rfl⟩
abbrev main_v450 : Ref sig .tc := ⟨.hbm, 570, rfl⟩
abbrev main_v451 : Ref sig .tc := ⟨.hbm, 571, rfl⟩
abbrev main_v452 : Ref sig .tc := ⟨.hbm, 572, rfl⟩
abbrev main_v453 : Ref sig .tc := ⟨.hbm, 573, rfl⟩
abbrev main_v454 : Ref sig .tc := ⟨.hbm, 574, rfl⟩
abbrev main_v455 : Ref sig .tc := ⟨.hbm, 575, rfl⟩
abbrev main_c_91 : Ref sig .tc := ⟨.hbm, 576, rfl⟩
abbrev main_v456 : Ref sig .tc := ⟨.hbm, 577, rfl⟩
abbrev main_v457 : Ref sig .tc := ⟨.hbm, 578, rfl⟩
abbrev main_c_92 : Ref sig .tc := ⟨.hbm, 579, rfl⟩
abbrev main_v458 : Ref sig .tc := ⟨.hbm, 580, rfl⟩
abbrev main_v459 : Ref sig .tc := ⟨.hbm, 581, rfl⟩
abbrev main_v460 : Ref sig .tc := ⟨.hbm, 582, rfl⟩
abbrev main_v461 : Ref sig .tc := ⟨.hbm, 583, rfl⟩
abbrev main_v462 : Ref sig .tc := ⟨.hbm, 584, rfl⟩
abbrev main_v463 : Ref sig .tc := ⟨.hbm, 585, rfl⟩
abbrev main_v464 : Ref sig .tc := ⟨.hbm, 586, rfl⟩
abbrev main_v465 : Ref sig .tc := ⟨.hbm, 587, rfl⟩
abbrev main_v466 : Ref sig .tc := ⟨.hbm, 588, rfl⟩
abbrev main_v467 : Ref sig .tc := ⟨.hbm, 589, rfl⟩
abbrev main_v468 : Ref sig .tc := ⟨.hbm, 590, rfl⟩
abbrev main_v469 : Ref sig .tc := ⟨.hbm, 591, rfl⟩
abbrev main_c_93 : Ref sig .tc := ⟨.hbm, 592, rfl⟩
abbrev main_v470 : Ref sig .tc := ⟨.hbm, 593, rfl⟩
abbrev main_v471 : Ref sig .tc := ⟨.hbm, 594, rfl⟩
abbrev main_c_94 : Ref sig .tc := ⟨.hbm, 595, rfl⟩
abbrev main_v472 : Ref sig .tc := ⟨.hbm, 596, rfl⟩
abbrev main_v473 : Ref sig .tc := ⟨.hbm, 597, rfl⟩
abbrev main_v474 : Ref sig .tc := ⟨.hbm, 598, rfl⟩
abbrev main_v475 : Ref sig .tc := ⟨.hbm, 599, rfl⟩
abbrev main_v476 : Ref sig .tc := ⟨.hbm, 600, rfl⟩
abbrev main_v477 : Ref sig .tc := ⟨.hbm, 601, rfl⟩
abbrev main_v478 : Ref sig .tc := ⟨.hbm, 602, rfl⟩
abbrev main_v479 : Ref sig .tc := ⟨.hbm, 603, rfl⟩
abbrev main_v480 : Ref sig .tc := ⟨.hbm, 604, rfl⟩
abbrev main_v481 : Ref sig .tc := ⟨.hbm, 605, rfl⟩
abbrev main_v482 : Ref sig .tc := ⟨.hbm, 606, rfl⟩
abbrev main_v483 : Ref sig .tc := ⟨.hbm, 607, rfl⟩
abbrev main_c_95 : Ref sig .tc := ⟨.hbm, 608, rfl⟩
abbrev main_v484 : Ref sig .tc := ⟨.hbm, 609, rfl⟩
abbrev main_v485 : Ref sig .tc := ⟨.hbm, 610, rfl⟩
abbrev main_c_96 : Ref sig .tc := ⟨.hbm, 611, rfl⟩
abbrev main_v486 : Ref sig .tc := ⟨.hbm, 612, rfl⟩
abbrev main_v487 : Ref sig .tc := ⟨.hbm, 613, rfl⟩
abbrev main_v488 : Ref sig .tc := ⟨.hbm, 614, rfl⟩
abbrev main_v489 : Ref sig .tc := ⟨.hbm, 615, rfl⟩
abbrev main_v490 : Ref sig .tc := ⟨.hbm, 616, rfl⟩
abbrev main_v491 : Ref sig .tc := ⟨.hbm, 617, rfl⟩
abbrev main_v492 : Ref sig .tc := ⟨.hbm, 618, rfl⟩
abbrev main_v493 : Ref sig .tc := ⟨.hbm, 619, rfl⟩
abbrev main_v494 : Ref sig .tc := ⟨.hbm, 620, rfl⟩
abbrev main_v495 : Ref sig .tc := ⟨.hbm, 621, rfl⟩
abbrev main_v496 : Ref sig .tc := ⟨.hbm, 622, rfl⟩
abbrev main_v497 : Ref sig .tc := ⟨.hbm, 623, rfl⟩
abbrev main_c_97 : Ref sig .tc := ⟨.hbm, 624, rfl⟩
abbrev main_v498 : Ref sig .tc := ⟨.hbm, 625, rfl⟩
abbrev main_v499 : Ref sig .tc := ⟨.hbm, 626, rfl⟩
abbrev main_c_98 : Ref sig .tc := ⟨.hbm, 627, rfl⟩
abbrev main_v500 : Ref sig .tc := ⟨.hbm, 628, rfl⟩
abbrev main_v501 : Ref sig .tc := ⟨.hbm, 629, rfl⟩
abbrev main_v502 : Ref sig .tc := ⟨.hbm, 630, rfl⟩
abbrev main_v503 : Ref sig .tc := ⟨.hbm, 631, rfl⟩
abbrev main_v504 : Ref sig .tc := ⟨.hbm, 632, rfl⟩
abbrev main_v505 : Ref sig .tc := ⟨.hbm, 633, rfl⟩
abbrev main_v506 : Ref sig .tc := ⟨.hbm, 634, rfl⟩
abbrev main_v507 : Ref sig .tc := ⟨.hbm, 635, rfl⟩
abbrev main_v508 : Ref sig .tc := ⟨.hbm, 636, rfl⟩
abbrev main_v509 : Ref sig .tc := ⟨.hbm, 637, rfl⟩
abbrev main_v510 : Ref sig .tc := ⟨.hbm, 638, rfl⟩
abbrev main_v511 : Ref sig .tc := ⟨.hbm, 639, rfl⟩
abbrev main_c_99 : Ref sig .tc := ⟨.hbm, 640, rfl⟩
abbrev main_v512 : Ref sig .tc := ⟨.hbm, 641, rfl⟩
abbrev main_v513 : Ref sig .tc := ⟨.hbm, 642, rfl⟩
abbrev main_c_100 : Ref sig .tc := ⟨.hbm, 643, rfl⟩
abbrev main_v514 : Ref sig .tc := ⟨.hbm, 644, rfl⟩
abbrev main_v515 : Ref sig .tc := ⟨.hbm, 645, rfl⟩
abbrev main_v516 : Ref sig .tc := ⟨.hbm, 646, rfl⟩
abbrev main_v517 : Ref sig .tc := ⟨.hbm, 647, rfl⟩
abbrev main_v518 : Ref sig .tc := ⟨.hbm, 648, rfl⟩
abbrev main_v519 : Ref sig .tc := ⟨.hbm, 649, rfl⟩
abbrev main_v520 : Ref sig .tc := ⟨.hbm, 650, rfl⟩
abbrev main_v521 : Ref sig .tc := ⟨.hbm, 651, rfl⟩
abbrev main_v522 : Ref sig .tc := ⟨.hbm, 652, rfl⟩
abbrev main_v523 : Ref sig .tc := ⟨.hbm, 653, rfl⟩
abbrev main_v524 : Ref sig .tc := ⟨.hbm, 654, rfl⟩
abbrev main_v525 : Ref sig .tc := ⟨.hbm, 655, rfl⟩
abbrev main_c_101 : Ref sig .tc := ⟨.hbm, 656, rfl⟩
abbrev main_v526 : Ref sig .tc := ⟨.hbm, 657, rfl⟩
abbrev main_v527 : Ref sig .tc := ⟨.hbm, 658, rfl⟩
abbrev main_c_102 : Ref sig .tc := ⟨.hbm, 659, rfl⟩
abbrev main_v528 : Ref sig .tc := ⟨.hbm, 660, rfl⟩
abbrev main_v529 : Ref sig .tc := ⟨.hbm, 661, rfl⟩
abbrev main_v530 : Ref sig .tc := ⟨.hbm, 662, rfl⟩
abbrev main_v531 : Ref sig .tc := ⟨.hbm, 663, rfl⟩
abbrev main_v532 : Ref sig .tc := ⟨.hbm, 664, rfl⟩
abbrev main_v533 : Ref sig .tc := ⟨.hbm, 665, rfl⟩
abbrev main_v534 : Ref sig .tc := ⟨.hbm, 666, rfl⟩
abbrev main_v535 : Ref sig .tc := ⟨.hbm, 667, rfl⟩
abbrev main_v536 : Ref sig .tc := ⟨.hbm, 668, rfl⟩
abbrev main_v537 : Ref sig .tc := ⟨.hbm, 669, rfl⟩
abbrev main_v538 : Ref sig .tc := ⟨.hbm, 670, rfl⟩
abbrev main_v539 : Ref sig .tc := ⟨.hbm, 671, rfl⟩
abbrev main_c_103 : Ref sig .tc := ⟨.hbm, 672, rfl⟩
abbrev main_v540 : Ref sig .tc := ⟨.hbm, 673, rfl⟩
abbrev main_v541 : Ref sig .tc := ⟨.hbm, 674, rfl⟩
abbrev main_c_104 : Ref sig .tc := ⟨.hbm, 675, rfl⟩
abbrev main_v542 : Ref sig .tc := ⟨.hbm, 676, rfl⟩
abbrev main_v543 : Ref sig .tc := ⟨.hbm, 677, rfl⟩
abbrev main_v544 : Ref sig .tc := ⟨.hbm, 678, rfl⟩
abbrev main_v545 : Ref sig .tc := ⟨.hbm, 679, rfl⟩
abbrev main_v546 : Ref sig .tc := ⟨.hbm, 680, rfl⟩
abbrev main_v547 : Ref sig .tc := ⟨.hbm, 681, rfl⟩
abbrev main_v548 : Ref sig .tc := ⟨.hbm, 682, rfl⟩
abbrev main_v549 : Ref sig .tc := ⟨.hbm, 683, rfl⟩
abbrev main_v550 : Ref sig .tc := ⟨.hbm, 684, rfl⟩
abbrev main_c_105 : Ref sig .tc := ⟨.hbm, 685, rfl⟩
abbrev main_v551 : Ref sig .tc := ⟨.hbm, 686, rfl⟩
abbrev main_v552 : Ref sig .tc := ⟨.hbm, 687, rfl⟩
abbrev main_c_106 : Ref sig .tc := ⟨.hbm, 688, rfl⟩
abbrev main_v553 : Ref sig .tc := ⟨.hbm, 689, rfl⟩
abbrev main_v554 : Ref sig .tc := ⟨.hbm, 690, rfl⟩
abbrev main_v555 : Ref sig .tc := ⟨.hbm, 691, rfl⟩
abbrev main_v556 : Ref sig .tc := ⟨.hbm, 692, rfl⟩
abbrev main_v557 : Ref sig .tc := ⟨.hbm, 693, rfl⟩
abbrev main_cst_107 : Ref sig .tc := ⟨.hbm, 694, rfl⟩
abbrev main_v558 : Ref sig .tc := ⟨.hbm, 695, rfl⟩
abbrev main_v559 : Ref sig .tc := ⟨.hbm, 696, rfl⟩
abbrev main_v560 : Ref sig .tc := ⟨.hbm, 697, rfl⟩
abbrev main_v561 : Ref sig .tc := ⟨.hbm, 698, rfl⟩
abbrev main_v562 : Ref sig .tc := ⟨.hbm, 699, rfl⟩
abbrev main_v563 : Ref sig .tc := ⟨.hbm, 700, rfl⟩
abbrev main_v564 : Ref sig .tc := ⟨.hbm, 701, rfl⟩
abbrev main_v565 : Ref sig .tc := ⟨.hbm, 702, rfl⟩
abbrev main_c_108 : Ref sig .tc := ⟨.hbm, 703, rfl⟩
abbrev main_v566 : Ref sig .tc := ⟨.hbm, 704, rfl⟩
abbrev main_v567 : Ref sig .tc := ⟨.hbm, 705, rfl⟩
abbrev main_c_109 : Ref sig .tc := ⟨.hbm, 706, rfl⟩
abbrev main_v568 : Ref sig .tc := ⟨.hbm, 707, rfl⟩
abbrev main_v569 : Ref sig .tc := ⟨.hbm, 708, rfl⟩
abbrev main_v570 : Ref sig .tc := ⟨.hbm, 709, rfl⟩
abbrev main_v571 : Ref sig .tc := ⟨.hbm, 710, rfl⟩
abbrev main_v572 : Ref sig .tc := ⟨.hbm, 711, rfl⟩
abbrev main_v573 : Ref sig .tc := ⟨.hbm, 712, rfl⟩
abbrev main_v574 : Ref sig .tc := ⟨.hbm, 713, rfl⟩
abbrev main_v575 : Ref sig .tc := ⟨.hbm, 714, rfl⟩
abbrev main_v576 : Ref sig .tc := ⟨.hbm, 715, rfl⟩
abbrev main_v577 : Ref sig .tc := ⟨.hbm, 716, rfl⟩
abbrev main_v578 : Ref sig .tc := ⟨.hbm, 717, rfl⟩
abbrev main_v579 : Ref sig .tc := ⟨.hbm, 718, rfl⟩
abbrev main_c_110 : Ref sig .tc := ⟨.hbm, 719, rfl⟩
abbrev main_v580 : Ref sig .tc := ⟨.hbm, 720, rfl⟩
abbrev main_v581 : Ref sig .tc := ⟨.hbm, 721, rfl⟩
abbrev main_c_111 : Ref sig .tc := ⟨.hbm, 722, rfl⟩
abbrev main_v582 : Ref sig .tc := ⟨.hbm, 723, rfl⟩
abbrev main_v583 : Ref sig .tc := ⟨.hbm, 724, rfl⟩
abbrev main_v584 : Ref sig .tc := ⟨.hbm, 725, rfl⟩
abbrev main_v585 : Ref sig .tc := ⟨.hbm, 726, rfl⟩
abbrev main_v586 : Ref sig .tc := ⟨.hbm, 727, rfl⟩
abbrev main_v587 : Ref sig .tc := ⟨.hbm, 728, rfl⟩
abbrev main_v588 : Ref sig .tc := ⟨.hbm, 729, rfl⟩
abbrev main_v589 : Ref sig .tc := ⟨.hbm, 730, rfl⟩
abbrev main_v590 : Ref sig .tc := ⟨.hbm, 731, rfl⟩
abbrev main_v591 : Ref sig .tc := ⟨.hbm, 732, rfl⟩
abbrev main_v592 : Ref sig .tc := ⟨.hbm, 733, rfl⟩
abbrev main_v593 : Ref sig .tc := ⟨.hbm, 734, rfl⟩
abbrev main_c_112 : Ref sig .tc := ⟨.hbm, 735, rfl⟩
abbrev main_v594 : Ref sig .tc := ⟨.hbm, 736, rfl⟩
abbrev main_v595 : Ref sig .tc := ⟨.hbm, 737, rfl⟩
abbrev main_c_113 : Ref sig .tc := ⟨.hbm, 738, rfl⟩
abbrev main_v596 : Ref sig .tc := ⟨.hbm, 739, rfl⟩
abbrev main_v597 : Ref sig .tc := ⟨.hbm, 740, rfl⟩
abbrev main_v598 : Ref sig .tc := ⟨.hbm, 741, rfl⟩
abbrev main_v599 : Ref sig .tc := ⟨.hbm, 742, rfl⟩
abbrev main_v600 : Ref sig .tc := ⟨.hbm, 743, rfl⟩
abbrev main_v601 : Ref sig .tc := ⟨.hbm, 744, rfl⟩
abbrev main_v602 : Ref sig .tc := ⟨.hbm, 745, rfl⟩
abbrev main_v603 : Ref sig .tc := ⟨.hbm, 746, rfl⟩
abbrev main_v604 : Ref sig .tc := ⟨.hbm, 747, rfl⟩
abbrev main_v605 : Ref sig .tc := ⟨.hbm, 748, rfl⟩
abbrev main_v606 : Ref sig .tc := ⟨.hbm, 749, rfl⟩
abbrev main_v607 : Ref sig .tc := ⟨.hbm, 750, rfl⟩
abbrev main_c_114 : Ref sig .tc := ⟨.hbm, 751, rfl⟩
abbrev main_v608 : Ref sig .tc := ⟨.hbm, 752, rfl⟩
abbrev main_v609 : Ref sig .tc := ⟨.hbm, 753, rfl⟩
abbrev main_c_115 : Ref sig .tc := ⟨.hbm, 754, rfl⟩
abbrev main_v610 : Ref sig .tc := ⟨.hbm, 755, rfl⟩
abbrev main_v611 : Ref sig .tc := ⟨.hbm, 756, rfl⟩
abbrev main_v612 : Ref sig .tc := ⟨.hbm, 757, rfl⟩
abbrev main_v613 : Ref sig .tc := ⟨.hbm, 758, rfl⟩
abbrev main_v614 : Ref sig .tc := ⟨.hbm, 759, rfl⟩
abbrev main_v615 : Ref sig .tc := ⟨.hbm, 760, rfl⟩
abbrev main_v616 : Ref sig .tc := ⟨.hbm, 761, rfl⟩
abbrev main_v617 : Ref sig .tc := ⟨.hbm, 762, rfl⟩
abbrev main_v618 : Ref sig .tc := ⟨.hbm, 763, rfl⟩
abbrev main_v619 : Ref sig .tc := ⟨.hbm, 764, rfl⟩
abbrev main_v620 : Ref sig .tc := ⟨.hbm, 765, rfl⟩
abbrev main_v621 : Ref sig .tc := ⟨.hbm, 766, rfl⟩
abbrev main_c_116 : Ref sig .tc := ⟨.hbm, 767, rfl⟩
abbrev main_v622 : Ref sig .tc := ⟨.hbm, 768, rfl⟩
abbrev main_v623 : Ref sig .tc := ⟨.hbm, 769, rfl⟩
abbrev main_c_117 : Ref sig .tc := ⟨.hbm, 770, rfl⟩
abbrev main_v624 : Ref sig .tc := ⟨.hbm, 771, rfl⟩
abbrev main_v625 : Ref sig .tc := ⟨.hbm, 772, rfl⟩
abbrev main_v626 : Ref sig .tc := ⟨.hbm, 773, rfl⟩
abbrev main_v627 : Ref sig .tc := ⟨.hbm, 774, rfl⟩
abbrev main_v628 : Ref sig .tc := ⟨.hbm, 775, rfl⟩
abbrev main_v629 : Ref sig .tc := ⟨.hbm, 776, rfl⟩
abbrev main_v630 : Ref sig .tc := ⟨.hbm, 777, rfl⟩
abbrev main_v631 : Ref sig .tc := ⟨.hbm, 778, rfl⟩
abbrev main_v632 : Ref sig .tc := ⟨.hbm, 779, rfl⟩
abbrev main_v633 : Ref sig .tc := ⟨.hbm, 780, rfl⟩
abbrev main_v634 : Ref sig .tc := ⟨.hbm, 781, rfl⟩
abbrev main_v635 : Ref sig .tc := ⟨.hbm, 782, rfl⟩
abbrev main_c_118 : Ref sig .tc := ⟨.hbm, 783, rfl⟩
abbrev main_v636 : Ref sig .tc := ⟨.hbm, 784, rfl⟩
abbrev main_v637 : Ref sig .tc := ⟨.hbm, 785, rfl⟩
abbrev main_c_119 : Ref sig .tc := ⟨.hbm, 786, rfl⟩
abbrev main_v638 : Ref sig .tc := ⟨.hbm, 787, rfl⟩
abbrev main_v639 : Ref sig .tc := ⟨.hbm, 788, rfl⟩
abbrev main_v640 : Ref sig .tc := ⟨.hbm, 789, rfl⟩
abbrev main_v641 : Ref sig .tc := ⟨.hbm, 790, rfl⟩
abbrev main_v642 : Ref sig .tc := ⟨.hbm, 791, rfl⟩
abbrev main_v643 : Ref sig .tc := ⟨.hbm, 792, rfl⟩
abbrev main_v644 : Ref sig .tc := ⟨.hbm, 793, rfl⟩
abbrev main_v645 : Ref sig .tc := ⟨.hbm, 794, rfl⟩
abbrev main_v646 : Ref sig .tc := ⟨.hbm, 795, rfl⟩
abbrev main_v647 : Ref sig .tc := ⟨.hbm, 796, rfl⟩
abbrev main_v648 : Ref sig .tc := ⟨.hbm, 797, rfl⟩
abbrev main_v649 : Ref sig .tc := ⟨.hbm, 798, rfl⟩
abbrev main_c_120 : Ref sig .tc := ⟨.hbm, 799, rfl⟩
abbrev main_v650 : Ref sig .tc := ⟨.hbm, 800, rfl⟩
abbrev main_v651 : Ref sig .tc := ⟨.hbm, 801, rfl⟩
abbrev main_c_121 : Ref sig .tc := ⟨.hbm, 802, rfl⟩
abbrev main_v652 : Ref sig .tc := ⟨.hbm, 803, rfl⟩
abbrev main_v653 : Ref sig .tc := ⟨.hbm, 804, rfl⟩
abbrev main_v654 : Ref sig .tc := ⟨.hbm, 805, rfl⟩
abbrev main_v655 : Ref sig .tc := ⟨.hbm, 806, rfl⟩
abbrev main_v656 : Ref sig .tc := ⟨.hbm, 807, rfl⟩
abbrev main_v657 : Ref sig .tc := ⟨.hbm, 808, rfl⟩
abbrev main_v658 : Ref sig .tc := ⟨.hbm, 809, rfl⟩
abbrev main_v659 : Ref sig .tc := ⟨.hbm, 810, rfl⟩
abbrev main_v660 : Ref sig .tc := ⟨.hbm, 811, rfl⟩
abbrev main_v661 : Ref sig .tc := ⟨.hbm, 812, rfl⟩
abbrev main_v662 : Ref sig .tc := ⟨.hbm, 813, rfl⟩
abbrev main_v663 : Ref sig .tc := ⟨.hbm, 814, rfl⟩
abbrev main_c_122 : Ref sig .tc := ⟨.hbm, 815, rfl⟩
abbrev main_v664 : Ref sig .tc := ⟨.hbm, 816, rfl⟩
abbrev main_v665 : Ref sig .tc := ⟨.hbm, 817, rfl⟩
abbrev main_c_123 : Ref sig .tc := ⟨.hbm, 818, rfl⟩
abbrev main_v666 : Ref sig .tc := ⟨.hbm, 819, rfl⟩
abbrev main_v667 : Ref sig .tc := ⟨.hbm, 820, rfl⟩
abbrev main_v668 : Ref sig .tc := ⟨.hbm, 821, rfl⟩
abbrev main_v669 : Ref sig .tc := ⟨.hbm, 822, rfl⟩
abbrev main_v670 : Ref sig .tc := ⟨.hbm, 823, rfl⟩
abbrev main_v671 : Ref sig .tc := ⟨.hbm, 824, rfl⟩
abbrev main_v672 : Ref sig .tc := ⟨.hbm, 825, rfl⟩
abbrev main_v673 : Ref sig .tc := ⟨.hbm, 826, rfl⟩
abbrev main_v674 : Ref sig .tc := ⟨.hbm, 827, rfl⟩
abbrev main_c_124 : Ref sig .tc := ⟨.hbm, 828, rfl⟩
abbrev main_v675 : Ref sig .tc := ⟨.hbm, 829, rfl⟩
abbrev main_v676 : Ref sig .tc := ⟨.hbm, 830, rfl⟩
abbrev main_c_125 : Ref sig .tc := ⟨.hbm, 831, rfl⟩
abbrev main_v677 : Ref sig .tc := ⟨.hbm, 832, rfl⟩
abbrev main_v678 : Ref sig .tc := ⟨.hbm, 833, rfl⟩
abbrev main_v679 : Ref sig .tc := ⟨.hbm, 834, rfl⟩
abbrev main_v680 : Ref sig .tc := ⟨.hbm, 835, rfl⟩
abbrev main_v681 : Ref sig .tc := ⟨.hbm, 836, rfl⟩
abbrev main_cst_126 : Ref sig .tc := ⟨.hbm, 837, rfl⟩
abbrev main_v682 : Ref sig .tc := ⟨.hbm, 838, rfl⟩
abbrev main_v683 : Ref sig .tc := ⟨.hbm, 839, rfl⟩
abbrev main_v684 : Ref sig .tc := ⟨.hbm, 840, rfl⟩
abbrev main_v685 : Ref sig .tc := ⟨.hbm, 841, rfl⟩
abbrev main_v686 : Ref sig .tc := ⟨.hbm, 842, rfl⟩
abbrev main_v687 : Ref sig .tc := ⟨.hbm, 843, rfl⟩
abbrev main_v688 : Ref sig .tc := ⟨.hbm, 844, rfl⟩
abbrev main_v689 : Ref sig .tc := ⟨.hbm, 845, rfl⟩
abbrev main_c_127 : Ref sig .tc := ⟨.hbm, 846, rfl⟩
abbrev main_v690 : Ref sig .tc := ⟨.hbm, 847, rfl⟩
abbrev main_v691 : Ref sig .tc := ⟨.hbm, 848, rfl⟩
abbrev main_c_128 : Ref sig .tc := ⟨.hbm, 849, rfl⟩
abbrev main_v692 : Ref sig .tc := ⟨.hbm, 850, rfl⟩
abbrev main_v693 : Ref sig .tc := ⟨.hbm, 851, rfl⟩
abbrev main_v694 : Ref sig .tc := ⟨.hbm, 852, rfl⟩
abbrev main_v695 : Ref sig .tc := ⟨.hbm, 853, rfl⟩
abbrev main_v696 : Ref sig .tc := ⟨.hbm, 854, rfl⟩
abbrev main_v697 : Ref sig .tc := ⟨.hbm, 855, rfl⟩
abbrev main_v698 : Ref sig .tc := ⟨.hbm, 856, rfl⟩
abbrev main_v699 : Ref sig .tc := ⟨.hbm, 857, rfl⟩
abbrev main_v700 : Ref sig .tc := ⟨.hbm, 858, rfl⟩
abbrev main_v701 : Ref sig .tc := ⟨.hbm, 859, rfl⟩
abbrev main_v702 : Ref sig .tc := ⟨.hbm, 860, rfl⟩
abbrev main_v703 : Ref sig .tc := ⟨.hbm, 861, rfl⟩
abbrev main_c_129 : Ref sig .tc := ⟨.hbm, 862, rfl⟩
abbrev main_v704 : Ref sig .tc := ⟨.hbm, 863, rfl⟩
abbrev main_v705 : Ref sig .tc := ⟨.hbm, 864, rfl⟩
abbrev main_c_130 : Ref sig .tc := ⟨.hbm, 865, rfl⟩
abbrev main_v706 : Ref sig .tc := ⟨.hbm, 866, rfl⟩
abbrev main_v707 : Ref sig .tc := ⟨.hbm, 867, rfl⟩
abbrev main_v708 : Ref sig .tc := ⟨.hbm, 868, rfl⟩
abbrev main_v709 : Ref sig .tc := ⟨.hbm, 869, rfl⟩
abbrev main_v710 : Ref sig .tc := ⟨.hbm, 870, rfl⟩
abbrev main_v711 : Ref sig .tc := ⟨.hbm, 871, rfl⟩
abbrev main_v712 : Ref sig .tc := ⟨.hbm, 872, rfl⟩
abbrev main_v713 : Ref sig .tc := ⟨.hbm, 873, rfl⟩
abbrev main_v714 : Ref sig .tc := ⟨.hbm, 874, rfl⟩
abbrev main_v715 : Ref sig .tc := ⟨.hbm, 875, rfl⟩
abbrev main_v716 : Ref sig .tc := ⟨.hbm, 876, rfl⟩
abbrev main_v717 : Ref sig .tc := ⟨.hbm, 877, rfl⟩
abbrev main_c_131 : Ref sig .tc := ⟨.hbm, 878, rfl⟩
abbrev main_v718 : Ref sig .tc := ⟨.hbm, 879, rfl⟩
abbrev main_v719 : Ref sig .tc := ⟨.hbm, 880, rfl⟩
abbrev main_c_132 : Ref sig .tc := ⟨.hbm, 881, rfl⟩
abbrev main_v720 : Ref sig .tc := ⟨.hbm, 882, rfl⟩
abbrev main_v721 : Ref sig .tc := ⟨.hbm, 883, rfl⟩
abbrev main_v722 : Ref sig .tc := ⟨.hbm, 884, rfl⟩
abbrev main_v723 : Ref sig .tc := ⟨.hbm, 885, rfl⟩
abbrev main_v724 : Ref sig .tc := ⟨.hbm, 886, rfl⟩
abbrev main_v725 : Ref sig .tc := ⟨.hbm, 887, rfl⟩
abbrev main_v726 : Ref sig .tc := ⟨.hbm, 888, rfl⟩
abbrev main_v727 : Ref sig .tc := ⟨.hbm, 889, rfl⟩
abbrev main_v728 : Ref sig .tc := ⟨.hbm, 890, rfl⟩
abbrev main_v729 : Ref sig .tc := ⟨.hbm, 891, rfl⟩
abbrev main_v730 : Ref sig .tc := ⟨.hbm, 892, rfl⟩
abbrev main_v731 : Ref sig .tc := ⟨.hbm, 893, rfl⟩
abbrev main_c_133 : Ref sig .tc := ⟨.hbm, 894, rfl⟩
abbrev main_v732 : Ref sig .tc := ⟨.hbm, 895, rfl⟩
abbrev main_v733 : Ref sig .tc := ⟨.hbm, 896, rfl⟩
abbrev main_c_134 : Ref sig .tc := ⟨.hbm, 897, rfl⟩
abbrev main_v734 : Ref sig .tc := ⟨.hbm, 898, rfl⟩
abbrev main_v735 : Ref sig .tc := ⟨.hbm, 899, rfl⟩
abbrev main_v736 : Ref sig .tc := ⟨.hbm, 900, rfl⟩
abbrev main_v737 : Ref sig .tc := ⟨.hbm, 901, rfl⟩
abbrev main_v738 : Ref sig .tc := ⟨.hbm, 902, rfl⟩
abbrev main_v739 : Ref sig .tc := ⟨.hbm, 903, rfl⟩
abbrev main_v740 : Ref sig .tc := ⟨.hbm, 904, rfl⟩
abbrev main_v741 : Ref sig .tc := ⟨.hbm, 905, rfl⟩
abbrev main_v742 : Ref sig .tc := ⟨.hbm, 906, rfl⟩
abbrev main_v743 : Ref sig .tc := ⟨.hbm, 907, rfl⟩
abbrev main_v744 : Ref sig .tc := ⟨.hbm, 908, rfl⟩
abbrev main_v745 : Ref sig .tc := ⟨.hbm, 909, rfl⟩
abbrev main_c_135 : Ref sig .tc := ⟨.hbm, 910, rfl⟩
abbrev main_v746 : Ref sig .tc := ⟨.hbm, 911, rfl⟩
abbrev main_v747 : Ref sig .tc := ⟨.hbm, 912, rfl⟩
abbrev main_c_136 : Ref sig .tc := ⟨.hbm, 913, rfl⟩
abbrev main_v748 : Ref sig .tc := ⟨.hbm, 914, rfl⟩
abbrev main_v749 : Ref sig .tc := ⟨.hbm, 915, rfl⟩
abbrev main_v750 : Ref sig .tc := ⟨.hbm, 916, rfl⟩
abbrev main_v751 : Ref sig .tc := ⟨.hbm, 917, rfl⟩
abbrev main_v752 : Ref sig .tc := ⟨.hbm, 918, rfl⟩
abbrev main_v753 : Ref sig .tc := ⟨.hbm, 919, rfl⟩
abbrev main_v754 : Ref sig .tc := ⟨.hbm, 920, rfl⟩
abbrev main_v755 : Ref sig .tc := ⟨.hbm, 921, rfl⟩
abbrev main_v756 : Ref sig .tc := ⟨.hbm, 922, rfl⟩
abbrev main_v757 : Ref sig .tc := ⟨.hbm, 923, rfl⟩
abbrev main_v758 : Ref sig .tc := ⟨.hbm, 924, rfl⟩
abbrev main_v759 : Ref sig .tc := ⟨.hbm, 925, rfl⟩
abbrev main_c_137 : Ref sig .tc := ⟨.hbm, 926, rfl⟩
abbrev main_v760 : Ref sig .tc := ⟨.hbm, 927, rfl⟩
abbrev main_v761 : Ref sig .tc := ⟨.hbm, 928, rfl⟩
abbrev main_c_138 : Ref sig .tc := ⟨.hbm, 929, rfl⟩
abbrev main_v762 : Ref sig .tc := ⟨.hbm, 930, rfl⟩
abbrev main_v763 : Ref sig .tc := ⟨.hbm, 931, rfl⟩
abbrev main_v764 : Ref sig .tc := ⟨.hbm, 932, rfl⟩
abbrev main_v765 : Ref sig .tc := ⟨.hbm, 933, rfl⟩
abbrev main_v766 : Ref sig .tc := ⟨.hbm, 934, rfl⟩
abbrev main_v767 : Ref sig .tc := ⟨.hbm, 935, rfl⟩
abbrev main_v768 : Ref sig .tc := ⟨.hbm, 936, rfl⟩
abbrev main_v769 : Ref sig .tc := ⟨.hbm, 937, rfl⟩
abbrev main_v770 : Ref sig .tc := ⟨.hbm, 938, rfl⟩
abbrev main_v771 : Ref sig .tc := ⟨.hbm, 939, rfl⟩
abbrev main_v772 : Ref sig .tc := ⟨.hbm, 940, rfl⟩
abbrev main_v773 : Ref sig .tc := ⟨.hbm, 941, rfl⟩
abbrev main_c_139 : Ref sig .tc := ⟨.hbm, 942, rfl⟩
abbrev main_v774 : Ref sig .tc := ⟨.hbm, 943, rfl⟩
abbrev main_v775 : Ref sig .tc := ⟨.hbm, 944, rfl⟩
abbrev main_c_140 : Ref sig .tc := ⟨.hbm, 945, rfl⟩
abbrev main_v776 : Ref sig .tc := ⟨.hbm, 946, rfl⟩
abbrev main_v777 : Ref sig .tc := ⟨.hbm, 947, rfl⟩
abbrev main_v778 : Ref sig .tc := ⟨.hbm, 948, rfl⟩
abbrev main_v779 : Ref sig .tc := ⟨.hbm, 949, rfl⟩
abbrev main_v780 : Ref sig .tc := ⟨.hbm, 950, rfl⟩
abbrev main_v781 : Ref sig .tc := ⟨.hbm, 951, rfl⟩
abbrev main_v782 : Ref sig .tc := ⟨.hbm, 952, rfl⟩
abbrev main_v783 : Ref sig .tc := ⟨.hbm, 953, rfl⟩
abbrev main_v784 : Ref sig .tc := ⟨.hbm, 954, rfl⟩
abbrev main_v785 : Ref sig .tc := ⟨.hbm, 955, rfl⟩
abbrev main_v786 : Ref sig .tc := ⟨.hbm, 956, rfl⟩
abbrev main_v787 : Ref sig .tc := ⟨.hbm, 957, rfl⟩
abbrev main_c_141 : Ref sig .tc := ⟨.hbm, 958, rfl⟩
abbrev main_v788 : Ref sig .tc := ⟨.hbm, 959, rfl⟩
abbrev main_v789 : Ref sig .tc := ⟨.hbm, 960, rfl⟩
abbrev main_c_142 : Ref sig .tc := ⟨.hbm, 961, rfl⟩
abbrev main_v790 : Ref sig .tc := ⟨.hbm, 962, rfl⟩
abbrev main_v791 : Ref sig .tc := ⟨.hbm, 963, rfl⟩
abbrev main_v792 : Ref sig .tc := ⟨.hbm, 964, rfl⟩
abbrev main_v793 : Ref sig .tc := ⟨.hbm, 965, rfl⟩
abbrev main_v794 : Ref sig .tc := ⟨.hbm, 966, rfl⟩
abbrev main_v795 : Ref sig .tc := ⟨.hbm, 967, rfl⟩
abbrev main_v796 : Ref sig .tc := ⟨.hbm, 968, rfl⟩
abbrev main_v797 : Ref sig .tc := ⟨.hbm, 969, rfl⟩
abbrev main_v798 : Ref sig .tc := ⟨.hbm, 970, rfl⟩
abbrev main_c_143 : Ref sig .tc := ⟨.hbm, 971, rfl⟩
abbrev main_v799 : Ref sig .tc := ⟨.hbm, 972, rfl⟩
abbrev main_v800 : Ref sig .tc := ⟨.hbm, 973, rfl⟩
abbrev main_c_144 : Ref sig .tc := ⟨.hbm, 974, rfl⟩
abbrev main_v801 : Ref sig .tc := ⟨.hbm, 975, rfl⟩
abbrev main_v802 : Ref sig .tc := ⟨.hbm, 976, rfl⟩
abbrev main_v803 : Ref sig .tc := ⟨.hbm, 977, rfl⟩
abbrev main_v804 : Ref sig .tc := ⟨.hbm, 978, rfl⟩
abbrev main_v805 : Ref sig .tc := ⟨.hbm, 979, rfl⟩
abbrev main_cst_145 : Ref sig .tc := ⟨.hbm, 980, rfl⟩
abbrev main_v806 : Ref sig .tc := ⟨.hbm, 981, rfl⟩
abbrev main_v807 : Ref sig .tc := ⟨.hbm, 982, rfl⟩
abbrev main_v808 : Ref sig .tc := ⟨.hbm, 983, rfl⟩
abbrev main_v809 : Ref sig .tc := ⟨.hbm, 984, rfl⟩
abbrev main_v810 : Ref sig .tc := ⟨.hbm, 985, rfl⟩
abbrev main_v811 : Ref sig .tc := ⟨.hbm, 986, rfl⟩
abbrev main_v812 : Ref sig .tc := ⟨.hbm, 987, rfl⟩
abbrev main_v813 : Ref sig .tc := ⟨.hbm, 988, rfl⟩
abbrev main_c_146 : Ref sig .tc := ⟨.hbm, 989, rfl⟩
abbrev main_v814 : Ref sig .tc := ⟨.hbm, 990, rfl⟩
abbrev main_v815 : Ref sig .tc := ⟨.hbm, 991, rfl⟩
abbrev main_c_147 : Ref sig .tc := ⟨.hbm, 992, rfl⟩
abbrev main_v816 : Ref sig .tc := ⟨.hbm, 993, rfl⟩
abbrev main_v817 : Ref sig .tc := ⟨.hbm, 994, rfl⟩
abbrev main_v818 : Ref sig .tc := ⟨.hbm, 995, rfl⟩
abbrev main_v819 : Ref sig .tc := ⟨.hbm, 996, rfl⟩
abbrev main_v820 : Ref sig .tc := ⟨.hbm, 997, rfl⟩
abbrev main_v821 : Ref sig .tc := ⟨.hbm, 998, rfl⟩
abbrev main_v822 : Ref sig .tc := ⟨.hbm, 999, rfl⟩
abbrev main_v823 : Ref sig .tc := ⟨.hbm, 1000, rfl⟩
abbrev main_v824 : Ref sig .tc := ⟨.hbm, 1001, rfl⟩
abbrev main_v825 : Ref sig .tc := ⟨.hbm, 1002, rfl⟩
abbrev main_v826 : Ref sig .tc := ⟨.hbm, 1003, rfl⟩
abbrev main_v827 : Ref sig .tc := ⟨.hbm, 1004, rfl⟩
abbrev main_c_148 : Ref sig .tc := ⟨.hbm, 1005, rfl⟩
abbrev main_v828 : Ref sig .tc := ⟨.hbm, 1006, rfl⟩
abbrev main_v829 : Ref sig .tc := ⟨.hbm, 1007, rfl⟩
abbrev main_c_149 : Ref sig .tc := ⟨.hbm, 1008, rfl⟩
abbrev main_v830 : Ref sig .tc := ⟨.hbm, 1009, rfl⟩
abbrev main_v831 : Ref sig .tc := ⟨.hbm, 1010, rfl⟩
abbrev main_v832 : Ref sig .tc := ⟨.hbm, 1011, rfl⟩
abbrev main_v833 : Ref sig .tc := ⟨.hbm, 1012, rfl⟩
abbrev main_v834 : Ref sig .tc := ⟨.hbm, 1013, rfl⟩
abbrev main_v835 : Ref sig .tc := ⟨.hbm, 1014, rfl⟩
abbrev main_v836 : Ref sig .tc := ⟨.hbm, 1015, rfl⟩
abbrev main_v837 : Ref sig .tc := ⟨.hbm, 1016, rfl⟩
abbrev main_v838 : Ref sig .tc := ⟨.hbm, 1017, rfl⟩
abbrev main_v839 : Ref sig .tc := ⟨.hbm, 1018, rfl⟩
abbrev main_v840 : Ref sig .tc := ⟨.hbm, 1019, rfl⟩
abbrev main_v841 : Ref sig .tc := ⟨.hbm, 1020, rfl⟩
abbrev main_c_150 : Ref sig .tc := ⟨.hbm, 1021, rfl⟩
abbrev main_v842 : Ref sig .tc := ⟨.hbm, 1022, rfl⟩
abbrev main_v843 : Ref sig .tc := ⟨.hbm, 1023, rfl⟩
abbrev main_c_151 : Ref sig .tc := ⟨.hbm, 1024, rfl⟩
abbrev main_v844 : Ref sig .tc := ⟨.hbm, 1025, rfl⟩
abbrev main_v845 : Ref sig .tc := ⟨.hbm, 1026, rfl⟩
abbrev main_v846 : Ref sig .tc := ⟨.hbm, 1027, rfl⟩
abbrev main_v847 : Ref sig .tc := ⟨.hbm, 1028, rfl⟩
abbrev main_v848 : Ref sig .tc := ⟨.hbm, 1029, rfl⟩
abbrev main_v849 : Ref sig .tc := ⟨.hbm, 1030, rfl⟩
abbrev main_v850 : Ref sig .tc := ⟨.hbm, 1031, rfl⟩
abbrev main_v851 : Ref sig .tc := ⟨.hbm, 1032, rfl⟩
abbrev main_v852 : Ref sig .tc := ⟨.hbm, 1033, rfl⟩
abbrev main_v853 : Ref sig .tc := ⟨.hbm, 1034, rfl⟩
abbrev main_v854 : Ref sig .tc := ⟨.hbm, 1035, rfl⟩
abbrev main_v855 : Ref sig .tc := ⟨.hbm, 1036, rfl⟩
abbrev main_c_152 : Ref sig .tc := ⟨.hbm, 1037, rfl⟩
abbrev main_v856 : Ref sig .tc := ⟨.hbm, 1038, rfl⟩
abbrev main_v857 : Ref sig .tc := ⟨.hbm, 1039, rfl⟩
abbrev main_c_153 : Ref sig .tc := ⟨.hbm, 1040, rfl⟩
abbrev main_v858 : Ref sig .tc := ⟨.hbm, 1041, rfl⟩
abbrev main_v859 : Ref sig .tc := ⟨.hbm, 1042, rfl⟩
abbrev main_v860 : Ref sig .tc := ⟨.hbm, 1043, rfl⟩
abbrev main_v861 : Ref sig .tc := ⟨.hbm, 1044, rfl⟩
abbrev main_v862 : Ref sig .tc := ⟨.hbm, 1045, rfl⟩
abbrev main_v863 : Ref sig .tc := ⟨.hbm, 1046, rfl⟩
abbrev main_v864 : Ref sig .tc := ⟨.hbm, 1047, rfl⟩
abbrev main_v865 : Ref sig .tc := ⟨.hbm, 1048, rfl⟩
abbrev main_v866 : Ref sig .tc := ⟨.hbm, 1049, rfl⟩
abbrev main_v867 : Ref sig .tc := ⟨.hbm, 1050, rfl⟩
abbrev main_v868 : Ref sig .tc := ⟨.hbm, 1051, rfl⟩
abbrev main_v869 : Ref sig .tc := ⟨.hbm, 1052, rfl⟩
abbrev main_c_154 : Ref sig .tc := ⟨.hbm, 1053, rfl⟩
abbrev main_v870 : Ref sig .tc := ⟨.hbm, 1054, rfl⟩
abbrev main_v871 : Ref sig .tc := ⟨.hbm, 1055, rfl⟩
abbrev main_c_155 : Ref sig .tc := ⟨.hbm, 1056, rfl⟩
abbrev main_v872 : Ref sig .tc := ⟨.hbm, 1057, rfl⟩
abbrev main_v873 : Ref sig .tc := ⟨.hbm, 1058, rfl⟩
abbrev main_v874 : Ref sig .tc := ⟨.hbm, 1059, rfl⟩
abbrev main_v875 : Ref sig .tc := ⟨.hbm, 1060, rfl⟩
abbrev main_v876 : Ref sig .tc := ⟨.hbm, 1061, rfl⟩
abbrev main_v877 : Ref sig .tc := ⟨.hbm, 1062, rfl⟩
abbrev main_v878 : Ref sig .tc := ⟨.hbm, 1063, rfl⟩
abbrev main_v879 : Ref sig .tc := ⟨.hbm, 1064, rfl⟩
abbrev main_v880 : Ref sig .tc := ⟨.hbm, 1065, rfl⟩
abbrev main_v881 : Ref sig .tc := ⟨.hbm, 1066, rfl⟩
abbrev main_v882 : Ref sig .tc := ⟨.hbm, 1067, rfl⟩
abbrev main_v883 : Ref sig .tc := ⟨.hbm, 1068, rfl⟩
abbrev main_c_156 : Ref sig .tc := ⟨.hbm, 1069, rfl⟩
abbrev main_v884 : Ref sig .tc := ⟨.hbm, 1070, rfl⟩
abbrev main_v885 : Ref sig .tc := ⟨.hbm, 1071, rfl⟩
abbrev main_c_157 : Ref sig .tc := ⟨.hbm, 1072, rfl⟩
abbrev main_v886 : Ref sig .tc := ⟨.hbm, 1073, rfl⟩
abbrev main_v887 : Ref sig .tc := ⟨.hbm, 1074, rfl⟩
abbrev main_v888 : Ref sig .tc := ⟨.hbm, 1075, rfl⟩
abbrev main_v889 : Ref sig .tc := ⟨.hbm, 1076, rfl⟩
abbrev main_v890 : Ref sig .tc := ⟨.hbm, 1077, rfl⟩
abbrev main_v891 : Ref sig .tc := ⟨.hbm, 1078, rfl⟩
abbrev main_v892 : Ref sig .tc := ⟨.hbm, 1079, rfl⟩
abbrev main_v893 : Ref sig .tc := ⟨.hbm, 1080, rfl⟩
abbrev main_v894 : Ref sig .tc := ⟨.hbm, 1081, rfl⟩
abbrev main_v895 : Ref sig .tc := ⟨.hbm, 1082, rfl⟩
abbrev main_v896 : Ref sig .tc := ⟨.hbm, 1083, rfl⟩
abbrev main_v897 : Ref sig .tc := ⟨.hbm, 1084, rfl⟩
abbrev main_c_158 : Ref sig .tc := ⟨.hbm, 1085, rfl⟩
abbrev main_v898 : Ref sig .tc := ⟨.hbm, 1086, rfl⟩
abbrev main_v899 : Ref sig .tc := ⟨.hbm, 1087, rfl⟩
abbrev main_c_159 : Ref sig .tc := ⟨.hbm, 1088, rfl⟩
abbrev main_v900 : Ref sig .tc := ⟨.hbm, 1089, rfl⟩
abbrev main_v901 : Ref sig .tc := ⟨.hbm, 1090, rfl⟩
abbrev main_v902 : Ref sig .tc := ⟨.hbm, 1091, rfl⟩
abbrev main_v903 : Ref sig .tc := ⟨.hbm, 1092, rfl⟩
abbrev main_v904 : Ref sig .tc := ⟨.hbm, 1093, rfl⟩
abbrev main_v905 : Ref sig .tc := ⟨.hbm, 1094, rfl⟩
abbrev main_v906 : Ref sig .tc := ⟨.hbm, 1095, rfl⟩
abbrev main_v907 : Ref sig .tc := ⟨.hbm, 1096, rfl⟩
abbrev main_v908 : Ref sig .tc := ⟨.hbm, 1097, rfl⟩
abbrev main_v909 : Ref sig .tc := ⟨.hbm, 1098, rfl⟩
abbrev main_v910 : Ref sig .tc := ⟨.hbm, 1099, rfl⟩
abbrev main_v911 : Ref sig .tc := ⟨.hbm, 1100, rfl⟩
abbrev main_c_160 : Ref sig .tc := ⟨.hbm, 1101, rfl⟩
abbrev main_v912 : Ref sig .tc := ⟨.hbm, 1102, rfl⟩
abbrev main_v913 : Ref sig .tc := ⟨.hbm, 1103, rfl⟩
abbrev main_c_161 : Ref sig .tc := ⟨.hbm, 1104, rfl⟩
abbrev main_v914 : Ref sig .tc := ⟨.hbm, 1105, rfl⟩
abbrev main_v915 : Ref sig .tc := ⟨.hbm, 1106, rfl⟩
abbrev main_v916 : Ref sig .tc := ⟨.hbm, 1107, rfl⟩
abbrev main_v917 : Ref sig .tc := ⟨.hbm, 1108, rfl⟩
abbrev main_v918 : Ref sig .tc := ⟨.hbm, 1109, rfl⟩
abbrev main_v919 : Ref sig .tc := ⟨.hbm, 1110, rfl⟩
abbrev main_v920 : Ref sig .tc := ⟨.hbm, 1111, rfl⟩
abbrev main_v921 : Ref sig .tc := ⟨.hbm, 1112, rfl⟩
abbrev main_v922 : Ref sig .tc := ⟨.hbm, 1113, rfl⟩
abbrev main_c_162 : Ref sig .tc := ⟨.hbm, 1114, rfl⟩
abbrev main_v923 : Ref sig .tc := ⟨.hbm, 1115, rfl⟩
abbrev main_v924 : Ref sig .tc := ⟨.hbm, 1116, rfl⟩
abbrev main_c_163 : Ref sig .tc := ⟨.hbm, 1117, rfl⟩
abbrev main_v925 : Ref sig .tc := ⟨.hbm, 1118, rfl⟩
abbrev main_v926 : Ref sig .tc := ⟨.hbm, 1119, rfl⟩
abbrev main_v927 : Ref sig .tc := ⟨.hbm, 1120, rfl⟩
abbrev main_v928 : Ref sig .tc := ⟨.hbm, 1121, rfl⟩
abbrev main_v929 : Ref sig .tc := ⟨.hbm, 1122, rfl⟩
abbrev main_cst_164 : Ref sig .tc := ⟨.hbm, 1123, rfl⟩
abbrev main_v930 : Ref sig .tc := ⟨.hbm, 1124, rfl⟩
abbrev main_v931 : Ref sig .tc := ⟨.hbm, 1125, rfl⟩
abbrev main_v932 : Ref sig .tc := ⟨.hbm, 1126, rfl⟩
abbrev main_v933 : Ref sig .tc := ⟨.hbm, 1127, rfl⟩
abbrev main_v934 : Ref sig .tc := ⟨.hbm, 1128, rfl⟩
abbrev main_v935 : Ref sig .tc := ⟨.hbm, 1129, rfl⟩
abbrev main_v936 : Ref sig .tc := ⟨.hbm, 1130, rfl⟩
abbrev main_v937 : Ref sig .tc := ⟨.hbm, 1131, rfl⟩
abbrev main_c_165 : Ref sig .tc := ⟨.hbm, 1132, rfl⟩
abbrev main_v938 : Ref sig .tc := ⟨.hbm, 1133, rfl⟩
abbrev main_v939 : Ref sig .tc := ⟨.hbm, 1134, rfl⟩
abbrev main_c_166 : Ref sig .tc := ⟨.hbm, 1135, rfl⟩
abbrev main_v940 : Ref sig .tc := ⟨.hbm, 1136, rfl⟩
abbrev main_v941 : Ref sig .tc := ⟨.hbm, 1137, rfl⟩
abbrev main_v942 : Ref sig .tc := ⟨.hbm, 1138, rfl⟩
abbrev main_v943 : Ref sig .tc := ⟨.hbm, 1139, rfl⟩
abbrev main_v944 : Ref sig .tc := ⟨.hbm, 1140, rfl⟩
abbrev main_v945 : Ref sig .tc := ⟨.hbm, 1141, rfl⟩
abbrev main_v946 : Ref sig .tc := ⟨.hbm, 1142, rfl⟩
abbrev main_v947 : Ref sig .tc := ⟨.hbm, 1143, rfl⟩
abbrev main_v948 : Ref sig .tc := ⟨.hbm, 1144, rfl⟩
abbrev main_v949 : Ref sig .tc := ⟨.hbm, 1145, rfl⟩
abbrev main_v950 : Ref sig .tc := ⟨.hbm, 1146, rfl⟩
abbrev main_v951 : Ref sig .tc := ⟨.hbm, 1147, rfl⟩
abbrev main_c_167 : Ref sig .tc := ⟨.hbm, 1148, rfl⟩
abbrev main_v952 : Ref sig .tc := ⟨.hbm, 1149, rfl⟩
abbrev main_v953 : Ref sig .tc := ⟨.hbm, 1150, rfl⟩
abbrev main_c_168 : Ref sig .tc := ⟨.hbm, 1151, rfl⟩
abbrev main_v954 : Ref sig .tc := ⟨.hbm, 1152, rfl⟩
abbrev main_v955 : Ref sig .tc := ⟨.hbm, 1153, rfl⟩
abbrev main_v956 : Ref sig .tc := ⟨.hbm, 1154, rfl⟩
abbrev main_v957 : Ref sig .tc := ⟨.hbm, 1155, rfl⟩
abbrev main_v958 : Ref sig .tc := ⟨.hbm, 1156, rfl⟩
abbrev main_v959 : Ref sig .tc := ⟨.hbm, 1157, rfl⟩
abbrev main_v960 : Ref sig .tc := ⟨.hbm, 1158, rfl⟩
abbrev main_v961 : Ref sig .tc := ⟨.hbm, 1159, rfl⟩
abbrev main_v962 : Ref sig .tc := ⟨.hbm, 1160, rfl⟩
abbrev main_v963 : Ref sig .tc := ⟨.hbm, 1161, rfl⟩
abbrev main_v964 : Ref sig .tc := ⟨.hbm, 1162, rfl⟩
abbrev main_v965 : Ref sig .tc := ⟨.hbm, 1163, rfl⟩
abbrev main_c_169 : Ref sig .tc := ⟨.hbm, 1164, rfl⟩
abbrev main_v966 : Ref sig .tc := ⟨.hbm, 1165, rfl⟩
abbrev main_v967 : Ref sig .tc := ⟨.hbm, 1166, rfl⟩
abbrev main_c_170 : Ref sig .tc := ⟨.hbm, 1167, rfl⟩
abbrev main_v968 : Ref sig .tc := ⟨.hbm, 1168, rfl⟩
abbrev main_v969 : Ref sig .tc := ⟨.hbm, 1169, rfl⟩
abbrev main_v970 : Ref sig .tc := ⟨.hbm, 1170, rfl⟩
abbrev main_v971 : Ref sig .tc := ⟨.hbm, 1171, rfl⟩
abbrev main_v972 : Ref sig .tc := ⟨.hbm, 1172, rfl⟩
abbrev main_v973 : Ref sig .tc := ⟨.hbm, 1173, rfl⟩
abbrev main_v974 : Ref sig .tc := ⟨.hbm, 1174, rfl⟩
abbrev main_v975 : Ref sig .tc := ⟨.hbm, 1175, rfl⟩
abbrev main_v976 : Ref sig .tc := ⟨.hbm, 1176, rfl⟩
abbrev main_v977 : Ref sig .tc := ⟨.hbm, 1177, rfl⟩
abbrev main_v978 : Ref sig .tc := ⟨.hbm, 1178, rfl⟩
abbrev main_v979 : Ref sig .tc := ⟨.hbm, 1179, rfl⟩
abbrev main_c_171 : Ref sig .tc := ⟨.hbm, 1180, rfl⟩
abbrev main_v980 : Ref sig .tc := ⟨.hbm, 1181, rfl⟩
abbrev main_v981 : Ref sig .tc := ⟨.hbm, 1182, rfl⟩
abbrev main_c_172 : Ref sig .tc := ⟨.hbm, 1183, rfl⟩
abbrev main_v982 : Ref sig .tc := ⟨.hbm, 1184, rfl⟩
abbrev main_v983 : Ref sig .tc := ⟨.hbm, 1185, rfl⟩
abbrev main_v984 : Ref sig .tc := ⟨.hbm, 1186, rfl⟩
abbrev main_v985 : Ref sig .tc := ⟨.hbm, 1187, rfl⟩
abbrev main_v986 : Ref sig .tc := ⟨.hbm, 1188, rfl⟩
abbrev main_v987 : Ref sig .tc := ⟨.hbm, 1189, rfl⟩
abbrev main_v988 : Ref sig .tc := ⟨.hbm, 1190, rfl⟩
abbrev main_v989 : Ref sig .tc := ⟨.hbm, 1191, rfl⟩
abbrev main_v990 : Ref sig .tc := ⟨.hbm, 1192, rfl⟩
abbrev main_v991 : Ref sig .tc := ⟨.hbm, 1193, rfl⟩
abbrev main_v992 : Ref sig .tc := ⟨.hbm, 1194, rfl⟩
abbrev main_v993 : Ref sig .tc := ⟨.hbm, 1195, rfl⟩
abbrev main_c_173 : Ref sig .tc := ⟨.hbm, 1196, rfl⟩
abbrev main_v994 : Ref sig .tc := ⟨.hbm, 1197, rfl⟩
abbrev main_v995 : Ref sig .tc := ⟨.hbm, 1198, rfl⟩
abbrev main_c_174 : Ref sig .tc := ⟨.hbm, 1199, rfl⟩
abbrev main_v996 : Ref sig .tc := ⟨.hbm, 1200, rfl⟩
abbrev main_v997 : Ref sig .tc := ⟨.hbm, 1201, rfl⟩
abbrev main_v998 : Ref sig .tc := ⟨.hbm, 1202, rfl⟩
abbrev main_v999 : Ref sig .tc := ⟨.hbm, 1203, rfl⟩
abbrev main_v1000 : Ref sig .tc := ⟨.hbm, 1204, rfl⟩
abbrev main_v1001 : Ref sig .tc := ⟨.hbm, 1205, rfl⟩
abbrev main_v1002 : Ref sig .tc := ⟨.hbm, 1206, rfl⟩
abbrev main_v1003 : Ref sig .tc := ⟨.hbm, 1207, rfl⟩
abbrev main_v1004 : Ref sig .tc := ⟨.hbm, 1208, rfl⟩
abbrev main_v1005 : Ref sig .tc := ⟨.hbm, 1209, rfl⟩
abbrev main_v1006 : Ref sig .tc := ⟨.hbm, 1210, rfl⟩
abbrev main_v1007 : Ref sig .tc := ⟨.hbm, 1211, rfl⟩
abbrev main_c_175 : Ref sig .tc := ⟨.hbm, 1212, rfl⟩
abbrev main_v1008 : Ref sig .tc := ⟨.hbm, 1213, rfl⟩
abbrev main_v1009 : Ref sig .tc := ⟨.hbm, 1214, rfl⟩
abbrev main_c_176 : Ref sig .tc := ⟨.hbm, 1215, rfl⟩
abbrev main_v1010 : Ref sig .tc := ⟨.hbm, 1216, rfl⟩
abbrev main_v1011 : Ref sig .tc := ⟨.hbm, 1217, rfl⟩
abbrev main_v1012 : Ref sig .tc := ⟨.hbm, 1218, rfl⟩
abbrev main_v1013 : Ref sig .tc := ⟨.hbm, 1219, rfl⟩
abbrev main_v1014 : Ref sig .tc := ⟨.hbm, 1220, rfl⟩
abbrev main_v1015 : Ref sig .tc := ⟨.hbm, 1221, rfl⟩
abbrev main_v1016 : Ref sig .tc := ⟨.hbm, 1222, rfl⟩
abbrev main_v1017 : Ref sig .tc := ⟨.hbm, 1223, rfl⟩
abbrev main_v1018 : Ref sig .tc := ⟨.hbm, 1224, rfl⟩
abbrev main_v1019 : Ref sig .tc := ⟨.hbm, 1225, rfl⟩
abbrev main_v1020 : Ref sig .tc := ⟨.hbm, 1226, rfl⟩
abbrev main_v1021 : Ref sig .tc := ⟨.hbm, 1227, rfl⟩
abbrev main_c_177 : Ref sig .tc := ⟨.hbm, 1228, rfl⟩
abbrev main_v1022 : Ref sig .tc := ⟨.hbm, 1229, rfl⟩
abbrev main_v1023 : Ref sig .tc := ⟨.hbm, 1230, rfl⟩
abbrev main_c_178 : Ref sig .tc := ⟨.hbm, 1231, rfl⟩
abbrev main_v1024 : Ref sig .tc := ⟨.hbm, 1232, rfl⟩
abbrev main_v1025 : Ref sig .tc := ⟨.hbm, 1233, rfl⟩
abbrev main_v1026 : Ref sig .tc := ⟨.hbm, 1234, rfl⟩
abbrev main_v1027 : Ref sig .tc := ⟨.hbm, 1235, rfl⟩
abbrev main_v1028 : Ref sig .tc := ⟨.hbm, 1236, rfl⟩
abbrev main_v1029 : Ref sig .tc := ⟨.hbm, 1237, rfl⟩
abbrev main_v1030 : Ref sig .tc := ⟨.hbm, 1238, rfl⟩
abbrev main_v1031 : Ref sig .tc := ⟨.hbm, 1239, rfl⟩
abbrev main_v1032 : Ref sig .tc := ⟨.hbm, 1240, rfl⟩
abbrev main_v1033 : Ref sig .tc := ⟨.hbm, 1241, rfl⟩
abbrev main_v1034 : Ref sig .tc := ⟨.hbm, 1242, rfl⟩
abbrev main_v1035 : Ref sig .tc := ⟨.hbm, 1243, rfl⟩
abbrev main_c_179 : Ref sig .tc := ⟨.hbm, 1244, rfl⟩
abbrev main_v1036 : Ref sig .tc := ⟨.hbm, 1245, rfl⟩
abbrev main_v1037 : Ref sig .tc := ⟨.hbm, 1246, rfl⟩
abbrev main_c_180 : Ref sig .tc := ⟨.hbm, 1247, rfl⟩
abbrev main_v1038 : Ref sig .tc := ⟨.hbm, 1248, rfl⟩
abbrev main_v1039 : Ref sig .tc := ⟨.hbm, 1249, rfl⟩
abbrev main_v1040 : Ref sig .tc := ⟨.hbm, 1250, rfl⟩
abbrev main_v1041 : Ref sig .tc := ⟨.hbm, 1251, rfl⟩
abbrev main_v1042 : Ref sig .tc := ⟨.hbm, 1252, rfl⟩
abbrev main_v1043 : Ref sig .tc := ⟨.hbm, 1253, rfl⟩
abbrev main_v1044 : Ref sig .tc := ⟨.hbm, 1254, rfl⟩
abbrev main_v1045 : Ref sig .tc := ⟨.hbm, 1255, rfl⟩
abbrev main_v1046 : Ref sig .tc := ⟨.hbm, 1256, rfl⟩
abbrev main_cst_181 : Ref sig .tc := ⟨.hbm, 1257, rfl⟩
abbrev main_v1047 : Ref sig .tc := ⟨.hbm, 1258, rfl⟩
abbrev main_c_182 : Ref sig .tc := ⟨.hbm, 1259, rfl⟩
abbrev main_v1048 : Ref sig .tc := ⟨.hbm, 1260, rfl⟩
abbrev main_v1049 : Ref sig .tc := ⟨.hbm, 1261, rfl⟩
abbrev main_cst_183 : Ref sig .tc := ⟨.hbm, 1262, rfl⟩
abbrev main_v1050 : Ref sig .tc := ⟨.hbm, 1263, rfl⟩
abbrev main_c_184 : Ref sig .tc := ⟨.hbm, 1264, rfl⟩
abbrev main_v1051 : Ref sig .tc := ⟨.hbm, 1265, rfl⟩
abbrev main_c_185 : Ref sig .tc := ⟨.hbm, 1266, rfl⟩
abbrev main_v1052 : Ref sig .tc := ⟨.hbm, 1267, rfl⟩
abbrev main_v1053 : Ref sig .tc := ⟨.hbm, 1268, rfl⟩
abbrev main_v1054 : Ref sig .tc := ⟨.hbm, 1269, rfl⟩
abbrev main_v1055 : Ref sig .tc := ⟨.hbm, 1270, rfl⟩
abbrev main_v1056 : Ref sig .tc := ⟨.hbm, 1271, rfl⟩
abbrev main_v1057 : Ref sig .tc := ⟨.hbm, 1272, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg4_0 : Ref sig .tc := ⟨.vmem, 59, rfl⟩
abbrev cc6_stg5_0 : Ref sig .tc := ⟨.vmem, 60, rfl⟩
abbrev cc6_stg5_1 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem4_0 : DmaSem sig := 59
abbrev cc6_sem5_0 : DmaSem sig := 60
abbrev cc6_sem5_1 : DmaSem sig := 61

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x125 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S125x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x4000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4000x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x8000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S400x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S8000x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S400x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x8000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S400x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S8000x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S400x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x8000 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S400x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S8000x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S400x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S400x8000 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S400x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S8000x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S400x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S400x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x6912 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x6912 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S400x6912 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]
-- ==== KernelIdeal.lean ====
variable {F : FTy → Type} [FloatOps F] [Named F]
def κ : String → Option EReal := fun
  | "masked_bias" => some ⊥
  | _ => none
-- ==== ReferenceIdeal.lean ====
abbrev S10000x1 : Shape := ⟨2, ![10000, 1]⟩
abbrev S2x320000 : Shape := ⟨2, ![2, 320000]⟩
abbrev S320000x3 : Shape := ⟨2, ![320000, 3]⟩
abbrev S125x1x32 : Shape := ⟨3, ![125, 1, 32]⟩
abbrev S1x32 : Shape := ⟨2, ![1, 32]⟩
abbrev S32 : Shape := ⟨1, ![32]⟩
abbrev S125x32x64 : Shape := ⟨3, ![125, 32, 64]⟩
abbrev S32x64 : Shape := ⟨2, ![32, 64]⟩
abbrev S64 : Shape := ⟨1, ![64]⟩
abbrev S125x64x64 : Shape := ⟨3, ![125, 64, 64]⟩
abbrev S64x64 : Shape := ⟨2, ![64, 64]⟩
abbrev S64x256 : Shape := ⟨2, ![64, 256]⟩
abbrev S256 : Shape := ⟨1, ![256]⟩
abbrev S256x6890 : Shape := ⟨2, ![256, 6890]⟩
abbrev S6890 : Shape := ⟨1, ![6890]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1250000x1 : Shape := ⟨2, ![1250000, 1]⟩
abbrev S125x10000x1 : Shape := ⟨3, ![125, 10000, 1]⟩
abbrev S10000x32 : Shape := ⟨2, ![10000, 32]⟩
abbrev S10000 : Shape := ⟨1, ![10000]⟩
abbrev S320000x32 : Shape := ⟨2, ![320000, 32]⟩
abbrev S1250000x32 : Shape := ⟨2, ![1250000, 32]⟩
abbrev S125x10000x32 : Shape := ⟨3, ![125, 10000, 32]⟩
abbrev S10000x64 : Shape := ⟨2, ![10000, 64]⟩
abbrev S1x64 : Shape := ⟨2, ![1, 64]⟩
abbrev S320000x64 : Shape := ⟨2, ![320000, 64]⟩
abbrev S1250000x64 : Shape := ⟨2, ![1250000, 64]⟩
abbrev S125x10000x64 : Shape := ⟨3, ![125, 10000, 64]⟩
abbrev S10000x256 : Shape := ⟨2, ![10000, 256]⟩
abbrev S1x256 : Shape := ⟨2, ![1, 256]⟩
abbrev S10000x6890 : Shape := ⟨2, ![10000, 6890]⟩
abbrev S1x6890 : Shape := ⟨2, ![1, 6890]⟩

abbrev nBuf : Space → Nat
  | .hbm => 2891
  | .vmem => 0
  | .smem => 0
  | _ => 0

abbrev hbmTy0_0 (i : Nat) : BufTy := match i % 128 with
  | 0 => ⟨S10000x1, .f32⟩
  | 1 => ⟨S2x320000, .i32⟩
  | 2 => ⟨S320000x3, .f32⟩
  | 3 => ⟨S125x1x32, .f32⟩
  | 4 => ⟨S1x32, .f32⟩
  | 5 => ⟨S32, .f32⟩
  | 6 => ⟨S125x32x64, .f32⟩
  | 7 => ⟨S32x64, .f32⟩
  | 8 => ⟨S64, .f32⟩
  | 9 => ⟨S125x64x64, .f32⟩
  | 10 => ⟨S64x64, .f32⟩
  | 11 => ⟨S64, .f32⟩
  | 12 => ⟨S125x64x64, .f32⟩
  | 13 => ⟨S64x64, .f32⟩
  | 14 => ⟨S64, .f32⟩
  | 15 => ⟨S125x64x64, .f32⟩
  | 16 => ⟨S64x64, .f32⟩
  | 17 => ⟨S64, .f32⟩
  | 18 => ⟨S125x64x64, .f32⟩
  | 19 => ⟨S64x64, .f32⟩
  | 20 => ⟨S64, .f32⟩
  | 21 => ⟨S64x256, .f32⟩
  | 22 => ⟨S256, .f32⟩
  | 23 => ⟨S256x6890, .f32⟩
  | 24 => ⟨S6890, .f32⟩
  | 25 => ⟨S1x320000, .i32⟩
  | 26 => ⟨S320000, .i32⟩
  | 27 => ⟨S1x320000, .i32⟩
  | 28 => ⟨S320000, .i32⟩
  | 29 => ⟨S_, .f32⟩
  | 30 => ⟨S320000x3, .f32⟩
  | 31 => ⟨S320000x3, .f32⟩
  | 32 => ⟨S320000x3, .f32⟩
  | 33 => ⟨S320000x3, .i32⟩
  | 34 => ⟨S320000x3, .f32⟩
  | 35 => ⟨S320000x3, .f32⟩
  | 36 => ⟨S_, .i32⟩
  | 37 => ⟨S320000, .i32⟩
  | 38 => ⟨S320000, .i1⟩
  | 39 => ⟨S_, .i32⟩
  | 40 => ⟨S320000, .i32⟩
  | 41 => ⟨S320000, .i32⟩
  | 42 => ⟨S320000, .i32⟩
  | 43 => ⟨S320000x1, .i32⟩
  | 44 => ⟨S320000x1, .f32⟩
  | 45 => ⟨S_, .f32⟩
  | 46 => ⟨S1250000x1, .f32⟩
  | 47 => ⟨S320000x1, .f32⟩
  | 48 => ⟨S320000, .f32⟩
  | 49 => ⟨S_, .f32⟩
  | 50 => ⟨S320000, .f32⟩
  | 51 => ⟨S320000, .f32⟩
  | 52 => ⟨S320000x1, .f32⟩
  | 53 => ⟨S320000, .f32⟩
  | 54 => ⟨S_, .f32⟩
  | 55 => ⟨S320000, .f32⟩
  | 56 => ⟨S320000, .f32⟩
  | 57 => ⟨S320000x1, .f32⟩
  | 58 => ⟨S320000, .f32⟩
  | 59 => ⟨S_, .f32⟩
  | 60 => ⟨S320000, .f32⟩
  | 61 => ⟨S320000, .f32⟩
  | 62 => ⟨S320000, .f32⟩
  | 63 => ⟨S320000, .f32⟩
  | 64 => ⟨S320000x1, .i32⟩
  | 65 => ⟨S320000, .i32⟩
  | 66 => ⟨S_, .i32⟩
  | 67 => ⟨S320000, .i32⟩
  | 68 => ⟨S320000, .i32⟩
  | 69 => ⟨S320000x1, .i32⟩
  | 70 => ⟨S320000, .i32⟩
  | 71 => ⟨S_, .i32⟩
  | 72 => ⟨S320000, .i32⟩
  | 73 => ⟨S320000, .i32⟩
  | 74 => ⟨S_, .i32⟩
  | 75 => ⟨S320000, .i32⟩
  | 76 => ⟨S320000, .i32⟩
  | 77 => ⟨S320000, .i32⟩
  | 78 => ⟨S320000x1, .i32⟩
  | 79 => ⟨S320000, .i32⟩
  | 80 => ⟨S_, .i32⟩
  | 81 => ⟨S320000, .i32⟩
  | 82 => ⟨S320000, .i32⟩
  | 83 => ⟨S_, .i32⟩
  | 84 => ⟨S320000, .i32⟩
  | 85 => ⟨S320000, .i32⟩
  | 86 => ⟨S320000, .i32⟩
  | 87 => ⟨S_, .i32⟩
  | 88 => ⟨S320000, .i32⟩
  | 89 => ⟨S320000, .i32⟩
  | 90 => ⟨S320000, .i32⟩
  | 91 => ⟨S320000x1, .f32⟩
  | 92 => ⟨S320000x1, .f32⟩
  | 93 => ⟨S_, .i32⟩
  | 94 => ⟨S320000, .i32⟩
  | 95 => ⟨S320000, .i1⟩
  | 96 => ⟨S_, .i32⟩
  | 97 => ⟨S320000, .i32⟩
  | 98 => ⟨S320000, .i32⟩
  | 99 => ⟨S320000, .i32⟩
  | 100 => ⟨S320000x1, .i32⟩
  | 101 => ⟨S1250000x1, .f32⟩
  | 102 => ⟨S320000x1, .f32⟩
  | 103 => ⟨S320000, .f32⟩
  | 104 => ⟨S_, .f32⟩
  | 105 => ⟨S320000, .f32⟩
  | 106 => ⟨S320000, .f32⟩
  | 107 => ⟨S320000x1, .f32⟩
  | 108 => ⟨S320000, .f32⟩
  | 109 => ⟨S_, .f32⟩
  | 110 => ⟨S320000, .f32⟩
  | 111 => ⟨S320000, .f32⟩
  | 112 => ⟨S320000x1, .f32⟩
  | 113 => ⟨S320000, .f32⟩
  | 114 => ⟨S320000, .f32⟩
  | 115 => ⟨S320000, .f32⟩
  | 116 => ⟨S320000x1, .i32⟩
  | 117 => ⟨S320000, .i32⟩
  | 118 => ⟨S_, .i32⟩
  | 119 => ⟨S320000, .i32⟩
  | 120 => ⟨S320000, .i32⟩
  | 121 => ⟨S320000x1, .i32⟩
  | 122 => ⟨S320000, .i32⟩
  | 123 => ⟨S_, .i32⟩
  | 124 => ⟨S320000, .i32⟩
  | 125 => ⟨S320000, .i32⟩
  | 126 => ⟨S_, .i32⟩
  | 127 => ⟨S320000, .i32⟩
  | _ => ⟨S10000x1, .f32⟩

abbrev hbmTy0_1 (i : Nat) : BufTy := match i % 128 with
  | 0 => ⟨S320000, .i32⟩
  | 1 => ⟨S320000, .i32⟩
  | 2 => ⟨S320000x1, .i32⟩
  | 3 => ⟨S320000, .i32⟩
  | 4 => ⟨S_, .i32⟩
  | 5 => ⟨S320000, .i32⟩
  | 6 => ⟨S320000, .i32⟩
  | 7 => ⟨S_, .i32⟩
  | 8 => ⟨S320000, .i32⟩
  | 9 => ⟨S320000, .i32⟩
  | 10 => ⟨S320000, .i32⟩
  | 11 => ⟨S_, .i32⟩
  | 12 => ⟨S320000, .i32⟩
  | 13 => ⟨S320000, .i32⟩
  | 14 => ⟨S320000, .i32⟩
  | 15 => ⟨S320000x1, .f32⟩
  | 16 => ⟨S320000x1, .f32⟩
  | 17 => ⟨S_, .i32⟩
  | 18 => ⟨S320000, .i32⟩
  | 19 => ⟨S320000, .i1⟩
  | 20 => ⟨S_, .i32⟩
  | 21 => ⟨S320000, .i32⟩
  | 22 => ⟨S320000, .i32⟩
  | 23 => ⟨S320000, .i32⟩
  | 24 => ⟨S320000x1, .i32⟩
  | 25 => ⟨S1250000x1, .f32⟩
  | 26 => ⟨S320000x1, .f32⟩
  | 27 => ⟨S320000, .f32⟩
  | 28 => ⟨S_, .f32⟩
  | 29 => ⟨S320000, .f32⟩
  | 30 => ⟨S320000, .f32⟩
  | 31 => ⟨S320000x1, .f32⟩
  | 32 => ⟨S320000, .f32⟩
  | 33 => ⟨S320000x1, .f32⟩
  | 34 => ⟨S320000, .f32⟩
  | 35 => ⟨S_, .f32⟩
  | 36 => ⟨S320000, .f32⟩
  | 37 => ⟨S320000, .f32⟩
  | 38 => ⟨S320000, .f32⟩
  | 39 => ⟨S320000, .f32⟩
  | 40 => ⟨S320000x1, .i32⟩
  | 41 => ⟨S320000, .i32⟩
  | 42 => ⟨S_, .i32⟩
  | 43 => ⟨S320000, .i32⟩
  | 44 => ⟨S320000, .i32⟩
  | 45 => ⟨S320000x1, .i32⟩
  | 46 => ⟨S320000, .i32⟩
  | 47 => ⟨S_, .i32⟩
  | 48 => ⟨S320000, .i32⟩
  | 49 => ⟨S320000, .i32⟩
  | 50 => ⟨S_, .i32⟩
  | 51 => ⟨S320000, .i32⟩
  | 52 => ⟨S320000, .i32⟩
  | 53 => ⟨S320000, .i32⟩
  | 54 => ⟨S320000x1, .i32⟩
  | 55 => ⟨S320000, .i32⟩
  | 56 => ⟨S_, .i32⟩
  | 57 => ⟨S320000, .i32⟩
  | 58 => ⟨S320000, .i32⟩
  | 59 => ⟨S_, .i32⟩
  | 60 => ⟨S320000, .i32⟩
  | 61 => ⟨S320000, .i32⟩
  | 62 => ⟨S320000, .i32⟩
  | 63 => ⟨S_, .i32⟩
  | 64 => ⟨S320000, .i32⟩
  | 65 => ⟨S320000, .i32⟩
  | 66 => ⟨S320000, .i32⟩
  | 67 => ⟨S320000x1, .f32⟩
  | 68 => ⟨S320000x1, .f32⟩
  | 69 => ⟨S_, .i32⟩
  | 70 => ⟨S320000, .i32⟩
  | 71 => ⟨S320000, .i1⟩
  | 72 => ⟨S_, .i32⟩
  | 73 => ⟨S320000, .i32⟩
  | 74 => ⟨S320000, .i32⟩
  | 75 => ⟨S320000, .i32⟩
  | 76 => ⟨S320000x1, .i32⟩
  | 77 => ⟨S1250000x1, .f32⟩
  | 78 => ⟨S320000x1, .f32⟩
  | 79 => ⟨S320000, .f32⟩
  | 80 => ⟨S_, .f32⟩
  | 81 => ⟨S320000, .f32⟩
  | 82 => ⟨S320000, .f32⟩
  | 83 => ⟨S320000x1, .f32⟩
  | 84 => ⟨S320000, .f32⟩
  | 85 => ⟨S320000x1, .f32⟩
  | 86 => ⟨S320000, .f32⟩
  | 87 => ⟨S320000, .f32⟩
  | 88 => ⟨S320000, .f32⟩
  | 89 => ⟨S320000x1, .i32⟩
  | 90 => ⟨S320000, .i32⟩
  | 91 => ⟨S_, .i32⟩
  | 92 => ⟨S320000, .i32⟩
  | 93 => ⟨S320000, .i32⟩
  | 94 => ⟨S320000x1, .i32⟩
  | 95 => ⟨S320000, .i32⟩
  | 96 => ⟨S_, .i32⟩
  | 97 => ⟨S320000, .i32⟩
  | 98 => ⟨S320000, .i32⟩
  | 99 => ⟨S_, .i32⟩
  | 100 => ⟨S320000, .i32⟩
  | 101 => ⟨S320000, .i32⟩
  | 102 => ⟨S320000, .i32⟩
  | 103 => ⟨S320000x1, .i32⟩
  | 104 => ⟨S320000, .i32⟩
  | 105 => ⟨S_, .i32⟩
  | 106 => ⟨S320000, .i32⟩
  | 107 => ⟨S320000, .i32⟩
  | 108 => ⟨S_, .i32⟩
  | 109 => ⟨S320000, .i32⟩
  | 110 => ⟨S320000, .i32⟩
  | 111 => ⟨S320000, .i32⟩
  | 112 => ⟨S_, .i32⟩
  | 113 => ⟨S320000, .i32⟩
  | 114 => ⟨S320000, .i32⟩
  | 115 => ⟨S320000, .i32⟩
  | 116 => ⟨S320000x1, .f32⟩
  | 117 => ⟨S320000x1, .f32⟩
  | 118 => ⟨S_, .i32⟩
  | 119 => ⟨S320000, .i32⟩
  | 120 => ⟨S320000, .i1⟩
  | 121 => ⟨S_, .i32⟩
  | 122 => ⟨S320000, .i32⟩
  | 123 => ⟨S320000, .i32⟩
  | 124 => ⟨S320000, .i32⟩
  | 125 => ⟨S320000x1, .i32⟩
  | 126 => ⟨S1250000x1, .f32⟩
  | 127 => ⟨S320000x1, .f32⟩
  | _ => ⟨S10000x1, .f32⟩

abbrev hbmTy0_2 (i : Nat) : BufTy := match i % 128 with
  | 0 => ⟨S320000, .f32⟩
  | 1 => ⟨S320000x1, .f32⟩
  | 2 => ⟨S320000, .f32⟩
  | 3 => ⟨S_, .f32⟩
  | 4 => ⟨S320000, .f32⟩
  | 5 => ⟨S320000, .f32⟩
  | 6 => ⟨S320000x1, .f32⟩
  | 7 => ⟨S320000, .f32⟩
  | 8 => ⟨S_, .f32⟩
  | 9 => ⟨S320000, .f32⟩
  | 10 => ⟨S320000, .f32⟩
  | 11 => ⟨S320000, .f32⟩
  | 12 => ⟨S320000, .f32⟩
  | 13 => ⟨S320000x1, .i32⟩
  | 14 => ⟨S320000, .i32⟩
  | 15 => ⟨S_, .i32⟩
  | 16 => ⟨S320000, .i32⟩
  | 17 => ⟨S320000, .i32⟩
  | 18 => ⟨S320000x1, .i32⟩
  | 19 => ⟨S320000, .i32⟩
  | 20 => ⟨S_, .i32⟩
  | 21 => ⟨S320000, .i32⟩
  | 22 => ⟨S320000, .i32⟩
  | 23 => ⟨S_, .i32⟩
  | 24 => ⟨S320000, .i32⟩
  | 25 => ⟨S320000, .i32⟩
  | 26 => ⟨S320000, .i32⟩
  | 27 => ⟨S320000x1, .i32⟩
  | 28 => ⟨S320000, .i32⟩
  | 29 => ⟨S_, .i32⟩
  | 30 => ⟨S320000, .i32⟩
  | 31 => ⟨S320000, .i32⟩
  | 32 => ⟨S_, .i32⟩
  | 33 => ⟨S320000, .i32⟩
  | 34 => ⟨S320000, .i32⟩
  | 35 => ⟨S320000, .i32⟩
  | 36 => ⟨S_, .i32⟩
  | 37 => ⟨S320000, .i32⟩
  | 38 => ⟨S320000, .i32⟩
  | 39 => ⟨S320000, .i32⟩
  | 40 => ⟨S320000x1, .f32⟩
  | 41 => ⟨S320000x1, .f32⟩
  | 42 => ⟨S_, .i32⟩
  | 43 => ⟨S320000, .i32⟩
  | 44 => ⟨S320000, .i1⟩
  | 45 => ⟨S_, .i32⟩
  | 46 => ⟨S320000, .i32⟩
  | 47 => ⟨S320000, .i32⟩
  | 48 => ⟨S320000, .i32⟩
  | 49 => ⟨S320000x1, .i32⟩
  | 50 => ⟨S1250000x1, .f32⟩
  | 51 => ⟨S320000x1, .f32⟩
  | 52 => ⟨S320000, .f32⟩
  | 53 => ⟨S320000x1, .f32⟩
  | 54 => ⟨S320000, .f32⟩
  | 55 => ⟨S_, .f32⟩
  | 56 => ⟨S320000, .f32⟩
  | 57 => ⟨S320000, .f32⟩
  | 58 => ⟨S320000x1, .f32⟩
  | 59 => ⟨S320000, .f32⟩
  | 60 => ⟨S320000, .f32⟩
  | 61 => ⟨S320000, .f32⟩
  | 62 => ⟨S320000x1, .i32⟩
  | 63 => ⟨S320000, .i32⟩
  | 64 => ⟨S_, .i32⟩
  | 65 => ⟨S320000, .i32⟩
  | 66 => ⟨S320000, .i32⟩
  | 67 => ⟨S320000x1, .i32⟩
  | 68 => ⟨S320000, .i32⟩
  | 69 => ⟨S_, .i32⟩
  | 70 => ⟨S320000, .i32⟩
  | 71 => ⟨S320000, .i32⟩
  | 72 => ⟨S_, .i32⟩
  | 73 => ⟨S320000, .i32⟩
  | 74 => ⟨S320000, .i32⟩
  | 75 => ⟨S320000, .i32⟩
  | 76 => ⟨S320000x1, .i32⟩
  | 77 => ⟨S320000, .i32⟩
  | 78 => ⟨S_, .i32⟩
  | 79 => ⟨S320000, .i32⟩
  | 80 => ⟨S320000, .i32⟩
  | 81 => ⟨S_, .i32⟩
  | 82 => ⟨S320000, .i32⟩
  | 83 => ⟨S320000, .i32⟩
  | 84 => ⟨S320000, .i32⟩
  | 85 => ⟨S_, .i32⟩
  | 86 => ⟨S320000, .i32⟩
  | 87 => ⟨S320000, .i32⟩
  | 88 => ⟨S320000, .i32⟩
  | 89 => ⟨S320000x1, .f32⟩
  | 90 => ⟨S320000x1, .f32⟩
  | 91 => ⟨S_, .i32⟩
  | 92 => ⟨S320000, .i32⟩
  | 93 => ⟨S320000, .i1⟩
  | 94 => ⟨S_, .i32⟩
  | 95 => ⟨S320000, .i32⟩
  | 96 => ⟨S320000, .i32⟩
  | 97 => ⟨S320000, .i32⟩
  | 98 => ⟨S320000x1, .i32⟩
  | 99 => ⟨S1250000x1, .f32⟩
  | 100 => ⟨S320000x1, .f32⟩
  | 101 => ⟨S320000, .f32⟩
  | 102 => ⟨S320000x1, .f32⟩
  | 103 => ⟨S320000, .f32⟩
  | 104 => ⟨S320000x1, .f32⟩
  | 105 => ⟨S320000, .f32⟩
  | 106 => ⟨S_, .f32⟩
  | 107 => ⟨S320000, .f32⟩
  | 108 => ⟨S320000, .f32⟩
  | 109 => ⟨S320000, .f32⟩
  | 110 => ⟨S320000, .f32⟩
  | 111 => ⟨S320000x1, .i32⟩
  | 112 => ⟨S320000, .i32⟩
  | 113 => ⟨S_, .i32⟩
  | 114 => ⟨S320000, .i32⟩
  | 115 => ⟨S320000, .i32⟩
  | 116 => ⟨S320000x1, .i32⟩
  | 117 => ⟨S320000, .i32⟩
  | 118 => ⟨S_, .i32⟩
  | 119 => ⟨S320000, .i32⟩
  | 120 => ⟨S320000, .i32⟩
  | 121 => ⟨S_, .i32⟩
  | 122 => ⟨S320000, .i32⟩
  | 123 => ⟨S320000, .i32⟩
  | 124 => ⟨S320000, .i32⟩
  | 125 => ⟨S320000x1, .i32⟩
  | 126 => ⟨S320000, .i32⟩
  | 127 => ⟨S_, .i32⟩
  | _ => ⟨S10000x1, .f32⟩

abbrev hbmTy0_3 (i : Nat) : BufTy := match i % 128 with
  | 0 => ⟨S320000, .i32⟩
  | 1 => ⟨S320000, .i32⟩
  | 2 => ⟨S_, .i32⟩
  | 3 => ⟨S320000, .i32⟩
  | 4 => ⟨S320000, .i32⟩
  | 5 => ⟨S320000, .i32⟩
  | 6 => ⟨S_, .i32⟩
  | 7 => ⟨S320000, .i32⟩
  | 8 => ⟨S320000, .i32⟩
  | 9 => ⟨S320000, .i32⟩
  | 10 => ⟨S320000x1, .f32⟩
  | 11 => ⟨S320000x1, .f32⟩
  | 12 => ⟨S_, .i32⟩
  | 13 => ⟨S320000, .i32⟩
  | 14 => ⟨S320000, .i1⟩
  | 15 => ⟨S_, .i32⟩
  | 16 => ⟨S320000, .i32⟩
  | 17 => ⟨S320000, .i32⟩
  | 18 => ⟨S320000, .i32⟩
  | 19 => ⟨S320000x1, .i32⟩
  | 20 => ⟨S1250000x1, .f32⟩
  | 21 => ⟨S320000x1, .f32⟩
  | 22 => ⟨S320000, .f32⟩
  | 23 => ⟨S320000x1, .f32⟩
  | 24 => ⟨S320000, .f32⟩
  | 25 => ⟨S320000x1, .f32⟩
  | 26 => ⟨S320000, .f32⟩
  | 27 => ⟨S320000, .f32⟩
  | 28 => ⟨S320000, .f32⟩
  | 29 => ⟨S320000x1, .i32⟩
  | 30 => ⟨S320000, .i32⟩
  | 31 => ⟨S_, .i32⟩
  | 32 => ⟨S320000, .i32⟩
  | 33 => ⟨S320000, .i32⟩
  | 34 => ⟨S320000x1, .i32⟩
  | 35 => ⟨S320000, .i32⟩
  | 36 => ⟨S_, .i32⟩
  | 37 => ⟨S320000, .i32⟩
  | 38 => ⟨S320000, .i32⟩
  | 39 => ⟨S_, .i32⟩
  | 40 => ⟨S320000, .i32⟩
  | 41 => ⟨S320000, .i32⟩
  | 42 => ⟨S320000, .i32⟩
  | 43 => ⟨S320000x1, .i32⟩
  | 44 => ⟨S320000, .i32⟩
  | 45 => ⟨S_, .i32⟩
  | 46 => ⟨S320000, .i32⟩
  | 47 => ⟨S320000, .i32⟩
  | 48 => ⟨S_, .i32⟩
  | 49 => ⟨S320000, .i32⟩
  | 50 => ⟨S320000, .i32⟩
  | 51 => ⟨S320000, .i32⟩
  | 52 => ⟨S_, .i32⟩
  | 53 => ⟨S320000, .i32⟩
  | 54 => ⟨S320000, .i32⟩
  | 55 => ⟨S320000, .i32⟩
  | 56 => ⟨S320000x1, .f32⟩
  | 57 => ⟨S320000x1, .f32⟩
  | 58 => ⟨S_, .i32⟩
  | 59 => ⟨S320000, .i32⟩
  | 60 => ⟨S320000, .i1⟩
  | 61 => ⟨S_, .i32⟩
  | 62 => ⟨S320000, .i32⟩
  | 63 => ⟨S320000, .i32⟩
  | 64 => ⟨S320000, .i32⟩
  | 65 => ⟨S320000x1, .i32⟩
  | 66 => ⟨S1250000x1, .f32⟩
  | 67 => ⟨S125x10000x1, .f32⟩
  | 68 => ⟨S10000x32, .f32⟩
  | 69 => ⟨S_, .f32⟩
  | 70 => ⟨S10000, .f32⟩
  | 71 => ⟨S_, .i32⟩
  | 72 => ⟨S320000, .i32⟩
  | 73 => ⟨S320000, .i1⟩
  | 74 => ⟨S_, .i32⟩
  | 75 => ⟨S320000, .i32⟩
  | 76 => ⟨S320000, .i32⟩
  | 77 => ⟨S320000, .i32⟩
  | 78 => ⟨S320000x1, .i32⟩
  | 79 => ⟨S_, .f32⟩
  | 80 => ⟨S320000, .f32⟩
  | 81 => ⟨S10000, .f32⟩
  | 82 => ⟨S_, .f32⟩
  | 83 => ⟨S_, .f32⟩
  | 84 => ⟨S10000, .f32⟩
  | 85 => ⟨S10000, .f32⟩
  | 86 => ⟨S10000x1, .f32⟩
  | 87 => ⟨S10000x32, .f32⟩
  | 88 => ⟨S10000x32, .f32⟩
  | 89 => ⟨S10000x32, .f32⟩
  | 90 => ⟨S10000x32, .f32⟩
  | 91 => ⟨S1x32, .f32⟩
  | 92 => ⟨S10000x32, .f32⟩
  | 93 => ⟨S10000x32, .f32⟩
  | 94 => ⟨S_, .f32⟩
  | 95 => ⟨S10000x32, .f32⟩
  | 96 => ⟨S10000x32, .i1⟩
  | 97 => ⟨S_, .f32⟩
  | 98 => ⟨S10000x32, .f32⟩
  | 99 => ⟨S10000x32, .i1⟩
  | 100 => ⟨S_, .f32⟩
  | 101 => ⟨S_, .f32⟩
  | 102 => ⟨S10000x32, .f32⟩
  | 103 => ⟨S10000x32, .f32⟩
  | 104 => ⟨S10000x32, .f32⟩
  | 105 => ⟨S_, .f32⟩
  | 106 => ⟨S10000x32, .f32⟩
  | 107 => ⟨S10000x32, .f32⟩
  | 108 => ⟨S10000x32, .f32⟩
  | 109 => ⟨S_, .f32⟩
  | 110 => ⟨S320000x3, .f32⟩
  | 111 => ⟨S320000x3, .f32⟩
  | 112 => ⟨S320000x3, .f32⟩
  | 113 => ⟨S320000x3, .i32⟩
  | 114 => ⟨S320000x3, .f32⟩
  | 115 => ⟨S320000x3, .f32⟩
  | 116 => ⟨S_, .i32⟩
  | 117 => ⟨S320000, .i32⟩
  | 118 => ⟨S320000, .i1⟩
  | 119 => ⟨S_, .i32⟩
  | 120 => ⟨S320000, .i32⟩
  | 121 => ⟨S320000, .i32⟩
  | 122 => ⟨S320000, .i32⟩
  | 123 => ⟨S320000x1, .i32⟩
  | 124 => ⟨S320000x32, .f32⟩
  | 125 => ⟨S_, .f32⟩
  | 126 => ⟨S1250000x32, .f32⟩
  | 127 => ⟨S320000x1, .f32⟩
  | _ => ⟨S10000x1, .f32⟩

abbrev hbmTy0_4 (i : Nat) : BufTy := match i % 128 with
  | 0 => ⟨S320000, .f32⟩
  | 1 => ⟨S_, .f32⟩
  | 2 => ⟨S320000, .f32⟩
  | 3 => ⟨S320000, .f32⟩
  | 4 => ⟨S320000x1, .f32⟩
  | 5 => ⟨S320000, .f32⟩
  | 6 => ⟨S_, .f32⟩
  | 7 => ⟨S320000, .f32⟩
  | 8 => ⟨S320000, .f32⟩
  | 9 => ⟨S320000x1, .f32⟩
  | 10 => ⟨S320000, .f32⟩
  | 11 => ⟨S_, .f32⟩
  | 12 => ⟨S320000, .f32⟩
  | 13 => ⟨S320000, .f32⟩
  | 14 => ⟨S320000, .f32⟩
  | 15 => ⟨S320000, .f32⟩
  | 16 => ⟨S320000x1, .i32⟩
  | 17 => ⟨S320000, .i32⟩
  | 18 => ⟨S_, .i32⟩
  | 19 => ⟨S320000, .i32⟩
  | 20 => ⟨S320000, .i32⟩
  | 21 => ⟨S320000x1, .i32⟩
  | 22 => ⟨S320000, .i32⟩
  | 23 => ⟨S_, .i32⟩
  | 24 => ⟨S320000, .i32⟩
  | 25 => ⟨S320000, .i32⟩
  | 26 => ⟨S_, .i32⟩
  | 27 => ⟨S320000, .i32⟩
  | 28 => ⟨S320000, .i32⟩
  | 29 => ⟨S320000, .i32⟩
  | 30 => ⟨S320000x1, .i32⟩
  | 31 => ⟨S320000, .i32⟩
  | 32 => ⟨S_, .i32⟩
  | 33 => ⟨S320000, .i32⟩
  | 34 => ⟨S320000, .i32⟩
  | 35 => ⟨S_, .i32⟩
  | 36 => ⟨S320000, .i32⟩
  | 37 => ⟨S320000, .i32⟩
  | 38 => ⟨S320000, .i32⟩
  | 39 => ⟨S_, .i32⟩
  | 40 => ⟨S320000, .i32⟩
  | 41 => ⟨S320000, .i32⟩
  | 42 => ⟨S320000, .i32⟩
  | 43 => ⟨S320000x1, .f32⟩
  | 44 => ⟨S320000x32, .f32⟩
  | 45 => ⟨S320000x32, .f32⟩
  | 46 => ⟨S_, .i32⟩
  | 47 => ⟨S320000, .i32⟩
  | 48 => ⟨S320000, .i1⟩
  | 49 => ⟨S_, .i32⟩
  | 50 => ⟨S320000, .i32⟩
  | 51 => ⟨S320000, .i32⟩
  | 52 => ⟨S320000, .i32⟩
  | 53 => ⟨S320000x1, .i32⟩
  | 54 => ⟨S1250000x32, .f32⟩
  | 55 => ⟨S320000x1, .f32⟩
  | 56 => ⟨S320000, .f32⟩
  | 57 => ⟨S_, .f32⟩
  | 58 => ⟨S320000, .f32⟩
  | 59 => ⟨S320000, .f32⟩
  | 60 => ⟨S320000x1, .f32⟩
  | 61 => ⟨S320000, .f32⟩
  | 62 => ⟨S_, .f32⟩
  | 63 => ⟨S320000, .f32⟩
  | 64 => ⟨S320000, .f32⟩
  | 65 => ⟨S320000x1, .f32⟩
  | 66 => ⟨S320000, .f32⟩
  | 67 => ⟨S320000, .f32⟩
  | 68 => ⟨S320000, .f32⟩
  | 69 => ⟨S320000x1, .i32⟩
  | 70 => ⟨S320000, .i32⟩
  | 71 => ⟨S_, .i32⟩
  | 72 => ⟨S320000, .i32⟩
  | 73 => ⟨S320000, .i32⟩
  | 74 => ⟨S320000x1, .i32⟩
  | 75 => ⟨S320000, .i32⟩
  | 76 => ⟨S_, .i32⟩
  | 77 => ⟨S320000, .i32⟩
  | 78 => ⟨S320000, .i32⟩
  | 79 => ⟨S_, .i32⟩
  | 80 => ⟨S320000, .i32⟩
  | 81 => ⟨S320000, .i32⟩
  | 82 => ⟨S320000, .i32⟩
  | 83 => ⟨S320000x1, .i32⟩
  | 84 => ⟨S320000, .i32⟩
  | 85 => ⟨S_, .i32⟩
  | 86 => ⟨S320000, .i32⟩
  | 87 => ⟨S320000, .i32⟩
  | 88 => ⟨S_, .i32⟩
  | 89 => ⟨S320000, .i32⟩
  | 90 => ⟨S320000, .i32⟩
  | 91 => ⟨S320000, .i32⟩
  | 92 => ⟨S_, .i32⟩
  | 93 => ⟨S320000, .i32⟩
  | 94 => ⟨S320000, .i32⟩
  | 95 => ⟨S320000, .i32⟩
  | 96 => ⟨S320000x1, .f32⟩
  | 97 => ⟨S320000x32, .f32⟩
  | 98 => ⟨S320000x32, .f32⟩
  | 99 => ⟨S_, .i32⟩
  | 100 => ⟨S320000, .i32⟩
  | 101 => ⟨S320000, .i1⟩
  | 102 => ⟨S_, .i32⟩
  | 103 => ⟨S320000, .i32⟩
  | 104 => ⟨S320000, .i32⟩
  | 105 => ⟨S320000, .i32⟩
  | 106 => ⟨S320000x1, .i32⟩
  | 107 => ⟨S1250000x32, .f32⟩
  | 108 => ⟨S320000x1, .f32⟩
  | 109 => ⟨S320000, .f32⟩
  | 110 => ⟨S_, .f32⟩
  | 111 => ⟨S320000, .f32⟩
  | 112 => ⟨S320000, .f32⟩
  | 113 => ⟨S320000x1, .f32⟩
  | 114 => ⟨S320000, .f32⟩
  | 115 => ⟨S320000x1, .f32⟩
  | 116 => ⟨S320000, .f32⟩
  | 117 => ⟨S_, .f32⟩
  | 118 => ⟨S320000, .f32⟩
  | 119 => ⟨S320000, .f32⟩
  | 120 => ⟨S320000, .f32⟩
  | 121 => ⟨S320000, .f32⟩
  | 122 => ⟨S320000x1, .i32⟩
  | 123 => ⟨S320000, .i32⟩
  | 124 => ⟨S_, .i32⟩
  | 125 => ⟨S320000, .i32⟩
  | 126 => ⟨S320000, .i32⟩
  | 127 => ⟨S320000x1, .i32⟩
  | _ => ⟨S10000x1, .f32⟩

abbrev hbmTy0_5 (i : Nat) : BufTy := match i % 128 with
  | 0 => ⟨S320000, .i32⟩
  | 1 => ⟨S_, .i32⟩
  | 2 => ⟨S320000, .i32⟩
  | 3 => ⟨S320000, .i32⟩
  | 4 => ⟨S_, .i32⟩
  | 5 => ⟨S320000, .i32⟩
  | 6 => ⟨S320000, .i32⟩
  | 7 => ⟨S320000, .i32⟩
  | 8 => ⟨S320000x1, .i32⟩
  | 9 => ⟨S320000, .i32⟩
  | 10 => ⟨S_, .i32⟩
  | 11 => ⟨S320000, .i32⟩
  | 12 => ⟨S320000, .i32⟩
  | 13 => ⟨S_, .i32⟩
  | 14 => ⟨S320000, .i32⟩
  | 15 => ⟨S320000, .i32⟩
  | 16 => ⟨S320000, .i32⟩
  | 17 => ⟨S_, .i32⟩
  | 18 => ⟨S320000, .i32⟩
  | 19 => ⟨S320000, .i32⟩
  | 20 => ⟨S320000, .i32⟩
  | 21 => ⟨S320000x1, .f32⟩
  | 22 => ⟨S320000x32, .f32⟩
  | 23 => ⟨S320000x32, .f32⟩
  | 24 => ⟨S_, .i32⟩
  | 25 => ⟨S320000, .i32⟩
  | 26 => ⟨S320000, .i1⟩
  | 27 => ⟨S_, .i32⟩
  | 28 => ⟨S320000, .i32⟩
  | 29 => ⟨S320000, .i32⟩
  | 30 => ⟨S320000, .i32⟩
  | 31 => ⟨S320000x1, .i32⟩
  | 32 => ⟨S1250000x32, .f32⟩
  | 33 => ⟨S320000x1, .f32⟩
  | 34 => ⟨S320000, .f32⟩
  | 35 => ⟨S_, .f32⟩
  | 36 => ⟨S320000, .f32⟩
  | 37 => ⟨S320000, .f32⟩
  | 38 => ⟨S320000x1, .f32⟩
  | 39 => ⟨S320000, .f32⟩
  | 40 => ⟨S320000x1, .f32⟩
  | 41 => ⟨S320000, .f32⟩
  | 42 => ⟨S320000, .f32⟩
  | 43 => ⟨S320000, .f32⟩
  | 44 => ⟨S320000x1, .i32⟩
  | 45 => ⟨S320000, .i32⟩
  | 46 => ⟨S_, .i32⟩
  | 47 => ⟨S320000, .i32⟩
  | 48 => ⟨S320000, .i32⟩
  | 49 => ⟨S320000x1, .i32⟩
  | 50 => ⟨S320000, .i32⟩
  | 51 => ⟨S_, .i32⟩
  | 52 => ⟨S320000, .i32⟩
  | 53 => ⟨S320000, .i32⟩
  | 54 => ⟨S_, .i32⟩
  | 55 => ⟨S320000, .i32⟩
  | 56 => ⟨S320000, .i32⟩
  | 57 => ⟨S320000, .i32⟩
  | 58 => ⟨S320000x1, .i32⟩
  | 59 => ⟨S320000, .i32⟩
  | 60 => ⟨S_, .i32⟩
  | 61 => ⟨S320000, .i32⟩
  | 62 => ⟨S320000, .i32⟩
  | 63 => ⟨S_, .i32⟩
  | 64 => ⟨S320000, .i32⟩
  | 65 => ⟨S320000, .i32⟩
  | 66 => ⟨S320000, .i32⟩
  | 67 => ⟨S_, .i32⟩
  | 68 => ⟨S320000, .i32⟩
  | 69 => ⟨S320000, .i32⟩
  | 70 => ⟨S320000, .i32⟩
  | 71 => ⟨S320000x1, .f32⟩
  | 72 => ⟨S320000x32, .f32⟩
  | 73 => ⟨S320000x32, .f32⟩
  | 74 => ⟨S_, .i32⟩
  | 75 => ⟨S320000, .i32⟩
  | 76 => ⟨S320000, .i1⟩
  | 77 => ⟨S_, .i32⟩
  | 78 => ⟨S320000, .i32⟩
  | 79 => ⟨S320000, .i32⟩
  | 80 => ⟨S320000, .i32⟩
  | 81 => ⟨S320000x1, .i32⟩
  | 82 => ⟨S1250000x32, .f32⟩
  | 83 => ⟨S320000x1, .f32⟩
  | 84 => ⟨S320000, .f32⟩
  | 85 => ⟨S320000x1, .f32⟩
  | 86 => ⟨S320000, .f32⟩
  | 87 => ⟨S_, .f32⟩
  | 88 => ⟨S320000, .f32⟩
  | 89 => ⟨S320000, .f32⟩
  | 90 => ⟨S320000x1, .f32⟩
  | 91 => ⟨S320000, .f32⟩
  | 92 => ⟨S_, .f32⟩
  | 93 => ⟨S320000, .f32⟩
  | 94 => ⟨S320000, .f32⟩
  | 95 => ⟨S320000, .f32⟩
  | 96 => ⟨S320000, .f32⟩
  | 97 => ⟨S320000x1, .i32⟩
  | 98 => ⟨S320000, .i32⟩
  | 99 => ⟨S_, .i32⟩
  | 100 => ⟨S320000, .i32⟩
  | 101 => ⟨S320000, .i32⟩
  | 102 => ⟨S320000x1, .i32⟩
  | 103 => ⟨S320000, .i32⟩
  | 104 => ⟨S_, .i32⟩
  | 105 => ⟨S320000, .i32⟩
  | 106 => ⟨S320000, .i32⟩
  | 107 => ⟨S_, .i32⟩
  | 108 => ⟨S320000, .i32⟩
  | 109 => ⟨S320000, .i32⟩
  | 110 => ⟨S320000, .i32⟩
  | 111 => ⟨S320000x1, .i32⟩
  | 112 => ⟨S320000, .i32⟩
  | 113 => ⟨S_, .i32⟩
  | 114 => ⟨S320000, .i32⟩
  | 115 => ⟨S320000, .i32⟩
  | 116 => ⟨S_, .i32⟩
  | 117 => ⟨S320000, .i32⟩
  | 118 => ⟨S320000, .i32⟩
  | 119 => ⟨S320000, .i32⟩
  | 120 => ⟨S_, .i32⟩
  | 121 => ⟨S320000, .i32⟩
  | 122 => ⟨S320000, .i32⟩
  | 123 => ⟨S320000, .i32⟩
  | 124 => ⟨S320000x1, .f32⟩
  | 125 => ⟨S320000x32, .f32⟩
  | 126 => ⟨S320000x32, .f32⟩
  | 127 => ⟨S_, .i32⟩
  | _ => ⟨S10000x1, .f32⟩

abbrev hbmTy0_6 (i : Nat) : BufTy := match i % 128 with
  | 0 => ⟨S320000, .i32⟩
  | 1 => ⟨S320000, .i1⟩
  | 2 => ⟨S_, .i32⟩
  | 3 => ⟨S320000, .i32⟩
  | 4 => ⟨S320000, .i32⟩
  | 5 => ⟨S320000, .i32⟩
  | 6 => ⟨S320000x1, .i32⟩
  | 7 => ⟨S1250000x32, .f32⟩
  | 8 => ⟨S320000x1, .f32⟩
  | 9 => ⟨S320000, .f32⟩
  | 10 => ⟨S320000x1, .f32⟩
  | 11 => ⟨S320000, .f32⟩
  | 12 => ⟨S_, .f32⟩
  | 13 => ⟨S320000, .f32⟩
  | 14 => ⟨S320000, .f32⟩
  | 15 => ⟨S320000x1, .f32⟩
  | 16 => ⟨S320000, .f32⟩
  | 17 => ⟨S320000, .f32⟩
  | 18 => ⟨S320000, .f32⟩
  | 19 => ⟨S320000x1, .i32⟩
  | 20 => ⟨S320000, .i32⟩
  | 21 => ⟨S_, .i32⟩
  | 22 => ⟨S320000, .i32⟩
  | 23 => ⟨S320000, .i32⟩
  | 24 => ⟨S320000x1, .i32⟩
  | 25 => ⟨S320000, .i32⟩
  | 26 => ⟨S_, .i32⟩
  | 27 => ⟨S320000, .i32⟩
  | 28 => ⟨S320000, .i32⟩
  | 29 => ⟨S_, .i32⟩
  | 30 => ⟨S320000, .i32⟩
  | 31 => ⟨S320000, .i32⟩
  | 32 => ⟨S320000, .i32⟩
  | 33 => ⟨S320000x1, .i32⟩
  | 34 => ⟨S320000, .i32⟩
  | 35 => ⟨S_, .i32⟩
  | 36 => ⟨S320000, .i32⟩
  | 37 => ⟨S320000, .i32⟩
  | 38 => ⟨S_, .i32⟩
  | 39 => ⟨S320000, .i32⟩
  | 40 => ⟨S320000, .i32⟩
  | 41 => ⟨S320000, .i32⟩
  | 42 => ⟨S_, .i32⟩
  | 43 => ⟨S320000, .i32⟩
  | 44 => ⟨S320000, .i32⟩
  | 45 => ⟨S320000, .i32⟩
  | 46 => ⟨S320000x1, .f32⟩
  | 47 => ⟨S320000x32, .f32⟩
  | 48 => ⟨S320000x32, .f32⟩
  | 49 => ⟨S_, .i32⟩
  | 50 => ⟨S320000, .i32⟩
  | 51 => ⟨S320000, .i1⟩
  | 52 => ⟨S_, .i32⟩
  | 53 => ⟨S320000, .i32⟩
  | 54 => ⟨S320000, .i32⟩
  | 55 => ⟨S320000, .i32⟩
  | 56 => ⟨S320000x1, .i32⟩
  | 57 => ⟨S1250000x32, .f32⟩
  | 58 => ⟨S320000x1, .f32⟩
  | 59 => ⟨S320000, .f32⟩
  | 60 => ⟨S320000x1, .f32⟩
  | 61 => ⟨S320000, .f32⟩
  | 62 => ⟨S320000x1, .f32⟩
  | 63 => ⟨S320000, .f32⟩
  | 64 => ⟨S_, .f32⟩
  | 65 => ⟨S320000, .f32⟩
  | 66 => ⟨S320000, .f32⟩
  | 67 => ⟨S320000, .f32⟩
  | 68 => ⟨S320000, .f32⟩
  | 69 => ⟨S320000x1, .i32⟩
  | 70 => ⟨S320000, .i32⟩
  | 71 => ⟨S_, .i32⟩
  | 72 => ⟨S320000, .i32⟩
  | 73 => ⟨S320000, .i32⟩
  | 74 => ⟨S320000x1, .i32⟩
  | 75 => ⟨S320000, .i32⟩
  | 76 => ⟨S_, .i32⟩
  | 77 => ⟨S320000, .i32⟩
  | 78 => ⟨S320000, .i32⟩
  | 79 => ⟨S_, .i32⟩
  | 80 => ⟨S320000, .i32⟩
  | 81 => ⟨S320000, .i32⟩
  | 82 => ⟨S320000, .i32⟩
  | 83 => ⟨S320000x1, .i32⟩
  | 84 => ⟨S320000, .i32⟩
  | 85 => ⟨S_, .i32⟩
  | 86 => ⟨S320000, .i32⟩
  | 87 => ⟨S320000, .i32⟩
  | 88 => ⟨S_, .i32⟩
  | 89 => ⟨S320000, .i32⟩
  | 90 => ⟨S320000, .i32⟩
  | 91 => ⟨S320000, .i32⟩
  | 92 => ⟨S_, .i32⟩
  | 93 => ⟨S320000, .i32⟩
  | 94 => ⟨S320000, .i32⟩
  | 95 => ⟨S320000, .i32⟩
  | 96 => ⟨S320000x1, .f32⟩
  | 97 => ⟨S320000x32, .f32⟩
  | 98 => ⟨S320000x32, .f32⟩
  | 99 => ⟨S_, .i32⟩
  | 100 => ⟨S320000, .i32⟩
  | 101 => ⟨S320000, .i1⟩
  | 102 => ⟨S_, .i32⟩
  | 103 => ⟨S320000, .i32⟩
  | 104 => ⟨S320000, .i32⟩
  | 105 => ⟨S320000, .i32⟩
  | 106 => ⟨S320000x1, .i32⟩
  | 107 => ⟨S1250000x32, .f32⟩
  | 108 => ⟨S320000x1, .f32⟩
  | 109 => ⟨S320000, .f32⟩
  | 110 => ⟨S320000x1, .f32⟩
  | 111 => ⟨S320000, .f32⟩
  | 112 => ⟨S320000x1, .f32⟩
  | 113 => ⟨S320000, .f32⟩
  | 114 => ⟨S320000, .f32⟩
  | 115 => ⟨S320000, .f32⟩
  | 116 => ⟨S320000x1, .i32⟩
  | 117 => ⟨S320000, .i32⟩
  | 118 => ⟨S_, .i32⟩
  | 119 => ⟨S320000, .i32⟩
  | 120 => ⟨S320000, .i32⟩
  | 121 => ⟨S320000x1, .i32⟩
  | 122 => ⟨S320000, .i32⟩
  | 123 => ⟨S_, .i32⟩
  | 124 => ⟨S320000, .i32⟩
  | 125 => ⟨S320000, .i32⟩
  | 126 => ⟨S_, .i32⟩
  | 127 => ⟨S320000, .i32⟩
  | _ => ⟨S10000x1, .f32⟩

abbrev hbmTy0_7 (i : Nat) : BufTy := match i % 128 with
  | 0 => ⟨S320000, .i32⟩
  | 1 => ⟨S320000, .i32⟩
  | 2 => ⟨S320000x1, .i32⟩
  | 3 => ⟨S320000, .i32⟩
  | 4 => ⟨S_, .i32⟩
  | 5 => ⟨S320000, .i32⟩
  | 6 => ⟨S320000, .i32⟩
  | 7 => ⟨S_, .i32⟩
  | 8 => ⟨S320000, .i32⟩
  | 9 => ⟨S320000, .i32⟩
  | 10 => ⟨S320000, .i32⟩
  | 11 => ⟨S_, .i32⟩
  | 12 => ⟨S320000, .i32⟩
  | 13 => ⟨S320000, .i32⟩
  | 14 => ⟨S320000, .i32⟩
  | 15 => ⟨S320000x1, .f32⟩
  | 16 => ⟨S320000x32, .f32⟩
  | 17 => ⟨S320000x32, .f32⟩
  | 18 => ⟨S_, .i32⟩
  | 19 => ⟨S320000, .i32⟩
  | 20 => ⟨S320000, .i1⟩
  | 21 => ⟨S_, .i32⟩
  | 22 => ⟨S320000, .i32⟩
  | 23 => ⟨S320000, .i32⟩
  | 24 => ⟨S320000, .i32⟩
  | 25 => ⟨S320000x1, .i32⟩
  | 26 => ⟨S1250000x32, .f32⟩
  | 27 => ⟨S125x10000x32, .f32⟩
  | 28 => ⟨S10000x64, .f32⟩
  | 29 => ⟨S_, .f32⟩
  | 30 => ⟨S10000, .f32⟩
  | 31 => ⟨S_, .i32⟩
  | 32 => ⟨S320000, .i32⟩
  | 33 => ⟨S320000, .i1⟩
  | 34 => ⟨S_, .i32⟩
  | 35 => ⟨S320000, .i32⟩
  | 36 => ⟨S320000, .i32⟩
  | 37 => ⟨S320000, .i32⟩
  | 38 => ⟨S320000x1, .i32⟩
  | 39 => ⟨S_, .f32⟩
  | 40 => ⟨S320000, .f32⟩
  | 41 => ⟨S10000, .f32⟩
  | 42 => ⟨S_, .f32⟩
  | 43 => ⟨S_, .f32⟩
  | 44 => ⟨S10000, .f32⟩
  | 45 => ⟨S10000, .f32⟩
  | 46 => ⟨S10000x1, .f32⟩
  | 47 => ⟨S10000x64, .f32⟩
  | 48 => ⟨S10000x64, .f32⟩
  | 49 => ⟨S10000x64, .f32⟩
  | 50 => ⟨S10000x64, .f32⟩
  | 51 => ⟨S1x64, .f32⟩
  | 52 => ⟨S10000x64, .f32⟩
  | 53 => ⟨S10000x64, .f32⟩
  | 54 => ⟨S_, .f32⟩
  | 55 => ⟨S10000x64, .f32⟩
  | 56 => ⟨S10000x64, .i1⟩
  | 57 => ⟨S_, .f32⟩
  | 58 => ⟨S10000x64, .f32⟩
  | 59 => ⟨S10000x64, .i1⟩
  | 60 => ⟨S_, .f32⟩
  | 61 => ⟨S_, .f32⟩
  | 62 => ⟨S10000x64, .f32⟩
  | 63 => ⟨S10000x64, .f32⟩
  | 64 => ⟨S10000x64, .f32⟩
  | 65 => ⟨S_, .f32⟩
  | 66 => ⟨S10000x64, .f32⟩
  | 67 => ⟨S10000x64, .f32⟩
  | 68 => ⟨S10000x64, .f32⟩
  | 69 => ⟨S_, .f32⟩
  | 70 => ⟨S320000x3, .f32⟩
  | 71 => ⟨S320000x3, .f32⟩
  | 72 => ⟨S320000x3, .f32⟩
  | 73 => ⟨S320000x3, .i32⟩
  | 74 => ⟨S320000x3, .f32⟩
  | 75 => ⟨S320000x3, .f32⟩
  | 76 => ⟨S_, .i32⟩
  | 77 => ⟨S320000, .i32⟩
  | 78 => ⟨S320000, .i1⟩
  | 79 => ⟨S_, .i32⟩
  | 80 => ⟨S320000, .i32⟩
  | 81 => ⟨S320000, .i32⟩
  | 82 => ⟨S320000, .i32⟩
  | 83 => ⟨S320000x1, .i32⟩
  | 84 => ⟨S320000x64, .f32⟩
  | 85 => ⟨S_, .f32⟩
  | 86 => ⟨S1250000x64, .f32⟩
  | 87 => ⟨S320000x1, .f32⟩
  | 88 => ⟨S320000, .f32⟩
  | 89 => ⟨S_, .f32⟩
  | 90 => ⟨S320000, .f32⟩
  | 91 => ⟨S320000, .f32⟩
  | 92 => ⟨S320000x1, .f32⟩
  | 93 => ⟨S320000, .f32⟩
  | 94 => ⟨S_, .f32⟩
  | 95 => ⟨S320000, .f32⟩
  | 96 => ⟨S320000, .f32⟩
  | 97 => ⟨S320000x1, .f32⟩
  | 98 => ⟨S320000, .f32⟩
  | 99 => ⟨S_, .f32⟩
  | 100 => ⟨S320000, .f32⟩
  | 101 => ⟨S320000, .f32⟩
  | 102 => ⟨S320000, .f32⟩
  | 103 => ⟨S320000, .f32⟩
  | 104 => ⟨S320000x1, .i32⟩
  | 105 => ⟨S320000, .i32⟩
  | 106 => ⟨S_, .i32⟩
  | 107 => ⟨S320000, .i32⟩
  | 108 => ⟨S320000, .i32⟩
  | 109 => ⟨S320000x1, .i32⟩
  | 110 => ⟨S320000, .i32⟩
  | 111 => ⟨S_, .i32⟩
  | 112 => ⟨S320000, .i32⟩
  | 113 => ⟨S320000, .i32⟩
  | 114 => ⟨S_, .i32⟩
  | 115 => ⟨S320000, .i32⟩
  | 116 => ⟨S320000, .i32⟩
  | 117 => ⟨S320000, .i32⟩
  | 118 => ⟨S320000x1, .i32⟩
  | 119 => ⟨S320000, .i32⟩
  | 120 => ⟨S_, .i32⟩
  | 121 => ⟨S320000, .i32⟩
  | 122 => ⟨S320000, .i32⟩
  | 123 => ⟨S_, .i32⟩
  | 124 => ⟨S320000, .i32⟩
  | 125 => ⟨S320000, .i32⟩
  | 126 => ⟨S320000, .i32⟩
  | 127 => ⟨S_, .i32⟩
  | _ => ⟨S10000x1, .f32⟩

abbrev hbmTy0_8 (i : Nat) : BufTy := match i % 128 with
  | 0 => ⟨S320000, .i32⟩
  | 1 => ⟨S320000, .i32⟩
  | 2 => ⟨S320000, .i32⟩
  | 3 => ⟨S320000x1, .f32⟩
  | 4 => ⟨S320000x64, .f32⟩
  | 5 => ⟨S320000x64, .f32⟩
  | 6 => ⟨S_, .i32⟩
  | 7 => ⟨S320000, .i32⟩
  | 8 => ⟨S320000, .i1⟩
  | 9 => ⟨S_, .i32⟩
  | 10 => ⟨S320000, .i32⟩
  | 11 => ⟨S320000, .i32⟩
  | 12 => ⟨S320000, .i32⟩
  | 13 => ⟨S320000x1, .i32⟩
  | 14 => ⟨S1250000x64, .f32⟩
  | 15 => ⟨S320000x1, .f32⟩
  | 16 => ⟨S320000, .f32⟩
  | 17 => ⟨S_, .f32⟩
  | 18 => ⟨S320000, .f32⟩
  | 19 => ⟨S320000, .f32⟩
  | 20 => ⟨S320000x1, .f32⟩
  | 21 => ⟨S320000, .f32⟩
  | 22 => ⟨S_, .f32⟩
  | 23 => ⟨S320000, .f32⟩
  | 24 => ⟨S320000, .f32⟩
  | 25 => ⟨S320000x1, .f32⟩
  | 26 => ⟨S320000, .f32⟩
  | 27 => ⟨S320000, .f32⟩
  | 28 => ⟨S320000, .f32⟩
  | 29 => ⟨S320000x1, .i32⟩
  | 30 => ⟨S320000, .i32⟩
  | 31 => ⟨S_, .i32⟩
  | 32 => ⟨S320000, .i32⟩
  | 33 => ⟨S320000, .i32⟩
  | 34 => ⟨S320000x1, .i32⟩
  | 35 => ⟨S320000, .i32⟩
  | 36 => ⟨S_, .i32⟩
  | 37 => ⟨S320000, .i32⟩
  | 38 => ⟨S320000, .i32⟩
  | 39 => ⟨S_, .i32⟩
  | 40 => ⟨S320000, .i32⟩
  | 41 => ⟨S320000, .i32⟩
  | 42 => ⟨S320000, .i32⟩
  | 43 => ⟨S320000x1, .i32⟩
  | 44 => ⟨S320000, .i32⟩
  | 45 => ⟨S_, .i32⟩
  | 46 => ⟨S320000, .i32⟩
  | 47 => ⟨S320000, .i32⟩
  | 48 => ⟨S_, .i32⟩
  | 49 => ⟨S320000, .i32⟩
  | 50 => ⟨S320000, .i32⟩
  | 51 => ⟨S320000, .i32⟩
  | 52 => ⟨S_, .i32⟩
  | 53 => ⟨S320000, .i32⟩
  | 54 => ⟨S320000, .i32⟩
  | 55 => ⟨S320000, .i32⟩
  | 56 => ⟨S320000x1, .f32⟩
  | 57 => ⟨S320000x64, .f32⟩
  | 58 => ⟨S320000x64, .f32⟩
  | 59 => ⟨S_, .i32⟩
  | 60 => ⟨S320000, .i32⟩
  | 61 => ⟨S320000, .i1⟩
  | 62 => ⟨S_, .i32⟩
  | 63 => ⟨S320000, .i32⟩
  | 64 => ⟨S320000, .i32⟩
  | 65 => ⟨S320000, .i32⟩
  | 66 => ⟨S320000x1, .i32⟩
  | 67 => ⟨S1250000x64, .f32⟩
  | 68 => ⟨S320000x1, .f32⟩
  | 69 => ⟨S320000, .f32⟩
  | 70 => ⟨S_, .f32⟩
  | 71 => ⟨S320000, .f32⟩
  | 72 => ⟨S320000, .f32⟩
  | 73 => ⟨S320000x1, .f32⟩
  | 74 => ⟨S320000, .f32⟩
  | 75 => ⟨S320000x1, .f32⟩
  | 76 => ⟨S320000, .f32⟩
  | 77 => ⟨S_, .f32⟩
  | 78 => ⟨S320000, .f32⟩
  | 79 => ⟨S320000, .f32⟩
  | 80 => ⟨S320000, .f32⟩
  | 81 => ⟨S320000, .f32⟩
  | 82 => ⟨S320000x1, .i32⟩
  | 83 => ⟨S320000, .i32⟩
  | 84 => ⟨S_, .i32⟩
  | 85 => ⟨S320000, .i32⟩
  | 86 => ⟨S320000, .i32⟩
  | 87 => ⟨S320000x1, .i32⟩
  | 88 => ⟨S320000, .i32⟩
  | 89 => ⟨S_, .i32⟩
  | 90 => ⟨S320000, .i32⟩
  | 91 => ⟨S320000, .i32⟩
  | 92 => ⟨S_, .i32⟩
  | 93 => ⟨S320000, .i32⟩
  | 94 => ⟨S320000, .i32⟩
  | 95 => ⟨S320000, .i32⟩
  | 96 => ⟨S320000x1, .i32⟩
  | 97 => ⟨S320000, .i32⟩
  | 98 => ⟨S_, .i32⟩
  | 99 => ⟨S320000, .i32⟩
  | 100 => ⟨S320000, .i32⟩
  | 101 => ⟨S_, .i32⟩
  | 102 => ⟨S320000, .i32⟩
  | 103 => ⟨S320000, .i32⟩
  | 104 => ⟨S320000, .i32⟩
  | 105 => ⟨S_, .i32⟩
  | 106 => ⟨S320000, .i32⟩
  | 107 => ⟨S320000, .i32⟩
  | 108 => ⟨S320000, .i32⟩
  | 109 => ⟨S320000x1, .f32⟩
  | 110 => ⟨S320000x64, .f32⟩
  | 111 => ⟨S320000x64, .f32⟩
  | 112 => ⟨S_, .i32⟩
  | 113 => ⟨S320000, .i32⟩
  | 114 => ⟨S320000, .i1⟩
  | 115 => ⟨S_, .i32⟩
  | 116 => ⟨S320000, .i32⟩
  | 117 => ⟨S320000, .i32⟩
  | 118 => ⟨S320000, .i32⟩
  | 119 => ⟨S320000x1, .i32⟩
  | 120 => ⟨S1250000x64, .f32⟩
  | 121 => ⟨S320000x1, .f32⟩
  | 122 => ⟨S320000, .f32⟩
  | 123 => ⟨S_, .f32⟩
  | 124 => ⟨S320000, .f32⟩
  | 125 => ⟨S320000, .f32⟩
  | 126 => ⟨S320000x1, .f32⟩
  | 127 => ⟨S320000, .f32⟩
  | _ => ⟨S10000x1, .f32⟩

abbrev hbmTy0_9 (i : Nat) : BufTy := match i % 128 with
  | 0 => ⟨S320000x1, .f32⟩
  | 1 => ⟨S320000, .f32⟩
  | 2 => ⟨S320000, .f32⟩
  | 3 => ⟨S320000, .f32⟩
  | 4 => ⟨S320000x1, .i32⟩
  | 5 => ⟨S320000, .i32⟩
  | 6 => ⟨S_, .i32⟩
  | 7 => ⟨S320000, .i32⟩
  | 8 => ⟨S320000, .i32⟩
  | 9 => ⟨S320000x1, .i32⟩
  | 10 => ⟨S320000, .i32⟩
  | 11 => ⟨S_, .i32⟩
  | 12 => ⟨S320000, .i32⟩
  | 13 => ⟨S320000, .i32⟩
  | 14 => ⟨S_, .i32⟩
  | 15 => ⟨S320000, .i32⟩
  | 16 => ⟨S320000, .i32⟩
  | 17 => ⟨S320000, .i32⟩
  | 18 => ⟨S320000x1, .i32⟩
  | 19 => ⟨S320000, .i32⟩
  | 20 => ⟨S_, .i32⟩
  | 21 => ⟨S320000, .i32⟩
  | 22 => ⟨S320000, .i32⟩
  | 23 => ⟨S_, .i32⟩
  | 24 => ⟨S320000, .i32⟩
  | 25 => ⟨S320000, .i32⟩
  | 26 => ⟨S320000, .i32⟩
  | 27 => ⟨S_, .i32⟩
  | 28 => ⟨S320000, .i32⟩
  | 29 => ⟨S320000, .i32⟩
  | 30 => ⟨S320000, .i32⟩
  | 31 => ⟨S320000x1, .f32⟩
  | 32 => ⟨S320000x64, .f32⟩
  | 33 => ⟨S320000x64, .f32⟩
  | 34 => ⟨S_, .i32⟩
  | 35 => ⟨S320000, .i32⟩
  | 36 => ⟨S320000, .i1⟩
  | 37 => ⟨S_, .i32⟩
  | 38 => ⟨S320000, .i32⟩
  | 39 => ⟨S320000, .i32⟩
  | 40 => ⟨S320000, .i32⟩
  | 41 => ⟨S320000x1, .i32⟩
  | 42 => ⟨S1250000x64, .f32⟩
  | 43 => ⟨S320000x1, .f32⟩
  | 44 => ⟨S320000, .f32⟩
  | 45 => ⟨S320000x1, .f32⟩
  | 46 => ⟨S320000, .f32⟩
  | 47 => ⟨S_, .f32⟩
  | 48 => ⟨S320000, .f32⟩
  | 49 => ⟨S320000, .f32⟩
  | 50 => ⟨S320000x1, .f32⟩
  | 51 => ⟨S320000, .f32⟩
  | 52 => ⟨S_, .f32⟩
  | 53 => ⟨S320000, .f32⟩
  | 54 => ⟨S320000, .f32⟩
  | 55 => ⟨S320000, .f32⟩
  | 56 => ⟨S320000, .f32⟩
  | 57 => ⟨S320000x1, .i32⟩
  | 58 => ⟨S320000, .i32⟩
  | 59 => ⟨S_, .i32⟩
  | 60 => ⟨S320000, .i32⟩
  | 61 => ⟨S320000, .i32⟩
  | 62 => ⟨S320000x1, .i32⟩
  | 63 => ⟨S320000, .i32⟩
  | 64 => ⟨S_, .i32⟩
  | 65 => ⟨S320000, .i32⟩
  | 66 => ⟨S320000, .i32⟩
  | 67 => ⟨S_, .i32⟩
  | 68 => ⟨S320000, .i32⟩
  | 69 => ⟨S320000, .i32⟩
  | 70 => ⟨S320000, .i32⟩
  | 71 => ⟨S320000x1, .i32⟩
  | 72 => ⟨S320000, .i32⟩
  | 73 => ⟨S_, .i32⟩
  | 74 => ⟨S320000, .i32⟩
  | 75 => ⟨S320000, .i32⟩
  | 76 => ⟨S_, .i32⟩
  | 77 => ⟨S320000, .i32⟩
  | 78 => ⟨S320000, .i32⟩
  | 79 => ⟨S320000, .i32⟩
  | 80 => ⟨S_, .i32⟩
  | 81 => ⟨S320000, .i32⟩
  | 82 => ⟨S320000, .i32⟩
  | 83 => ⟨S320000, .i32⟩
  | 84 => ⟨S320000x1, .f32⟩
  | 85 => ⟨S320000x64, .f32⟩
  | 86 => ⟨S320000x64, .f32⟩
  | 87 => ⟨S_, .i32⟩
  | 88 => ⟨S320000, .i32⟩
  | 89 => ⟨S320000, .i1⟩
  | 90 => ⟨S_, .i32⟩
  | 91 => ⟨S320000, .i32⟩
  | 92 => ⟨S320000, .i32⟩
  | 93 => ⟨S320000, .i32⟩
  | 94 => ⟨S320000x1, .i32⟩
  | 95 => ⟨S1250000x64, .f32⟩
  | 96 => ⟨S320000x1, .f32⟩
  | 97 => ⟨S320000, .f32⟩
  | 98 => ⟨S320000x1, .f32⟩
  | 99 => ⟨S320000, .f32⟩
  | 100 => ⟨S_, .f32⟩
  | 101 => ⟨S320000, .f32⟩
  | 102 => ⟨S320000, .f32⟩
  | 103 => ⟨S320000x1, .f32⟩
  | 104 => ⟨S320000, .f32⟩
  | 105 => ⟨S320000, .f32⟩
  | 106 => ⟨S320000, .f32⟩
  | 107 => ⟨S320000x1, .i32⟩
  | 108 => ⟨S320000, .i32⟩
  | 109 => ⟨S_, .i32⟩
  | 110 => ⟨S320000, .i32⟩
  | 111 => ⟨S320000, .i32⟩
  | 112 => ⟨S320000x1, .i32⟩
  | 113 => ⟨S320000, .i32⟩
  | 114 => ⟨S_, .i32⟩
  | 115 => ⟨S320000, .i32⟩
  | 116 => ⟨S320000, .i32⟩
  | 117 => ⟨S_, .i32⟩
  | 118 => ⟨S320000, .i32⟩
  | 119 => ⟨S320000, .i32⟩
  | 120 => ⟨S320000, .i32⟩
  | 121 => ⟨S320000x1, .i32⟩
  | 122 => ⟨S320000, .i32⟩
  | 123 => ⟨S_, .i32⟩
  | 124 => ⟨S320000, .i32⟩
  | 125 => ⟨S320000, .i32⟩
  | 126 => ⟨S_, .i32⟩
  | 127 => ⟨S320000, .i32⟩
  | _ => ⟨S10000x1, .f32⟩

abbrev hbmTy0_10 (i : Nat) : BufTy := match i % 128 with
  | 0 => ⟨S320000, .i32⟩
  | 1 => ⟨S320000, .i32⟩
  | 2 => ⟨S_, .i32⟩
  | 3 => ⟨S320000, .i32⟩
  | 4 => ⟨S320000, .i32⟩
  | 5 => ⟨S320000, .i32⟩
  | 6 => ⟨S320000x1, .f32⟩
  | 7 => ⟨S320000x64, .f32⟩
  | 8 => ⟨S320000x64, .f32⟩
  | 9 => ⟨S_, .i32⟩
  | 10 => ⟨S320000, .i32⟩
  | 11 => ⟨S320000, .i1⟩
  | 12 => ⟨S_, .i32⟩
  | 13 => ⟨S320000, .i32⟩
  | 14 => ⟨S320000, .i32⟩
  | 15 => ⟨S320000, .i32⟩
  | 16 => ⟨S320000x1, .i32⟩
  | 17 => ⟨S1250000x64, .f32⟩
  | 18 => ⟨S320000x1, .f32⟩
  | 19 => ⟨S320000, .f32⟩
  | 20 => ⟨S320000x1, .f32⟩
  | 21 => ⟨S320000, .f32⟩
  | 22 => ⟨S320000x1, .f32⟩
  | 23 => ⟨S320000, .f32⟩
  | 24 => ⟨S_, .f32⟩
  | 25 => ⟨S320000, .f32⟩
  | 26 => ⟨S320000, .f32⟩
  | 27 => ⟨S320000, .f32⟩
  | 28 => ⟨S320000, .f32⟩
  | 29 => ⟨S320000x1, .i32⟩
  | 30 => ⟨S320000, .i32⟩
  | 31 => ⟨S_, .i32⟩
  | 32 => ⟨S320000, .i32⟩
  | 33 => ⟨S320000, .i32⟩
  | 34 => ⟨S320000x1, .i32⟩
  | 35 => ⟨S320000, .i32⟩
  | 36 => ⟨S_, .i32⟩
  | 37 => ⟨S320000, .i32⟩
  | 38 => ⟨S320000, .i32⟩
  | 39 => ⟨S_, .i32⟩
  | 40 => ⟨S320000, .i32⟩
  | 41 => ⟨S320000, .i32⟩
  | 42 => ⟨S320000, .i32⟩
  | 43 => ⟨S320000x1, .i32⟩
  | 44 => ⟨S320000, .i32⟩
  | 45 => ⟨S_, .i32⟩
  | 46 => ⟨S320000, .i32⟩
  | 47 => ⟨S320000, .i32⟩
  | 48 => ⟨S_, .i32⟩
  | 49 => ⟨S320000, .i32⟩
  | 50 => ⟨S320000, .i32⟩
  | 51 => ⟨S320000, .i32⟩
  | 52 => ⟨S_, .i32⟩
  | 53 => ⟨S320000, .i32⟩
  | 54 => ⟨S320000, .i32⟩
  | 55 => ⟨S320000, .i32⟩
  | 56 => ⟨S320000x1, .f32⟩
  | 57 => ⟨S320000x64, .f32⟩
  | 58 => ⟨S320000x64, .f32⟩
  | 59 => ⟨S_, .i32⟩
  | 60 => ⟨S320000, .i32⟩
  | 61 => ⟨S320000, .i1⟩
  | 62 => ⟨S_, .i32⟩
  | 63 => ⟨S320000, .i32⟩
  | 64 => ⟨S320000, .i32⟩
  | 65 => ⟨S320000, .i32⟩
  | 66 => ⟨S320000x1, .i32⟩
  | 67 => ⟨S1250000x64, .f32⟩
  | 68 => ⟨S320000x1, .f32⟩
  | 69 => ⟨S320000, .f32⟩
  | 70 => ⟨S320000x1, .f32⟩
  | 71 => ⟨S320000, .f32⟩
  | 72 => ⟨S320000x1, .f32⟩
  | 73 => ⟨S320000, .f32⟩
  | 74 => ⟨S320000, .f32⟩
  | 75 => ⟨S320000, .f32⟩
  | 76 => ⟨S320000x1, .i32⟩
  | 77 => ⟨S320000, .i32⟩
  | 78 => ⟨S_, .i32⟩
  | 79 => ⟨S320000, .i32⟩
  | 80 => ⟨S320000, .i32⟩
  | 81 => ⟨S320000x1, .i32⟩
  | 82 => ⟨S320000, .i32⟩
  | 83 => ⟨S_, .i32⟩
  | 84 => ⟨S320000, .i32⟩
  | 85 => ⟨S320000, .i32⟩
  | 86 => ⟨S_, .i32⟩
  | 87 => ⟨S320000, .i32⟩
  | 88 => ⟨S320000, .i32⟩
  | 89 => ⟨S320000, .i32⟩
  | 90 => ⟨S320000x1, .i32⟩
  | 91 => ⟨S320000, .i32⟩
  | 92 => ⟨S_, .i32⟩
  | 93 => ⟨S320000, .i32⟩
  | 94 => ⟨S320000, .i32⟩
  | 95 => ⟨S_, .i32⟩
  | 96 => ⟨S320000, .i32⟩
  | 97 => ⟨S320000, .i32⟩
  | 98 => ⟨S320000, .i32⟩
  | 99 => ⟨S_, .i32⟩
  | 100 => ⟨S320000, .i32⟩
  | 101 => ⟨S320000, .i32⟩
  | 102 => ⟨S320000, .i32⟩
  | 103 => ⟨S320000x1, .f32⟩
  | 104 => ⟨S320000x64, .f32⟩
  | 105 => ⟨S320000x64, .f32⟩
  | 106 => ⟨S_, .i32⟩
  | 107 => ⟨S320000, .i32⟩
  | 108 => ⟨S320000, .i1⟩
  | 109 => ⟨S_, .i32⟩
  | 110 => ⟨S320000, .i32⟩
  | 111 => ⟨S320000, .i32⟩
  | 112 => ⟨S320000, .i32⟩
  | 113 => ⟨S320000x1, .i32⟩
  | 114 => ⟨S1250000x64, .f32⟩
  | 115 => ⟨S125x10000x64, .f32⟩
  | 116 => ⟨S10000x64, .f32⟩
  | 117 => ⟨S_, .f32⟩
  | 118 => ⟨S10000, .f32⟩
  | 119 => ⟨S_, .i32⟩
  | 120 => ⟨S320000, .i32⟩
  | 121 => ⟨S320000, .i1⟩
  | 122 => ⟨S_, .i32⟩
  | 123 => ⟨S320000, .i32⟩
  | 124 => ⟨S320000, .i32⟩
  | 125 => ⟨S320000, .i32⟩
  | 126 => ⟨S320000x1, .i32⟩
  | 127 => ⟨S_, .f32⟩
  | _ => ⟨S10000x1, .f32⟩

abbrev hbmTy0_11 (i : Nat) : BufTy := match i % 128 with
  | 0 => ⟨S320000, .f32⟩
  | 1 => ⟨S10000, .f32⟩
  | 2 => ⟨S_, .f32⟩
  | 3 => ⟨S_, .f32⟩
  | 4 => ⟨S10000, .f32⟩
  | 5 => ⟨S10000, .f32⟩
  | 6 => ⟨S10000x1, .f32⟩
  | 7 => ⟨S10000x64, .f32⟩
  | 8 => ⟨S10000x64, .f32⟩
  | 9 => ⟨S10000x64, .f32⟩
  | 10 => ⟨S10000x64, .f32⟩
  | 11 => ⟨S1x64, .f32⟩
  | 12 => ⟨S10000x64, .f32⟩
  | 13 => ⟨S10000x64, .f32⟩
  | 14 => ⟨S_, .f32⟩
  | 15 => ⟨S10000x64, .f32⟩
  | 16 => ⟨S10000x64, .i1⟩
  | 17 => ⟨S_, .f32⟩
  | 18 => ⟨S10000x64, .f32⟩
  | 19 => ⟨S10000x64, .i1⟩
  | 20 => ⟨S_, .f32⟩
  | 21 => ⟨S_, .f32⟩
  | 22 => ⟨S10000x64, .f32⟩
  | 23 => ⟨S10000x64, .f32⟩
  | 24 => ⟨S10000x64, .f32⟩
  | 25 => ⟨S_, .f32⟩
  | 26 => ⟨S10000x64, .f32⟩
  | 27 => ⟨S10000x64, .f32⟩
  | 28 => ⟨S10000x64, .f32⟩
  | 29 => ⟨S_, .f32⟩
  | 30 => ⟨S320000x3, .f32⟩
  | 31 => ⟨S320000x3, .f32⟩
  | 32 => ⟨S320000x3, .f32⟩
  | 33 => ⟨S320000x3, .i32⟩
  | 34 => ⟨S320000x3, .f32⟩
  | 35 => ⟨S320000x3, .f32⟩
  | 36 => ⟨S_, .i32⟩
  | 37 => ⟨S320000, .i32⟩
  | 38 => ⟨S320000, .i1⟩
  | 39 => ⟨S_, .i32⟩
  | 40 => ⟨S320000, .i32⟩
  | 41 => ⟨S320000, .i32⟩
  | 42 => ⟨S320000, .i32⟩
  | 43 => ⟨S320000x1, .i32⟩
  | 44 => ⟨S320000x64, .f32⟩
  | 45 => ⟨S_, .f32⟩
  | 46 => ⟨S1250000x64, .f32⟩
  | 47 => ⟨S320000x1, .f32⟩
  | 48 => ⟨S320000, .f32⟩
  | 49 => ⟨S_, .f32⟩
  | 50 => ⟨S320000, .f32⟩
  | 51 => ⟨S320000, .f32⟩
  | 52 => ⟨S320000x1, .f32⟩
  | 53 => ⟨S320000, .f32⟩
  | 54 => ⟨S_, .f32⟩
  | 55 => ⟨S320000, .f32⟩
  | 56 => ⟨S320000, .f32⟩
  | 57 => ⟨S320000x1, .f32⟩
  | 58 => ⟨S320000, .f32⟩
  | 59 => ⟨S_, .f32⟩
  | 60 => ⟨S320000, .f32⟩
  | 61 => ⟨S320000, .f32⟩
  | 62 => ⟨S320000, .f32⟩
  | 63 => ⟨S320000, .f32⟩
  | 64 => ⟨S320000x1, .i32⟩
  | 65 => ⟨S320000, .i32⟩
  | 66 => ⟨S_, .i32⟩
  | 67 => ⟨S320000, .i32⟩
  | 68 => ⟨S320000, .i32⟩
  | 69 => ⟨S320000x1, .i32⟩
  | 70 => ⟨S320000, .i32⟩
  | 71 => ⟨S_, .i32⟩
  | 72 => ⟨S320000, .i32⟩
  | 73 => ⟨S320000, .i32⟩
  | 74 => ⟨S_, .i32⟩
  | 75 => ⟨S320000, .i32⟩
  | 76 => ⟨S320000, .i32⟩
  | 77 => ⟨S320000, .i32⟩
  | 78 => ⟨S320000x1, .i32⟩
  | 79 => ⟨S320000, .i32⟩
  | 80 => ⟨S_, .i32⟩
  | 81 => ⟨S320000, .i32⟩
  | 82 => ⟨S320000, .i32⟩
  | 83 => ⟨S_, .i32⟩
  | 84 => ⟨S320000, .i32⟩
  | 85 => ⟨S320000, .i32⟩
  | 86 => ⟨S320000, .i32⟩
  | 87 => ⟨S_, .i32⟩
  | 88 => ⟨S320000, .i32⟩
  | 89 => ⟨S320000, .i32⟩
  | 90 => ⟨S320000, .i32⟩
  | 91 => ⟨S320000x1, .f32⟩
  | 92 => ⟨S320000x64, .f32⟩
  | 93 => ⟨S320000x64, .f32⟩
  | 94 => ⟨S_, .i32⟩
  | 95 => ⟨S320000, .i32⟩
  | 96 => ⟨S320000, .i1⟩
  | 97 => ⟨S_, .i32⟩
  | 98 => ⟨S320000, .i32⟩
  | 99 => ⟨S320000, .i32⟩
  | 100 => ⟨S320000, .i32⟩
  | 101 => ⟨S320000x1, .i32⟩
  | 102 => ⟨S1250000x64, .f32⟩
  | 103 => ⟨S320000x1, .f32⟩
  | 104 => ⟨S320000, .f32⟩
  | 105 => ⟨S_, .f32⟩
  | 106 => ⟨S320000, .f32⟩
  | 107 => ⟨S320000, .f32⟩
  | 108 => ⟨S320000x1, .f32⟩
  | 109 => ⟨S320000, .f32⟩
  | 110 => ⟨S_, .f32⟩
  | 111 => ⟨S320000, .f32⟩
  | 112 => ⟨S320000, .f32⟩
  | 113 => ⟨S320000x1, .f32⟩
  | 114 => ⟨S320000, .f32⟩
  | 115 => ⟨S320000, .f32⟩
  | 116 => ⟨S320000, .f32⟩
  | 117 => ⟨S320000x1, .i32⟩
  | 118 => ⟨S320000, .i32⟩
  | 119 => ⟨S_, .i32⟩
  | 120 => ⟨S320000, .i32⟩
  | 121 => ⟨S320000, .i32⟩
  | 122 => ⟨S320000x1, .i32⟩
  | 123 => ⟨S320000, .i32⟩
  | 124 => ⟨S_, .i32⟩
  | 125 => ⟨S320000, .i32⟩
  | 126 => ⟨S320000, .i32⟩
  | 127 => ⟨S_, .i32⟩
  | _ => ⟨S10000x1, .f32⟩

abbrev hbmTy0_12 (i : Nat) : BufTy := match i % 128 with
  | 0 => ⟨S320000, .i32⟩
  | 1 => ⟨S320000, .i32⟩
  | 2 => ⟨S320000, .i32⟩
  | 3 => ⟨S320000x1, .i32⟩
  | 4 => ⟨S320000, .i32⟩
  | 5 => ⟨S_, .i32⟩
  | 6 => ⟨S320000, .i32⟩
  | 7 => ⟨S320000, .i32⟩
  | 8 => ⟨S_, .i32⟩
  | 9 => ⟨S320000, .i32⟩
  | 10 => ⟨S320000, .i32⟩
  | 11 => ⟨S320000, .i32⟩
  | 12 => ⟨S_, .i32⟩
  | 13 => ⟨S320000, .i32⟩
  | 14 => ⟨S320000, .i32⟩
  | 15 => ⟨S320000, .i32⟩
  | 16 => ⟨S320000x1, .f32⟩
  | 17 => ⟨S320000x64, .f32⟩
  | 18 => ⟨S320000x64, .f32⟩
  | 19 => ⟨S_, .i32⟩
  | 20 => ⟨S320000, .i32⟩
  | 21 => ⟨S320000, .i1⟩
  | 22 => ⟨S_, .i32⟩
  | 23 => ⟨S320000, .i32⟩
  | 24 => ⟨S320000, .i32⟩
  | 25 => ⟨S320000, .i32⟩
  | 26 => ⟨S320000x1, .i32⟩
  | 27 => ⟨S1250000x64, .f32⟩
  | 28 => ⟨S320000x1, .f32⟩
  | 29 => ⟨S320000, .f32⟩
  | 30 => ⟨S_, .f32⟩
  | 31 => ⟨S320000, .f32⟩
  | 32 => ⟨S320000, .f32⟩
  | 33 => ⟨S320000x1, .f32⟩
  | 34 => ⟨S320000, .f32⟩
  | 35 => ⟨S320000x1, .f32⟩
  | 36 => ⟨S320000, .f32⟩
  | 37 => ⟨S_, .f32⟩
  | 38 => ⟨S320000, .f32⟩
  | 39 => ⟨S320000, .f32⟩
  | 40 => ⟨S320000, .f32⟩
  | 41 => ⟨S320000, .f32⟩
  | 42 => ⟨S320000x1, .i32⟩
  | 43 => ⟨S320000, .i32⟩
  | 44 => ⟨S_, .i32⟩
  | 45 => ⟨S320000, .i32⟩
  | 46 => ⟨S320000, .i32⟩
  | 47 => ⟨S320000x1, .i32⟩
  | 48 => ⟨S320000, .i32⟩
  | 49 => ⟨S_, .i32⟩
  | 50 => ⟨S320000, .i32⟩
  | 51 => ⟨S320000, .i32⟩
  | 52 => ⟨S_, .i32⟩
  | 53 => ⟨S320000, .i32⟩
  | 54 => ⟨S320000, .i32⟩
  | 55 => ⟨S320000, .i32⟩
  | 56 => ⟨S320000x1, .i32⟩
  | 57 => ⟨S320000, .i32⟩
  | 58 => ⟨S_, .i32⟩
  | 59 => ⟨S320000, .i32⟩
  | 60 => ⟨S320000, .i32⟩
  | 61 => ⟨S_, .i32⟩
  | 62 => ⟨S320000, .i32⟩
  | 63 => ⟨S320000, .i32⟩
  | 64 => ⟨S320000, .i32⟩
  | 65 => ⟨S_, .i32⟩
  | 66 => ⟨S320000, .i32⟩
  | 67 => ⟨S320000, .i32⟩
  | 68 => ⟨S320000, .i32⟩
  | 69 => ⟨S320000x1, .f32⟩
  | 70 => ⟨S320000x64, .f32⟩
  | 71 => ⟨S320000x64, .f32⟩
  | 72 => ⟨S_, .i32⟩
  | 73 => ⟨S320000, .i32⟩
  | 74 => ⟨S320000, .i1⟩
  | 75 => ⟨S_, .i32⟩
  | 76 => ⟨S320000, .i32⟩
  | 77 => ⟨S320000, .i32⟩
  | 78 => ⟨S320000, .i32⟩
  | 79 => ⟨S320000x1, .i32⟩
  | 80 => ⟨S1250000x64, .f32⟩
  | 81 => ⟨S320000x1, .f32⟩
  | 82 => ⟨S320000, .f32⟩
  | 83 => ⟨S_, .f32⟩
  | 84 => ⟨S320000, .f32⟩
  | 85 => ⟨S320000, .f32⟩
  | 86 => ⟨S320000x1, .f32⟩
  | 87 => ⟨S320000, .f32⟩
  | 88 => ⟨S320000x1, .f32⟩
  | 89 => ⟨S320000, .f32⟩
  | 90 => ⟨S320000, .f32⟩
  | 91 => ⟨S320000, .f32⟩
  | 92 => ⟨S320000x1, .i32⟩
  | 93 => ⟨S320000, .i32⟩
  | 94 => ⟨S_, .i32⟩
  | 95 => ⟨S320000, .i32⟩
  | 96 => ⟨S320000, .i32⟩
  | 97 => ⟨S320000x1, .i32⟩
  | 98 => ⟨S320000, .i32⟩
  | 99 => ⟨S_, .i32⟩
  | 100 => ⟨S320000, .i32⟩
  | 101 => ⟨S320000, .i32⟩
  | 102 => ⟨S_, .i32⟩
  | 103 => ⟨S320000, .i32⟩
  | 104 => ⟨S320000, .i32⟩
  | 105 => ⟨S320000, .i32⟩
  | 106 => ⟨S320000x1, .i32⟩
  | 107 => ⟨S320000, .i32⟩
  | 108 => ⟨S_, .i32⟩
  | 109 => ⟨S320000, .i32⟩
  | 110 => ⟨S320000, .i32⟩
  | 111 => ⟨S_, .i32⟩
  | 112 => ⟨S320000, .i32⟩
  | 113 => ⟨S320000, .i32⟩
  | 114 => ⟨S320000, .i32⟩
  | 115 => ⟨S_, .i32⟩
  | 116 => ⟨S320000, .i32⟩
  | 117 => ⟨S320000, .i32⟩
  | 118 => ⟨S320000, .i32⟩
  | 119 => ⟨S320000x1, .f32⟩
  | 120 => ⟨S320000x64, .f32⟩
  | 121 => ⟨S320000x64, .f32⟩
  | 122 => ⟨S_, .i32⟩
  | 123 => ⟨S320000, .i32⟩
  | 124 => ⟨S320000, .i1⟩
  | 125 => ⟨S_, .i32⟩
  | 126 => ⟨S320000, .i32⟩
  | 127 => ⟨S320000, .i32⟩
  | _ => ⟨S10000x1, .f32⟩

abbrev hbmTy0_13 (i : Nat) : BufTy := match i % 128 with
  | 0 => ⟨S320000, .i32⟩
  | 1 => ⟨S320000x1, .i32⟩
  | 2 => ⟨S1250000x64, .f32⟩
  | 3 => ⟨S320000x1, .f32⟩
  | 4 => ⟨S320000, .f32⟩
  | 5 => ⟨S320000x1, .f32⟩
  | 6 => ⟨S320000, .f32⟩
  | 7 => ⟨S_, .f32⟩
  | 8 => ⟨S320000, .f32⟩
  | 9 => ⟨S320000, .f32⟩
  | 10 => ⟨S320000x1, .f32⟩
  | 11 => ⟨S320000, .f32⟩
  | 12 => ⟨S_, .f32⟩
  | 13 => ⟨S320000, .f32⟩
  | 14 => ⟨S320000, .f32⟩
  | 15 => ⟨S320000, .f32⟩
  | 16 => ⟨S320000, .f32⟩
  | 17 => ⟨S320000x1, .i32⟩
  | 18 => ⟨S320000, .i32⟩
  | 19 => ⟨S_, .i32⟩
  | 20 => ⟨S320000, .i32⟩
  | 21 => ⟨S320000, .i32⟩
  | 22 => ⟨S320000x1, .i32⟩
  | 23 => ⟨S320000, .i32⟩
  | 24 => ⟨S_, .i32⟩
  | 25 => ⟨S320000, .i32⟩
  | 26 => ⟨S320000, .i32⟩
  | 27 => ⟨S_, .i32⟩
  | 28 => ⟨S320000, .i32⟩
  | 29 => ⟨S320000, .i32⟩
  | 30 => ⟨S320000, .i32⟩
  | 31 => ⟨S320000x1, .i32⟩
  | 32 => ⟨S320000, .i32⟩
  | 33 => ⟨S_, .i32⟩
  | 34 => ⟨S320000, .i32⟩
  | 35 => ⟨S320000, .i32⟩
  | 36 => ⟨S_, .i32⟩
  | 37 => ⟨S320000, .i32⟩
  | 38 => ⟨S320000, .i32⟩
  | 39 => ⟨S320000, .i32⟩
  | 40 => ⟨S_, .i32⟩
  | 41 => ⟨S320000, .i32⟩
  | 42 => ⟨S320000, .i32⟩
  | 43 => ⟨S320000, .i32⟩
  | 44 => ⟨S320000x1, .f32⟩
  | 45 => ⟨S320000x64, .f32⟩
  | 46 => ⟨S320000x64, .f32⟩
  | 47 => ⟨S_, .i32⟩
  | 48 => ⟨S320000, .i32⟩
  | 49 => ⟨S320000, .i1⟩
  | 50 => ⟨S_, .i32⟩
  | 51 => ⟨S320000, .i32⟩
  | 52 => ⟨S320000, .i32⟩
  | 53 => ⟨S320000, .i32⟩
  | 54 => ⟨S320000x1, .i32⟩
  | 55 => ⟨S1250000x64, .f32⟩
  | 56 => ⟨S320000x1, .f32⟩
  | 57 => ⟨S320000, .f32⟩
  | 58 => ⟨S320000x1, .f32⟩
  | 59 => ⟨S320000, .f32⟩
  | 60 => ⟨S_, .f32⟩
  | 61 => ⟨S320000, .f32⟩
  | 62 => ⟨S320000, .f32⟩
  | 63 => ⟨S320000x1, .f32⟩
  | 64 => ⟨S320000, .f32⟩
  | 65 => ⟨S320000, .f32⟩
  | 66 => ⟨S320000, .f32⟩
  | 67 => ⟨S320000x1, .i32⟩
  | 68 => ⟨S320000, .i32⟩
  | 69 => ⟨S_, .i32⟩
  | 70 => ⟨S320000, .i32⟩
  | 71 => ⟨S320000, .i32⟩
  | 72 => ⟨S320000x1, .i32⟩
  | 73 => ⟨S320000, .i32⟩
  | 74 => ⟨S_, .i32⟩
  | 75 => ⟨S320000, .i32⟩
  | 76 => ⟨S320000, .i32⟩
  | 77 => ⟨S_, .i32⟩
  | 78 => ⟨S320000, .i32⟩
  | 79 => ⟨S320000, .i32⟩
  | 80 => ⟨S320000, .i32⟩
  | 81 => ⟨S320000x1, .i32⟩
  | 82 => ⟨S320000, .i32⟩
  | 83 => ⟨S_, .i32⟩
  | 84 => ⟨S320000, .i32⟩
  | 85 => ⟨S320000, .i32⟩
  | 86 => ⟨S_, .i32⟩
  | 87 => ⟨S320000, .i32⟩
  | 88 => ⟨S320000, .i32⟩
  | 89 => ⟨S320000, .i32⟩
  | 90 => ⟨S_, .i32⟩
  | 91 => ⟨S320000, .i32⟩
  | 92 => ⟨S320000, .i32⟩
  | 93 => ⟨S320000, .i32⟩
  | 94 => ⟨S320000x1, .f32⟩
  | 95 => ⟨S320000x64, .f32⟩
  | 96 => ⟨S320000x64, .f32⟩
  | 97 => ⟨S_, .i32⟩
  | 98 => ⟨S320000, .i32⟩
  | 99 => ⟨S320000, .i1⟩
  | 100 => ⟨S_, .i32⟩
  | 101 => ⟨S320000, .i32⟩
  | 102 => ⟨S320000, .i32⟩
  | 103 => ⟨S320000, .i32⟩
  | 104 => ⟨S320000x1, .i32⟩
  | 105 => ⟨S1250000x64, .f32⟩
  | 106 => ⟨S320000x1, .f32⟩
  | 107 => ⟨S320000, .f32⟩
  | 108 => ⟨S320000x1, .f32⟩
  | 109 => ⟨S320000, .f32⟩
  | 110 => ⟨S320000x1, .f32⟩
  | 111 => ⟨S320000, .f32⟩
  | 112 => ⟨S_, .f32⟩
  | 113 => ⟨S320000, .f32⟩
  | 114 => ⟨S320000, .f32⟩
  | 115 => ⟨S320000, .f32⟩
  | 116 => ⟨S320000, .f32⟩
  | 117 => ⟨S320000x1, .i32⟩
  | 118 => ⟨S320000, .i32⟩
  | 119 => ⟨S_, .i32⟩
  | 120 => ⟨S320000, .i32⟩
  | 121 => ⟨S320000, .i32⟩
  | 122 => ⟨S320000x1, .i32⟩
  | 123 => ⟨S320000, .i32⟩
  | 124 => ⟨S_, .i32⟩
  | 125 => ⟨S320000, .i32⟩
  | 126 => ⟨S320000, .i32⟩
  | 127 => ⟨S_, .i32⟩
  | _ => ⟨S10000x1, .f32⟩

abbrev hbmTy0_14 (i : Nat) : BufTy := match i % 128 with
  | 0 => ⟨S320000, .i32⟩
  | 1 => ⟨S320000, .i32⟩
  | 2 => ⟨S320000, .i32⟩
  | 3 => ⟨S320000x1, .i32⟩
  | 4 => ⟨S320000, .i32⟩
  | 5 => ⟨S_, .i32⟩
  | 6 => ⟨S320000, .i32⟩
  | 7 => ⟨S320000, .i32⟩
  | 8 => ⟨S_, .i32⟩
  | 9 => ⟨S320000, .i32⟩
  | 10 => ⟨S320000, .i32⟩
  | 11 => ⟨S320000, .i32⟩
  | 12 => ⟨S_, .i32⟩
  | 13 => ⟨S320000, .i32⟩
  | 14 => ⟨S320000, .i32⟩
  | 15 => ⟨S320000, .i32⟩
  | 16 => ⟨S320000x1, .f32⟩
  | 17 => ⟨S320000x64, .f32⟩
  | 18 => ⟨S320000x64, .f32⟩
  | 19 => ⟨S_, .i32⟩
  | 20 => ⟨S320000, .i32⟩
  | 21 => ⟨S320000, .i1⟩
  | 22 => ⟨S_, .i32⟩
  | 23 => ⟨S320000, .i32⟩
  | 24 => ⟨S320000, .i32⟩
  | 25 => ⟨S320000, .i32⟩
  | 26 => ⟨S320000x1, .i32⟩
  | 27 => ⟨S1250000x64, .f32⟩
  | 28 => ⟨S320000x1, .f32⟩
  | 29 => ⟨S320000, .f32⟩
  | 30 => ⟨S320000x1, .f32⟩
  | 31 => ⟨S320000, .f32⟩
  | 32 => ⟨S320000x1, .f32⟩
  | 33 => ⟨S320000, .f32⟩
  | 34 => ⟨S320000, .f32⟩
  | 35 => ⟨S320000, .f32⟩
  | 36 => ⟨S320000x1, .i32⟩
  | 37 => ⟨S320000, .i32⟩
  | 38 => ⟨S_, .i32⟩
  | 39 => ⟨S320000, .i32⟩
  | 40 => ⟨S320000, .i32⟩
  | 41 => ⟨S320000x1, .i32⟩
  | 42 => ⟨S320000, .i32⟩
  | 43 => ⟨S_, .i32⟩
  | 44 => ⟨S320000, .i32⟩
  | 45 => ⟨S320000, .i32⟩
  | 46 => ⟨S_, .i32⟩
  | 47 => ⟨S320000, .i32⟩
  | 48 => ⟨S320000, .i32⟩
  | 49 => ⟨S320000, .i32⟩
  | 50 => ⟨S320000x1, .i32⟩
  | 51 => ⟨S320000, .i32⟩
  | 52 => ⟨S_, .i32⟩
  | 53 => ⟨S320000, .i32⟩
  | 54 => ⟨S320000, .i32⟩
  | 55 => ⟨S_, .i32⟩
  | 56 => ⟨S320000, .i32⟩
  | 57 => ⟨S320000, .i32⟩
  | 58 => ⟨S320000, .i32⟩
  | 59 => ⟨S_, .i32⟩
  | 60 => ⟨S320000, .i32⟩
  | 61 => ⟨S320000, .i32⟩
  | 62 => ⟨S320000, .i32⟩
  | 63 => ⟨S320000x1, .f32⟩
  | 64 => ⟨S320000x64, .f32⟩
  | 65 => ⟨S320000x64, .f32⟩
  | 66 => ⟨S_, .i32⟩
  | 67 => ⟨S320000, .i32⟩
  | 68 => ⟨S320000, .i1⟩
  | 69 => ⟨S_, .i32⟩
  | 70 => ⟨S320000, .i32⟩
  | 71 => ⟨S320000, .i32⟩
  | 72 => ⟨S320000, .i32⟩
  | 73 => ⟨S320000x1, .i32⟩
  | 74 => ⟨S1250000x64, .f32⟩
  | 75 => ⟨S125x10000x64, .f32⟩
  | 76 => ⟨S10000x64, .f32⟩
  | 77 => ⟨S_, .f32⟩
  | 78 => ⟨S10000, .f32⟩
  | 79 => ⟨S_, .i32⟩
  | 80 => ⟨S320000, .i32⟩
  | 81 => ⟨S320000, .i1⟩
  | 82 => ⟨S_, .i32⟩
  | 83 => ⟨S320000, .i32⟩
  | 84 => ⟨S320000, .i32⟩
  | 85 => ⟨S320000, .i32⟩
  | 86 => ⟨S320000x1, .i32⟩
  | 87 => ⟨S_, .f32⟩
  | 88 => ⟨S320000, .f32⟩
  | 89 => ⟨S10000, .f32⟩
  | 90 => ⟨S_, .f32⟩
  | 91 => ⟨S_, .f32⟩
  | 92 => ⟨S10000, .f32⟩
  | 93 => ⟨S10000, .f32⟩
  | 94 => ⟨S10000x1, .f32⟩
  | 95 => ⟨S10000x64, .f32⟩
  | 96 => ⟨S10000x64, .f32⟩
  | 97 => ⟨S10000x64, .f32⟩
  | 98 => ⟨S10000x64, .f32⟩
  | 99 => ⟨S1x64, .f32⟩
  | 100 => ⟨S10000x64, .f32⟩
  | 101 => ⟨S10000x64, .f32⟩
  | 102 => ⟨S_, .f32⟩
  | 103 => ⟨S10000x64, .f32⟩
  | 104 => ⟨S10000x64, .i1⟩
  | 105 => ⟨S_, .f32⟩
  | 106 => ⟨S10000x64, .f32⟩
  | 107 => ⟨S10000x64, .i1⟩
  | 108 => ⟨S_, .f32⟩
  | 109 => ⟨S_, .f32⟩
  | 110 => ⟨S10000x64, .f32⟩
  | 111 => ⟨S10000x64, .f32⟩
  | 112 => ⟨S10000x64, .f32⟩
  | 113 => ⟨S_, .f32⟩
  | 114 => ⟨S10000x64, .f32⟩
  | 115 => ⟨S10000x64, .f32⟩
  | 116 => ⟨S10000x64, .f32⟩
  | 117 => ⟨S_, .f32⟩
  | 118 => ⟨S320000x3, .f32⟩
  | 119 => ⟨S320000x3, .f32⟩
  | 120 => ⟨S320000x3, .f32⟩
  | 121 => ⟨S320000x3, .i32⟩
  | 122 => ⟨S320000x3, .f32⟩
  | 123 => ⟨S320000x3, .f32⟩
  | 124 => ⟨S_, .i32⟩
  | 125 => ⟨S320000, .i32⟩
  | 126 => ⟨S320000, .i1⟩
  | 127 => ⟨S_, .i32⟩
  | _ => ⟨S10000x1, .f32⟩

abbrev hbmTy0_15 (i : Nat) : BufTy := match i % 128 with
  | 0 => ⟨S320000, .i32⟩
  | 1 => ⟨S320000, .i32⟩
  | 2 => ⟨S320000, .i32⟩
  | 3 => ⟨S320000x1, .i32⟩
  | 4 => ⟨S320000x64, .f32⟩
  | 5 => ⟨S_, .f32⟩
  | 6 => ⟨S1250000x64, .f32⟩
  | 7 => ⟨S320000x1, .f32⟩
  | 8 => ⟨S320000, .f32⟩
  | 9 => ⟨S_, .f32⟩
  | 10 => ⟨S320000, .f32⟩
  | 11 => ⟨S320000, .f32⟩
  | 12 => ⟨S320000x1, .f32⟩
  | 13 => ⟨S320000, .f32⟩
  | 14 => ⟨S_, .f32⟩
  | 15 => ⟨S320000, .f32⟩
  | 16 => ⟨S320000, .f32⟩
  | 17 => ⟨S320000x1, .f32⟩
  | 18 => ⟨S320000, .f32⟩
  | 19 => ⟨S_, .f32⟩
  | 20 => ⟨S320000, .f32⟩
  | 21 => ⟨S320000, .f32⟩
  | 22 => ⟨S320000, .f32⟩
  | 23 => ⟨S320000, .f32⟩
  | 24 => ⟨S320000x1, .i32⟩
  | 25 => ⟨S320000, .i32⟩
  | 26 => ⟨S_, .i32⟩
  | 27 => ⟨S320000, .i32⟩
  | 28 => ⟨S320000, .i32⟩
  | 29 => ⟨S320000x1, .i32⟩
  | 30 => ⟨S320000, .i32⟩
  | 31 => ⟨S_, .i32⟩
  | 32 => ⟨S320000, .i32⟩
  | 33 => ⟨S320000, .i32⟩
  | 34 => ⟨S_, .i32⟩
  | 35 => ⟨S320000, .i32⟩
  | 36 => ⟨S320000, .i32⟩
  | 37 => ⟨S320000, .i32⟩
  | 38 => ⟨S320000x1, .i32⟩
  | 39 => ⟨S320000, .i32⟩
  | 40 => ⟨S_, .i32⟩
  | 41 => ⟨S320000, .i32⟩
  | 42 => ⟨S320000, .i32⟩
  | 43 => ⟨S_, .i32⟩
  | 44 => ⟨S320000, .i32⟩
  | 45 => ⟨S320000, .i32⟩
  | 46 => ⟨S320000, .i32⟩
  | 47 => ⟨S_, .i32⟩
  | 48 => ⟨S320000, .i32⟩
  | 49 => ⟨S320000, .i32⟩
  | 50 => ⟨S320000, .i32⟩
  | 51 => ⟨S320000x1, .f32⟩
  | 52 => ⟨S320000x64, .f32⟩
  | 53 => ⟨S320000x64, .f32⟩
  | 54 => ⟨S_, .i32⟩
  | 55 => ⟨S320000, .i32⟩
  | 56 => ⟨S320000, .i1⟩
  | 57 => ⟨S_, .i32⟩
  | 58 => ⟨S320000, .i32⟩
  | 59 => ⟨S320000, .i32⟩
  | 60 => ⟨S320000, .i32⟩
  | 61 => ⟨S320000x1, .i32⟩
  | 62 => ⟨S1250000x64, .f32⟩
  | 63 => ⟨S320000x1, .f32⟩
  | 64 => ⟨S320000, .f32⟩
  | 65 => ⟨S_, .f32⟩
  | 66 => ⟨S320000, .f32⟩
  | 67 => ⟨S320000, .f32⟩
  | 68 => ⟨S320000x1, .f32⟩
  | 69 => ⟨S320000, .f32⟩
  | 70 => ⟨S_, .f32⟩
  | 71 => ⟨S320000, .f32⟩
  | 72 => ⟨S320000, .f32⟩
  | 73 => ⟨S320000x1, .f32⟩
  | 74 => ⟨S320000, .f32⟩
  | 75 => ⟨S320000, .f32⟩
  | 76 => ⟨S320000, .f32⟩
  | 77 => ⟨S320000x1, .i32⟩
  | 78 => ⟨S320000, .i32⟩
  | 79 => ⟨S_, .i32⟩
  | 80 => ⟨S320000, .i32⟩
  | 81 => ⟨S320000, .i32⟩
  | 82 => ⟨S320000x1, .i32⟩
  | 83 => ⟨S320000, .i32⟩
  | 84 => ⟨S_, .i32⟩
  | 85 => ⟨S320000, .i32⟩
  | 86 => ⟨S320000, .i32⟩
  | 87 => ⟨S_, .i32⟩
  | 88 => ⟨S320000, .i32⟩
  | 89 => ⟨S320000, .i32⟩
  | 90 => ⟨S320000, .i32⟩
  | 91 => ⟨S320000x1, .i32⟩
  | 92 => ⟨S320000, .i32⟩
  | 93 => ⟨S_, .i32⟩
  | 94 => ⟨S320000, .i32⟩
  | 95 => ⟨S320000, .i32⟩
  | 96 => ⟨S_, .i32⟩
  | 97 => ⟨S320000, .i32⟩
  | 98 => ⟨S320000, .i32⟩
  | 99 => ⟨S320000, .i32⟩
  | 100 => ⟨S_, .i32⟩
  | 101 => ⟨S320000, .i32⟩
  | 102 => ⟨S320000, .i32⟩
  | 103 => ⟨S320000, .i32⟩
  | 104 => ⟨S320000x1, .f32⟩
  | 105 => ⟨S320000x64, .f32⟩
  | 106 => ⟨S320000x64, .f32⟩
  | 107 => ⟨S_, .i32⟩
  | 108 => ⟨S320000, .i32⟩
  | 109 => ⟨S320000, .i1⟩
  | 110 => ⟨S_, .i32⟩
  | 111 => ⟨S320000, .i32⟩
  | 112 => ⟨S320000, .i32⟩
  | 113 => ⟨S320000, .i32⟩
  | 114 => ⟨S320000x1, .i32⟩
  | 115 => ⟨S1250000x64, .f32⟩
  | 116 => ⟨S320000x1, .f32⟩
  | 117 => ⟨S320000, .f32⟩
  | 118 => ⟨S_, .f32⟩
  | 119 => ⟨S320000, .f32⟩
  | 120 => ⟨S320000, .f32⟩
  | 121 => ⟨S320000x1, .f32⟩
  | 122 => ⟨S320000, .f32⟩
  | 123 => ⟨S320000x1, .f32⟩
  | 124 => ⟨S320000, .f32⟩
  | 125 => ⟨S_, .f32⟩
  | 126 => ⟨S320000, .f32⟩
  | 127 => ⟨S320000, .f32⟩
  | _ => ⟨S10000x1, .f32⟩

abbrev hbmTy0_16 (i : Nat) : BufTy := match i % 128 with
  | 0 => ⟨S320000, .f32⟩
  | 1 => ⟨S320000, .f32⟩
  | 2 => ⟨S320000x1, .i32⟩
  | 3 => ⟨S320000, .i32⟩
  | 4 => ⟨S_, .i32⟩
  | 5 => ⟨S320000, .i32⟩
  | 6 => ⟨S320000, .i32⟩
  | 7 => ⟨S320000x1, .i32⟩
  | 8 => ⟨S320000, .i32⟩
  | 9 => ⟨S_, .i32⟩
  | 10 => ⟨S320000, .i32⟩
  | 11 => ⟨S320000, .i32⟩
  | 12 => ⟨S_, .i32⟩
  | 13 => ⟨S320000, .i32⟩
  | 14 => ⟨S320000, .i32⟩
  | 15 => ⟨S320000, .i32⟩
  | 16 => ⟨S320000x1, .i32⟩
  | 17 => ⟨S320000, .i32⟩
  | 18 => ⟨S_, .i32⟩
  | 19 => ⟨S320000, .i32⟩
  | 20 => ⟨S320000, .i32⟩
  | 21 => ⟨S_, .i32⟩
  | 22 => ⟨S320000, .i32⟩
  | 23 => ⟨S320000, .i32⟩
  | 24 => ⟨S320000, .i32⟩
  | 25 => ⟨S_, .i32⟩
  | 26 => ⟨S320000, .i32⟩
  | 27 => ⟨S320000, .i32⟩
  | 28 => ⟨S320000, .i32⟩
  | 29 => ⟨S320000x1, .f32⟩
  | 30 => ⟨S320000x64, .f32⟩
  | 31 => ⟨S320000x64, .f32⟩
  | 32 => ⟨S_, .i32⟩
  | 33 => ⟨S320000, .i32⟩
  | 34 => ⟨S320000, .i1⟩
  | 35 => ⟨S_, .i32⟩
  | 36 => ⟨S320000, .i32⟩
  | 37 => ⟨S320000, .i32⟩
  | 38 => ⟨S320000, .i32⟩
  | 39 => ⟨S320000x1, .i32⟩
  | 40 => ⟨S1250000x64, .f32⟩
  | 41 => ⟨S320000x1, .f32⟩
  | 42 => ⟨S320000, .f32⟩
  | 43 => ⟨S_, .f32⟩
  | 44 => ⟨S320000, .f32⟩
  | 45 => ⟨S320000, .f32⟩
  | 46 => ⟨S320000x1, .f32⟩
  | 47 => ⟨S320000, .f32⟩
  | 48 => ⟨S320000x1, .f32⟩
  | 49 => ⟨S320000, .f32⟩
  | 50 => ⟨S320000, .f32⟩
  | 51 => ⟨S320000, .f32⟩
  | 52 => ⟨S320000x1, .i32⟩
  | 53 => ⟨S320000, .i32⟩
  | 54 => ⟨S_, .i32⟩
  | 55 => ⟨S320000, .i32⟩
  | 56 => ⟨S320000, .i32⟩
  | 57 => ⟨S320000x1, .i32⟩
  | 58 => ⟨S320000, .i32⟩
  | 59 => ⟨S_, .i32⟩
  | 60 => ⟨S320000, .i32⟩
  | 61 => ⟨S320000, .i32⟩
  | 62 => ⟨S_, .i32⟩
  | 63 => ⟨S320000, .i32⟩
  | 64 => ⟨S320000, .i32⟩
  | 65 => ⟨S320000, .i32⟩
  | 66 => ⟨S320000x1, .i32⟩
  | 67 => ⟨S320000, .i32⟩
  | 68 => ⟨S_, .i32⟩
  | 69 => ⟨S320000, .i32⟩
  | 70 => ⟨S320000, .i32⟩
  | 71 => ⟨S_, .i32⟩
  | 72 => ⟨S320000, .i32⟩
  | 73 => ⟨S320000, .i32⟩
  | 74 => ⟨S320000, .i32⟩
  | 75 => ⟨S_, .i32⟩
  | 76 => ⟨S320000, .i32⟩
  | 77 => ⟨S320000, .i32⟩
  | 78 => ⟨S320000, .i32⟩
  | 79 => ⟨S320000x1, .f32⟩
  | 80 => ⟨S320000x64, .f32⟩
  | 81 => ⟨S320000x64, .f32⟩
  | 82 => ⟨S_, .i32⟩
  | 83 => ⟨S320000, .i32⟩
  | 84 => ⟨S320000, .i1⟩
  | 85 => ⟨S_, .i32⟩
  | 86 => ⟨S320000, .i32⟩
  | 87 => ⟨S320000, .i32⟩
  | 88 => ⟨S320000, .i32⟩
  | 89 => ⟨S320000x1, .i32⟩
  | 90 => ⟨S1250000x64, .f32⟩
  | 91 => ⟨S320000x1, .f32⟩
  | 92 => ⟨S320000, .f32⟩
  | 93 => ⟨S320000x1, .f32⟩
  | 94 => ⟨S320000, .f32⟩
  | 95 => ⟨S_, .f32⟩
  | 96 => ⟨S320000, .f32⟩
  | 97 => ⟨S320000, .f32⟩
  | 98 => ⟨S320000x1, .f32⟩
  | 99 => ⟨S320000, .f32⟩
  | 100 => ⟨S_, .f32⟩
  | 101 => ⟨S320000, .f32⟩
  | 102 => ⟨S320000, .f32⟩
  | 103 => ⟨S320000, .f32⟩
  | 104 => ⟨S320000, .f32⟩
  | 105 => ⟨S320000x1, .i32⟩
  | 106 => ⟨S320000, .i32⟩
  | 107 => ⟨S_, .i32⟩
  | 108 => ⟨S320000, .i32⟩
  | 109 => ⟨S320000, .i32⟩
  | 110 => ⟨S320000x1, .i32⟩
  | 111 => ⟨S320000, .i32⟩
  | 112 => ⟨S_, .i32⟩
  | 113 => ⟨S320000, .i32⟩
  | 114 => ⟨S320000, .i32⟩
  | 115 => ⟨S_, .i32⟩
  | 116 => ⟨S320000, .i32⟩
  | 117 => ⟨S320000, .i32⟩
  | 118 => ⟨S320000, .i32⟩
  | 119 => ⟨S320000x1, .i32⟩
  | 120 => ⟨S320000, .i32⟩
  | 121 => ⟨S_, .i32⟩
  | 122 => ⟨S320000, .i32⟩
  | 123 => ⟨S320000, .i32⟩
  | 124 => ⟨S_, .i32⟩
  | 125 => ⟨S320000, .i32⟩
  | 126 => ⟨S320000, .i32⟩
  | 127 => ⟨S320000, .i32⟩
  | _ => ⟨S10000x1, .f32⟩

abbrev hbmTy0_17 (i : Nat) : BufTy := match i % 128 with
  | 0 => ⟨S_, .i32⟩
  | 1 => ⟨S320000, .i32⟩
  | 2 => ⟨S320000, .i32⟩
  | 3 => ⟨S320000, .i32⟩
  | 4 => ⟨S320000x1, .f32⟩
  | 5 => ⟨S320000x64, .f32⟩
  | 6 => ⟨S320000x64, .f32⟩
  | 7 => ⟨S_, .i32⟩
  | 8 => ⟨S320000, .i32⟩
  | 9 => ⟨S320000, .i1⟩
  | 10 => ⟨S_, .i32⟩
  | 11 => ⟨S320000, .i32⟩
  | 12 => ⟨S320000, .i32⟩
  | 13 => ⟨S320000, .i32⟩
  | 14 => ⟨S320000x1, .i32⟩
  | 15 => ⟨S1250000x64, .f32⟩
  | 16 => ⟨S320000x1, .f32⟩
  | 17 => ⟨S320000, .f32⟩
  | 18 => ⟨S320000x1, .f32⟩
  | 19 => ⟨S320000, .f32⟩
  | 20 => ⟨S_, .f32⟩
  | 21 => ⟨S320000, .f32⟩
  | 22 => ⟨S320000, .f32⟩
  | 23 => ⟨S320000x1, .f32⟩
  | 24 => ⟨S320000, .f32⟩
  | 25 => ⟨S320000, .f32⟩
  | 26 => ⟨S320000, .f32⟩
  | 27 => ⟨S320000x1, .i32⟩
  | 28 => ⟨S320000, .i32⟩
  | 29 => ⟨S_, .i32⟩
  | 30 => ⟨S320000, .i32⟩
  | 31 => ⟨S320000, .i32⟩
  | 32 => ⟨S320000x1, .i32⟩
  | 33 => ⟨S320000, .i32⟩
  | 34 => ⟨S_, .i32⟩
  | 35 => ⟨S320000, .i32⟩
  | 36 => ⟨S320000, .i32⟩
  | 37 => ⟨S_, .i32⟩
  | 38 => ⟨S320000, .i32⟩
  | 39 => ⟨S320000, .i32⟩
  | 40 => ⟨S320000, .i32⟩
  | 41 => ⟨S320000x1, .i32⟩
  | 42 => ⟨S320000, .i32⟩
  | 43 => ⟨S_, .i32⟩
  | 44 => ⟨S320000, .i32⟩
  | 45 => ⟨S320000, .i32⟩
  | 46 => ⟨S_, .i32⟩
  | 47 => ⟨S320000, .i32⟩
  | 48 => ⟨S320000, .i32⟩
  | 49 => ⟨S320000, .i32⟩
  | 50 => ⟨S_, .i32⟩
  | 51 => ⟨S320000, .i32⟩
  | 52 => ⟨S320000, .i32⟩
  | 53 => ⟨S320000, .i32⟩
  | 54 => ⟨S320000x1, .f32⟩
  | 55 => ⟨S320000x64, .f32⟩
  | 56 => ⟨S320000x64, .f32⟩
  | 57 => ⟨S_, .i32⟩
  | 58 => ⟨S320000, .i32⟩
  | 59 => ⟨S320000, .i1⟩
  | 60 => ⟨S_, .i32⟩
  | 61 => ⟨S320000, .i32⟩
  | 62 => ⟨S320000, .i32⟩
  | 63 => ⟨S320000, .i32⟩
  | 64 => ⟨S320000x1, .i32⟩
  | 65 => ⟨S1250000x64, .f32⟩
  | 66 => ⟨S320000x1, .f32⟩
  | 67 => ⟨S320000, .f32⟩
  | 68 => ⟨S320000x1, .f32⟩
  | 69 => ⟨S320000, .f32⟩
  | 70 => ⟨S320000x1, .f32⟩
  | 71 => ⟨S320000, .f32⟩
  | 72 => ⟨S_, .f32⟩
  | 73 => ⟨S320000, .f32⟩
  | 74 => ⟨S320000, .f32⟩
  | 75 => ⟨S320000, .f32⟩
  | 76 => ⟨S320000, .f32⟩
  | 77 => ⟨S320000x1, .i32⟩
  | 78 => ⟨S320000, .i32⟩
  | 79 => ⟨S_, .i32⟩
  | 80 => ⟨S320000, .i32⟩
  | 81 => ⟨S320000, .i32⟩
  | 82 => ⟨S320000x1, .i32⟩
  | 83 => ⟨S320000, .i32⟩
  | 84 => ⟨S_, .i32⟩
  | 85 => ⟨S320000, .i32⟩
  | 86 => ⟨S320000, .i32⟩
  | 87 => ⟨S_, .i32⟩
  | 88 => ⟨S320000, .i32⟩
  | 89 => ⟨S320000, .i32⟩
  | 90 => ⟨S320000, .i32⟩
  | 91 => ⟨S320000x1, .i32⟩
  | 92 => ⟨S320000, .i32⟩
  | 93 => ⟨S_, .i32⟩
  | 94 => ⟨S320000, .i32⟩
  | 95 => ⟨S320000, .i32⟩
  | 96 => ⟨S_, .i32⟩
  | 97 => ⟨S320000, .i32⟩
  | 98 => ⟨S320000, .i32⟩
  | 99 => ⟨S320000, .i32⟩
  | 100 => ⟨S_, .i32⟩
  | 101 => ⟨S320000, .i32⟩
  | 102 => ⟨S320000, .i32⟩
  | 103 => ⟨S320000, .i32⟩
  | 104 => ⟨S320000x1, .f32⟩
  | 105 => ⟨S320000x64, .f32⟩
  | 106 => ⟨S320000x64, .f32⟩
  | 107 => ⟨S_, .i32⟩
  | 108 => ⟨S320000, .i32⟩
  | 109 => ⟨S320000, .i1⟩
  | 110 => ⟨S_, .i32⟩
  | 111 => ⟨S320000, .i32⟩
  | 112 => ⟨S320000, .i32⟩
  | 113 => ⟨S320000, .i32⟩
  | 114 => ⟨S320000x1, .i32⟩
  | 115 => ⟨S1250000x64, .f32⟩
  | 116 => ⟨S320000x1, .f32⟩
  | 117 => ⟨S320000, .f32⟩
  | 118 => ⟨S320000x1, .f32⟩
  | 119 => ⟨S320000, .f32⟩
  | 120 => ⟨S320000x1, .f32⟩
  | 121 => ⟨S320000, .f32⟩
  | 122 => ⟨S320000, .f32⟩
  | 123 => ⟨S320000, .f32⟩
  | 124 => ⟨S320000x1, .i32⟩
  | 125 => ⟨S320000, .i32⟩
  | 126 => ⟨S_, .i32⟩
  | 127 => ⟨S320000, .i32⟩
  | _ => ⟨S10000x1, .f32⟩

abbrev hbmTy0_18 (i : Nat) : BufTy := match i % 128 with
  | 0 => ⟨S320000, .i32⟩
  | 1 => ⟨S320000x1, .i32⟩
  | 2 => ⟨S320000, .i32⟩
  | 3 => ⟨S_, .i32⟩
  | 4 => ⟨S320000, .i32⟩
  | 5 => ⟨S320000, .i32⟩
  | 6 => ⟨S_, .i32⟩
  | 7 => ⟨S320000, .i32⟩
  | 8 => ⟨S320000, .i32⟩
  | 9 => ⟨S320000, .i32⟩
  | 10 => ⟨S320000x1, .i32⟩
  | 11 => ⟨S320000, .i32⟩
  | 12 => ⟨S_, .i32⟩
  | 13 => ⟨S320000, .i32⟩
  | 14 => ⟨S320000, .i32⟩
  | 15 => ⟨S_, .i32⟩
  | 16 => ⟨S320000, .i32⟩
  | 17 => ⟨S320000, .i32⟩
  | 18 => ⟨S320000, .i32⟩
  | 19 => ⟨S_, .i32⟩
  | 20 => ⟨S320000, .i32⟩
  | 21 => ⟨S320000, .i32⟩
  | 22 => ⟨S320000, .i32⟩
  | 23 => ⟨S320000x1, .f32⟩
  | 24 => ⟨S320000x64, .f32⟩
  | 25 => ⟨S320000x64, .f32⟩
  | 26 => ⟨S_, .i32⟩
  | 27 => ⟨S320000, .i32⟩
  | 28 => ⟨S320000, .i1⟩
  | 29 => ⟨S_, .i32⟩
  | 30 => ⟨S320000, .i32⟩
  | 31 => ⟨S320000, .i32⟩
  | 32 => ⟨S320000, .i32⟩
  | 33 => ⟨S320000x1, .i32⟩
  | 34 => ⟨S1250000x64, .f32⟩
  | 35 => ⟨S125x10000x64, .f32⟩
  | 36 => ⟨S10000x64, .f32⟩
  | 37 => ⟨S_, .f32⟩
  | 38 => ⟨S10000, .f32⟩
  | 39 => ⟨S_, .i32⟩
  | 40 => ⟨S320000, .i32⟩
  | 41 => ⟨S320000, .i1⟩
  | 42 => ⟨S_, .i32⟩
  | 43 => ⟨S320000, .i32⟩
  | 44 => ⟨S320000, .i32⟩
  | 45 => ⟨S320000, .i32⟩
  | 46 => ⟨S320000x1, .i32⟩
  | 47 => ⟨S_, .f32⟩
  | 48 => ⟨S320000, .f32⟩
  | 49 => ⟨S10000, .f32⟩
  | 50 => ⟨S_, .f32⟩
  | 51 => ⟨S_, .f32⟩
  | 52 => ⟨S10000, .f32⟩
  | 53 => ⟨S10000, .f32⟩
  | 54 => ⟨S10000x1, .f32⟩
  | 55 => ⟨S10000x64, .f32⟩
  | 56 => ⟨S10000x64, .f32⟩
  | 57 => ⟨S10000x64, .f32⟩
  | 58 => ⟨S10000x64, .f32⟩
  | 59 => ⟨S1x64, .f32⟩
  | 60 => ⟨S10000x64, .f32⟩
  | 61 => ⟨S10000x64, .f32⟩
  | 62 => ⟨S_, .f32⟩
  | 63 => ⟨S10000x64, .f32⟩
  | 64 => ⟨S10000x64, .i1⟩
  | 65 => ⟨S_, .f32⟩
  | 66 => ⟨S10000x64, .f32⟩
  | 67 => ⟨S10000x64, .i1⟩
  | 68 => ⟨S_, .f32⟩
  | 69 => ⟨S_, .f32⟩
  | 70 => ⟨S10000x64, .f32⟩
  | 71 => ⟨S10000x64, .f32⟩
  | 72 => ⟨S10000x64, .f32⟩
  | 73 => ⟨S_, .f32⟩
  | 74 => ⟨S10000x64, .f32⟩
  | 75 => ⟨S10000x64, .f32⟩
  | 76 => ⟨S10000x64, .f32⟩
  | 77 => ⟨S_, .f32⟩
  | 78 => ⟨S320000x3, .f32⟩
  | 79 => ⟨S320000x3, .f32⟩
  | 80 => ⟨S320000x3, .f32⟩
  | 81 => ⟨S320000x3, .i32⟩
  | 82 => ⟨S320000x3, .f32⟩
  | 83 => ⟨S320000x3, .f32⟩
  | 84 => ⟨S_, .i32⟩
  | 85 => ⟨S320000, .i32⟩
  | 86 => ⟨S320000, .i1⟩
  | 87 => ⟨S_, .i32⟩
  | 88 => ⟨S320000, .i32⟩
  | 89 => ⟨S320000, .i32⟩
  | 90 => ⟨S320000, .i32⟩
  | 91 => ⟨S320000x1, .i32⟩
  | 92 => ⟨S320000x64, .f32⟩
  | 93 => ⟨S_, .f32⟩
  | 94 => ⟨S1250000x64, .f32⟩
  | 95 => ⟨S320000x1, .f32⟩
  | 96 => ⟨S320000, .f32⟩
  | 97 => ⟨S_, .f32⟩
  | 98 => ⟨S320000, .f32⟩
  | 99 => ⟨S320000, .f32⟩
  | 100 => ⟨S320000x1, .f32⟩
  | 101 => ⟨S320000, .f32⟩
  | 102 => ⟨S_, .f32⟩
  | 103 => ⟨S320000, .f32⟩
  | 104 => ⟨S320000, .f32⟩
  | 105 => ⟨S320000x1, .f32⟩
  | 106 => ⟨S320000, .f32⟩
  | 107 => ⟨S_, .f32⟩
  | 108 => ⟨S320000, .f32⟩
  | 109 => ⟨S320000, .f32⟩
  | 110 => ⟨S320000, .f32⟩
  | 111 => ⟨S320000, .f32⟩
  | 112 => ⟨S320000x1, .i32⟩
  | 113 => ⟨S320000, .i32⟩
  | 114 => ⟨S_, .i32⟩
  | 115 => ⟨S320000, .i32⟩
  | 116 => ⟨S320000, .i32⟩
  | 117 => ⟨S320000x1, .i32⟩
  | 118 => ⟨S320000, .i32⟩
  | 119 => ⟨S_, .i32⟩
  | 120 => ⟨S320000, .i32⟩
  | 121 => ⟨S320000, .i32⟩
  | 122 => ⟨S_, .i32⟩
  | 123 => ⟨S320000, .i32⟩
  | 124 => ⟨S320000, .i32⟩
  | 125 => ⟨S320000, .i32⟩
  | 126 => ⟨S320000x1, .i32⟩
  | 127 => ⟨S320000, .i32⟩
  | _ => ⟨S10000x1, .f32⟩

abbrev hbmTy0_19 (i : Nat) : BufTy := match i % 128 with
  | 0 => ⟨S_, .i32⟩
  | 1 => ⟨S320000, .i32⟩
  | 2 => ⟨S320000, .i32⟩
  | 3 => ⟨S_, .i32⟩
  | 4 => ⟨S320000, .i32⟩
  | 5 => ⟨S320000, .i32⟩
  | 6 => ⟨S320000, .i32⟩
  | 7 => ⟨S_, .i32⟩
  | 8 => ⟨S320000, .i32⟩
  | 9 => ⟨S320000, .i32⟩
  | 10 => ⟨S320000, .i32⟩
  | 11 => ⟨S320000x1, .f32⟩
  | 12 => ⟨S320000x64, .f32⟩
  | 13 => ⟨S320000x64, .f32⟩
  | 14 => ⟨S_, .i32⟩
  | 15 => ⟨S320000, .i32⟩
  | 16 => ⟨S320000, .i1⟩
  | 17 => ⟨S_, .i32⟩
  | 18 => ⟨S320000, .i32⟩
  | 19 => ⟨S320000, .i32⟩
  | 20 => ⟨S320000, .i32⟩
  | 21 => ⟨S320000x1, .i32⟩
  | 22 => ⟨S1250000x64, .f32⟩
  | 23 => ⟨S320000x1, .f32⟩
  | 24 => ⟨S320000, .f32⟩
  | 25 => ⟨S_, .f32⟩
  | 26 => ⟨S320000, .f32⟩
  | 27 => ⟨S320000, .f32⟩
  | 28 => ⟨S320000x1, .f32⟩
  | 29 => ⟨S320000, .f32⟩
  | 30 => ⟨S_, .f32⟩
  | 31 => ⟨S320000, .f32⟩
  | 32 => ⟨S320000, .f32⟩
  | 33 => ⟨S320000x1, .f32⟩
  | 34 => ⟨S320000, .f32⟩
  | 35 => ⟨S320000, .f32⟩
  | 36 => ⟨S320000, .f32⟩
  | 37 => ⟨S320000x1, .i32⟩
  | 38 => ⟨S320000, .i32⟩
  | 39 => ⟨S_, .i32⟩
  | 40 => ⟨S320000, .i32⟩
  | 41 => ⟨S320000, .i32⟩
  | 42 => ⟨S320000x1, .i32⟩
  | 43 => ⟨S320000, .i32⟩
  | 44 => ⟨S_, .i32⟩
  | 45 => ⟨S320000, .i32⟩
  | 46 => ⟨S320000, .i32⟩
  | 47 => ⟨S_, .i32⟩
  | 48 => ⟨S320000, .i32⟩
  | 49 => ⟨S320000, .i32⟩
  | 50 => ⟨S320000, .i32⟩
  | 51 => ⟨S320000x1, .i32⟩
  | 52 => ⟨S320000, .i32⟩
  | 53 => ⟨S_, .i32⟩
  | 54 => ⟨S320000, .i32⟩
  | 55 => ⟨S320000, .i32⟩
  | 56 => ⟨S_, .i32⟩
  | 57 => ⟨S320000, .i32⟩
  | 58 => ⟨S320000, .i32⟩
  | 59 => ⟨S320000, .i32⟩
  | 60 => ⟨S_, .i32⟩
  | 61 => ⟨S320000, .i32⟩
  | 62 => ⟨S320000, .i32⟩
  | 63 => ⟨S320000, .i32⟩
  | 64 => ⟨S320000x1, .f32⟩
  | 65 => ⟨S320000x64, .f32⟩
  | 66 => ⟨S320000x64, .f32⟩
  | 67 => ⟨S_, .i32⟩
  | 68 => ⟨S320000, .i32⟩
  | 69 => ⟨S320000, .i1⟩
  | 70 => ⟨S_, .i32⟩
  | 71 => ⟨S320000, .i32⟩
  | 72 => ⟨S320000, .i32⟩
  | 73 => ⟨S320000, .i32⟩
  | 74 => ⟨S320000x1, .i32⟩
  | 75 => ⟨S1250000x64, .f32⟩
  | 76 => ⟨S320000x1, .f32⟩
  | 77 => ⟨S320000, .f32⟩
  | 78 => ⟨S_, .f32⟩
  | 79 => ⟨S320000, .f32⟩
  | 80 => ⟨S320000, .f32⟩
  | 81 => ⟨S320000x1, .f32⟩
  | 82 => ⟨S320000, .f32⟩
  | 83 => ⟨S320000x1, .f32⟩
  | 84 => ⟨S320000, .f32⟩
  | 85 => ⟨S_, .f32⟩
  | 86 => ⟨S320000, .f32⟩
  | 87 => ⟨S320000, .f32⟩
  | 88 => ⟨S320000, .f32⟩
  | 89 => ⟨S320000, .f32⟩
  | 90 => ⟨S320000x1, .i32⟩
  | 91 => ⟨S320000, .i32⟩
  | 92 => ⟨S_, .i32⟩
  | 93 => ⟨S320000, .i32⟩
  | 94 => ⟨S320000, .i32⟩
  | 95 => ⟨S320000x1, .i32⟩
  | 96 => ⟨S320000, .i32⟩
  | 97 => ⟨S_, .i32⟩
  | 98 => ⟨S320000, .i32⟩
  | 99 => ⟨S320000, .i32⟩
  | 100 => ⟨S_, .i32⟩
  | 101 => ⟨S320000, .i32⟩
  | 102 => ⟨S320000, .i32⟩
  | 103 => ⟨S320000, .i32⟩
  | 104 => ⟨S320000x1, .i32⟩
  | 105 => ⟨S320000, .i32⟩
  | 106 => ⟨S_, .i32⟩
  | 107 => ⟨S320000, .i32⟩
  | 108 => ⟨S320000, .i32⟩
  | 109 => ⟨S_, .i32⟩
  | 110 => ⟨S320000, .i32⟩
  | 111 => ⟨S320000, .i32⟩
  | 112 => ⟨S320000, .i32⟩
  | 113 => ⟨S_, .i32⟩
  | 114 => ⟨S320000, .i32⟩
  | 115 => ⟨S320000, .i32⟩
  | 116 => ⟨S320000, .i32⟩
  | 117 => ⟨S320000x1, .f32⟩
  | 118 => ⟨S320000x64, .f32⟩
  | 119 => ⟨S320000x64, .f32⟩
  | 120 => ⟨S_, .i32⟩
  | 121 => ⟨S320000, .i32⟩
  | 122 => ⟨S320000, .i1⟩
  | 123 => ⟨S_, .i32⟩
  | 124 => ⟨S320000, .i32⟩
  | 125 => ⟨S320000, .i32⟩
  | 126 => ⟨S320000, .i32⟩
  | 127 => ⟨S320000x1, .i32⟩
  | _ => ⟨S10000x1, .f32⟩

abbrev hbmTy0_20 (i : Nat) : BufTy := match i % 128 with
  | 0 => ⟨S1250000x64, .f32⟩
  | 1 => ⟨S320000x1, .f32⟩
  | 2 => ⟨S320000, .f32⟩
  | 3 => ⟨S_, .f32⟩
  | 4 => ⟨S320000, .f32⟩
  | 5 => ⟨S320000, .f32⟩
  | 6 => ⟨S320000x1, .f32⟩
  | 7 => ⟨S320000, .f32⟩
  | 8 => ⟨S320000x1, .f32⟩
  | 9 => ⟨S320000, .f32⟩
  | 10 => ⟨S320000, .f32⟩
  | 11 => ⟨S320000, .f32⟩
  | 12 => ⟨S320000x1, .i32⟩
  | 13 => ⟨S320000, .i32⟩
  | 14 => ⟨S_, .i32⟩
  | 15 => ⟨S320000, .i32⟩
  | 16 => ⟨S320000, .i32⟩
  | 17 => ⟨S320000x1, .i32⟩
  | 18 => ⟨S320000, .i32⟩
  | 19 => ⟨S_, .i32⟩
  | 20 => ⟨S320000, .i32⟩
  | 21 => ⟨S320000, .i32⟩
  | 22 => ⟨S_, .i32⟩
  | 23 => ⟨S320000, .i32⟩
  | 24 => ⟨S320000, .i32⟩
  | 25 => ⟨S320000, .i32⟩
  | 26 => ⟨S320000x1, .i32⟩
  | 27 => ⟨S320000, .i32⟩
  | 28 => ⟨S_, .i32⟩
  | 29 => ⟨S320000, .i32⟩
  | 30 => ⟨S320000, .i32⟩
  | 31 => ⟨S_, .i32⟩
  | 32 => ⟨S320000, .i32⟩
  | 33 => ⟨S320000, .i32⟩
  | 34 => ⟨S320000, .i32⟩
  | 35 => ⟨S_, .i32⟩
  | 36 => ⟨S320000, .i32⟩
  | 37 => ⟨S320000, .i32⟩
  | 38 => ⟨S320000, .i32⟩
  | 39 => ⟨S320000x1, .f32⟩
  | 40 => ⟨S320000x64, .f32⟩
  | 41 => ⟨S320000x64, .f32⟩
  | 42 => ⟨S_, .i32⟩
  | 43 => ⟨S320000, .i32⟩
  | 44 => ⟨S320000, .i1⟩
  | 45 => ⟨S_, .i32⟩
  | 46 => ⟨S320000, .i32⟩
  | 47 => ⟨S320000, .i32⟩
  | 48 => ⟨S320000, .i32⟩
  | 49 => ⟨S320000x1, .i32⟩
  | 50 => ⟨S1250000x64, .f32⟩
  | 51 => ⟨S320000x1, .f32⟩
  | 52 => ⟨S320000, .f32⟩
  | 53 => ⟨S320000x1, .f32⟩
  | 54 => ⟨S320000, .f32⟩
  | 55 => ⟨S_, .f32⟩
  | 56 => ⟨S320000, .f32⟩
  | 57 => ⟨S320000, .f32⟩
  | 58 => ⟨S320000x1, .f32⟩
  | 59 => ⟨S320000, .f32⟩
  | 60 => ⟨S_, .f32⟩
  | 61 => ⟨S320000, .f32⟩
  | 62 => ⟨S320000, .f32⟩
  | 63 => ⟨S320000, .f32⟩
  | 64 => ⟨S320000, .f32⟩
  | 65 => ⟨S320000x1, .i32⟩
  | 66 => ⟨S320000, .i32⟩
  | 67 => ⟨S_, .i32⟩
  | 68 => ⟨S320000, .i32⟩
  | 69 => ⟨S320000, .i32⟩
  | 70 => ⟨S320000x1, .i32⟩
  | 71 => ⟨S320000, .i32⟩
  | 72 => ⟨S_, .i32⟩
  | 73 => ⟨S320000, .i32⟩
  | 74 => ⟨S320000, .i32⟩
  | 75 => ⟨S_, .i32⟩
  | 76 => ⟨S320000, .i32⟩
  | 77 => ⟨S320000, .i32⟩
  | 78 => ⟨S320000, .i32⟩
  | 79 => ⟨S320000x1, .i32⟩
  | 80 => ⟨S320000, .i32⟩
  | 81 => ⟨S_, .i32⟩
  | 82 => ⟨S320000, .i32⟩
  | 83 => ⟨S320000, .i32⟩
  | 84 => ⟨S_, .i32⟩
  | 85 => ⟨S320000, .i32⟩
  | 86 => ⟨S320000, .i32⟩
  | 87 => ⟨S320000, .i32⟩
  | 88 => ⟨S_, .i32⟩
  | 89 => ⟨S320000, .i32⟩
  | 90 => ⟨S320000, .i32⟩
  | 91 => ⟨S320000, .i32⟩
  | 92 => ⟨S320000x1, .f32⟩
  | 93 => ⟨S320000x64, .f32⟩
  | 94 => ⟨S320000x64, .f32⟩
  | 95 => ⟨S_, .i32⟩
  | 96 => ⟨S320000, .i32⟩
  | 97 => ⟨S320000, .i1⟩
  | 98 => ⟨S_, .i32⟩
  | 99 => ⟨S320000, .i32⟩
  | 100 => ⟨S320000, .i32⟩
  | 101 => ⟨S320000, .i32⟩
  | 102 => ⟨S320000x1, .i32⟩
  | 103 => ⟨S1250000x64, .f32⟩
  | 104 => ⟨S320000x1, .f32⟩
  | 105 => ⟨S320000, .f32⟩
  | 106 => ⟨S320000x1, .f32⟩
  | 107 => ⟨S320000, .f32⟩
  | 108 => ⟨S_, .f32⟩
  | 109 => ⟨S320000, .f32⟩
  | 110 => ⟨S320000, .f32⟩
  | 111 => ⟨S320000x1, .f32⟩
  | 112 => ⟨S320000, .f32⟩
  | 113 => ⟨S320000, .f32⟩
  | 114 => ⟨S320000, .f32⟩
  | 115 => ⟨S320000x1, .i32⟩
  | 116 => ⟨S320000, .i32⟩
  | 117 => ⟨S_, .i32⟩
  | 118 => ⟨S320000, .i32⟩
  | 119 => ⟨S320000, .i32⟩
  | 120 => ⟨S320000x1, .i32⟩
  | 121 => ⟨S320000, .i32⟩
  | 122 => ⟨S_, .i32⟩
  | 123 => ⟨S320000, .i32⟩
  | 124 => ⟨S320000, .i32⟩
  | 125 => ⟨S_, .i32⟩
  | 126 => ⟨S320000, .i32⟩
  | 127 => ⟨S320000, .i32⟩
  | _ => ⟨S10000x1, .f32⟩

abbrev hbmTy0_21 (i : Nat) : BufTy := match i % 128 with
  | 0 => ⟨S320000, .i32⟩
  | 1 => ⟨S320000x1, .i32⟩
  | 2 => ⟨S320000, .i32⟩
  | 3 => ⟨S_, .i32⟩
  | 4 => ⟨S320000, .i32⟩
  | 5 => ⟨S320000, .i32⟩
  | 6 => ⟨S_, .i32⟩
  | 7 => ⟨S320000, .i32⟩
  | 8 => ⟨S320000, .i32⟩
  | 9 => ⟨S320000, .i32⟩
  | 10 => ⟨S_, .i32⟩
  | 11 => ⟨S320000, .i32⟩
  | 12 => ⟨S320000, .i32⟩
  | 13 => ⟨S320000, .i32⟩
  | 14 => ⟨S320000x1, .f32⟩
  | 15 => ⟨S320000x64, .f32⟩
  | 16 => ⟨S320000x64, .f32⟩
  | 17 => ⟨S_, .i32⟩
  | 18 => ⟨S320000, .i32⟩
  | 19 => ⟨S320000, .i1⟩
  | 20 => ⟨S_, .i32⟩
  | 21 => ⟨S320000, .i32⟩
  | 22 => ⟨S320000, .i32⟩
  | 23 => ⟨S320000, .i32⟩
  | 24 => ⟨S320000x1, .i32⟩
  | 25 => ⟨S1250000x64, .f32⟩
  | 26 => ⟨S320000x1, .f32⟩
  | 27 => ⟨S320000, .f32⟩
  | 28 => ⟨S320000x1, .f32⟩
  | 29 => ⟨S320000, .f32⟩
  | 30 => ⟨S320000x1, .f32⟩
  | 31 => ⟨S320000, .f32⟩
  | 32 => ⟨S_, .f32⟩
  | 33 => ⟨S320000, .f32⟩
  | 34 => ⟨S320000, .f32⟩
  | 35 => ⟨S320000, .f32⟩
  | 36 => ⟨S320000, .f32⟩
  | 37 => ⟨S320000x1, .i32⟩
  | 38 => ⟨S320000, .i32⟩
  | 39 => ⟨S_, .i32⟩
  | 40 => ⟨S320000, .i32⟩
  | 41 => ⟨S320000, .i32⟩
  | 42 => ⟨S320000x1, .i32⟩
  | 43 => ⟨S320000, .i32⟩
  | 44 => ⟨S_, .i32⟩
  | 45 => ⟨S320000, .i32⟩
  | 46 => ⟨S320000, .i32⟩
  | 47 => ⟨S_, .i32⟩
  | 48 => ⟨S320000, .i32⟩
  | 49 => ⟨S320000, .i32⟩
  | 50 => ⟨S320000, .i32⟩
  | 51 => ⟨S320000x1, .i32⟩
  | 52 => ⟨S320000, .i32⟩
  | 53 => ⟨S_, .i32⟩
  | 54 => ⟨S320000, .i32⟩
  | 55 => ⟨S320000, .i32⟩
  | 56 => ⟨S_, .i32⟩
  | 57 => ⟨S320000, .i32⟩
  | 58 => ⟨S320000, .i32⟩
  | 59 => ⟨S320000, .i32⟩
  | 60 => ⟨S_, .i32⟩
  | 61 => ⟨S320000, .i32⟩
  | 62 => ⟨S320000, .i32⟩
  | 63 => ⟨S320000, .i32⟩
  | 64 => ⟨S320000x1, .f32⟩
  | 65 => ⟨S320000x64, .f32⟩
  | 66 => ⟨S320000x64, .f32⟩
  | 67 => ⟨S_, .i32⟩
  | 68 => ⟨S320000, .i32⟩
  | 69 => ⟨S320000, .i1⟩
  | 70 => ⟨S_, .i32⟩
  | 71 => ⟨S320000, .i32⟩
  | 72 => ⟨S320000, .i32⟩
  | 73 => ⟨S320000, .i32⟩
  | 74 => ⟨S320000x1, .i32⟩
  | 75 => ⟨S1250000x64, .f32⟩
  | 76 => ⟨S320000x1, .f32⟩
  | 77 => ⟨S320000, .f32⟩
  | 78 => ⟨S320000x1, .f32⟩
  | 79 => ⟨S320000, .f32⟩
  | 80 => ⟨S320000x1, .f32⟩
  | 81 => ⟨S320000, .f32⟩
  | 82 => ⟨S320000, .f32⟩
  | 83 => ⟨S320000, .f32⟩
  | 84 => ⟨S320000x1, .i32⟩
  | 85 => ⟨S320000, .i32⟩
  | 86 => ⟨S_, .i32⟩
  | 87 => ⟨S320000, .i32⟩
  | 88 => ⟨S320000, .i32⟩
  | 89 => ⟨S320000x1, .i32⟩
  | 90 => ⟨S320000, .i32⟩
  | 91 => ⟨S_, .i32⟩
  | 92 => ⟨S320000, .i32⟩
  | 93 => ⟨S320000, .i32⟩
  | 94 => ⟨S_, .i32⟩
  | 95 => ⟨S320000, .i32⟩
  | 96 => ⟨S320000, .i32⟩
  | 97 => ⟨S320000, .i32⟩
  | 98 => ⟨S320000x1, .i32⟩
  | 99 => ⟨S320000, .i32⟩
  | 100 => ⟨S_, .i32⟩
  | 101 => ⟨S320000, .i32⟩
  | 102 => ⟨S320000, .i32⟩
  | 103 => ⟨S_, .i32⟩
  | 104 => ⟨S320000, .i32⟩
  | 105 => ⟨S320000, .i32⟩
  | 106 => ⟨S320000, .i32⟩
  | 107 => ⟨S_, .i32⟩
  | 108 => ⟨S320000, .i32⟩
  | 109 => ⟨S320000, .i32⟩
  | 110 => ⟨S320000, .i32⟩
  | 111 => ⟨S320000x1, .f32⟩
  | 112 => ⟨S320000x64, .f32⟩
  | 113 => ⟨S320000x64, .f32⟩
  | 114 => ⟨S_, .i32⟩
  | 115 => ⟨S320000, .i32⟩
  | 116 => ⟨S320000, .i1⟩
  | 117 => ⟨S_, .i32⟩
  | 118 => ⟨S320000, .i32⟩
  | 119 => ⟨S320000, .i32⟩
  | 120 => ⟨S320000, .i32⟩
  | 121 => ⟨S320000x1, .i32⟩
  | 122 => ⟨S1250000x64, .f32⟩
  | 123 => ⟨S125x10000x64, .f32⟩
  | 124 => ⟨S10000x64, .f32⟩
  | 125 => ⟨S_, .f32⟩
  | 126 => ⟨S10000, .f32⟩
  | 127 => ⟨S_, .i32⟩
  | _ => ⟨S10000x1, .f32⟩

abbrev hbmTy0_22 (i : Nat) : BufTy := match i % 128 with
  | 0 => ⟨S320000, .i32⟩
  | 1 => ⟨S320000, .i1⟩
  | 2 => ⟨S_, .i32⟩
  | 3 => ⟨S320000, .i32⟩
  | 4 => ⟨S320000, .i32⟩
  | 5 => ⟨S320000, .i32⟩
  | 6 => ⟨S320000x1, .i32⟩
  | 7 => ⟨S_, .f32⟩
  | 8 => ⟨S320000, .f32⟩
  | 9 => ⟨S10000, .f32⟩
  | 10 => ⟨S_, .f32⟩
  | 11 => ⟨S_, .f32⟩
  | 12 => ⟨S10000, .f32⟩
  | 13 => ⟨S10000, .f32⟩
  | 14 => ⟨S10000x1, .f32⟩
  | 15 => ⟨S10000x64, .f32⟩
  | 16 => ⟨S10000x64, .f32⟩
  | 17 => ⟨S10000x64, .f32⟩
  | 18 => ⟨S10000x64, .f32⟩
  | 19 => ⟨S1x64, .f32⟩
  | 20 => ⟨S10000x64, .f32⟩
  | 21 => ⟨S10000x64, .f32⟩
  | 22 => ⟨S_, .f32⟩
  | 23 => ⟨S10000x64, .f32⟩
  | 24 => ⟨S10000x64, .i1⟩
  | 25 => ⟨S_, .f32⟩
  | 26 => ⟨S10000x64, .f32⟩
  | 27 => ⟨S10000x64, .i1⟩
  | 28 => ⟨S_, .f32⟩
  | 29 => ⟨S_, .f32⟩
  | 30 => ⟨S10000x64, .f32⟩
  | 31 => ⟨S10000x64, .f32⟩
  | 32 => ⟨S10000x64, .f32⟩
  | 33 => ⟨S_, .f32⟩
  | 34 => ⟨S10000x64, .f32⟩
  | 35 => ⟨S10000x64, .f32⟩
  | 36 => ⟨S10000x64, .f32⟩
  | 37 => ⟨S10000x256, .f32⟩
  | 38 => ⟨S1x256, .f32⟩
  | 39 => ⟨S10000x256, .f32⟩
  | 40 => ⟨S10000x256, .f32⟩
  | 41 => ⟨S_, .f32⟩
  | 42 => ⟨S10000x256, .f32⟩
  | 43 => ⟨S10000x256, .i1⟩
  | 44 => ⟨S_, .f32⟩
  | 45 => ⟨S10000x256, .f32⟩
  | 46 => ⟨S10000x256, .i1⟩
  | 47 => ⟨S_, .f32⟩
  | 48 => ⟨S_, .f32⟩
  | 49 => ⟨S10000x256, .f32⟩
  | 50 => ⟨S10000x256, .f32⟩
  | 51 => ⟨S10000x256, .f32⟩
  | 52 => ⟨S_, .f32⟩
  | 53 => ⟨S10000x256, .f32⟩
  | 54 => ⟨S10000x256, .f32⟩
  | 55 => ⟨S10000x256, .f32⟩
  | 56 => ⟨S10000x6890, .f32⟩
  | 57 => ⟨S1x6890, .f32⟩
  | 58 => ⟨S10000x6890, .f32⟩
  | 59 => ⟨S10000x6890, .f32⟩
  | 60 => ⟨S_, .f32⟩
  | 61 => ⟨S10000, .f32⟩
  | 62 => ⟨S_, .f32⟩
  | 63 => ⟨S10000, .f32⟩
  | 64 => ⟨S10000, .f32⟩
  | 65 => ⟨S10000x1, .f32⟩
  | 66 => ⟨S10000x6890, .f32⟩
  | 67 => ⟨S10000x6890, .f32⟩
  | 68 => ⟨S10000x6890, .f32⟩
  | 69 => ⟨S_, .f32⟩
  | 70 => ⟨S10000, .f32⟩
  | 71 => ⟨S10000x1, .f32⟩
  | 72 => ⟨S10000x1, .f32⟩
  | 73 => ⟨S10000x6890, .f32⟩
  | 74 => ⟨S10000x6890, .f32⟩
  | _ => ⟨S10000x1, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | 21 => hbmTy0_21 i
  | 22 => hbmTy0_22 i
  | _ => ⟨S10000x1, .f32⟩

abbrev bufTy : (tb : Table) → Fin (tcTables nBuf tb) → BufTy
  | .hbm, ⟨i, _⟩ => hbmTy i
  | _, _ => ⟨S10000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_c : Ref sig .tc := ⟨.hbm, 36, rfl⟩
abbrev main_v10 : Ref sig .tc := ⟨.hbm, 37, rfl⟩
abbrev main_v11 : Ref sig .tc := ⟨.hbm, 38, rfl⟩
abbrev main_c_0 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_cst_1 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_cst_2 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_cst_3 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_cst_4 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_c_5 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_c_6 : Ref sig .tc := ⟨.hbm, 71, rfl⟩
abbrev main_v38 : Ref sig .tc := ⟨.hbm, 72, rfl⟩
abbrev main_v39 : Ref sig .tc := ⟨.hbm, 73, rfl⟩
abbrev main_c_7 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_c_8 : Ref sig .tc := ⟨.hbm, 80, rfl⟩
abbrev main_v45 : Ref sig .tc := ⟨.hbm, 81, rfl⟩
abbrev main_v46 : Ref sig .tc := ⟨.hbm, 82, rfl⟩
abbrev main_c_9 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_c_10 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_c_11 : Ref sig .tc := ⟨.hbm, 93, rfl⟩
abbrev main_v55 : Ref sig .tc := ⟨.hbm, 94, rfl⟩
abbrev main_v56 : Ref sig .tc := ⟨.hbm, 95, rfl⟩
abbrev main_c_12 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_13 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_cst_14 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_c_15 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_c_16 : Ref sig .tc := ⟨.hbm, 123, rfl⟩
abbrev main_v80 : Ref sig .tc := ⟨.hbm, 124, rfl⟩
abbrev main_v81 : Ref sig .tc := ⟨.hbm, 125, rfl⟩
abbrev main_c_17 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_c_18 : Ref sig .tc := ⟨.hbm, 132, rfl⟩
abbrev main_v87 : Ref sig .tc := ⟨.hbm, 133, rfl⟩
abbrev main_v88 : Ref sig .tc := ⟨.hbm, 134, rfl⟩
abbrev main_c_19 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_c_20 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_c_21 : Ref sig .tc := ⟨.hbm, 145, rfl⟩
abbrev main_v97 : Ref sig .tc := ⟨.hbm, 146, rfl⟩
abbrev main_v98 : Ref sig .tc := ⟨.hbm, 147, rfl⟩
abbrev main_c_22 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_cst_23 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_cst_24 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_c_25 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_c_26 : Ref sig .tc := ⟨.hbm, 175, rfl⟩
abbrev main_v122 : Ref sig .tc := ⟨.hbm, 176, rfl⟩
abbrev main_v123 : Ref sig .tc := ⟨.hbm, 177, rfl⟩
abbrev main_c_27 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_c_28 : Ref sig .tc := ⟨.hbm, 184, rfl⟩
abbrev main_v129 : Ref sig .tc := ⟨.hbm, 185, rfl⟩
abbrev main_v130 : Ref sig .tc := ⟨.hbm, 186, rfl⟩
abbrev main_c_29 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_c_30 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_c_31 : Ref sig .tc := ⟨.hbm, 197, rfl⟩
abbrev main_v139 : Ref sig .tc := ⟨.hbm, 198, rfl⟩
abbrev main_v140 : Ref sig .tc := ⟨.hbm, 199, rfl⟩
abbrev main_c_32 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_cst_33 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_c_34 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_c_35 : Ref sig .tc := ⟨.hbm, 224, rfl⟩
abbrev main_v162 : Ref sig .tc := ⟨.hbm, 225, rfl⟩
abbrev main_v163 : Ref sig .tc := ⟨.hbm, 226, rfl⟩
abbrev main_c_36 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_c_37 : Ref sig .tc := ⟨.hbm, 233, rfl⟩
abbrev main_v169 : Ref sig .tc := ⟨.hbm, 234, rfl⟩
abbrev main_v170 : Ref sig .tc := ⟨.hbm, 235, rfl⟩
abbrev main_c_38 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_c_39 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_c_40 : Ref sig .tc := ⟨.hbm, 246, rfl⟩
abbrev main_v179 : Ref sig .tc := ⟨.hbm, 247, rfl⟩
abbrev main_v180 : Ref sig .tc := ⟨.hbm, 248, rfl⟩
abbrev main_c_41 : Ref sig .tc := ⟨.hbm, 249, rfl⟩
abbrev main_v181 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_cst_42 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_cst_43 : Ref sig .tc := ⟨.hbm, 264, rfl⟩
abbrev main_v194 : Ref sig .tc := ⟨.hbm, 265, rfl⟩
abbrev main_v195 : Ref sig .tc := ⟨.hbm, 266, rfl⟩
abbrev main_v196 : Ref sig .tc := ⟨.hbm, 267, rfl⟩
abbrev main_v197 : Ref sig .tc := ⟨.hbm, 268, rfl⟩
abbrev main_v198 : Ref sig .tc := ⟨.hbm, 269, rfl⟩
abbrev main_v199 : Ref sig .tc := ⟨.hbm, 270, rfl⟩
abbrev main_c_44 : Ref sig .tc := ⟨.hbm, 271, rfl⟩
abbrev main_v200 : Ref sig .tc := ⟨.hbm, 272, rfl⟩
abbrev main_v201 : Ref sig .tc := ⟨.hbm, 273, rfl⟩
abbrev main_v202 : Ref sig .tc := ⟨.hbm, 274, rfl⟩
abbrev main_v203 : Ref sig .tc := ⟨.hbm, 275, rfl⟩
abbrev main_c_45 : Ref sig .tc := ⟨.hbm, 276, rfl⟩
abbrev main_v204 : Ref sig .tc := ⟨.hbm, 277, rfl⟩
abbrev main_v205 : Ref sig .tc := ⟨.hbm, 278, rfl⟩
abbrev main_c_46 : Ref sig .tc := ⟨.hbm, 279, rfl⟩
abbrev main_v206 : Ref sig .tc := ⟨.hbm, 280, rfl⟩
abbrev main_v207 : Ref sig .tc := ⟨.hbm, 281, rfl⟩
abbrev main_v208 : Ref sig .tc := ⟨.hbm, 282, rfl⟩
abbrev main_v209 : Ref sig .tc := ⟨.hbm, 283, rfl⟩
abbrev main_v210 : Ref sig .tc := ⟨.hbm, 284, rfl⟩
abbrev main_c_47 : Ref sig .tc := ⟨.hbm, 285, rfl⟩
abbrev main_v211 : Ref sig .tc := ⟨.hbm, 286, rfl⟩
abbrev main_v212 : Ref sig .tc := ⟨.hbm, 287, rfl⟩
abbrev main_c_48 : Ref sig .tc := ⟨.hbm, 288, rfl⟩
abbrev main_v213 : Ref sig .tc := ⟨.hbm, 289, rfl⟩
abbrev main_v214 : Ref sig .tc := ⟨.hbm, 290, rfl⟩
abbrev main_v215 : Ref sig .tc := ⟨.hbm, 291, rfl⟩
abbrev main_c_49 : Ref sig .tc := ⟨.hbm, 292, rfl⟩
abbrev main_v216 : Ref sig .tc := ⟨.hbm, 293, rfl⟩
abbrev main_v217 : Ref sig .tc := ⟨.hbm, 294, rfl⟩
abbrev main_v218 : Ref sig .tc := ⟨.hbm, 295, rfl⟩
abbrev main_v219 : Ref sig .tc := ⟨.hbm, 296, rfl⟩
abbrev main_v220 : Ref sig .tc := ⟨.hbm, 297, rfl⟩
abbrev main_c_50 : Ref sig .tc := ⟨.hbm, 298, rfl⟩
abbrev main_v221 : Ref sig .tc := ⟨.hbm, 299, rfl⟩
abbrev main_v222 : Ref sig .tc := ⟨.hbm, 300, rfl⟩
abbrev main_c_51 : Ref sig .tc := ⟨.hbm, 301, rfl⟩
abbrev main_v223 : Ref sig .tc := ⟨.hbm, 302, rfl⟩
abbrev main_v224 : Ref sig .tc := ⟨.hbm, 303, rfl⟩
abbrev main_v225 : Ref sig .tc := ⟨.hbm, 304, rfl⟩
abbrev main_v226 : Ref sig .tc := ⟨.hbm, 305, rfl⟩
abbrev main_v227 : Ref sig .tc := ⟨.hbm, 306, rfl⟩
abbrev main_v228 : Ref sig .tc := ⟨.hbm, 307, rfl⟩
abbrev main_v229 : Ref sig .tc := ⟨.hbm, 308, rfl⟩
abbrev main_v230 : Ref sig .tc := ⟨.hbm, 309, rfl⟩
abbrev main_v231 : Ref sig .tc := ⟨.hbm, 310, rfl⟩
abbrev main_cst_52 : Ref sig .tc := ⟨.hbm, 311, rfl⟩
abbrev main_v232 : Ref sig .tc := ⟨.hbm, 312, rfl⟩
abbrev main_v233 : Ref sig .tc := ⟨.hbm, 313, rfl⟩
abbrev main_v234 : Ref sig .tc := ⟨.hbm, 314, rfl⟩
abbrev main_v235 : Ref sig .tc := ⟨.hbm, 315, rfl⟩
abbrev main_v236 : Ref sig .tc := ⟨.hbm, 316, rfl⟩
abbrev main_v237 : Ref sig .tc := ⟨.hbm, 317, rfl⟩
abbrev main_v238 : Ref sig .tc := ⟨.hbm, 318, rfl⟩
abbrev main_v239 : Ref sig .tc := ⟨.hbm, 319, rfl⟩
abbrev main_c_53 : Ref sig .tc := ⟨.hbm, 320, rfl⟩
abbrev main_v240 : Ref sig .tc := ⟨.hbm, 321, rfl⟩
abbrev main_v241 : Ref sig .tc := ⟨.hbm, 322, rfl⟩
abbrev main_v242 : Ref sig .tc := ⟨.hbm, 323, rfl⟩
abbrev main_v243 : Ref sig .tc := ⟨.hbm, 324, rfl⟩
abbrev main_c_54 : Ref sig .tc := ⟨.hbm, 325, rfl⟩
abbrev main_v244 : Ref sig .tc := ⟨.hbm, 326, rfl⟩
abbrev main_v245 : Ref sig .tc := ⟨.hbm, 327, rfl⟩
abbrev main_c_55 : Ref sig .tc := ⟨.hbm, 328, rfl⟩
abbrev main_v246 : Ref sig .tc := ⟨.hbm, 329, rfl⟩
abbrev main_v247 : Ref sig .tc := ⟨.hbm, 330, rfl⟩
abbrev main_v248 : Ref sig .tc := ⟨.hbm, 331, rfl⟩
abbrev main_v249 : Ref sig .tc := ⟨.hbm, 332, rfl⟩
abbrev main_v250 : Ref sig .tc := ⟨.hbm, 333, rfl⟩
abbrev main_c_56 : Ref sig .tc := ⟨.hbm, 334, rfl⟩
abbrev main_v251 : Ref sig .tc := ⟨.hbm, 335, rfl⟩
abbrev main_v252 : Ref sig .tc := ⟨.hbm, 336, rfl⟩
abbrev main_c_57 : Ref sig .tc := ⟨.hbm, 337, rfl⟩
abbrev main_v253 : Ref sig .tc := ⟨.hbm, 338, rfl⟩
abbrev main_v254 : Ref sig .tc := ⟨.hbm, 339, rfl⟩
abbrev main_v255 : Ref sig .tc := ⟨.hbm, 340, rfl⟩
abbrev main_c_58 : Ref sig .tc := ⟨.hbm, 341, rfl⟩
abbrev main_v256 : Ref sig .tc := ⟨.hbm, 342, rfl⟩
abbrev main_v257 : Ref sig .tc := ⟨.hbm, 343, rfl⟩
abbrev main_v258 : Ref sig .tc := ⟨.hbm, 344, rfl⟩
abbrev main_v259 : Ref sig .tc := ⟨.hbm, 345, rfl⟩
abbrev main_v260 : Ref sig .tc := ⟨.hbm, 346, rfl⟩
abbrev main_c_59 : Ref sig .tc := ⟨.hbm, 347, rfl⟩
abbrev main_v261 : Ref sig .tc := ⟨.hbm, 348, rfl⟩
abbrev main_v262 : Ref sig .tc := ⟨.hbm, 349, rfl⟩
abbrev main_c_60 : Ref sig .tc := ⟨.hbm, 350, rfl⟩
abbrev main_v263 : Ref sig .tc := ⟨.hbm, 351, rfl⟩
abbrev main_v264 : Ref sig .tc := ⟨.hbm, 352, rfl⟩
abbrev main_v265 : Ref sig .tc := ⟨.hbm, 353, rfl⟩
abbrev main_v266 : Ref sig .tc := ⟨.hbm, 354, rfl⟩
abbrev main_v267 : Ref sig .tc := ⟨.hbm, 355, rfl⟩
abbrev main_v268 : Ref sig .tc := ⟨.hbm, 356, rfl⟩
abbrev main_v269 : Ref sig .tc := ⟨.hbm, 357, rfl⟩
abbrev main_v270 : Ref sig .tc := ⟨.hbm, 358, rfl⟩
abbrev main_v271 : Ref sig .tc := ⟨.hbm, 359, rfl⟩
abbrev main_v272 : Ref sig .tc := ⟨.hbm, 360, rfl⟩
abbrev main_v273 : Ref sig .tc := ⟨.hbm, 361, rfl⟩
abbrev main_cst_61 : Ref sig .tc := ⟨.hbm, 362, rfl⟩
abbrev main_v274 : Ref sig .tc := ⟨.hbm, 363, rfl⟩
abbrev main_v275 : Ref sig .tc := ⟨.hbm, 364, rfl⟩
abbrev main_v276 : Ref sig .tc := ⟨.hbm, 365, rfl⟩
abbrev main_v277 : Ref sig .tc := ⟨.hbm, 366, rfl⟩
abbrev main_v278 : Ref sig .tc := ⟨.hbm, 367, rfl⟩
abbrev main_v279 : Ref sig .tc := ⟨.hbm, 368, rfl⟩
abbrev main_c_62 : Ref sig .tc := ⟨.hbm, 369, rfl⟩
abbrev main_v280 : Ref sig .tc := ⟨.hbm, 370, rfl⟩
abbrev main_v281 : Ref sig .tc := ⟨.hbm, 371, rfl⟩
abbrev main_v282 : Ref sig .tc := ⟨.hbm, 372, rfl⟩
abbrev main_v283 : Ref sig .tc := ⟨.hbm, 373, rfl⟩
abbrev main_c_63 : Ref sig .tc := ⟨.hbm, 374, rfl⟩
abbrev main_v284 : Ref sig .tc := ⟨.hbm, 375, rfl⟩
abbrev main_v285 : Ref sig .tc := ⟨.hbm, 376, rfl⟩
abbrev main_c_64 : Ref sig .tc := ⟨.hbm, 377, rfl⟩
abbrev main_v286 : Ref sig .tc := ⟨.hbm, 378, rfl⟩
abbrev main_v287 : Ref sig .tc := ⟨.hbm, 379, rfl⟩
abbrev main_v288 : Ref sig .tc := ⟨.hbm, 380, rfl⟩
abbrev main_v289 : Ref sig .tc := ⟨.hbm, 381, rfl⟩
abbrev main_v290 : Ref sig .tc := ⟨.hbm, 382, rfl⟩
abbrev main_c_65 : Ref sig .tc := ⟨.hbm, 383, rfl⟩
abbrev main_v291 : Ref sig .tc := ⟨.hbm, 384, rfl⟩
abbrev main_v292 : Ref sig .tc := ⟨.hbm, 385, rfl⟩
abbrev main_c_66 : Ref sig .tc := ⟨.hbm, 386, rfl⟩
abbrev main_v293 : Ref sig .tc := ⟨.hbm, 387, rfl⟩
abbrev main_v294 : Ref sig .tc := ⟨.hbm, 388, rfl⟩
abbrev main_v295 : Ref sig .tc := ⟨.hbm, 389, rfl⟩
abbrev main_c_67 : Ref sig .tc := ⟨.hbm, 390, rfl⟩
abbrev main_v296 : Ref sig .tc := ⟨.hbm, 391, rfl⟩
abbrev main_v297 : Ref sig .tc := ⟨.hbm, 392, rfl⟩
abbrev main_v298 : Ref sig .tc := ⟨.hbm, 393, rfl⟩
abbrev main_v299 : Ref sig .tc := ⟨.hbm, 394, rfl⟩
abbrev main_v300 : Ref sig .tc := ⟨.hbm, 395, rfl⟩
abbrev main_c_68 : Ref sig .tc := ⟨.hbm, 396, rfl⟩
abbrev main_v301 : Ref sig .tc := ⟨.hbm, 397, rfl⟩
abbrev main_v302 : Ref sig .tc := ⟨.hbm, 398, rfl⟩
abbrev main_c_69 : Ref sig .tc := ⟨.hbm, 399, rfl⟩
abbrev main_v303 : Ref sig .tc := ⟨.hbm, 400, rfl⟩
abbrev main_v304 : Ref sig .tc := ⟨.hbm, 401, rfl⟩
abbrev main_v305 : Ref sig .tc := ⟨.hbm, 402, rfl⟩
abbrev main_v306 : Ref sig .tc := ⟨.hbm, 403, rfl⟩
abbrev main_v307 : Ref sig .tc := ⟨.hbm, 404, rfl⟩
abbrev main_v308 : Ref sig .tc := ⟨.hbm, 405, rfl⟩
abbrev main_v309 : Ref sig .tc := ⟨.hbm, 406, rfl⟩
abbrev main_v310 : Ref sig .tc := ⟨.hbm, 407, rfl⟩
abbrev main_v311 : Ref sig .tc := ⟨.hbm, 408, rfl⟩
abbrev main_v312 : Ref sig .tc := ⟨.hbm, 409, rfl⟩
abbrev main_v313 : Ref sig .tc := ⟨.hbm, 410, rfl⟩
abbrev main_v314 : Ref sig .tc := ⟨.hbm, 411, rfl⟩
abbrev main_v315 : Ref sig .tc := ⟨.hbm, 412, rfl⟩
abbrev main_v316 : Ref sig .tc := ⟨.hbm, 413, rfl⟩
abbrev main_v317 : Ref sig .tc := ⟨.hbm, 414, rfl⟩
abbrev main_c_70 : Ref sig .tc := ⟨.hbm, 415, rfl⟩
abbrev main_v318 : Ref sig .tc := ⟨.hbm, 416, rfl⟩
abbrev main_v319 : Ref sig .tc := ⟨.hbm, 417, rfl⟩
abbrev main_v320 : Ref sig .tc := ⟨.hbm, 418, rfl⟩
abbrev main_v321 : Ref sig .tc := ⟨.hbm, 419, rfl⟩
abbrev main_c_71 : Ref sig .tc := ⟨.hbm, 420, rfl⟩
abbrev main_v322 : Ref sig .tc := ⟨.hbm, 421, rfl⟩
abbrev main_v323 : Ref sig .tc := ⟨.hbm, 422, rfl⟩
abbrev main_c_72 : Ref sig .tc := ⟨.hbm, 423, rfl⟩
abbrev main_v324 : Ref sig .tc := ⟨.hbm, 424, rfl⟩
abbrev main_v325 : Ref sig .tc := ⟨.hbm, 425, rfl⟩
abbrev main_v326 : Ref sig .tc := ⟨.hbm, 426, rfl⟩
abbrev main_v327 : Ref sig .tc := ⟨.hbm, 427, rfl⟩
abbrev main_v328 : Ref sig .tc := ⟨.hbm, 428, rfl⟩
abbrev main_c_73 : Ref sig .tc := ⟨.hbm, 429, rfl⟩
abbrev main_v329 : Ref sig .tc := ⟨.hbm, 430, rfl⟩
abbrev main_v330 : Ref sig .tc := ⟨.hbm, 431, rfl⟩
abbrev main_c_74 : Ref sig .tc := ⟨.hbm, 432, rfl⟩
abbrev main_v331 : Ref sig .tc := ⟨.hbm, 433, rfl⟩
abbrev main_v332 : Ref sig .tc := ⟨.hbm, 434, rfl⟩
abbrev main_v333 : Ref sig .tc := ⟨.hbm, 435, rfl⟩
abbrev main_c_75 : Ref sig .tc := ⟨.hbm, 436, rfl⟩
abbrev main_v334 : Ref sig .tc := ⟨.hbm, 437, rfl⟩
abbrev main_v335 : Ref sig .tc := ⟨.hbm, 438, rfl⟩
abbrev main_v336 : Ref sig .tc := ⟨.hbm, 439, rfl⟩
abbrev main_v337 : Ref sig .tc := ⟨.hbm, 440, rfl⟩
abbrev main_v338 : Ref sig .tc := ⟨.hbm, 441, rfl⟩
abbrev main_c_76 : Ref sig .tc := ⟨.hbm, 442, rfl⟩
abbrev main_v339 : Ref sig .tc := ⟨.hbm, 443, rfl⟩
abbrev main_v340 : Ref sig .tc := ⟨.hbm, 444, rfl⟩
abbrev main_c_77 : Ref sig .tc := ⟨.hbm, 445, rfl⟩
abbrev main_v341 : Ref sig .tc := ⟨.hbm, 446, rfl⟩
abbrev main_v342 : Ref sig .tc := ⟨.hbm, 447, rfl⟩
abbrev main_v343 : Ref sig .tc := ⟨.hbm, 448, rfl⟩
abbrev main_v344 : Ref sig .tc := ⟨.hbm, 449, rfl⟩
abbrev main_v345 : Ref sig .tc := ⟨.hbm, 450, rfl⟩
abbrev main_v346 : Ref sig .tc := ⟨.hbm, 451, rfl⟩
abbrev main_v347 : Ref sig .tc := ⟨.hbm, 452, rfl⟩
abbrev main_cst_78 : Ref sig .tc := ⟨.hbm, 453, rfl⟩
abbrev main_v348 : Ref sig .tc := ⟨.hbm, 454, rfl⟩
abbrev main_c_79 : Ref sig .tc := ⟨.hbm, 455, rfl⟩
abbrev main_v349 : Ref sig .tc := ⟨.hbm, 456, rfl⟩
abbrev main_v350 : Ref sig .tc := ⟨.hbm, 457, rfl⟩
abbrev main_c_80 : Ref sig .tc := ⟨.hbm, 458, rfl⟩
abbrev main_v351 : Ref sig .tc := ⟨.hbm, 459, rfl⟩
abbrev main_v352 : Ref sig .tc := ⟨.hbm, 460, rfl⟩
abbrev main_v353 : Ref sig .tc := ⟨.hbm, 461, rfl⟩
abbrev main_v354 : Ref sig .tc := ⟨.hbm, 462, rfl⟩
abbrev main_cst_81 : Ref sig .tc := ⟨.hbm, 463, rfl⟩
abbrev main_v355 : Ref sig .tc := ⟨.hbm, 464, rfl⟩
abbrev main_v356 : Ref sig .tc := ⟨.hbm, 465, rfl⟩
abbrev main_cst_82 : Ref sig .tc := ⟨.hbm, 466, rfl⟩
abbrev main_call0_v0 : Ref sig .tc := ⟨.hbm, 467, rfl⟩
abbrev main_call0_v1 : Ref sig .tc := ⟨.hbm, 468, rfl⟩
abbrev main_v357 : Ref sig .tc := ⟨.hbm, 469, rfl⟩
abbrev main_v358 : Ref sig .tc := ⟨.hbm, 470, rfl⟩
abbrev main_v359 : Ref sig .tc := ⟨.hbm, 471, rfl⟩
abbrev main_v360 : Ref sig .tc := ⟨.hbm, 472, rfl⟩
abbrev main_v361 : Ref sig .tc := ⟨.hbm, 473, rfl⟩
abbrev main_v362 : Ref sig .tc := ⟨.hbm, 474, rfl⟩
abbrev main_v363 : Ref sig .tc := ⟨.hbm, 475, rfl⟩
abbrev main_v364 : Ref sig .tc := ⟨.hbm, 476, rfl⟩
abbrev main_v365 : Ref sig .tc := ⟨.hbm, 477, rfl⟩
abbrev main_call1_cst : Ref sig .tc := ⟨.hbm, 478, rfl⟩
abbrev main_call1_v0 : Ref sig .tc := ⟨.hbm, 479, rfl⟩
abbrev main_call1_v1 : Ref sig .tc := ⟨.hbm, 480, rfl⟩
abbrev main_call1_cst_0 : Ref sig .tc := ⟨.hbm, 481, rfl⟩
abbrev main_call1_v2 : Ref sig .tc := ⟨.hbm, 482, rfl⟩
abbrev main_call1_v3 : Ref sig .tc := ⟨.hbm, 483, rfl⟩
abbrev main_call1_cst_1 : Ref sig .tc := ⟨.hbm, 484, rfl⟩
abbrev main_call1_call0_v0 : Ref sig .tc := ⟨.hbm, 485, rfl⟩
abbrev main_call1_call0_v1 : Ref sig .tc := ⟨.hbm, 486, rfl⟩
abbrev main_call1_v4 : Ref sig .tc := ⟨.hbm, 487, rfl⟩
abbrev main_call1_v5 : Ref sig .tc := ⟨.hbm, 488, rfl⟩
abbrev main_call1_cst_2 : Ref sig .tc := ⟨.hbm, 489, rfl⟩
abbrev main_call1_v6 : Ref sig .tc := ⟨.hbm, 490, rfl⟩
abbrev main_call1_v7 : Ref sig .tc := ⟨.hbm, 491, rfl⟩
abbrev main_v366 : Ref sig .tc := ⟨.hbm, 492, rfl⟩
abbrev main_cst_83 : Ref sig .tc := ⟨.hbm, 493, rfl⟩
abbrev main_v367 : Ref sig .tc := ⟨.hbm, 494, rfl⟩
abbrev main_v368 : Ref sig .tc := ⟨.hbm, 495, rfl⟩
abbrev main_v369 : Ref sig .tc := ⟨.hbm, 496, rfl⟩
abbrev main_v370 : Ref sig .tc := ⟨.hbm, 497, rfl⟩
abbrev main_v371 : Ref sig .tc := ⟨.hbm, 498, rfl⟩
abbrev main_v372 : Ref sig .tc := ⟨.hbm, 499, rfl⟩
abbrev main_c_84 : Ref sig .tc := ⟨.hbm, 500, rfl⟩
abbrev main_v373 : Ref sig .tc := ⟨.hbm, 501, rfl⟩
abbrev main_v374 : Ref sig .tc := ⟨.hbm, 502, rfl⟩
abbrev main_c_85 : Ref sig .tc := ⟨.hbm, 503, rfl⟩
abbrev main_v375 : Ref sig .tc := ⟨.hbm, 504, rfl⟩
abbrev main_v376 : Ref sig .tc := ⟨.hbm, 505, rfl⟩
abbrev main_v377 : Ref sig .tc := ⟨.hbm, 506, rfl⟩
abbrev main_v378 : Ref sig .tc := ⟨.hbm, 507, rfl⟩
abbrev main_v379 : Ref sig .tc := ⟨.hbm, 508, rfl⟩
abbrev main_cst_86 : Ref sig .tc := ⟨.hbm, 509, rfl⟩
abbrev main_v380 : Ref sig .tc := ⟨.hbm, 510, rfl⟩
abbrev main_v381 : Ref sig .tc := ⟨.hbm, 511, rfl⟩
abbrev main_v382 : Ref sig .tc := ⟨.hbm, 512, rfl⟩
abbrev main_cst_87 : Ref sig .tc := ⟨.hbm, 513, rfl⟩
abbrev main_v383 : Ref sig .tc := ⟨.hbm, 514, rfl⟩
abbrev main_v384 : Ref sig .tc := ⟨.hbm, 515, rfl⟩
abbrev main_v385 : Ref sig .tc := ⟨.hbm, 516, rfl⟩
abbrev main_v386 : Ref sig .tc := ⟨.hbm, 517, rfl⟩
abbrev main_cst_88 : Ref sig .tc := ⟨.hbm, 518, rfl⟩
abbrev main_v387 : Ref sig .tc := ⟨.hbm, 519, rfl⟩
abbrev main_v388 : Ref sig .tc := ⟨.hbm, 520, rfl⟩
abbrev main_v389 : Ref sig .tc := ⟨.hbm, 521, rfl⟩
abbrev main_v390 : Ref sig .tc := ⟨.hbm, 522, rfl⟩
abbrev main_cst_89 : Ref sig .tc := ⟨.hbm, 523, rfl⟩
abbrev main_v391 : Ref sig .tc := ⟨.hbm, 524, rfl⟩
abbrev main_v392 : Ref sig .tc := ⟨.hbm, 525, rfl⟩
abbrev main_v393 : Ref sig .tc := ⟨.hbm, 526, rfl⟩
abbrev main_v394 : Ref sig .tc := ⟨.hbm, 527, rfl⟩
abbrev main_v395 : Ref sig .tc := ⟨.hbm, 528, rfl⟩
abbrev main_v396 : Ref sig .tc := ⟨.hbm, 529, rfl⟩
abbrev main_c_90 : Ref sig .tc := ⟨.hbm, 530, rfl⟩
abbrev main_v397 : Ref sig .tc := ⟨.hbm, 531, rfl⟩
abbrev main_v398 : Ref sig .tc := ⟨.hbm, 532, rfl⟩
abbrev main_v399 : Ref sig .tc := ⟨.hbm, 533, rfl⟩
abbrev main_v400 : Ref sig .tc := ⟨.hbm, 534, rfl⟩
abbrev main_c_91 : Ref sig .tc := ⟨.hbm, 535, rfl⟩
abbrev main_v401 : Ref sig .tc := ⟨.hbm, 536, rfl⟩
abbrev main_v402 : Ref sig .tc := ⟨.hbm, 537, rfl⟩
abbrev main_c_92 : Ref sig .tc := ⟨.hbm, 538, rfl⟩
abbrev main_v403 : Ref sig .tc := ⟨.hbm, 539, rfl⟩
abbrev main_v404 : Ref sig .tc := ⟨.hbm, 540, rfl⟩
abbrev main_v405 : Ref sig .tc := ⟨.hbm, 541, rfl⟩
abbrev main_v406 : Ref sig .tc := ⟨.hbm, 542, rfl⟩
abbrev main_v407 : Ref sig .tc := ⟨.hbm, 543, rfl⟩
abbrev main_c_93 : Ref sig .tc := ⟨.hbm, 544, rfl⟩
abbrev main_v408 : Ref sig .tc := ⟨.hbm, 545, rfl⟩
abbrev main_v409 : Ref sig .tc := ⟨.hbm, 546, rfl⟩
abbrev main_c_94 : Ref sig .tc := ⟨.hbm, 547, rfl⟩
abbrev main_v410 : Ref sig .tc := ⟨.hbm, 548, rfl⟩
abbrev main_v411 : Ref sig .tc := ⟨.hbm, 549, rfl⟩
abbrev main_v412 : Ref sig .tc := ⟨.hbm, 550, rfl⟩
abbrev main_c_95 : Ref sig .tc := ⟨.hbm, 551, rfl⟩
abbrev main_v413 : Ref sig .tc := ⟨.hbm, 552, rfl⟩
abbrev main_v414 : Ref sig .tc := ⟨.hbm, 553, rfl⟩
abbrev main_v415 : Ref sig .tc := ⟨.hbm, 554, rfl⟩
abbrev main_v416 : Ref sig .tc := ⟨.hbm, 555, rfl⟩
abbrev main_v417 : Ref sig .tc := ⟨.hbm, 556, rfl⟩
abbrev main_v418 : Ref sig .tc := ⟨.hbm, 557, rfl⟩
abbrev main_c_96 : Ref sig .tc := ⟨.hbm, 558, rfl⟩
abbrev main_v419 : Ref sig .tc := ⟨.hbm, 559, rfl⟩
abbrev main_v420 : Ref sig .tc := ⟨.hbm, 560, rfl⟩
abbrev main_c_97 : Ref sig .tc := ⟨.hbm, 561, rfl⟩
abbrev main_v421 : Ref sig .tc := ⟨.hbm, 562, rfl⟩
abbrev main_v422 : Ref sig .tc := ⟨.hbm, 563, rfl⟩
abbrev main_v423 : Ref sig .tc := ⟨.hbm, 564, rfl⟩
abbrev main_v424 : Ref sig .tc := ⟨.hbm, 565, rfl⟩
abbrev main_v425 : Ref sig .tc := ⟨.hbm, 566, rfl⟩
abbrev main_v426 : Ref sig .tc := ⟨.hbm, 567, rfl⟩
abbrev main_v427 : Ref sig .tc := ⟨.hbm, 568, rfl⟩
abbrev main_cst_98 : Ref sig .tc := ⟨.hbm, 569, rfl⟩
abbrev main_v428 : Ref sig .tc := ⟨.hbm, 570, rfl⟩
abbrev main_v429 : Ref sig .tc := ⟨.hbm, 571, rfl⟩
abbrev main_v430 : Ref sig .tc := ⟨.hbm, 572, rfl⟩
abbrev main_v431 : Ref sig .tc := ⟨.hbm, 573, rfl⟩
abbrev main_cst_99 : Ref sig .tc := ⟨.hbm, 574, rfl⟩
abbrev main_v432 : Ref sig .tc := ⟨.hbm, 575, rfl⟩
abbrev main_v433 : Ref sig .tc := ⟨.hbm, 576, rfl⟩
abbrev main_v434 : Ref sig .tc := ⟨.hbm, 577, rfl⟩
abbrev main_v435 : Ref sig .tc := ⟨.hbm, 578, rfl⟩
abbrev main_v436 : Ref sig .tc := ⟨.hbm, 579, rfl⟩
abbrev main_v437 : Ref sig .tc := ⟨.hbm, 580, rfl⟩
abbrev main_v438 : Ref sig .tc := ⟨.hbm, 581, rfl⟩
abbrev main_v439 : Ref sig .tc := ⟨.hbm, 582, rfl⟩
abbrev main_c_100 : Ref sig .tc := ⟨.hbm, 583, rfl⟩
abbrev main_v440 : Ref sig .tc := ⟨.hbm, 584, rfl⟩
abbrev main_v441 : Ref sig .tc := ⟨.hbm, 585, rfl⟩
abbrev main_v442 : Ref sig .tc := ⟨.hbm, 586, rfl⟩
abbrev main_v443 : Ref sig .tc := ⟨.hbm, 587, rfl⟩
abbrev main_c_101 : Ref sig .tc := ⟨.hbm, 588, rfl⟩
abbrev main_v444 : Ref sig .tc := ⟨.hbm, 589, rfl⟩
abbrev main_v445 : Ref sig .tc := ⟨.hbm, 590, rfl⟩
abbrev main_c_102 : Ref sig .tc := ⟨.hbm, 591, rfl⟩
abbrev main_v446 : Ref sig .tc := ⟨.hbm, 592, rfl⟩
abbrev main_v447 : Ref sig .tc := ⟨.hbm, 593, rfl⟩
abbrev main_v448 : Ref sig .tc := ⟨.hbm, 594, rfl⟩
abbrev main_v449 : Ref sig .tc := ⟨.hbm, 595, rfl⟩
abbrev main_v450 : Ref sig .tc := ⟨.hbm, 596, rfl⟩
abbrev main_c_103 : Ref sig .tc := ⟨.hbm, 597, rfl⟩
abbrev main_v451 : Ref sig .tc := ⟨.hbm, 598, rfl⟩
abbrev main_v452 : Ref sig .tc := ⟨.hbm, 599, rfl⟩
abbrev main_c_104 : Ref sig .tc := ⟨.hbm, 600, rfl⟩
abbrev main_v453 : Ref sig .tc := ⟨.hbm, 601, rfl⟩
abbrev main_v454 : Ref sig .tc := ⟨.hbm, 602, rfl⟩
abbrev main_v455 : Ref sig .tc := ⟨.hbm, 603, rfl⟩
abbrev main_c_105 : Ref sig .tc := ⟨.hbm, 604, rfl⟩
abbrev main_v456 : Ref sig .tc := ⟨.hbm, 605, rfl⟩
abbrev main_v457 : Ref sig .tc := ⟨.hbm, 606, rfl⟩
abbrev main_v458 : Ref sig .tc := ⟨.hbm, 607, rfl⟩
abbrev main_v459 : Ref sig .tc := ⟨.hbm, 608, rfl⟩
abbrev main_v460 : Ref sig .tc := ⟨.hbm, 609, rfl⟩
abbrev main_v461 : Ref sig .tc := ⟨.hbm, 610, rfl⟩
abbrev main_c_106 : Ref sig .tc := ⟨.hbm, 611, rfl⟩
abbrev main_v462 : Ref sig .tc := ⟨.hbm, 612, rfl⟩
abbrev main_v463 : Ref sig .tc := ⟨.hbm, 613, rfl⟩
abbrev main_c_107 : Ref sig .tc := ⟨.hbm, 614, rfl⟩
abbrev main_v464 : Ref sig .tc := ⟨.hbm, 615, rfl⟩
abbrev main_v465 : Ref sig .tc := ⟨.hbm, 616, rfl⟩
abbrev main_v466 : Ref sig .tc := ⟨.hbm, 617, rfl⟩
abbrev main_v467 : Ref sig .tc := ⟨.hbm, 618, rfl⟩
abbrev main_v468 : Ref sig .tc := ⟨.hbm, 619, rfl⟩
abbrev main_v469 : Ref sig .tc := ⟨.hbm, 620, rfl⟩
abbrev main_v470 : Ref sig .tc := ⟨.hbm, 621, rfl⟩
abbrev main_cst_108 : Ref sig .tc := ⟨.hbm, 622, rfl⟩
abbrev main_v471 : Ref sig .tc := ⟨.hbm, 623, rfl⟩
abbrev main_v472 : Ref sig .tc := ⟨.hbm, 624, rfl⟩
abbrev main_v473 : Ref sig .tc := ⟨.hbm, 625, rfl⟩
abbrev main_v474 : Ref sig .tc := ⟨.hbm, 626, rfl⟩
abbrev main_v475 : Ref sig .tc := ⟨.hbm, 627, rfl⟩
abbrev main_v476 : Ref sig .tc := ⟨.hbm, 628, rfl⟩
abbrev main_cst_109 : Ref sig .tc := ⟨.hbm, 629, rfl⟩
abbrev main_v477 : Ref sig .tc := ⟨.hbm, 630, rfl⟩
abbrev main_v478 : Ref sig .tc := ⟨.hbm, 631, rfl⟩
abbrev main_v479 : Ref sig .tc := ⟨.hbm, 632, rfl⟩
abbrev main_v480 : Ref sig .tc := ⟨.hbm, 633, rfl⟩
abbrev main_v481 : Ref sig .tc := ⟨.hbm, 634, rfl⟩
abbrev main_v482 : Ref sig .tc := ⟨.hbm, 635, rfl⟩
abbrev main_c_110 : Ref sig .tc := ⟨.hbm, 636, rfl⟩
abbrev main_v483 : Ref sig .tc := ⟨.hbm, 637, rfl⟩
abbrev main_v484 : Ref sig .tc := ⟨.hbm, 638, rfl⟩
abbrev main_v485 : Ref sig .tc := ⟨.hbm, 639, rfl⟩
abbrev main_v486 : Ref sig .tc := ⟨.hbm, 640, rfl⟩
abbrev main_c_111 : Ref sig .tc := ⟨.hbm, 641, rfl⟩
abbrev main_v487 : Ref sig .tc := ⟨.hbm, 642, rfl⟩
abbrev main_v488 : Ref sig .tc := ⟨.hbm, 643, rfl⟩
abbrev main_c_112 : Ref sig .tc := ⟨.hbm, 644, rfl⟩
abbrev main_v489 : Ref sig .tc := ⟨.hbm, 645, rfl⟩
abbrev main_v490 : Ref sig .tc := ⟨.hbm, 646, rfl⟩
abbrev main_v491 : Ref sig .tc := ⟨.hbm, 647, rfl⟩
abbrev main_v492 : Ref sig .tc := ⟨.hbm, 648, rfl⟩
abbrev main_v493 : Ref sig .tc := ⟨.hbm, 649, rfl⟩
abbrev main_c_113 : Ref sig .tc := ⟨.hbm, 650, rfl⟩
abbrev main_v494 : Ref sig .tc := ⟨.hbm, 651, rfl⟩
abbrev main_v495 : Ref sig .tc := ⟨.hbm, 652, rfl⟩
abbrev main_c_114 : Ref sig .tc := ⟨.hbm, 653, rfl⟩
abbrev main_v496 : Ref sig .tc := ⟨.hbm, 654, rfl⟩
abbrev main_v497 : Ref sig .tc := ⟨.hbm, 655, rfl⟩
abbrev main_v498 : Ref sig .tc := ⟨.hbm, 656, rfl⟩
abbrev main_c_115 : Ref sig .tc := ⟨.hbm, 657, rfl⟩
abbrev main_v499 : Ref sig .tc := ⟨.hbm, 658, rfl⟩
abbrev main_v500 : Ref sig .tc := ⟨.hbm, 659, rfl⟩
abbrev main_v501 : Ref sig .tc := ⟨.hbm, 660, rfl⟩
abbrev main_v502 : Ref sig .tc := ⟨.hbm, 661, rfl⟩
abbrev main_v503 : Ref sig .tc := ⟨.hbm, 662, rfl⟩
abbrev main_v504 : Ref sig .tc := ⟨.hbm, 663, rfl⟩
abbrev main_c_116 : Ref sig .tc := ⟨.hbm, 664, rfl⟩
abbrev main_v505 : Ref sig .tc := ⟨.hbm, 665, rfl⟩
abbrev main_v506 : Ref sig .tc := ⟨.hbm, 666, rfl⟩
abbrev main_c_117 : Ref sig .tc := ⟨.hbm, 667, rfl⟩
abbrev main_v507 : Ref sig .tc := ⟨.hbm, 668, rfl⟩
abbrev main_v508 : Ref sig .tc := ⟨.hbm, 669, rfl⟩
abbrev main_v509 : Ref sig .tc := ⟨.hbm, 670, rfl⟩
abbrev main_v510 : Ref sig .tc := ⟨.hbm, 671, rfl⟩
abbrev main_v511 : Ref sig .tc := ⟨.hbm, 672, rfl⟩
abbrev main_v512 : Ref sig .tc := ⟨.hbm, 673, rfl⟩
abbrev main_v513 : Ref sig .tc := ⟨.hbm, 674, rfl⟩
abbrev main_cst_118 : Ref sig .tc := ⟨.hbm, 675, rfl⟩
abbrev main_v514 : Ref sig .tc := ⟨.hbm, 676, rfl⟩
abbrev main_v515 : Ref sig .tc := ⟨.hbm, 677, rfl⟩
abbrev main_v516 : Ref sig .tc := ⟨.hbm, 678, rfl⟩
abbrev main_v517 : Ref sig .tc := ⟨.hbm, 679, rfl⟩
abbrev main_v518 : Ref sig .tc := ⟨.hbm, 680, rfl⟩
abbrev main_v519 : Ref sig .tc := ⟨.hbm, 681, rfl⟩
abbrev main_v520 : Ref sig .tc := ⟨.hbm, 682, rfl⟩
abbrev main_v521 : Ref sig .tc := ⟨.hbm, 683, rfl⟩
abbrev main_v522 : Ref sig .tc := ⟨.hbm, 684, rfl⟩
abbrev main_v523 : Ref sig .tc := ⟨.hbm, 685, rfl⟩
abbrev main_c_119 : Ref sig .tc := ⟨.hbm, 686, rfl⟩
abbrev main_v524 : Ref sig .tc := ⟨.hbm, 687, rfl⟩
abbrev main_v525 : Ref sig .tc := ⟨.hbm, 688, rfl⟩
abbrev main_v526 : Ref sig .tc := ⟨.hbm, 689, rfl⟩
abbrev main_v527 : Ref sig .tc := ⟨.hbm, 690, rfl⟩
abbrev main_c_120 : Ref sig .tc := ⟨.hbm, 691, rfl⟩
abbrev main_v528 : Ref sig .tc := ⟨.hbm, 692, rfl⟩
abbrev main_v529 : Ref sig .tc := ⟨.hbm, 693, rfl⟩
abbrev main_c_121 : Ref sig .tc := ⟨.hbm, 694, rfl⟩
abbrev main_v530 : Ref sig .tc := ⟨.hbm, 695, rfl⟩
abbrev main_v531 : Ref sig .tc := ⟨.hbm, 696, rfl⟩
abbrev main_v532 : Ref sig .tc := ⟨.hbm, 697, rfl⟩
abbrev main_v533 : Ref sig .tc := ⟨.hbm, 698, rfl⟩
abbrev main_v534 : Ref sig .tc := ⟨.hbm, 699, rfl⟩
abbrev main_c_122 : Ref sig .tc := ⟨.hbm, 700, rfl⟩
abbrev main_v535 : Ref sig .tc := ⟨.hbm, 701, rfl⟩
abbrev main_v536 : Ref sig .tc := ⟨.hbm, 702, rfl⟩
abbrev main_c_123 : Ref sig .tc := ⟨.hbm, 703, rfl⟩
abbrev main_v537 : Ref sig .tc := ⟨.hbm, 704, rfl⟩
abbrev main_v538 : Ref sig .tc := ⟨.hbm, 705, rfl⟩
abbrev main_v539 : Ref sig .tc := ⟨.hbm, 706, rfl⟩
abbrev main_c_124 : Ref sig .tc := ⟨.hbm, 707, rfl⟩
abbrev main_v540 : Ref sig .tc := ⟨.hbm, 708, rfl⟩
abbrev main_v541 : Ref sig .tc := ⟨.hbm, 709, rfl⟩
abbrev main_v542 : Ref sig .tc := ⟨.hbm, 710, rfl⟩
abbrev main_v543 : Ref sig .tc := ⟨.hbm, 711, rfl⟩
abbrev main_v544 : Ref sig .tc := ⟨.hbm, 712, rfl⟩
abbrev main_v545 : Ref sig .tc := ⟨.hbm, 713, rfl⟩
abbrev main_c_125 : Ref sig .tc := ⟨.hbm, 714, rfl⟩
abbrev main_v546 : Ref sig .tc := ⟨.hbm, 715, rfl⟩
abbrev main_v547 : Ref sig .tc := ⟨.hbm, 716, rfl⟩
abbrev main_c_126 : Ref sig .tc := ⟨.hbm, 717, rfl⟩
abbrev main_v548 : Ref sig .tc := ⟨.hbm, 718, rfl⟩
abbrev main_v549 : Ref sig .tc := ⟨.hbm, 719, rfl⟩
abbrev main_v550 : Ref sig .tc := ⟨.hbm, 720, rfl⟩
abbrev main_v551 : Ref sig .tc := ⟨.hbm, 721, rfl⟩
abbrev main_v552 : Ref sig .tc := ⟨.hbm, 722, rfl⟩
abbrev main_v553 : Ref sig .tc := ⟨.hbm, 723, rfl⟩
abbrev main_v554 : Ref sig .tc := ⟨.hbm, 724, rfl⟩
abbrev main_v555 : Ref sig .tc := ⟨.hbm, 725, rfl⟩
abbrev main_v556 : Ref sig .tc := ⟨.hbm, 726, rfl⟩
abbrev main_cst_127 : Ref sig .tc := ⟨.hbm, 727, rfl⟩
abbrev main_v557 : Ref sig .tc := ⟨.hbm, 728, rfl⟩
abbrev main_v558 : Ref sig .tc := ⟨.hbm, 729, rfl⟩
abbrev main_v559 : Ref sig .tc := ⟨.hbm, 730, rfl⟩
abbrev main_v560 : Ref sig .tc := ⟨.hbm, 731, rfl⟩
abbrev main_cst_128 : Ref sig .tc := ⟨.hbm, 732, rfl⟩
abbrev main_v561 : Ref sig .tc := ⟨.hbm, 733, rfl⟩
abbrev main_v562 : Ref sig .tc := ⟨.hbm, 734, rfl⟩
abbrev main_v563 : Ref sig .tc := ⟨.hbm, 735, rfl⟩
abbrev main_v564 : Ref sig .tc := ⟨.hbm, 736, rfl⟩
abbrev main_v565 : Ref sig .tc := ⟨.hbm, 737, rfl⟩
abbrev main_v566 : Ref sig .tc := ⟨.hbm, 738, rfl⟩
abbrev main_c_129 : Ref sig .tc := ⟨.hbm, 739, rfl⟩
abbrev main_v567 : Ref sig .tc := ⟨.hbm, 740, rfl⟩
abbrev main_v568 : Ref sig .tc := ⟨.hbm, 741, rfl⟩
abbrev main_v569 : Ref sig .tc := ⟨.hbm, 742, rfl⟩
abbrev main_v570 : Ref sig .tc := ⟨.hbm, 743, rfl⟩
abbrev main_c_130 : Ref sig .tc := ⟨.hbm, 744, rfl⟩
abbrev main_v571 : Ref sig .tc := ⟨.hbm, 745, rfl⟩
abbrev main_v572 : Ref sig .tc := ⟨.hbm, 746, rfl⟩
abbrev main_c_131 : Ref sig .tc := ⟨.hbm, 747, rfl⟩
abbrev main_v573 : Ref sig .tc := ⟨.hbm, 748, rfl⟩
abbrev main_v574 : Ref sig .tc := ⟨.hbm, 749, rfl⟩
abbrev main_v575 : Ref sig .tc := ⟨.hbm, 750, rfl⟩
abbrev main_v576 : Ref sig .tc := ⟨.hbm, 751, rfl⟩
abbrev main_v577 : Ref sig .tc := ⟨.hbm, 752, rfl⟩
abbrev main_c_132 : Ref sig .tc := ⟨.hbm, 753, rfl⟩
abbrev main_v578 : Ref sig .tc := ⟨.hbm, 754, rfl⟩
abbrev main_v579 : Ref sig .tc := ⟨.hbm, 755, rfl⟩
abbrev main_c_133 : Ref sig .tc := ⟨.hbm, 756, rfl⟩
abbrev main_v580 : Ref sig .tc := ⟨.hbm, 757, rfl⟩
abbrev main_v581 : Ref sig .tc := ⟨.hbm, 758, rfl⟩
abbrev main_v582 : Ref sig .tc := ⟨.hbm, 759, rfl⟩
abbrev main_c_134 : Ref sig .tc := ⟨.hbm, 760, rfl⟩
abbrev main_v583 : Ref sig .tc := ⟨.hbm, 761, rfl⟩
abbrev main_v584 : Ref sig .tc := ⟨.hbm, 762, rfl⟩
abbrev main_v585 : Ref sig .tc := ⟨.hbm, 763, rfl⟩
abbrev main_v586 : Ref sig .tc := ⟨.hbm, 764, rfl⟩
abbrev main_v587 : Ref sig .tc := ⟨.hbm, 765, rfl⟩
abbrev main_v588 : Ref sig .tc := ⟨.hbm, 766, rfl⟩
abbrev main_c_135 : Ref sig .tc := ⟨.hbm, 767, rfl⟩
abbrev main_v589 : Ref sig .tc := ⟨.hbm, 768, rfl⟩
abbrev main_v590 : Ref sig .tc := ⟨.hbm, 769, rfl⟩
abbrev main_c_136 : Ref sig .tc := ⟨.hbm, 770, rfl⟩
abbrev main_v591 : Ref sig .tc := ⟨.hbm, 771, rfl⟩
abbrev main_v592 : Ref sig .tc := ⟨.hbm, 772, rfl⟩
abbrev main_v593 : Ref sig .tc := ⟨.hbm, 773, rfl⟩
abbrev main_v594 : Ref sig .tc := ⟨.hbm, 774, rfl⟩
abbrev main_v595 : Ref sig .tc := ⟨.hbm, 775, rfl⟩
abbrev main_v596 : Ref sig .tc := ⟨.hbm, 776, rfl⟩
abbrev main_v597 : Ref sig .tc := ⟨.hbm, 777, rfl⟩
abbrev main_v598 : Ref sig .tc := ⟨.hbm, 778, rfl⟩
abbrev main_v599 : Ref sig .tc := ⟨.hbm, 779, rfl⟩
abbrev main_cst_137 : Ref sig .tc := ⟨.hbm, 780, rfl⟩
abbrev main_v600 : Ref sig .tc := ⟨.hbm, 781, rfl⟩
abbrev main_v601 : Ref sig .tc := ⟨.hbm, 782, rfl⟩
abbrev main_v602 : Ref sig .tc := ⟨.hbm, 783, rfl⟩
abbrev main_v603 : Ref sig .tc := ⟨.hbm, 784, rfl⟩
abbrev main_v604 : Ref sig .tc := ⟨.hbm, 785, rfl⟩
abbrev main_v605 : Ref sig .tc := ⟨.hbm, 786, rfl⟩
abbrev main_v606 : Ref sig .tc := ⟨.hbm, 787, rfl⟩
abbrev main_v607 : Ref sig .tc := ⟨.hbm, 788, rfl⟩
abbrev main_c_138 : Ref sig .tc := ⟨.hbm, 789, rfl⟩
abbrev main_v608 : Ref sig .tc := ⟨.hbm, 790, rfl⟩
abbrev main_v609 : Ref sig .tc := ⟨.hbm, 791, rfl⟩
abbrev main_v610 : Ref sig .tc := ⟨.hbm, 792, rfl⟩
abbrev main_v611 : Ref sig .tc := ⟨.hbm, 793, rfl⟩
abbrev main_c_139 : Ref sig .tc := ⟨.hbm, 794, rfl⟩
abbrev main_v612 : Ref sig .tc := ⟨.hbm, 795, rfl⟩
abbrev main_v613 : Ref sig .tc := ⟨.hbm, 796, rfl⟩
abbrev main_c_140 : Ref sig .tc := ⟨.hbm, 797, rfl⟩
abbrev main_v614 : Ref sig .tc := ⟨.hbm, 798, rfl⟩
abbrev main_v615 : Ref sig .tc := ⟨.hbm, 799, rfl⟩
abbrev main_v616 : Ref sig .tc := ⟨.hbm, 800, rfl⟩
abbrev main_v617 : Ref sig .tc := ⟨.hbm, 801, rfl⟩
abbrev main_v618 : Ref sig .tc := ⟨.hbm, 802, rfl⟩
abbrev main_c_141 : Ref sig .tc := ⟨.hbm, 803, rfl⟩
abbrev main_v619 : Ref sig .tc := ⟨.hbm, 804, rfl⟩
abbrev main_v620 : Ref sig .tc := ⟨.hbm, 805, rfl⟩
abbrev main_c_142 : Ref sig .tc := ⟨.hbm, 806, rfl⟩
abbrev main_v621 : Ref sig .tc := ⟨.hbm, 807, rfl⟩
abbrev main_v622 : Ref sig .tc := ⟨.hbm, 808, rfl⟩
abbrev main_v623 : Ref sig .tc := ⟨.hbm, 809, rfl⟩
abbrev main_c_143 : Ref sig .tc := ⟨.hbm, 810, rfl⟩
abbrev main_v624 : Ref sig .tc := ⟨.hbm, 811, rfl⟩
abbrev main_v625 : Ref sig .tc := ⟨.hbm, 812, rfl⟩
abbrev main_v626 : Ref sig .tc := ⟨.hbm, 813, rfl⟩
abbrev main_v627 : Ref sig .tc := ⟨.hbm, 814, rfl⟩
abbrev main_v628 : Ref sig .tc := ⟨.hbm, 815, rfl⟩
abbrev main_v629 : Ref sig .tc := ⟨.hbm, 816, rfl⟩
abbrev main_c_144 : Ref sig .tc := ⟨.hbm, 817, rfl⟩
abbrev main_v630 : Ref sig .tc := ⟨.hbm, 818, rfl⟩
abbrev main_v631 : Ref sig .tc := ⟨.hbm, 819, rfl⟩
abbrev main_c_145 : Ref sig .tc := ⟨.hbm, 820, rfl⟩
abbrev main_v632 : Ref sig .tc := ⟨.hbm, 821, rfl⟩
abbrev main_v633 : Ref sig .tc := ⟨.hbm, 822, rfl⟩
abbrev main_v634 : Ref sig .tc := ⟨.hbm, 823, rfl⟩
abbrev main_v635 : Ref sig .tc := ⟨.hbm, 824, rfl⟩
abbrev main_v636 : Ref sig .tc := ⟨.hbm, 825, rfl⟩
abbrev main_v637 : Ref sig .tc := ⟨.hbm, 826, rfl⟩
abbrev main_v638 : Ref sig .tc := ⟨.hbm, 827, rfl⟩
abbrev main_v639 : Ref sig .tc := ⟨.hbm, 828, rfl⟩
abbrev main_v640 : Ref sig .tc := ⟨.hbm, 829, rfl⟩
abbrev main_v641 : Ref sig .tc := ⟨.hbm, 830, rfl⟩
abbrev main_v642 : Ref sig .tc := ⟨.hbm, 831, rfl⟩
abbrev main_cst_146 : Ref sig .tc := ⟨.hbm, 832, rfl⟩
abbrev main_v643 : Ref sig .tc := ⟨.hbm, 833, rfl⟩
abbrev main_v644 : Ref sig .tc := ⟨.hbm, 834, rfl⟩
abbrev main_v645 : Ref sig .tc := ⟨.hbm, 835, rfl⟩
abbrev main_v646 : Ref sig .tc := ⟨.hbm, 836, rfl⟩
abbrev main_v647 : Ref sig .tc := ⟨.hbm, 837, rfl⟩
abbrev main_v648 : Ref sig .tc := ⟨.hbm, 838, rfl⟩
abbrev main_c_147 : Ref sig .tc := ⟨.hbm, 839, rfl⟩
abbrev main_v649 : Ref sig .tc := ⟨.hbm, 840, rfl⟩
abbrev main_v650 : Ref sig .tc := ⟨.hbm, 841, rfl⟩
abbrev main_v651 : Ref sig .tc := ⟨.hbm, 842, rfl⟩
abbrev main_v652 : Ref sig .tc := ⟨.hbm, 843, rfl⟩
abbrev main_c_148 : Ref sig .tc := ⟨.hbm, 844, rfl⟩
abbrev main_v653 : Ref sig .tc := ⟨.hbm, 845, rfl⟩
abbrev main_v654 : Ref sig .tc := ⟨.hbm, 846, rfl⟩
abbrev main_c_149 : Ref sig .tc := ⟨.hbm, 847, rfl⟩
abbrev main_v655 : Ref sig .tc := ⟨.hbm, 848, rfl⟩
abbrev main_v656 : Ref sig .tc := ⟨.hbm, 849, rfl⟩
abbrev main_v657 : Ref sig .tc := ⟨.hbm, 850, rfl⟩
abbrev main_v658 : Ref sig .tc := ⟨.hbm, 851, rfl⟩
abbrev main_v659 : Ref sig .tc := ⟨.hbm, 852, rfl⟩
abbrev main_c_150 : Ref sig .tc := ⟨.hbm, 853, rfl⟩
abbrev main_v660 : Ref sig .tc := ⟨.hbm, 854, rfl⟩
abbrev main_v661 : Ref sig .tc := ⟨.hbm, 855, rfl⟩
abbrev main_c_151 : Ref sig .tc := ⟨.hbm, 856, rfl⟩
abbrev main_v662 : Ref sig .tc := ⟨.hbm, 857, rfl⟩
abbrev main_v663 : Ref sig .tc := ⟨.hbm, 858, rfl⟩
abbrev main_v664 : Ref sig .tc := ⟨.hbm, 859, rfl⟩
abbrev main_c_152 : Ref sig .tc := ⟨.hbm, 860, rfl⟩
abbrev main_v665 : Ref sig .tc := ⟨.hbm, 861, rfl⟩
abbrev main_v666 : Ref sig .tc := ⟨.hbm, 862, rfl⟩
abbrev main_v667 : Ref sig .tc := ⟨.hbm, 863, rfl⟩
abbrev main_v668 : Ref sig .tc := ⟨.hbm, 864, rfl⟩
abbrev main_v669 : Ref sig .tc := ⟨.hbm, 865, rfl⟩
abbrev main_v670 : Ref sig .tc := ⟨.hbm, 866, rfl⟩
abbrev main_c_153 : Ref sig .tc := ⟨.hbm, 867, rfl⟩
abbrev main_v671 : Ref sig .tc := ⟨.hbm, 868, rfl⟩
abbrev main_v672 : Ref sig .tc := ⟨.hbm, 869, rfl⟩
abbrev main_c_154 : Ref sig .tc := ⟨.hbm, 870, rfl⟩
abbrev main_v673 : Ref sig .tc := ⟨.hbm, 871, rfl⟩
abbrev main_v674 : Ref sig .tc := ⟨.hbm, 872, rfl⟩
abbrev main_v675 : Ref sig .tc := ⟨.hbm, 873, rfl⟩
abbrev main_v676 : Ref sig .tc := ⟨.hbm, 874, rfl⟩
abbrev main_v677 : Ref sig .tc := ⟨.hbm, 875, rfl⟩
abbrev main_v678 : Ref sig .tc := ⟨.hbm, 876, rfl⟩
abbrev main_v679 : Ref sig .tc := ⟨.hbm, 877, rfl⟩
abbrev main_v680 : Ref sig .tc := ⟨.hbm, 878, rfl⟩
abbrev main_v681 : Ref sig .tc := ⟨.hbm, 879, rfl⟩
abbrev main_v682 : Ref sig .tc := ⟨.hbm, 880, rfl⟩
abbrev main_v683 : Ref sig .tc := ⟨.hbm, 881, rfl⟩
abbrev main_v684 : Ref sig .tc := ⟨.hbm, 882, rfl⟩
abbrev main_v685 : Ref sig .tc := ⟨.hbm, 883, rfl⟩
abbrev main_v686 : Ref sig .tc := ⟨.hbm, 884, rfl⟩
abbrev main_v687 : Ref sig .tc := ⟨.hbm, 885, rfl⟩
abbrev main_c_155 : Ref sig .tc := ⟨.hbm, 886, rfl⟩
abbrev main_v688 : Ref sig .tc := ⟨.hbm, 887, rfl⟩
abbrev main_v689 : Ref sig .tc := ⟨.hbm, 888, rfl⟩
abbrev main_v690 : Ref sig .tc := ⟨.hbm, 889, rfl⟩
abbrev main_v691 : Ref sig .tc := ⟨.hbm, 890, rfl⟩
abbrev main_c_156 : Ref sig .tc := ⟨.hbm, 891, rfl⟩
abbrev main_v692 : Ref sig .tc := ⟨.hbm, 892, rfl⟩
abbrev main_v693 : Ref sig .tc := ⟨.hbm, 893, rfl⟩
abbrev main_c_157 : Ref sig .tc := ⟨.hbm, 894, rfl⟩
abbrev main_v694 : Ref sig .tc := ⟨.hbm, 895, rfl⟩
abbrev main_v695 : Ref sig .tc := ⟨.hbm, 896, rfl⟩
abbrev main_v696 : Ref sig .tc := ⟨.hbm, 897, rfl⟩
abbrev main_v697 : Ref sig .tc := ⟨.hbm, 898, rfl⟩
abbrev main_v698 : Ref sig .tc := ⟨.hbm, 899, rfl⟩
abbrev main_c_158 : Ref sig .tc := ⟨.hbm, 900, rfl⟩
abbrev main_v699 : Ref sig .tc := ⟨.hbm, 901, rfl⟩
abbrev main_v700 : Ref sig .tc := ⟨.hbm, 902, rfl⟩
abbrev main_c_159 : Ref sig .tc := ⟨.hbm, 903, rfl⟩
abbrev main_v701 : Ref sig .tc := ⟨.hbm, 904, rfl⟩
abbrev main_v702 : Ref sig .tc := ⟨.hbm, 905, rfl⟩
abbrev main_v703 : Ref sig .tc := ⟨.hbm, 906, rfl⟩
abbrev main_c_160 : Ref sig .tc := ⟨.hbm, 907, rfl⟩
abbrev main_v704 : Ref sig .tc := ⟨.hbm, 908, rfl⟩
abbrev main_v705 : Ref sig .tc := ⟨.hbm, 909, rfl⟩
abbrev main_v706 : Ref sig .tc := ⟨.hbm, 910, rfl⟩
abbrev main_v707 : Ref sig .tc := ⟨.hbm, 911, rfl⟩
abbrev main_v708 : Ref sig .tc := ⟨.hbm, 912, rfl⟩
abbrev main_v709 : Ref sig .tc := ⟨.hbm, 913, rfl⟩
abbrev main_c_161 : Ref sig .tc := ⟨.hbm, 914, rfl⟩
abbrev main_v710 : Ref sig .tc := ⟨.hbm, 915, rfl⟩
abbrev main_v711 : Ref sig .tc := ⟨.hbm, 916, rfl⟩
abbrev main_c_162 : Ref sig .tc := ⟨.hbm, 917, rfl⟩
abbrev main_v712 : Ref sig .tc := ⟨.hbm, 918, rfl⟩
abbrev main_v713 : Ref sig .tc := ⟨.hbm, 919, rfl⟩
abbrev main_v714 : Ref sig .tc := ⟨.hbm, 920, rfl⟩
abbrev main_v715 : Ref sig .tc := ⟨.hbm, 921, rfl⟩
abbrev main_v716 : Ref sig .tc := ⟨.hbm, 922, rfl⟩
abbrev main_v717 : Ref sig .tc := ⟨.hbm, 923, rfl⟩
abbrev main_v718 : Ref sig .tc := ⟨.hbm, 924, rfl⟩
abbrev main_cst_163 : Ref sig .tc := ⟨.hbm, 925, rfl⟩
abbrev main_v719 : Ref sig .tc := ⟨.hbm, 926, rfl⟩
abbrev main_c_164 : Ref sig .tc := ⟨.hbm, 927, rfl⟩
abbrev main_v720 : Ref sig .tc := ⟨.hbm, 928, rfl⟩
abbrev main_v721 : Ref sig .tc := ⟨.hbm, 929, rfl⟩
abbrev main_c_165 : Ref sig .tc := ⟨.hbm, 930, rfl⟩
abbrev main_v722 : Ref sig .tc := ⟨.hbm, 931, rfl⟩
abbrev main_v723 : Ref sig .tc := ⟨.hbm, 932, rfl⟩
abbrev main_v724 : Ref sig .tc := ⟨.hbm, 933, rfl⟩
abbrev main_v725 : Ref sig .tc := ⟨.hbm, 934, rfl⟩
abbrev main_cst_166 : Ref sig .tc := ⟨.hbm, 935, rfl⟩
abbrev main_v726 : Ref sig .tc := ⟨.hbm, 936, rfl⟩
abbrev main_v727 : Ref sig .tc := ⟨.hbm, 937, rfl⟩
abbrev main_cst_167 : Ref sig .tc := ⟨.hbm, 938, rfl⟩
abbrev main_call2_v0 : Ref sig .tc := ⟨.hbm, 939, rfl⟩
abbrev main_call2_v1 : Ref sig .tc := ⟨.hbm, 940, rfl⟩
abbrev main_v728 : Ref sig .tc := ⟨.hbm, 941, rfl⟩
abbrev main_v729 : Ref sig .tc := ⟨.hbm, 942, rfl⟩
abbrev main_v730 : Ref sig .tc := ⟨.hbm, 943, rfl⟩
abbrev main_v731 : Ref sig .tc := ⟨.hbm, 944, rfl⟩
abbrev main_v732 : Ref sig .tc := ⟨.hbm, 945, rfl⟩
abbrev main_v733 : Ref sig .tc := ⟨.hbm, 946, rfl⟩
abbrev main_v734 : Ref sig .tc := ⟨.hbm, 947, rfl⟩
abbrev main_v735 : Ref sig .tc := ⟨.hbm, 948, rfl⟩
abbrev main_v736 : Ref sig .tc := ⟨.hbm, 949, rfl⟩
abbrev main_call3_cst : Ref sig .tc := ⟨.hbm, 950, rfl⟩
abbrev main_call3_v0 : Ref sig .tc := ⟨.hbm, 951, rfl⟩
abbrev main_call3_v1 : Ref sig .tc := ⟨.hbm, 952, rfl⟩
abbrev main_call3_cst_0 : Ref sig .tc := ⟨.hbm, 953, rfl⟩
abbrev main_call3_v2 : Ref sig .tc := ⟨.hbm, 954, rfl⟩
abbrev main_call3_v3 : Ref sig .tc := ⟨.hbm, 955, rfl⟩
abbrev main_call3_cst_1 : Ref sig .tc := ⟨.hbm, 956, rfl⟩
abbrev main_call3_call0_v0 : Ref sig .tc := ⟨.hbm, 957, rfl⟩
abbrev main_call3_call0_v1 : Ref sig .tc := ⟨.hbm, 958, rfl⟩
abbrev main_call3_v4 : Ref sig .tc := ⟨.hbm, 959, rfl⟩
abbrev main_call3_v5 : Ref sig .tc := ⟨.hbm, 960, rfl⟩
abbrev main_call3_cst_2 : Ref sig .tc := ⟨.hbm, 961, rfl⟩
abbrev main_call3_v6 : Ref sig .tc := ⟨.hbm, 962, rfl⟩
abbrev main_call3_v7 : Ref sig .tc := ⟨.hbm, 963, rfl⟩
abbrev main_v737 : Ref sig .tc := ⟨.hbm, 964, rfl⟩
abbrev main_cst_168 : Ref sig .tc := ⟨.hbm, 965, rfl⟩
abbrev main_v738 : Ref sig .tc := ⟨.hbm, 966, rfl⟩
abbrev main_v739 : Ref sig .tc := ⟨.hbm, 967, rfl⟩
abbrev main_v740 : Ref sig .tc := ⟨.hbm, 968, rfl⟩
abbrev main_v741 : Ref sig .tc := ⟨.hbm, 969, rfl⟩
abbrev main_v742 : Ref sig .tc := ⟨.hbm, 970, rfl⟩
abbrev main_v743 : Ref sig .tc := ⟨.hbm, 971, rfl⟩
abbrev main_c_169 : Ref sig .tc := ⟨.hbm, 972, rfl⟩
abbrev main_v744 : Ref sig .tc := ⟨.hbm, 973, rfl⟩
abbrev main_v745 : Ref sig .tc := ⟨.hbm, 974, rfl⟩
abbrev main_c_170 : Ref sig .tc := ⟨.hbm, 975, rfl⟩
abbrev main_v746 : Ref sig .tc := ⟨.hbm, 976, rfl⟩
abbrev main_v747 : Ref sig .tc := ⟨.hbm, 977, rfl⟩
abbrev main_v748 : Ref sig .tc := ⟨.hbm, 978, rfl⟩
abbrev main_v749 : Ref sig .tc := ⟨.hbm, 979, rfl⟩
abbrev main_v750 : Ref sig .tc := ⟨.hbm, 980, rfl⟩
abbrev main_cst_171 : Ref sig .tc := ⟨.hbm, 981, rfl⟩
abbrev main_v751 : Ref sig .tc := ⟨.hbm, 982, rfl⟩
abbrev main_v752 : Ref sig .tc := ⟨.hbm, 983, rfl⟩
abbrev main_v753 : Ref sig .tc := ⟨.hbm, 984, rfl⟩
abbrev main_cst_172 : Ref sig .tc := ⟨.hbm, 985, rfl⟩
abbrev main_v754 : Ref sig .tc := ⟨.hbm, 986, rfl⟩
abbrev main_v755 : Ref sig .tc := ⟨.hbm, 987, rfl⟩
abbrev main_v756 : Ref sig .tc := ⟨.hbm, 988, rfl⟩
abbrev main_v757 : Ref sig .tc := ⟨.hbm, 989, rfl⟩
abbrev main_cst_173 : Ref sig .tc := ⟨.hbm, 990, rfl⟩
abbrev main_v758 : Ref sig .tc := ⟨.hbm, 991, rfl⟩
abbrev main_v759 : Ref sig .tc := ⟨.hbm, 992, rfl⟩
abbrev main_v760 : Ref sig .tc := ⟨.hbm, 993, rfl⟩
abbrev main_v761 : Ref sig .tc := ⟨.hbm, 994, rfl⟩
abbrev main_cst_174 : Ref sig .tc := ⟨.hbm, 995, rfl⟩
abbrev main_v762 : Ref sig .tc := ⟨.hbm, 996, rfl⟩
abbrev main_v763 : Ref sig .tc := ⟨.hbm, 997, rfl⟩
abbrev main_v764 : Ref sig .tc := ⟨.hbm, 998, rfl⟩
abbrev main_v765 : Ref sig .tc := ⟨.hbm, 999, rfl⟩
abbrev main_v766 : Ref sig .tc := ⟨.hbm, 1000, rfl⟩
abbrev main_v767 : Ref sig .tc := ⟨.hbm, 1001, rfl⟩
abbrev main_c_175 : Ref sig .tc := ⟨.hbm, 1002, rfl⟩
abbrev main_v768 : Ref sig .tc := ⟨.hbm, 1003, rfl⟩
abbrev main_v769 : Ref sig .tc := ⟨.hbm, 1004, rfl⟩
abbrev main_v770 : Ref sig .tc := ⟨.hbm, 1005, rfl⟩
abbrev main_v771 : Ref sig .tc := ⟨.hbm, 1006, rfl⟩
abbrev main_c_176 : Ref sig .tc := ⟨.hbm, 1007, rfl⟩
abbrev main_v772 : Ref sig .tc := ⟨.hbm, 1008, rfl⟩
abbrev main_v773 : Ref sig .tc := ⟨.hbm, 1009, rfl⟩
abbrev main_c_177 : Ref sig .tc := ⟨.hbm, 1010, rfl⟩
abbrev main_v774 : Ref sig .tc := ⟨.hbm, 1011, rfl⟩
abbrev main_v775 : Ref sig .tc := ⟨.hbm, 1012, rfl⟩
abbrev main_v776 : Ref sig .tc := ⟨.hbm, 1013, rfl⟩
abbrev main_v777 : Ref sig .tc := ⟨.hbm, 1014, rfl⟩
abbrev main_v778 : Ref sig .tc := ⟨.hbm, 1015, rfl⟩
abbrev main_c_178 : Ref sig .tc := ⟨.hbm, 1016, rfl⟩
abbrev main_v779 : Ref sig .tc := ⟨.hbm, 1017, rfl⟩
abbrev main_v780 : Ref sig .tc := ⟨.hbm, 1018, rfl⟩
abbrev main_c_179 : Ref sig .tc := ⟨.hbm, 1019, rfl⟩
abbrev main_v781 : Ref sig .tc := ⟨.hbm, 1020, rfl⟩
abbrev main_v782 : Ref sig .tc := ⟨.hbm, 1021, rfl⟩
abbrev main_v783 : Ref sig .tc := ⟨.hbm, 1022, rfl⟩
abbrev main_c_180 : Ref sig .tc := ⟨.hbm, 1023, rfl⟩
abbrev main_v784 : Ref sig .tc := ⟨.hbm, 1024, rfl⟩
abbrev main_v785 : Ref sig .tc := ⟨.hbm, 1025, rfl⟩
abbrev main_v786 : Ref sig .tc := ⟨.hbm, 1026, rfl⟩
abbrev main_v787 : Ref sig .tc := ⟨.hbm, 1027, rfl⟩
abbrev main_v788 : Ref sig .tc := ⟨.hbm, 1028, rfl⟩
abbrev main_v789 : Ref sig .tc := ⟨.hbm, 1029, rfl⟩
abbrev main_c_181 : Ref sig .tc := ⟨.hbm, 1030, rfl⟩
abbrev main_v790 : Ref sig .tc := ⟨.hbm, 1031, rfl⟩
abbrev main_v791 : Ref sig .tc := ⟨.hbm, 1032, rfl⟩
abbrev main_c_182 : Ref sig .tc := ⟨.hbm, 1033, rfl⟩
abbrev main_v792 : Ref sig .tc := ⟨.hbm, 1034, rfl⟩
abbrev main_v793 : Ref sig .tc := ⟨.hbm, 1035, rfl⟩
abbrev main_v794 : Ref sig .tc := ⟨.hbm, 1036, rfl⟩
abbrev main_v795 : Ref sig .tc := ⟨.hbm, 1037, rfl⟩
abbrev main_v796 : Ref sig .tc := ⟨.hbm, 1038, rfl⟩
abbrev main_v797 : Ref sig .tc := ⟨.hbm, 1039, rfl⟩
abbrev main_v798 : Ref sig .tc := ⟨.hbm, 1040, rfl⟩
abbrev main_cst_183 : Ref sig .tc := ⟨.hbm, 1041, rfl⟩
abbrev main_v799 : Ref sig .tc := ⟨.hbm, 1042, rfl⟩
abbrev main_v800 : Ref sig .tc := ⟨.hbm, 1043, rfl⟩
abbrev main_v801 : Ref sig .tc := ⟨.hbm, 1044, rfl⟩
abbrev main_v802 : Ref sig .tc := ⟨.hbm, 1045, rfl⟩
abbrev main_cst_184 : Ref sig .tc := ⟨.hbm, 1046, rfl⟩
abbrev main_v803 : Ref sig .tc := ⟨.hbm, 1047, rfl⟩
abbrev main_v804 : Ref sig .tc := ⟨.hbm, 1048, rfl⟩
abbrev main_v805 : Ref sig .tc := ⟨.hbm, 1049, rfl⟩
abbrev main_v806 : Ref sig .tc := ⟨.hbm, 1050, rfl⟩
abbrev main_v807 : Ref sig .tc := ⟨.hbm, 1051, rfl⟩
abbrev main_v808 : Ref sig .tc := ⟨.hbm, 1052, rfl⟩
abbrev main_v809 : Ref sig .tc := ⟨.hbm, 1053, rfl⟩
abbrev main_v810 : Ref sig .tc := ⟨.hbm, 1054, rfl⟩
abbrev main_c_185 : Ref sig .tc := ⟨.hbm, 1055, rfl⟩
abbrev main_v811 : Ref sig .tc := ⟨.hbm, 1056, rfl⟩
abbrev main_v812 : Ref sig .tc := ⟨.hbm, 1057, rfl⟩
abbrev main_v813 : Ref sig .tc := ⟨.hbm, 1058, rfl⟩
abbrev main_v814 : Ref sig .tc := ⟨.hbm, 1059, rfl⟩
abbrev main_c_186 : Ref sig .tc := ⟨.hbm, 1060, rfl⟩
abbrev main_v815 : Ref sig .tc := ⟨.hbm, 1061, rfl⟩
abbrev main_v816 : Ref sig .tc := ⟨.hbm, 1062, rfl⟩
abbrev main_c_187 : Ref sig .tc := ⟨.hbm, 1063, rfl⟩
abbrev main_v817 : Ref sig .tc := ⟨.hbm, 1064, rfl⟩
abbrev main_v818 : Ref sig .tc := ⟨.hbm, 1065, rfl⟩
abbrev main_v819 : Ref sig .tc := ⟨.hbm, 1066, rfl⟩
abbrev main_v820 : Ref sig .tc := ⟨.hbm, 1067, rfl⟩
abbrev main_v821 : Ref sig .tc := ⟨.hbm, 1068, rfl⟩
abbrev main_c_188 : Ref sig .tc := ⟨.hbm, 1069, rfl⟩
abbrev main_v822 : Ref sig .tc := ⟨.hbm, 1070, rfl⟩
abbrev main_v823 : Ref sig .tc := ⟨.hbm, 1071, rfl⟩
abbrev main_c_189 : Ref sig .tc := ⟨.hbm, 1072, rfl⟩
abbrev main_v824 : Ref sig .tc := ⟨.hbm, 1073, rfl⟩
abbrev main_v825 : Ref sig .tc := ⟨.hbm, 1074, rfl⟩
abbrev main_v826 : Ref sig .tc := ⟨.hbm, 1075, rfl⟩
abbrev main_c_190 : Ref sig .tc := ⟨.hbm, 1076, rfl⟩
abbrev main_v827 : Ref sig .tc := ⟨.hbm, 1077, rfl⟩
abbrev main_v828 : Ref sig .tc := ⟨.hbm, 1078, rfl⟩
abbrev main_v829 : Ref sig .tc := ⟨.hbm, 1079, rfl⟩
abbrev main_v830 : Ref sig .tc := ⟨.hbm, 1080, rfl⟩
abbrev main_v831 : Ref sig .tc := ⟨.hbm, 1081, rfl⟩
abbrev main_v832 : Ref sig .tc := ⟨.hbm, 1082, rfl⟩
abbrev main_c_191 : Ref sig .tc := ⟨.hbm, 1083, rfl⟩
abbrev main_v833 : Ref sig .tc := ⟨.hbm, 1084, rfl⟩
abbrev main_v834 : Ref sig .tc := ⟨.hbm, 1085, rfl⟩
abbrev main_c_192 : Ref sig .tc := ⟨.hbm, 1086, rfl⟩
abbrev main_v835 : Ref sig .tc := ⟨.hbm, 1087, rfl⟩
abbrev main_v836 : Ref sig .tc := ⟨.hbm, 1088, rfl⟩
abbrev main_v837 : Ref sig .tc := ⟨.hbm, 1089, rfl⟩
abbrev main_v838 : Ref sig .tc := ⟨.hbm, 1090, rfl⟩
abbrev main_v839 : Ref sig .tc := ⟨.hbm, 1091, rfl⟩
abbrev main_v840 : Ref sig .tc := ⟨.hbm, 1092, rfl⟩
abbrev main_v841 : Ref sig .tc := ⟨.hbm, 1093, rfl⟩
abbrev main_cst_193 : Ref sig .tc := ⟨.hbm, 1094, rfl⟩
abbrev main_v842 : Ref sig .tc := ⟨.hbm, 1095, rfl⟩
abbrev main_v843 : Ref sig .tc := ⟨.hbm, 1096, rfl⟩
abbrev main_v844 : Ref sig .tc := ⟨.hbm, 1097, rfl⟩
abbrev main_v845 : Ref sig .tc := ⟨.hbm, 1098, rfl⟩
abbrev main_v846 : Ref sig .tc := ⟨.hbm, 1099, rfl⟩
abbrev main_v847 : Ref sig .tc := ⟨.hbm, 1100, rfl⟩
abbrev main_cst_194 : Ref sig .tc := ⟨.hbm, 1101, rfl⟩
abbrev main_v848 : Ref sig .tc := ⟨.hbm, 1102, rfl⟩
abbrev main_v849 : Ref sig .tc := ⟨.hbm, 1103, rfl⟩
abbrev main_v850 : Ref sig .tc := ⟨.hbm, 1104, rfl⟩
abbrev main_v851 : Ref sig .tc := ⟨.hbm, 1105, rfl⟩
abbrev main_v852 : Ref sig .tc := ⟨.hbm, 1106, rfl⟩
abbrev main_v853 : Ref sig .tc := ⟨.hbm, 1107, rfl⟩
abbrev main_c_195 : Ref sig .tc := ⟨.hbm, 1108, rfl⟩
abbrev main_v854 : Ref sig .tc := ⟨.hbm, 1109, rfl⟩
abbrev main_v855 : Ref sig .tc := ⟨.hbm, 1110, rfl⟩
abbrev main_v856 : Ref sig .tc := ⟨.hbm, 1111, rfl⟩
abbrev main_v857 : Ref sig .tc := ⟨.hbm, 1112, rfl⟩
abbrev main_c_196 : Ref sig .tc := ⟨.hbm, 1113, rfl⟩
abbrev main_v858 : Ref sig .tc := ⟨.hbm, 1114, rfl⟩
abbrev main_v859 : Ref sig .tc := ⟨.hbm, 1115, rfl⟩
abbrev main_c_197 : Ref sig .tc := ⟨.hbm, 1116, rfl⟩
abbrev main_v860 : Ref sig .tc := ⟨.hbm, 1117, rfl⟩
abbrev main_v861 : Ref sig .tc := ⟨.hbm, 1118, rfl⟩
abbrev main_v862 : Ref sig .tc := ⟨.hbm, 1119, rfl⟩
abbrev main_v863 : Ref sig .tc := ⟨.hbm, 1120, rfl⟩
abbrev main_v864 : Ref sig .tc := ⟨.hbm, 1121, rfl⟩
abbrev main_c_198 : Ref sig .tc := ⟨.hbm, 1122, rfl⟩
abbrev main_v865 : Ref sig .tc := ⟨.hbm, 1123, rfl⟩
abbrev main_v866 : Ref sig .tc := ⟨.hbm, 1124, rfl⟩
abbrev main_c_199 : Ref sig .tc := ⟨.hbm, 1125, rfl⟩
abbrev main_v867 : Ref sig .tc := ⟨.hbm, 1126, rfl⟩
abbrev main_v868 : Ref sig .tc := ⟨.hbm, 1127, rfl⟩
abbrev main_v869 : Ref sig .tc := ⟨.hbm, 1128, rfl⟩
abbrev main_c_200 : Ref sig .tc := ⟨.hbm, 1129, rfl⟩
abbrev main_v870 : Ref sig .tc := ⟨.hbm, 1130, rfl⟩
abbrev main_v871 : Ref sig .tc := ⟨.hbm, 1131, rfl⟩
abbrev main_v872 : Ref sig .tc := ⟨.hbm, 1132, rfl⟩
abbrev main_v873 : Ref sig .tc := ⟨.hbm, 1133, rfl⟩
abbrev main_v874 : Ref sig .tc := ⟨.hbm, 1134, rfl⟩
abbrev main_v875 : Ref sig .tc := ⟨.hbm, 1135, rfl⟩
abbrev main_c_201 : Ref sig .tc := ⟨.hbm, 1136, rfl⟩
abbrev main_v876 : Ref sig .tc := ⟨.hbm, 1137, rfl⟩
abbrev main_v877 : Ref sig .tc := ⟨.hbm, 1138, rfl⟩
abbrev main_c_202 : Ref sig .tc := ⟨.hbm, 1139, rfl⟩
abbrev main_v878 : Ref sig .tc := ⟨.hbm, 1140, rfl⟩
abbrev main_v879 : Ref sig .tc := ⟨.hbm, 1141, rfl⟩
abbrev main_v880 : Ref sig .tc := ⟨.hbm, 1142, rfl⟩
abbrev main_v881 : Ref sig .tc := ⟨.hbm, 1143, rfl⟩
abbrev main_v882 : Ref sig .tc := ⟨.hbm, 1144, rfl⟩
abbrev main_v883 : Ref sig .tc := ⟨.hbm, 1145, rfl⟩
abbrev main_v884 : Ref sig .tc := ⟨.hbm, 1146, rfl⟩
abbrev main_cst_203 : Ref sig .tc := ⟨.hbm, 1147, rfl⟩
abbrev main_v885 : Ref sig .tc := ⟨.hbm, 1148, rfl⟩
abbrev main_v886 : Ref sig .tc := ⟨.hbm, 1149, rfl⟩
abbrev main_v887 : Ref sig .tc := ⟨.hbm, 1150, rfl⟩
abbrev main_v888 : Ref sig .tc := ⟨.hbm, 1151, rfl⟩
abbrev main_v889 : Ref sig .tc := ⟨.hbm, 1152, rfl⟩
abbrev main_v890 : Ref sig .tc := ⟨.hbm, 1153, rfl⟩
abbrev main_v891 : Ref sig .tc := ⟨.hbm, 1154, rfl⟩
abbrev main_v892 : Ref sig .tc := ⟨.hbm, 1155, rfl⟩
abbrev main_v893 : Ref sig .tc := ⟨.hbm, 1156, rfl⟩
abbrev main_v894 : Ref sig .tc := ⟨.hbm, 1157, rfl⟩
abbrev main_c_204 : Ref sig .tc := ⟨.hbm, 1158, rfl⟩
abbrev main_v895 : Ref sig .tc := ⟨.hbm, 1159, rfl⟩
abbrev main_v896 : Ref sig .tc := ⟨.hbm, 1160, rfl⟩
abbrev main_v897 : Ref sig .tc := ⟨.hbm, 1161, rfl⟩
abbrev main_v898 : Ref sig .tc := ⟨.hbm, 1162, rfl⟩
abbrev main_c_205 : Ref sig .tc := ⟨.hbm, 1163, rfl⟩
abbrev main_v899 : Ref sig .tc := ⟨.hbm, 1164, rfl⟩
abbrev main_v900 : Ref sig .tc := ⟨.hbm, 1165, rfl⟩
abbrev main_c_206 : Ref sig .tc := ⟨.hbm, 1166, rfl⟩
abbrev main_v901 : Ref sig .tc := ⟨.hbm, 1167, rfl⟩
abbrev main_v902 : Ref sig .tc := ⟨.hbm, 1168, rfl⟩
abbrev main_v903 : Ref sig .tc := ⟨.hbm, 1169, rfl⟩
abbrev main_v904 : Ref sig .tc := ⟨.hbm, 1170, rfl⟩
abbrev main_v905 : Ref sig .tc := ⟨.hbm, 1171, rfl⟩
abbrev main_c_207 : Ref sig .tc := ⟨.hbm, 1172, rfl⟩
abbrev main_v906 : Ref sig .tc := ⟨.hbm, 1173, rfl⟩
abbrev main_v907 : Ref sig .tc := ⟨.hbm, 1174, rfl⟩
abbrev main_c_208 : Ref sig .tc := ⟨.hbm, 1175, rfl⟩
abbrev main_v908 : Ref sig .tc := ⟨.hbm, 1176, rfl⟩
abbrev main_v909 : Ref sig .tc := ⟨.hbm, 1177, rfl⟩
abbrev main_v910 : Ref sig .tc := ⟨.hbm, 1178, rfl⟩
abbrev main_c_209 : Ref sig .tc := ⟨.hbm, 1179, rfl⟩
abbrev main_v911 : Ref sig .tc := ⟨.hbm, 1180, rfl⟩
abbrev main_v912 : Ref sig .tc := ⟨.hbm, 1181, rfl⟩
abbrev main_v913 : Ref sig .tc := ⟨.hbm, 1182, rfl⟩
abbrev main_v914 : Ref sig .tc := ⟨.hbm, 1183, rfl⟩
abbrev main_v915 : Ref sig .tc := ⟨.hbm, 1184, rfl⟩
abbrev main_v916 : Ref sig .tc := ⟨.hbm, 1185, rfl⟩
abbrev main_c_210 : Ref sig .tc := ⟨.hbm, 1186, rfl⟩
abbrev main_v917 : Ref sig .tc := ⟨.hbm, 1187, rfl⟩
abbrev main_v918 : Ref sig .tc := ⟨.hbm, 1188, rfl⟩
abbrev main_c_211 : Ref sig .tc := ⟨.hbm, 1189, rfl⟩
abbrev main_v919 : Ref sig .tc := ⟨.hbm, 1190, rfl⟩
abbrev main_v920 : Ref sig .tc := ⟨.hbm, 1191, rfl⟩
abbrev main_v921 : Ref sig .tc := ⟨.hbm, 1192, rfl⟩
abbrev main_v922 : Ref sig .tc := ⟨.hbm, 1193, rfl⟩
abbrev main_v923 : Ref sig .tc := ⟨.hbm, 1194, rfl⟩
abbrev main_v924 : Ref sig .tc := ⟨.hbm, 1195, rfl⟩
abbrev main_v925 : Ref sig .tc := ⟨.hbm, 1196, rfl⟩
abbrev main_v926 : Ref sig .tc := ⟨.hbm, 1197, rfl⟩
abbrev main_v927 : Ref sig .tc := ⟨.hbm, 1198, rfl⟩
abbrev main_cst_212 : Ref sig .tc := ⟨.hbm, 1199, rfl⟩
abbrev main_v928 : Ref sig .tc := ⟨.hbm, 1200, rfl⟩
abbrev main_v929 : Ref sig .tc := ⟨.hbm, 1201, rfl⟩
abbrev main_v930 : Ref sig .tc := ⟨.hbm, 1202, rfl⟩
abbrev main_v931 : Ref sig .tc := ⟨.hbm, 1203, rfl⟩
abbrev main_cst_213 : Ref sig .tc := ⟨.hbm, 1204, rfl⟩
abbrev main_v932 : Ref sig .tc := ⟨.hbm, 1205, rfl⟩
abbrev main_v933 : Ref sig .tc := ⟨.hbm, 1206, rfl⟩
abbrev main_v934 : Ref sig .tc := ⟨.hbm, 1207, rfl⟩
abbrev main_v935 : Ref sig .tc := ⟨.hbm, 1208, rfl⟩
abbrev main_v936 : Ref sig .tc := ⟨.hbm, 1209, rfl⟩
abbrev main_v937 : Ref sig .tc := ⟨.hbm, 1210, rfl⟩
abbrev main_c_214 : Ref sig .tc := ⟨.hbm, 1211, rfl⟩
abbrev main_v938 : Ref sig .tc := ⟨.hbm, 1212, rfl⟩
abbrev main_v939 : Ref sig .tc := ⟨.hbm, 1213, rfl⟩
abbrev main_v940 : Ref sig .tc := ⟨.hbm, 1214, rfl⟩
abbrev main_v941 : Ref sig .tc := ⟨.hbm, 1215, rfl⟩
abbrev main_c_215 : Ref sig .tc := ⟨.hbm, 1216, rfl⟩
abbrev main_v942 : Ref sig .tc := ⟨.hbm, 1217, rfl⟩
abbrev main_v943 : Ref sig .tc := ⟨.hbm, 1218, rfl⟩
abbrev main_c_216 : Ref sig .tc := ⟨.hbm, 1219, rfl⟩
abbrev main_v944 : Ref sig .tc := ⟨.hbm, 1220, rfl⟩
abbrev main_v945 : Ref sig .tc := ⟨.hbm, 1221, rfl⟩
abbrev main_v946 : Ref sig .tc := ⟨.hbm, 1222, rfl⟩
abbrev main_v947 : Ref sig .tc := ⟨.hbm, 1223, rfl⟩
abbrev main_v948 : Ref sig .tc := ⟨.hbm, 1224, rfl⟩
abbrev main_c_217 : Ref sig .tc := ⟨.hbm, 1225, rfl⟩
abbrev main_v949 : Ref sig .tc := ⟨.hbm, 1226, rfl⟩
abbrev main_v950 : Ref sig .tc := ⟨.hbm, 1227, rfl⟩
abbrev main_c_218 : Ref sig .tc := ⟨.hbm, 1228, rfl⟩
abbrev main_v951 : Ref sig .tc := ⟨.hbm, 1229, rfl⟩
abbrev main_v952 : Ref sig .tc := ⟨.hbm, 1230, rfl⟩
abbrev main_v953 : Ref sig .tc := ⟨.hbm, 1231, rfl⟩
abbrev main_c_219 : Ref sig .tc := ⟨.hbm, 1232, rfl⟩
abbrev main_v954 : Ref sig .tc := ⟨.hbm, 1233, rfl⟩
abbrev main_v955 : Ref sig .tc := ⟨.hbm, 1234, rfl⟩
abbrev main_v956 : Ref sig .tc := ⟨.hbm, 1235, rfl⟩
abbrev main_v957 : Ref sig .tc := ⟨.hbm, 1236, rfl⟩
abbrev main_v958 : Ref sig .tc := ⟨.hbm, 1237, rfl⟩
abbrev main_v959 : Ref sig .tc := ⟨.hbm, 1238, rfl⟩
abbrev main_c_220 : Ref sig .tc := ⟨.hbm, 1239, rfl⟩
abbrev main_v960 : Ref sig .tc := ⟨.hbm, 1240, rfl⟩
abbrev main_v961 : Ref sig .tc := ⟨.hbm, 1241, rfl⟩
abbrev main_c_221 : Ref sig .tc := ⟨.hbm, 1242, rfl⟩
abbrev main_v962 : Ref sig .tc := ⟨.hbm, 1243, rfl⟩
abbrev main_v963 : Ref sig .tc := ⟨.hbm, 1244, rfl⟩
abbrev main_v964 : Ref sig .tc := ⟨.hbm, 1245, rfl⟩
abbrev main_v965 : Ref sig .tc := ⟨.hbm, 1246, rfl⟩
abbrev main_v966 : Ref sig .tc := ⟨.hbm, 1247, rfl⟩
abbrev main_v967 : Ref sig .tc := ⟨.hbm, 1248, rfl⟩
abbrev main_v968 : Ref sig .tc := ⟨.hbm, 1249, rfl⟩
abbrev main_v969 : Ref sig .tc := ⟨.hbm, 1250, rfl⟩
abbrev main_v970 : Ref sig .tc := ⟨.hbm, 1251, rfl⟩
abbrev main_cst_222 : Ref sig .tc := ⟨.hbm, 1252, rfl⟩
abbrev main_v971 : Ref sig .tc := ⟨.hbm, 1253, rfl⟩
abbrev main_v972 : Ref sig .tc := ⟨.hbm, 1254, rfl⟩
abbrev main_v973 : Ref sig .tc := ⟨.hbm, 1255, rfl⟩
abbrev main_v974 : Ref sig .tc := ⟨.hbm, 1256, rfl⟩
abbrev main_v975 : Ref sig .tc := ⟨.hbm, 1257, rfl⟩
abbrev main_v976 : Ref sig .tc := ⟨.hbm, 1258, rfl⟩
abbrev main_v977 : Ref sig .tc := ⟨.hbm, 1259, rfl⟩
abbrev main_v978 : Ref sig .tc := ⟨.hbm, 1260, rfl⟩
abbrev main_c_223 : Ref sig .tc := ⟨.hbm, 1261, rfl⟩
abbrev main_v979 : Ref sig .tc := ⟨.hbm, 1262, rfl⟩
abbrev main_v980 : Ref sig .tc := ⟨.hbm, 1263, rfl⟩
abbrev main_v981 : Ref sig .tc := ⟨.hbm, 1264, rfl⟩
abbrev main_v982 : Ref sig .tc := ⟨.hbm, 1265, rfl⟩
abbrev main_c_224 : Ref sig .tc := ⟨.hbm, 1266, rfl⟩
abbrev main_v983 : Ref sig .tc := ⟨.hbm, 1267, rfl⟩
abbrev main_v984 : Ref sig .tc := ⟨.hbm, 1268, rfl⟩
abbrev main_c_225 : Ref sig .tc := ⟨.hbm, 1269, rfl⟩
abbrev main_v985 : Ref sig .tc := ⟨.hbm, 1270, rfl⟩
abbrev main_v986 : Ref sig .tc := ⟨.hbm, 1271, rfl⟩
abbrev main_v987 : Ref sig .tc := ⟨.hbm, 1272, rfl⟩
abbrev main_v988 : Ref sig .tc := ⟨.hbm, 1273, rfl⟩
abbrev main_v989 : Ref sig .tc := ⟨.hbm, 1274, rfl⟩
abbrev main_c_226 : Ref sig .tc := ⟨.hbm, 1275, rfl⟩
abbrev main_v990 : Ref sig .tc := ⟨.hbm, 1276, rfl⟩
abbrev main_v991 : Ref sig .tc := ⟨.hbm, 1277, rfl⟩
abbrev main_c_227 : Ref sig .tc := ⟨.hbm, 1278, rfl⟩
abbrev main_v992 : Ref sig .tc := ⟨.hbm, 1279, rfl⟩
abbrev main_v993 : Ref sig .tc := ⟨.hbm, 1280, rfl⟩
abbrev main_v994 : Ref sig .tc := ⟨.hbm, 1281, rfl⟩
abbrev main_c_228 : Ref sig .tc := ⟨.hbm, 1282, rfl⟩
abbrev main_v995 : Ref sig .tc := ⟨.hbm, 1283, rfl⟩
abbrev main_v996 : Ref sig .tc := ⟨.hbm, 1284, rfl⟩
abbrev main_v997 : Ref sig .tc := ⟨.hbm, 1285, rfl⟩
abbrev main_v998 : Ref sig .tc := ⟨.hbm, 1286, rfl⟩
abbrev main_v999 : Ref sig .tc := ⟨.hbm, 1287, rfl⟩
abbrev main_v1000 : Ref sig .tc := ⟨.hbm, 1288, rfl⟩
abbrev main_c_229 : Ref sig .tc := ⟨.hbm, 1289, rfl⟩
abbrev main_v1001 : Ref sig .tc := ⟨.hbm, 1290, rfl⟩
abbrev main_v1002 : Ref sig .tc := ⟨.hbm, 1291, rfl⟩
abbrev main_c_230 : Ref sig .tc := ⟨.hbm, 1292, rfl⟩
abbrev main_v1003 : Ref sig .tc := ⟨.hbm, 1293, rfl⟩
abbrev main_v1004 : Ref sig .tc := ⟨.hbm, 1294, rfl⟩
abbrev main_v1005 : Ref sig .tc := ⟨.hbm, 1295, rfl⟩
abbrev main_v1006 : Ref sig .tc := ⟨.hbm, 1296, rfl⟩
abbrev main_v1007 : Ref sig .tc := ⟨.hbm, 1297, rfl⟩
abbrev main_v1008 : Ref sig .tc := ⟨.hbm, 1298, rfl⟩
abbrev main_v1009 : Ref sig .tc := ⟨.hbm, 1299, rfl⟩
abbrev main_v1010 : Ref sig .tc := ⟨.hbm, 1300, rfl⟩
abbrev main_v1011 : Ref sig .tc := ⟨.hbm, 1301, rfl⟩
abbrev main_v1012 : Ref sig .tc := ⟨.hbm, 1302, rfl⟩
abbrev main_v1013 : Ref sig .tc := ⟨.hbm, 1303, rfl⟩
abbrev main_cst_231 : Ref sig .tc := ⟨.hbm, 1304, rfl⟩
abbrev main_v1014 : Ref sig .tc := ⟨.hbm, 1305, rfl⟩
abbrev main_v1015 : Ref sig .tc := ⟨.hbm, 1306, rfl⟩
abbrev main_v1016 : Ref sig .tc := ⟨.hbm, 1307, rfl⟩
abbrev main_v1017 : Ref sig .tc := ⟨.hbm, 1308, rfl⟩
abbrev main_v1018 : Ref sig .tc := ⟨.hbm, 1309, rfl⟩
abbrev main_v1019 : Ref sig .tc := ⟨.hbm, 1310, rfl⟩
abbrev main_c_232 : Ref sig .tc := ⟨.hbm, 1311, rfl⟩
abbrev main_v1020 : Ref sig .tc := ⟨.hbm, 1312, rfl⟩
abbrev main_v1021 : Ref sig .tc := ⟨.hbm, 1313, rfl⟩
abbrev main_v1022 : Ref sig .tc := ⟨.hbm, 1314, rfl⟩
abbrev main_v1023 : Ref sig .tc := ⟨.hbm, 1315, rfl⟩
abbrev main_c_233 : Ref sig .tc := ⟨.hbm, 1316, rfl⟩
abbrev main_v1024 : Ref sig .tc := ⟨.hbm, 1317, rfl⟩
abbrev main_v1025 : Ref sig .tc := ⟨.hbm, 1318, rfl⟩
abbrev main_c_234 : Ref sig .tc := ⟨.hbm, 1319, rfl⟩
abbrev main_v1026 : Ref sig .tc := ⟨.hbm, 1320, rfl⟩
abbrev main_v1027 : Ref sig .tc := ⟨.hbm, 1321, rfl⟩
abbrev main_v1028 : Ref sig .tc := ⟨.hbm, 1322, rfl⟩
abbrev main_v1029 : Ref sig .tc := ⟨.hbm, 1323, rfl⟩
abbrev main_v1030 : Ref sig .tc := ⟨.hbm, 1324, rfl⟩
abbrev main_c_235 : Ref sig .tc := ⟨.hbm, 1325, rfl⟩
abbrev main_v1031 : Ref sig .tc := ⟨.hbm, 1326, rfl⟩
abbrev main_v1032 : Ref sig .tc := ⟨.hbm, 1327, rfl⟩
abbrev main_c_236 : Ref sig .tc := ⟨.hbm, 1328, rfl⟩
abbrev main_v1033 : Ref sig .tc := ⟨.hbm, 1329, rfl⟩
abbrev main_v1034 : Ref sig .tc := ⟨.hbm, 1330, rfl⟩
abbrev main_v1035 : Ref sig .tc := ⟨.hbm, 1331, rfl⟩
abbrev main_c_237 : Ref sig .tc := ⟨.hbm, 1332, rfl⟩
abbrev main_v1036 : Ref sig .tc := ⟨.hbm, 1333, rfl⟩
abbrev main_v1037 : Ref sig .tc := ⟨.hbm, 1334, rfl⟩
abbrev main_v1038 : Ref sig .tc := ⟨.hbm, 1335, rfl⟩
abbrev main_v1039 : Ref sig .tc := ⟨.hbm, 1336, rfl⟩
abbrev main_v1040 : Ref sig .tc := ⟨.hbm, 1337, rfl⟩
abbrev main_v1041 : Ref sig .tc := ⟨.hbm, 1338, rfl⟩
abbrev main_c_238 : Ref sig .tc := ⟨.hbm, 1339, rfl⟩
abbrev main_v1042 : Ref sig .tc := ⟨.hbm, 1340, rfl⟩
abbrev main_v1043 : Ref sig .tc := ⟨.hbm, 1341, rfl⟩
abbrev main_c_239 : Ref sig .tc := ⟨.hbm, 1342, rfl⟩
abbrev main_v1044 : Ref sig .tc := ⟨.hbm, 1343, rfl⟩
abbrev main_v1045 : Ref sig .tc := ⟨.hbm, 1344, rfl⟩
abbrev main_v1046 : Ref sig .tc := ⟨.hbm, 1345, rfl⟩
abbrev main_v1047 : Ref sig .tc := ⟨.hbm, 1346, rfl⟩
abbrev main_v1048 : Ref sig .tc := ⟨.hbm, 1347, rfl⟩
abbrev main_v1049 : Ref sig .tc := ⟨.hbm, 1348, rfl⟩
abbrev main_v1050 : Ref sig .tc := ⟨.hbm, 1349, rfl⟩
abbrev main_v1051 : Ref sig .tc := ⟨.hbm, 1350, rfl⟩
abbrev main_v1052 : Ref sig .tc := ⟨.hbm, 1351, rfl⟩
abbrev main_v1053 : Ref sig .tc := ⟨.hbm, 1352, rfl⟩
abbrev main_v1054 : Ref sig .tc := ⟨.hbm, 1353, rfl⟩
abbrev main_v1055 : Ref sig .tc := ⟨.hbm, 1354, rfl⟩
abbrev main_v1056 : Ref sig .tc := ⟨.hbm, 1355, rfl⟩
abbrev main_v1057 : Ref sig .tc := ⟨.hbm, 1356, rfl⟩
abbrev main_v1058 : Ref sig .tc := ⟨.hbm, 1357, rfl⟩
abbrev main_c_240 : Ref sig .tc := ⟨.hbm, 1358, rfl⟩
abbrev main_v1059 : Ref sig .tc := ⟨.hbm, 1359, rfl⟩
abbrev main_v1060 : Ref sig .tc := ⟨.hbm, 1360, rfl⟩
abbrev main_v1061 : Ref sig .tc := ⟨.hbm, 1361, rfl⟩
abbrev main_v1062 : Ref sig .tc := ⟨.hbm, 1362, rfl⟩
abbrev main_c_241 : Ref sig .tc := ⟨.hbm, 1363, rfl⟩
abbrev main_v1063 : Ref sig .tc := ⟨.hbm, 1364, rfl⟩
abbrev main_v1064 : Ref sig .tc := ⟨.hbm, 1365, rfl⟩
abbrev main_c_242 : Ref sig .tc := ⟨.hbm, 1366, rfl⟩
abbrev main_v1065 : Ref sig .tc := ⟨.hbm, 1367, rfl⟩
abbrev main_v1066 : Ref sig .tc := ⟨.hbm, 1368, rfl⟩
abbrev main_v1067 : Ref sig .tc := ⟨.hbm, 1369, rfl⟩
abbrev main_v1068 : Ref sig .tc := ⟨.hbm, 1370, rfl⟩
abbrev main_v1069 : Ref sig .tc := ⟨.hbm, 1371, rfl⟩
abbrev main_c_243 : Ref sig .tc := ⟨.hbm, 1372, rfl⟩
abbrev main_v1070 : Ref sig .tc := ⟨.hbm, 1373, rfl⟩
abbrev main_v1071 : Ref sig .tc := ⟨.hbm, 1374, rfl⟩
abbrev main_c_244 : Ref sig .tc := ⟨.hbm, 1375, rfl⟩
abbrev main_v1072 : Ref sig .tc := ⟨.hbm, 1376, rfl⟩
abbrev main_v1073 : Ref sig .tc := ⟨.hbm, 1377, rfl⟩
abbrev main_v1074 : Ref sig .tc := ⟨.hbm, 1378, rfl⟩
abbrev main_c_245 : Ref sig .tc := ⟨.hbm, 1379, rfl⟩
abbrev main_v1075 : Ref sig .tc := ⟨.hbm, 1380, rfl⟩
abbrev main_v1076 : Ref sig .tc := ⟨.hbm, 1381, rfl⟩
abbrev main_v1077 : Ref sig .tc := ⟨.hbm, 1382, rfl⟩
abbrev main_v1078 : Ref sig .tc := ⟨.hbm, 1383, rfl⟩
abbrev main_v1079 : Ref sig .tc := ⟨.hbm, 1384, rfl⟩
abbrev main_v1080 : Ref sig .tc := ⟨.hbm, 1385, rfl⟩
abbrev main_c_246 : Ref sig .tc := ⟨.hbm, 1386, rfl⟩
abbrev main_v1081 : Ref sig .tc := ⟨.hbm, 1387, rfl⟩
abbrev main_v1082 : Ref sig .tc := ⟨.hbm, 1388, rfl⟩
abbrev main_c_247 : Ref sig .tc := ⟨.hbm, 1389, rfl⟩
abbrev main_v1083 : Ref sig .tc := ⟨.hbm, 1390, rfl⟩
abbrev main_v1084 : Ref sig .tc := ⟨.hbm, 1391, rfl⟩
abbrev main_v1085 : Ref sig .tc := ⟨.hbm, 1392, rfl⟩
abbrev main_v1086 : Ref sig .tc := ⟨.hbm, 1393, rfl⟩
abbrev main_v1087 : Ref sig .tc := ⟨.hbm, 1394, rfl⟩
abbrev main_v1088 : Ref sig .tc := ⟨.hbm, 1395, rfl⟩
abbrev main_v1089 : Ref sig .tc := ⟨.hbm, 1396, rfl⟩
abbrev main_cst_248 : Ref sig .tc := ⟨.hbm, 1397, rfl⟩
abbrev main_v1090 : Ref sig .tc := ⟨.hbm, 1398, rfl⟩
abbrev main_c_249 : Ref sig .tc := ⟨.hbm, 1399, rfl⟩
abbrev main_v1091 : Ref sig .tc := ⟨.hbm, 1400, rfl⟩
abbrev main_v1092 : Ref sig .tc := ⟨.hbm, 1401, rfl⟩
abbrev main_c_250 : Ref sig .tc := ⟨.hbm, 1402, rfl⟩
abbrev main_v1093 : Ref sig .tc := ⟨.hbm, 1403, rfl⟩
abbrev main_v1094 : Ref sig .tc := ⟨.hbm, 1404, rfl⟩
abbrev main_v1095 : Ref sig .tc := ⟨.hbm, 1405, rfl⟩
abbrev main_v1096 : Ref sig .tc := ⟨.hbm, 1406, rfl⟩
abbrev main_cst_251 : Ref sig .tc := ⟨.hbm, 1407, rfl⟩
abbrev main_v1097 : Ref sig .tc := ⟨.hbm, 1408, rfl⟩
abbrev main_v1098 : Ref sig .tc := ⟨.hbm, 1409, rfl⟩
abbrev main_cst_252 : Ref sig .tc := ⟨.hbm, 1410, rfl⟩
abbrev main_call4_v0 : Ref sig .tc := ⟨.hbm, 1411, rfl⟩
abbrev main_call4_v1 : Ref sig .tc := ⟨.hbm, 1412, rfl⟩
abbrev main_v1099 : Ref sig .tc := ⟨.hbm, 1413, rfl⟩
abbrev main_v1100 : Ref sig .tc := ⟨.hbm, 1414, rfl⟩
abbrev main_v1101 : Ref sig .tc := ⟨.hbm, 1415, rfl⟩
abbrev main_v1102 : Ref sig .tc := ⟨.hbm, 1416, rfl⟩
abbrev main_v1103 : Ref sig .tc := ⟨.hbm, 1417, rfl⟩
abbrev main_v1104 : Ref sig .tc := ⟨.hbm, 1418, rfl⟩
abbrev main_v1105 : Ref sig .tc := ⟨.hbm, 1419, rfl⟩
abbrev main_v1106 : Ref sig .tc := ⟨.hbm, 1420, rfl⟩
abbrev main_v1107 : Ref sig .tc := ⟨.hbm, 1421, rfl⟩
abbrev main_call5_cst : Ref sig .tc := ⟨.hbm, 1422, rfl⟩
abbrev main_call5_v0 : Ref sig .tc := ⟨.hbm, 1423, rfl⟩
abbrev main_call5_v1 : Ref sig .tc := ⟨.hbm, 1424, rfl⟩
abbrev main_call5_cst_0 : Ref sig .tc := ⟨.hbm, 1425, rfl⟩
abbrev main_call5_v2 : Ref sig .tc := ⟨.hbm, 1426, rfl⟩
abbrev main_call5_v3 : Ref sig .tc := ⟨.hbm, 1427, rfl⟩
abbrev main_call5_cst_1 : Ref sig .tc := ⟨.hbm, 1428, rfl⟩
abbrev main_call5_call0_v0 : Ref sig .tc := ⟨.hbm, 1429, rfl⟩
abbrev main_call5_call0_v1 : Ref sig .tc := ⟨.hbm, 1430, rfl⟩
abbrev main_call5_v4 : Ref sig .tc := ⟨.hbm, 1431, rfl⟩
abbrev main_call5_v5 : Ref sig .tc := ⟨.hbm, 1432, rfl⟩
abbrev main_call5_cst_2 : Ref sig .tc := ⟨.hbm, 1433, rfl⟩
abbrev main_call5_v6 : Ref sig .tc := ⟨.hbm, 1434, rfl⟩
abbrev main_call5_v7 : Ref sig .tc := ⟨.hbm, 1435, rfl⟩
abbrev main_v1108 : Ref sig .tc := ⟨.hbm, 1436, rfl⟩
abbrev main_cst_253 : Ref sig .tc := ⟨.hbm, 1437, rfl⟩
abbrev main_v1109 : Ref sig .tc := ⟨.hbm, 1438, rfl⟩
abbrev main_v1110 : Ref sig .tc := ⟨.hbm, 1439, rfl⟩
abbrev main_v1111 : Ref sig .tc := ⟨.hbm, 1440, rfl⟩
abbrev main_v1112 : Ref sig .tc := ⟨.hbm, 1441, rfl⟩
abbrev main_v1113 : Ref sig .tc := ⟨.hbm, 1442, rfl⟩
abbrev main_v1114 : Ref sig .tc := ⟨.hbm, 1443, rfl⟩
abbrev main_c_254 : Ref sig .tc := ⟨.hbm, 1444, rfl⟩
abbrev main_v1115 : Ref sig .tc := ⟨.hbm, 1445, rfl⟩
abbrev main_v1116 : Ref sig .tc := ⟨.hbm, 1446, rfl⟩
abbrev main_c_255 : Ref sig .tc := ⟨.hbm, 1447, rfl⟩
abbrev main_v1117 : Ref sig .tc := ⟨.hbm, 1448, rfl⟩
abbrev main_v1118 : Ref sig .tc := ⟨.hbm, 1449, rfl⟩
abbrev main_v1119 : Ref sig .tc := ⟨.hbm, 1450, rfl⟩
abbrev main_v1120 : Ref sig .tc := ⟨.hbm, 1451, rfl⟩
abbrev main_v1121 : Ref sig .tc := ⟨.hbm, 1452, rfl⟩
abbrev main_cst_256 : Ref sig .tc := ⟨.hbm, 1453, rfl⟩
abbrev main_v1122 : Ref sig .tc := ⟨.hbm, 1454, rfl⟩
abbrev main_v1123 : Ref sig .tc := ⟨.hbm, 1455, rfl⟩
abbrev main_v1124 : Ref sig .tc := ⟨.hbm, 1456, rfl⟩
abbrev main_cst_257 : Ref sig .tc := ⟨.hbm, 1457, rfl⟩
abbrev main_v1125 : Ref sig .tc := ⟨.hbm, 1458, rfl⟩
abbrev main_v1126 : Ref sig .tc := ⟨.hbm, 1459, rfl⟩
abbrev main_v1127 : Ref sig .tc := ⟨.hbm, 1460, rfl⟩
abbrev main_v1128 : Ref sig .tc := ⟨.hbm, 1461, rfl⟩
abbrev main_cst_258 : Ref sig .tc := ⟨.hbm, 1462, rfl⟩
abbrev main_v1129 : Ref sig .tc := ⟨.hbm, 1463, rfl⟩
abbrev main_v1130 : Ref sig .tc := ⟨.hbm, 1464, rfl⟩
abbrev main_v1131 : Ref sig .tc := ⟨.hbm, 1465, rfl⟩
abbrev main_v1132 : Ref sig .tc := ⟨.hbm, 1466, rfl⟩
abbrev main_cst_259 : Ref sig .tc := ⟨.hbm, 1467, rfl⟩
abbrev main_v1133 : Ref sig .tc := ⟨.hbm, 1468, rfl⟩
abbrev main_v1134 : Ref sig .tc := ⟨.hbm, 1469, rfl⟩
abbrev main_v1135 : Ref sig .tc := ⟨.hbm, 1470, rfl⟩
abbrev main_v1136 : Ref sig .tc := ⟨.hbm, 1471, rfl⟩
abbrev main_v1137 : Ref sig .tc := ⟨.hbm, 1472, rfl⟩
abbrev main_v1138 : Ref sig .tc := ⟨.hbm, 1473, rfl⟩
abbrev main_c_260 : Ref sig .tc := ⟨.hbm, 1474, rfl⟩
abbrev main_v1139 : Ref sig .tc := ⟨.hbm, 1475, rfl⟩
abbrev main_v1140 : Ref sig .tc := ⟨.hbm, 1476, rfl⟩
abbrev main_v1141 : Ref sig .tc := ⟨.hbm, 1477, rfl⟩
abbrev main_v1142 : Ref sig .tc := ⟨.hbm, 1478, rfl⟩
abbrev main_c_261 : Ref sig .tc := ⟨.hbm, 1479, rfl⟩
abbrev main_v1143 : Ref sig .tc := ⟨.hbm, 1480, rfl⟩
abbrev main_v1144 : Ref sig .tc := ⟨.hbm, 1481, rfl⟩
abbrev main_c_262 : Ref sig .tc := ⟨.hbm, 1482, rfl⟩
abbrev main_v1145 : Ref sig .tc := ⟨.hbm, 1483, rfl⟩
abbrev main_v1146 : Ref sig .tc := ⟨.hbm, 1484, rfl⟩
abbrev main_v1147 : Ref sig .tc := ⟨.hbm, 1485, rfl⟩
abbrev main_v1148 : Ref sig .tc := ⟨.hbm, 1486, rfl⟩
abbrev main_v1149 : Ref sig .tc := ⟨.hbm, 1487, rfl⟩
abbrev main_c_263 : Ref sig .tc := ⟨.hbm, 1488, rfl⟩
abbrev main_v1150 : Ref sig .tc := ⟨.hbm, 1489, rfl⟩
abbrev main_v1151 : Ref sig .tc := ⟨.hbm, 1490, rfl⟩
abbrev main_c_264 : Ref sig .tc := ⟨.hbm, 1491, rfl⟩
abbrev main_v1152 : Ref sig .tc := ⟨.hbm, 1492, rfl⟩
abbrev main_v1153 : Ref sig .tc := ⟨.hbm, 1493, rfl⟩
abbrev main_v1154 : Ref sig .tc := ⟨.hbm, 1494, rfl⟩
abbrev main_c_265 : Ref sig .tc := ⟨.hbm, 1495, rfl⟩
abbrev main_v1155 : Ref sig .tc := ⟨.hbm, 1496, rfl⟩
abbrev main_v1156 : Ref sig .tc := ⟨.hbm, 1497, rfl⟩
abbrev main_v1157 : Ref sig .tc := ⟨.hbm, 1498, rfl⟩
abbrev main_v1158 : Ref sig .tc := ⟨.hbm, 1499, rfl⟩
abbrev main_v1159 : Ref sig .tc := ⟨.hbm, 1500, rfl⟩
abbrev main_v1160 : Ref sig .tc := ⟨.hbm, 1501, rfl⟩
abbrev main_c_266 : Ref sig .tc := ⟨.hbm, 1502, rfl⟩
abbrev main_v1161 : Ref sig .tc := ⟨.hbm, 1503, rfl⟩
abbrev main_v1162 : Ref sig .tc := ⟨.hbm, 1504, rfl⟩
abbrev main_c_267 : Ref sig .tc := ⟨.hbm, 1505, rfl⟩
abbrev main_v1163 : Ref sig .tc := ⟨.hbm, 1506, rfl⟩
abbrev main_v1164 : Ref sig .tc := ⟨.hbm, 1507, rfl⟩
abbrev main_v1165 : Ref sig .tc := ⟨.hbm, 1508, rfl⟩
abbrev main_v1166 : Ref sig .tc := ⟨.hbm, 1509, rfl⟩
abbrev main_v1167 : Ref sig .tc := ⟨.hbm, 1510, rfl⟩
abbrev main_v1168 : Ref sig .tc := ⟨.hbm, 1511, rfl⟩
abbrev main_v1169 : Ref sig .tc := ⟨.hbm, 1512, rfl⟩
abbrev main_cst_268 : Ref sig .tc := ⟨.hbm, 1513, rfl⟩
abbrev main_v1170 : Ref sig .tc := ⟨.hbm, 1514, rfl⟩
abbrev main_v1171 : Ref sig .tc := ⟨.hbm, 1515, rfl⟩
abbrev main_v1172 : Ref sig .tc := ⟨.hbm, 1516, rfl⟩
abbrev main_v1173 : Ref sig .tc := ⟨.hbm, 1517, rfl⟩
abbrev main_cst_269 : Ref sig .tc := ⟨.hbm, 1518, rfl⟩
abbrev main_v1174 : Ref sig .tc := ⟨.hbm, 1519, rfl⟩
abbrev main_v1175 : Ref sig .tc := ⟨.hbm, 1520, rfl⟩
abbrev main_v1176 : Ref sig .tc := ⟨.hbm, 1521, rfl⟩
abbrev main_v1177 : Ref sig .tc := ⟨.hbm, 1522, rfl⟩
abbrev main_v1178 : Ref sig .tc := ⟨.hbm, 1523, rfl⟩
abbrev main_v1179 : Ref sig .tc := ⟨.hbm, 1524, rfl⟩
abbrev main_v1180 : Ref sig .tc := ⟨.hbm, 1525, rfl⟩
abbrev main_v1181 : Ref sig .tc := ⟨.hbm, 1526, rfl⟩
abbrev main_c_270 : Ref sig .tc := ⟨.hbm, 1527, rfl⟩
abbrev main_v1182 : Ref sig .tc := ⟨.hbm, 1528, rfl⟩
abbrev main_v1183 : Ref sig .tc := ⟨.hbm, 1529, rfl⟩
abbrev main_v1184 : Ref sig .tc := ⟨.hbm, 1530, rfl⟩
abbrev main_v1185 : Ref sig .tc := ⟨.hbm, 1531, rfl⟩
abbrev main_c_271 : Ref sig .tc := ⟨.hbm, 1532, rfl⟩
abbrev main_v1186 : Ref sig .tc := ⟨.hbm, 1533, rfl⟩
abbrev main_v1187 : Ref sig .tc := ⟨.hbm, 1534, rfl⟩
abbrev main_c_272 : Ref sig .tc := ⟨.hbm, 1535, rfl⟩
abbrev main_v1188 : Ref sig .tc := ⟨.hbm, 1536, rfl⟩
abbrev main_v1189 : Ref sig .tc := ⟨.hbm, 1537, rfl⟩
abbrev main_v1190 : Ref sig .tc := ⟨.hbm, 1538, rfl⟩
abbrev main_v1191 : Ref sig .tc := ⟨.hbm, 1539, rfl⟩
abbrev main_v1192 : Ref sig .tc := ⟨.hbm, 1540, rfl⟩
abbrev main_c_273 : Ref sig .tc := ⟨.hbm, 1541, rfl⟩
abbrev main_v1193 : Ref sig .tc := ⟨.hbm, 1542, rfl⟩
abbrev main_v1194 : Ref sig .tc := ⟨.hbm, 1543, rfl⟩
abbrev main_c_274 : Ref sig .tc := ⟨.hbm, 1544, rfl⟩
abbrev main_v1195 : Ref sig .tc := ⟨.hbm, 1545, rfl⟩
abbrev main_v1196 : Ref sig .tc := ⟨.hbm, 1546, rfl⟩
abbrev main_v1197 : Ref sig .tc := ⟨.hbm, 1547, rfl⟩
abbrev main_c_275 : Ref sig .tc := ⟨.hbm, 1548, rfl⟩
abbrev main_v1198 : Ref sig .tc := ⟨.hbm, 1549, rfl⟩
abbrev main_v1199 : Ref sig .tc := ⟨.hbm, 1550, rfl⟩
abbrev main_v1200 : Ref sig .tc := ⟨.hbm, 1551, rfl⟩
abbrev main_v1201 : Ref sig .tc := ⟨.hbm, 1552, rfl⟩
abbrev main_v1202 : Ref sig .tc := ⟨.hbm, 1553, rfl⟩
abbrev main_v1203 : Ref sig .tc := ⟨.hbm, 1554, rfl⟩
abbrev main_c_276 : Ref sig .tc := ⟨.hbm, 1555, rfl⟩
abbrev main_v1204 : Ref sig .tc := ⟨.hbm, 1556, rfl⟩
abbrev main_v1205 : Ref sig .tc := ⟨.hbm, 1557, rfl⟩
abbrev main_c_277 : Ref sig .tc := ⟨.hbm, 1558, rfl⟩
abbrev main_v1206 : Ref sig .tc := ⟨.hbm, 1559, rfl⟩
abbrev main_v1207 : Ref sig .tc := ⟨.hbm, 1560, rfl⟩
abbrev main_v1208 : Ref sig .tc := ⟨.hbm, 1561, rfl⟩
abbrev main_v1209 : Ref sig .tc := ⟨.hbm, 1562, rfl⟩
abbrev main_v1210 : Ref sig .tc := ⟨.hbm, 1563, rfl⟩
abbrev main_v1211 : Ref sig .tc := ⟨.hbm, 1564, rfl⟩
abbrev main_v1212 : Ref sig .tc := ⟨.hbm, 1565, rfl⟩
abbrev main_cst_278 : Ref sig .tc := ⟨.hbm, 1566, rfl⟩
abbrev main_v1213 : Ref sig .tc := ⟨.hbm, 1567, rfl⟩
abbrev main_v1214 : Ref sig .tc := ⟨.hbm, 1568, rfl⟩
abbrev main_v1215 : Ref sig .tc := ⟨.hbm, 1569, rfl⟩
abbrev main_v1216 : Ref sig .tc := ⟨.hbm, 1570, rfl⟩
abbrev main_v1217 : Ref sig .tc := ⟨.hbm, 1571, rfl⟩
abbrev main_v1218 : Ref sig .tc := ⟨.hbm, 1572, rfl⟩
abbrev main_cst_279 : Ref sig .tc := ⟨.hbm, 1573, rfl⟩
abbrev main_v1219 : Ref sig .tc := ⟨.hbm, 1574, rfl⟩
abbrev main_v1220 : Ref sig .tc := ⟨.hbm, 1575, rfl⟩
abbrev main_v1221 : Ref sig .tc := ⟨.hbm, 1576, rfl⟩
abbrev main_v1222 : Ref sig .tc := ⟨.hbm, 1577, rfl⟩
abbrev main_v1223 : Ref sig .tc := ⟨.hbm, 1578, rfl⟩
abbrev main_v1224 : Ref sig .tc := ⟨.hbm, 1579, rfl⟩
abbrev main_c_280 : Ref sig .tc := ⟨.hbm, 1580, rfl⟩
abbrev main_v1225 : Ref sig .tc := ⟨.hbm, 1581, rfl⟩
abbrev main_v1226 : Ref sig .tc := ⟨.hbm, 1582, rfl⟩
abbrev main_v1227 : Ref sig .tc := ⟨.hbm, 1583, rfl⟩
abbrev main_v1228 : Ref sig .tc := ⟨.hbm, 1584, rfl⟩
abbrev main_c_281 : Ref sig .tc := ⟨.hbm, 1585, rfl⟩
abbrev main_v1229 : Ref sig .tc := ⟨.hbm, 1586, rfl⟩
abbrev main_v1230 : Ref sig .tc := ⟨.hbm, 1587, rfl⟩
abbrev main_c_282 : Ref sig .tc := ⟨.hbm, 1588, rfl⟩
abbrev main_v1231 : Ref sig .tc := ⟨.hbm, 1589, rfl⟩
abbrev main_v1232 : Ref sig .tc := ⟨.hbm, 1590, rfl⟩
abbrev main_v1233 : Ref sig .tc := ⟨.hbm, 1591, rfl⟩
abbrev main_v1234 : Ref sig .tc := ⟨.hbm, 1592, rfl⟩
abbrev main_v1235 : Ref sig .tc := ⟨.hbm, 1593, rfl⟩
abbrev main_c_283 : Ref sig .tc := ⟨.hbm, 1594, rfl⟩
abbrev main_v1236 : Ref sig .tc := ⟨.hbm, 1595, rfl⟩
abbrev main_v1237 : Ref sig .tc := ⟨.hbm, 1596, rfl⟩
abbrev main_c_284 : Ref sig .tc := ⟨.hbm, 1597, rfl⟩
abbrev main_v1238 : Ref sig .tc := ⟨.hbm, 1598, rfl⟩
abbrev main_v1239 : Ref sig .tc := ⟨.hbm, 1599, rfl⟩
abbrev main_v1240 : Ref sig .tc := ⟨.hbm, 1600, rfl⟩
abbrev main_c_285 : Ref sig .tc := ⟨.hbm, 1601, rfl⟩
abbrev main_v1241 : Ref sig .tc := ⟨.hbm, 1602, rfl⟩
abbrev main_v1242 : Ref sig .tc := ⟨.hbm, 1603, rfl⟩
abbrev main_v1243 : Ref sig .tc := ⟨.hbm, 1604, rfl⟩
abbrev main_v1244 : Ref sig .tc := ⟨.hbm, 1605, rfl⟩
abbrev main_v1245 : Ref sig .tc := ⟨.hbm, 1606, rfl⟩
abbrev main_v1246 : Ref sig .tc := ⟨.hbm, 1607, rfl⟩
abbrev main_c_286 : Ref sig .tc := ⟨.hbm, 1608, rfl⟩
abbrev main_v1247 : Ref sig .tc := ⟨.hbm, 1609, rfl⟩
abbrev main_v1248 : Ref sig .tc := ⟨.hbm, 1610, rfl⟩
abbrev main_c_287 : Ref sig .tc := ⟨.hbm, 1611, rfl⟩
abbrev main_v1249 : Ref sig .tc := ⟨.hbm, 1612, rfl⟩
abbrev main_v1250 : Ref sig .tc := ⟨.hbm, 1613, rfl⟩
abbrev main_v1251 : Ref sig .tc := ⟨.hbm, 1614, rfl⟩
abbrev main_v1252 : Ref sig .tc := ⟨.hbm, 1615, rfl⟩
abbrev main_v1253 : Ref sig .tc := ⟨.hbm, 1616, rfl⟩
abbrev main_v1254 : Ref sig .tc := ⟨.hbm, 1617, rfl⟩
abbrev main_v1255 : Ref sig .tc := ⟨.hbm, 1618, rfl⟩
abbrev main_cst_288 : Ref sig .tc := ⟨.hbm, 1619, rfl⟩
abbrev main_v1256 : Ref sig .tc := ⟨.hbm, 1620, rfl⟩
abbrev main_v1257 : Ref sig .tc := ⟨.hbm, 1621, rfl⟩
abbrev main_v1258 : Ref sig .tc := ⟨.hbm, 1622, rfl⟩
abbrev main_v1259 : Ref sig .tc := ⟨.hbm, 1623, rfl⟩
abbrev main_v1260 : Ref sig .tc := ⟨.hbm, 1624, rfl⟩
abbrev main_v1261 : Ref sig .tc := ⟨.hbm, 1625, rfl⟩
abbrev main_v1262 : Ref sig .tc := ⟨.hbm, 1626, rfl⟩
abbrev main_v1263 : Ref sig .tc := ⟨.hbm, 1627, rfl⟩
abbrev main_v1264 : Ref sig .tc := ⟨.hbm, 1628, rfl⟩
abbrev main_v1265 : Ref sig .tc := ⟨.hbm, 1629, rfl⟩
abbrev main_c_289 : Ref sig .tc := ⟨.hbm, 1630, rfl⟩
abbrev main_v1266 : Ref sig .tc := ⟨.hbm, 1631, rfl⟩
abbrev main_v1267 : Ref sig .tc := ⟨.hbm, 1632, rfl⟩
abbrev main_v1268 : Ref sig .tc := ⟨.hbm, 1633, rfl⟩
abbrev main_v1269 : Ref sig .tc := ⟨.hbm, 1634, rfl⟩
abbrev main_c_290 : Ref sig .tc := ⟨.hbm, 1635, rfl⟩
abbrev main_v1270 : Ref sig .tc := ⟨.hbm, 1636, rfl⟩
abbrev main_v1271 : Ref sig .tc := ⟨.hbm, 1637, rfl⟩
abbrev main_c_291 : Ref sig .tc := ⟨.hbm, 1638, rfl⟩
abbrev main_v1272 : Ref sig .tc := ⟨.hbm, 1639, rfl⟩
abbrev main_v1273 : Ref sig .tc := ⟨.hbm, 1640, rfl⟩
abbrev main_v1274 : Ref sig .tc := ⟨.hbm, 1641, rfl⟩
abbrev main_v1275 : Ref sig .tc := ⟨.hbm, 1642, rfl⟩
abbrev main_v1276 : Ref sig .tc := ⟨.hbm, 1643, rfl⟩
abbrev main_c_292 : Ref sig .tc := ⟨.hbm, 1644, rfl⟩
abbrev main_v1277 : Ref sig .tc := ⟨.hbm, 1645, rfl⟩
abbrev main_v1278 : Ref sig .tc := ⟨.hbm, 1646, rfl⟩
abbrev main_c_293 : Ref sig .tc := ⟨.hbm, 1647, rfl⟩
abbrev main_v1279 : Ref sig .tc := ⟨.hbm, 1648, rfl⟩
abbrev main_v1280 : Ref sig .tc := ⟨.hbm, 1649, rfl⟩
abbrev main_v1281 : Ref sig .tc := ⟨.hbm, 1650, rfl⟩
abbrev main_c_294 : Ref sig .tc := ⟨.hbm, 1651, rfl⟩
abbrev main_v1282 : Ref sig .tc := ⟨.hbm, 1652, rfl⟩
abbrev main_v1283 : Ref sig .tc := ⟨.hbm, 1653, rfl⟩
abbrev main_v1284 : Ref sig .tc := ⟨.hbm, 1654, rfl⟩
abbrev main_v1285 : Ref sig .tc := ⟨.hbm, 1655, rfl⟩
abbrev main_v1286 : Ref sig .tc := ⟨.hbm, 1656, rfl⟩
abbrev main_v1287 : Ref sig .tc := ⟨.hbm, 1657, rfl⟩
abbrev main_c_295 : Ref sig .tc := ⟨.hbm, 1658, rfl⟩
abbrev main_v1288 : Ref sig .tc := ⟨.hbm, 1659, rfl⟩
abbrev main_v1289 : Ref sig .tc := ⟨.hbm, 1660, rfl⟩
abbrev main_c_296 : Ref sig .tc := ⟨.hbm, 1661, rfl⟩
abbrev main_v1290 : Ref sig .tc := ⟨.hbm, 1662, rfl⟩
abbrev main_v1291 : Ref sig .tc := ⟨.hbm, 1663, rfl⟩
abbrev main_v1292 : Ref sig .tc := ⟨.hbm, 1664, rfl⟩
abbrev main_v1293 : Ref sig .tc := ⟨.hbm, 1665, rfl⟩
abbrev main_v1294 : Ref sig .tc := ⟨.hbm, 1666, rfl⟩
abbrev main_v1295 : Ref sig .tc := ⟨.hbm, 1667, rfl⟩
abbrev main_v1296 : Ref sig .tc := ⟨.hbm, 1668, rfl⟩
abbrev main_v1297 : Ref sig .tc := ⟨.hbm, 1669, rfl⟩
abbrev main_v1298 : Ref sig .tc := ⟨.hbm, 1670, rfl⟩
abbrev main_cst_297 : Ref sig .tc := ⟨.hbm, 1671, rfl⟩
abbrev main_v1299 : Ref sig .tc := ⟨.hbm, 1672, rfl⟩
abbrev main_v1300 : Ref sig .tc := ⟨.hbm, 1673, rfl⟩
abbrev main_v1301 : Ref sig .tc := ⟨.hbm, 1674, rfl⟩
abbrev main_v1302 : Ref sig .tc := ⟨.hbm, 1675, rfl⟩
abbrev main_cst_298 : Ref sig .tc := ⟨.hbm, 1676, rfl⟩
abbrev main_v1303 : Ref sig .tc := ⟨.hbm, 1677, rfl⟩
abbrev main_v1304 : Ref sig .tc := ⟨.hbm, 1678, rfl⟩
abbrev main_v1305 : Ref sig .tc := ⟨.hbm, 1679, rfl⟩
abbrev main_v1306 : Ref sig .tc := ⟨.hbm, 1680, rfl⟩
abbrev main_v1307 : Ref sig .tc := ⟨.hbm, 1681, rfl⟩
abbrev main_v1308 : Ref sig .tc := ⟨.hbm, 1682, rfl⟩
abbrev main_c_299 : Ref sig .tc := ⟨.hbm, 1683, rfl⟩
abbrev main_v1309 : Ref sig .tc := ⟨.hbm, 1684, rfl⟩
abbrev main_v1310 : Ref sig .tc := ⟨.hbm, 1685, rfl⟩
abbrev main_v1311 : Ref sig .tc := ⟨.hbm, 1686, rfl⟩
abbrev main_v1312 : Ref sig .tc := ⟨.hbm, 1687, rfl⟩
abbrev main_c_300 : Ref sig .tc := ⟨.hbm, 1688, rfl⟩
abbrev main_v1313 : Ref sig .tc := ⟨.hbm, 1689, rfl⟩
abbrev main_v1314 : Ref sig .tc := ⟨.hbm, 1690, rfl⟩
abbrev main_c_301 : Ref sig .tc := ⟨.hbm, 1691, rfl⟩
abbrev main_v1315 : Ref sig .tc := ⟨.hbm, 1692, rfl⟩
abbrev main_v1316 : Ref sig .tc := ⟨.hbm, 1693, rfl⟩
abbrev main_v1317 : Ref sig .tc := ⟨.hbm, 1694, rfl⟩
abbrev main_v1318 : Ref sig .tc := ⟨.hbm, 1695, rfl⟩
abbrev main_v1319 : Ref sig .tc := ⟨.hbm, 1696, rfl⟩
abbrev main_c_302 : Ref sig .tc := ⟨.hbm, 1697, rfl⟩
abbrev main_v1320 : Ref sig .tc := ⟨.hbm, 1698, rfl⟩
abbrev main_v1321 : Ref sig .tc := ⟨.hbm, 1699, rfl⟩
abbrev main_c_303 : Ref sig .tc := ⟨.hbm, 1700, rfl⟩
abbrev main_v1322 : Ref sig .tc := ⟨.hbm, 1701, rfl⟩
abbrev main_v1323 : Ref sig .tc := ⟨.hbm, 1702, rfl⟩
abbrev main_v1324 : Ref sig .tc := ⟨.hbm, 1703, rfl⟩
abbrev main_c_304 : Ref sig .tc := ⟨.hbm, 1704, rfl⟩
abbrev main_v1325 : Ref sig .tc := ⟨.hbm, 1705, rfl⟩
abbrev main_v1326 : Ref sig .tc := ⟨.hbm, 1706, rfl⟩
abbrev main_v1327 : Ref sig .tc := ⟨.hbm, 1707, rfl⟩
abbrev main_v1328 : Ref sig .tc := ⟨.hbm, 1708, rfl⟩
abbrev main_v1329 : Ref sig .tc := ⟨.hbm, 1709, rfl⟩
abbrev main_v1330 : Ref sig .tc := ⟨.hbm, 1710, rfl⟩
abbrev main_c_305 : Ref sig .tc := ⟨.hbm, 1711, rfl⟩
abbrev main_v1331 : Ref sig .tc := ⟨.hbm, 1712, rfl⟩
abbrev main_v1332 : Ref sig .tc := ⟨.hbm, 1713, rfl⟩
abbrev main_c_306 : Ref sig .tc := ⟨.hbm, 1714, rfl⟩
abbrev main_v1333 : Ref sig .tc := ⟨.hbm, 1715, rfl⟩
abbrev main_v1334 : Ref sig .tc := ⟨.hbm, 1716, rfl⟩
abbrev main_v1335 : Ref sig .tc := ⟨.hbm, 1717, rfl⟩
abbrev main_v1336 : Ref sig .tc := ⟨.hbm, 1718, rfl⟩
abbrev main_v1337 : Ref sig .tc := ⟨.hbm, 1719, rfl⟩
abbrev main_v1338 : Ref sig .tc := ⟨.hbm, 1720, rfl⟩
abbrev main_v1339 : Ref sig .tc := ⟨.hbm, 1721, rfl⟩
abbrev main_v1340 : Ref sig .tc := ⟨.hbm, 1722, rfl⟩
abbrev main_v1341 : Ref sig .tc := ⟨.hbm, 1723, rfl⟩
abbrev main_cst_307 : Ref sig .tc := ⟨.hbm, 1724, rfl⟩
abbrev main_v1342 : Ref sig .tc := ⟨.hbm, 1725, rfl⟩
abbrev main_v1343 : Ref sig .tc := ⟨.hbm, 1726, rfl⟩
abbrev main_v1344 : Ref sig .tc := ⟨.hbm, 1727, rfl⟩
abbrev main_v1345 : Ref sig .tc := ⟨.hbm, 1728, rfl⟩
abbrev main_v1346 : Ref sig .tc := ⟨.hbm, 1729, rfl⟩
abbrev main_v1347 : Ref sig .tc := ⟨.hbm, 1730, rfl⟩
abbrev main_v1348 : Ref sig .tc := ⟨.hbm, 1731, rfl⟩
abbrev main_v1349 : Ref sig .tc := ⟨.hbm, 1732, rfl⟩
abbrev main_c_308 : Ref sig .tc := ⟨.hbm, 1733, rfl⟩
abbrev main_v1350 : Ref sig .tc := ⟨.hbm, 1734, rfl⟩
abbrev main_v1351 : Ref sig .tc := ⟨.hbm, 1735, rfl⟩
abbrev main_v1352 : Ref sig .tc := ⟨.hbm, 1736, rfl⟩
abbrev main_v1353 : Ref sig .tc := ⟨.hbm, 1737, rfl⟩
abbrev main_c_309 : Ref sig .tc := ⟨.hbm, 1738, rfl⟩
abbrev main_v1354 : Ref sig .tc := ⟨.hbm, 1739, rfl⟩
abbrev main_v1355 : Ref sig .tc := ⟨.hbm, 1740, rfl⟩
abbrev main_c_310 : Ref sig .tc := ⟨.hbm, 1741, rfl⟩
abbrev main_v1356 : Ref sig .tc := ⟨.hbm, 1742, rfl⟩
abbrev main_v1357 : Ref sig .tc := ⟨.hbm, 1743, rfl⟩
abbrev main_v1358 : Ref sig .tc := ⟨.hbm, 1744, rfl⟩
abbrev main_v1359 : Ref sig .tc := ⟨.hbm, 1745, rfl⟩
abbrev main_v1360 : Ref sig .tc := ⟨.hbm, 1746, rfl⟩
abbrev main_c_311 : Ref sig .tc := ⟨.hbm, 1747, rfl⟩
abbrev main_v1361 : Ref sig .tc := ⟨.hbm, 1748, rfl⟩
abbrev main_v1362 : Ref sig .tc := ⟨.hbm, 1749, rfl⟩
abbrev main_c_312 : Ref sig .tc := ⟨.hbm, 1750, rfl⟩
abbrev main_v1363 : Ref sig .tc := ⟨.hbm, 1751, rfl⟩
abbrev main_v1364 : Ref sig .tc := ⟨.hbm, 1752, rfl⟩
abbrev main_v1365 : Ref sig .tc := ⟨.hbm, 1753, rfl⟩
abbrev main_c_313 : Ref sig .tc := ⟨.hbm, 1754, rfl⟩
abbrev main_v1366 : Ref sig .tc := ⟨.hbm, 1755, rfl⟩
abbrev main_v1367 : Ref sig .tc := ⟨.hbm, 1756, rfl⟩
abbrev main_v1368 : Ref sig .tc := ⟨.hbm, 1757, rfl⟩
abbrev main_v1369 : Ref sig .tc := ⟨.hbm, 1758, rfl⟩
abbrev main_v1370 : Ref sig .tc := ⟨.hbm, 1759, rfl⟩
abbrev main_v1371 : Ref sig .tc := ⟨.hbm, 1760, rfl⟩
abbrev main_c_314 : Ref sig .tc := ⟨.hbm, 1761, rfl⟩
abbrev main_v1372 : Ref sig .tc := ⟨.hbm, 1762, rfl⟩
abbrev main_v1373 : Ref sig .tc := ⟨.hbm, 1763, rfl⟩
abbrev main_c_315 : Ref sig .tc := ⟨.hbm, 1764, rfl⟩
abbrev main_v1374 : Ref sig .tc := ⟨.hbm, 1765, rfl⟩
abbrev main_v1375 : Ref sig .tc := ⟨.hbm, 1766, rfl⟩
abbrev main_v1376 : Ref sig .tc := ⟨.hbm, 1767, rfl⟩
abbrev main_v1377 : Ref sig .tc := ⟨.hbm, 1768, rfl⟩
abbrev main_v1378 : Ref sig .tc := ⟨.hbm, 1769, rfl⟩
abbrev main_v1379 : Ref sig .tc := ⟨.hbm, 1770, rfl⟩
abbrev main_v1380 : Ref sig .tc := ⟨.hbm, 1771, rfl⟩
abbrev main_v1381 : Ref sig .tc := ⟨.hbm, 1772, rfl⟩
abbrev main_v1382 : Ref sig .tc := ⟨.hbm, 1773, rfl⟩
abbrev main_v1383 : Ref sig .tc := ⟨.hbm, 1774, rfl⟩
abbrev main_v1384 : Ref sig .tc := ⟨.hbm, 1775, rfl⟩
abbrev main_cst_316 : Ref sig .tc := ⟨.hbm, 1776, rfl⟩
abbrev main_v1385 : Ref sig .tc := ⟨.hbm, 1777, rfl⟩
abbrev main_v1386 : Ref sig .tc := ⟨.hbm, 1778, rfl⟩
abbrev main_v1387 : Ref sig .tc := ⟨.hbm, 1779, rfl⟩
abbrev main_v1388 : Ref sig .tc := ⟨.hbm, 1780, rfl⟩
abbrev main_v1389 : Ref sig .tc := ⟨.hbm, 1781, rfl⟩
abbrev main_v1390 : Ref sig .tc := ⟨.hbm, 1782, rfl⟩
abbrev main_c_317 : Ref sig .tc := ⟨.hbm, 1783, rfl⟩
abbrev main_v1391 : Ref sig .tc := ⟨.hbm, 1784, rfl⟩
abbrev main_v1392 : Ref sig .tc := ⟨.hbm, 1785, rfl⟩
abbrev main_v1393 : Ref sig .tc := ⟨.hbm, 1786, rfl⟩
abbrev main_v1394 : Ref sig .tc := ⟨.hbm, 1787, rfl⟩
abbrev main_c_318 : Ref sig .tc := ⟨.hbm, 1788, rfl⟩
abbrev main_v1395 : Ref sig .tc := ⟨.hbm, 1789, rfl⟩
abbrev main_v1396 : Ref sig .tc := ⟨.hbm, 1790, rfl⟩
abbrev main_c_319 : Ref sig .tc := ⟨.hbm, 1791, rfl⟩
abbrev main_v1397 : Ref sig .tc := ⟨.hbm, 1792, rfl⟩
abbrev main_v1398 : Ref sig .tc := ⟨.hbm, 1793, rfl⟩
abbrev main_v1399 : Ref sig .tc := ⟨.hbm, 1794, rfl⟩
abbrev main_v1400 : Ref sig .tc := ⟨.hbm, 1795, rfl⟩
abbrev main_v1401 : Ref sig .tc := ⟨.hbm, 1796, rfl⟩
abbrev main_c_320 : Ref sig .tc := ⟨.hbm, 1797, rfl⟩
abbrev main_v1402 : Ref sig .tc := ⟨.hbm, 1798, rfl⟩
abbrev main_v1403 : Ref sig .tc := ⟨.hbm, 1799, rfl⟩
abbrev main_c_321 : Ref sig .tc := ⟨.hbm, 1800, rfl⟩
abbrev main_v1404 : Ref sig .tc := ⟨.hbm, 1801, rfl⟩
abbrev main_v1405 : Ref sig .tc := ⟨.hbm, 1802, rfl⟩
abbrev main_v1406 : Ref sig .tc := ⟨.hbm, 1803, rfl⟩
abbrev main_c_322 : Ref sig .tc := ⟨.hbm, 1804, rfl⟩
abbrev main_v1407 : Ref sig .tc := ⟨.hbm, 1805, rfl⟩
abbrev main_v1408 : Ref sig .tc := ⟨.hbm, 1806, rfl⟩
abbrev main_v1409 : Ref sig .tc := ⟨.hbm, 1807, rfl⟩
abbrev main_v1410 : Ref sig .tc := ⟨.hbm, 1808, rfl⟩
abbrev main_v1411 : Ref sig .tc := ⟨.hbm, 1809, rfl⟩
abbrev main_v1412 : Ref sig .tc := ⟨.hbm, 1810, rfl⟩
abbrev main_c_323 : Ref sig .tc := ⟨.hbm, 1811, rfl⟩
abbrev main_v1413 : Ref sig .tc := ⟨.hbm, 1812, rfl⟩
abbrev main_v1414 : Ref sig .tc := ⟨.hbm, 1813, rfl⟩
abbrev main_c_324 : Ref sig .tc := ⟨.hbm, 1814, rfl⟩
abbrev main_v1415 : Ref sig .tc := ⟨.hbm, 1815, rfl⟩
abbrev main_v1416 : Ref sig .tc := ⟨.hbm, 1816, rfl⟩
abbrev main_v1417 : Ref sig .tc := ⟨.hbm, 1817, rfl⟩
abbrev main_v1418 : Ref sig .tc := ⟨.hbm, 1818, rfl⟩
abbrev main_v1419 : Ref sig .tc := ⟨.hbm, 1819, rfl⟩
abbrev main_v1420 : Ref sig .tc := ⟨.hbm, 1820, rfl⟩
abbrev main_v1421 : Ref sig .tc := ⟨.hbm, 1821, rfl⟩
abbrev main_v1422 : Ref sig .tc := ⟨.hbm, 1822, rfl⟩
abbrev main_v1423 : Ref sig .tc := ⟨.hbm, 1823, rfl⟩
abbrev main_v1424 : Ref sig .tc := ⟨.hbm, 1824, rfl⟩
abbrev main_v1425 : Ref sig .tc := ⟨.hbm, 1825, rfl⟩
abbrev main_v1426 : Ref sig .tc := ⟨.hbm, 1826, rfl⟩
abbrev main_v1427 : Ref sig .tc := ⟨.hbm, 1827, rfl⟩
abbrev main_v1428 : Ref sig .tc := ⟨.hbm, 1828, rfl⟩
abbrev main_v1429 : Ref sig .tc := ⟨.hbm, 1829, rfl⟩
abbrev main_c_325 : Ref sig .tc := ⟨.hbm, 1830, rfl⟩
abbrev main_v1430 : Ref sig .tc := ⟨.hbm, 1831, rfl⟩
abbrev main_v1431 : Ref sig .tc := ⟨.hbm, 1832, rfl⟩
abbrev main_v1432 : Ref sig .tc := ⟨.hbm, 1833, rfl⟩
abbrev main_v1433 : Ref sig .tc := ⟨.hbm, 1834, rfl⟩
abbrev main_c_326 : Ref sig .tc := ⟨.hbm, 1835, rfl⟩
abbrev main_v1434 : Ref sig .tc := ⟨.hbm, 1836, rfl⟩
abbrev main_v1435 : Ref sig .tc := ⟨.hbm, 1837, rfl⟩
abbrev main_c_327 : Ref sig .tc := ⟨.hbm, 1838, rfl⟩
abbrev main_v1436 : Ref sig .tc := ⟨.hbm, 1839, rfl⟩
abbrev main_v1437 : Ref sig .tc := ⟨.hbm, 1840, rfl⟩
abbrev main_v1438 : Ref sig .tc := ⟨.hbm, 1841, rfl⟩
abbrev main_v1439 : Ref sig .tc := ⟨.hbm, 1842, rfl⟩
abbrev main_v1440 : Ref sig .tc := ⟨.hbm, 1843, rfl⟩
abbrev main_c_328 : Ref sig .tc := ⟨.hbm, 1844, rfl⟩
abbrev main_v1441 : Ref sig .tc := ⟨.hbm, 1845, rfl⟩
abbrev main_v1442 : Ref sig .tc := ⟨.hbm, 1846, rfl⟩
abbrev main_c_329 : Ref sig .tc := ⟨.hbm, 1847, rfl⟩
abbrev main_v1443 : Ref sig .tc := ⟨.hbm, 1848, rfl⟩
abbrev main_v1444 : Ref sig .tc := ⟨.hbm, 1849, rfl⟩
abbrev main_v1445 : Ref sig .tc := ⟨.hbm, 1850, rfl⟩
abbrev main_c_330 : Ref sig .tc := ⟨.hbm, 1851, rfl⟩
abbrev main_v1446 : Ref sig .tc := ⟨.hbm, 1852, rfl⟩
abbrev main_v1447 : Ref sig .tc := ⟨.hbm, 1853, rfl⟩
abbrev main_v1448 : Ref sig .tc := ⟨.hbm, 1854, rfl⟩
abbrev main_v1449 : Ref sig .tc := ⟨.hbm, 1855, rfl⟩
abbrev main_v1450 : Ref sig .tc := ⟨.hbm, 1856, rfl⟩
abbrev main_v1451 : Ref sig .tc := ⟨.hbm, 1857, rfl⟩
abbrev main_c_331 : Ref sig .tc := ⟨.hbm, 1858, rfl⟩
abbrev main_v1452 : Ref sig .tc := ⟨.hbm, 1859, rfl⟩
abbrev main_v1453 : Ref sig .tc := ⟨.hbm, 1860, rfl⟩
abbrev main_c_332 : Ref sig .tc := ⟨.hbm, 1861, rfl⟩
abbrev main_v1454 : Ref sig .tc := ⟨.hbm, 1862, rfl⟩
abbrev main_v1455 : Ref sig .tc := ⟨.hbm, 1863, rfl⟩
abbrev main_v1456 : Ref sig .tc := ⟨.hbm, 1864, rfl⟩
abbrev main_v1457 : Ref sig .tc := ⟨.hbm, 1865, rfl⟩
abbrev main_v1458 : Ref sig .tc := ⟨.hbm, 1866, rfl⟩
abbrev main_v1459 : Ref sig .tc := ⟨.hbm, 1867, rfl⟩
abbrev main_v1460 : Ref sig .tc := ⟨.hbm, 1868, rfl⟩
abbrev main_cst_333 : Ref sig .tc := ⟨.hbm, 1869, rfl⟩
abbrev main_v1461 : Ref sig .tc := ⟨.hbm, 1870, rfl⟩
abbrev main_c_334 : Ref sig .tc := ⟨.hbm, 1871, rfl⟩
abbrev main_v1462 : Ref sig .tc := ⟨.hbm, 1872, rfl⟩
abbrev main_v1463 : Ref sig .tc := ⟨.hbm, 1873, rfl⟩
abbrev main_c_335 : Ref sig .tc := ⟨.hbm, 1874, rfl⟩
abbrev main_v1464 : Ref sig .tc := ⟨.hbm, 1875, rfl⟩
abbrev main_v1465 : Ref sig .tc := ⟨.hbm, 1876, rfl⟩
abbrev main_v1466 : Ref sig .tc := ⟨.hbm, 1877, rfl⟩
abbrev main_v1467 : Ref sig .tc := ⟨.hbm, 1878, rfl⟩
abbrev main_cst_336 : Ref sig .tc := ⟨.hbm, 1879, rfl⟩
abbrev main_v1468 : Ref sig .tc := ⟨.hbm, 1880, rfl⟩
abbrev main_v1469 : Ref sig .tc := ⟨.hbm, 1881, rfl⟩
abbrev main_cst_337 : Ref sig .tc := ⟨.hbm, 1882, rfl⟩
abbrev main_call6_v0 : Ref sig .tc := ⟨.hbm, 1883, rfl⟩
abbrev main_call6_v1 : Ref sig .tc := ⟨.hbm, 1884, rfl⟩
abbrev main_v1470 : Ref sig .tc := ⟨.hbm, 1885, rfl⟩
abbrev main_v1471 : Ref sig .tc := ⟨.hbm, 1886, rfl⟩
abbrev main_v1472 : Ref sig .tc := ⟨.hbm, 1887, rfl⟩
abbrev main_v1473 : Ref sig .tc := ⟨.hbm, 1888, rfl⟩
abbrev main_v1474 : Ref sig .tc := ⟨.hbm, 1889, rfl⟩
abbrev main_v1475 : Ref sig .tc := ⟨.hbm, 1890, rfl⟩
abbrev main_v1476 : Ref sig .tc := ⟨.hbm, 1891, rfl⟩
abbrev main_v1477 : Ref sig .tc := ⟨.hbm, 1892, rfl⟩
abbrev main_v1478 : Ref sig .tc := ⟨.hbm, 1893, rfl⟩
abbrev main_call7_cst : Ref sig .tc := ⟨.hbm, 1894, rfl⟩
abbrev main_call7_v0 : Ref sig .tc := ⟨.hbm, 1895, rfl⟩
abbrev main_call7_v1 : Ref sig .tc := ⟨.hbm, 1896, rfl⟩
abbrev main_call7_cst_0 : Ref sig .tc := ⟨.hbm, 1897, rfl⟩
abbrev main_call7_v2 : Ref sig .tc := ⟨.hbm, 1898, rfl⟩
abbrev main_call7_v3 : Ref sig .tc := ⟨.hbm, 1899, rfl⟩
abbrev main_call7_cst_1 : Ref sig .tc := ⟨.hbm, 1900, rfl⟩
abbrev main_call7_call0_v0 : Ref sig .tc := ⟨.hbm, 1901, rfl⟩
abbrev main_call7_call0_v1 : Ref sig .tc := ⟨.hbm, 1902, rfl⟩
abbrev main_call7_v4 : Ref sig .tc := ⟨.hbm, 1903, rfl⟩
abbrev main_call7_v5 : Ref sig .tc := ⟨.hbm, 1904, rfl⟩
abbrev main_call7_cst_2 : Ref sig .tc := ⟨.hbm, 1905, rfl⟩
abbrev main_call7_v6 : Ref sig .tc := ⟨.hbm, 1906, rfl⟩
abbrev main_call7_v7 : Ref sig .tc := ⟨.hbm, 1907, rfl⟩
abbrev main_v1479 : Ref sig .tc := ⟨.hbm, 1908, rfl⟩
abbrev main_cst_338 : Ref sig .tc := ⟨.hbm, 1909, rfl⟩
abbrev main_v1480 : Ref sig .tc := ⟨.hbm, 1910, rfl⟩
abbrev main_v1481 : Ref sig .tc := ⟨.hbm, 1911, rfl⟩
abbrev main_v1482 : Ref sig .tc := ⟨.hbm, 1912, rfl⟩
abbrev main_v1483 : Ref sig .tc := ⟨.hbm, 1913, rfl⟩
abbrev main_v1484 : Ref sig .tc := ⟨.hbm, 1914, rfl⟩
abbrev main_v1485 : Ref sig .tc := ⟨.hbm, 1915, rfl⟩
abbrev main_c_339 : Ref sig .tc := ⟨.hbm, 1916, rfl⟩
abbrev main_v1486 : Ref sig .tc := ⟨.hbm, 1917, rfl⟩
abbrev main_v1487 : Ref sig .tc := ⟨.hbm, 1918, rfl⟩
abbrev main_c_340 : Ref sig .tc := ⟨.hbm, 1919, rfl⟩
abbrev main_v1488 : Ref sig .tc := ⟨.hbm, 1920, rfl⟩
abbrev main_v1489 : Ref sig .tc := ⟨.hbm, 1921, rfl⟩
abbrev main_v1490 : Ref sig .tc := ⟨.hbm, 1922, rfl⟩
abbrev main_v1491 : Ref sig .tc := ⟨.hbm, 1923, rfl⟩
abbrev main_v1492 : Ref sig .tc := ⟨.hbm, 1924, rfl⟩
abbrev main_cst_341 : Ref sig .tc := ⟨.hbm, 1925, rfl⟩
abbrev main_v1493 : Ref sig .tc := ⟨.hbm, 1926, rfl⟩
abbrev main_v1494 : Ref sig .tc := ⟨.hbm, 1927, rfl⟩
abbrev main_v1495 : Ref sig .tc := ⟨.hbm, 1928, rfl⟩
abbrev main_cst_342 : Ref sig .tc := ⟨.hbm, 1929, rfl⟩
abbrev main_v1496 : Ref sig .tc := ⟨.hbm, 1930, rfl⟩
abbrev main_v1497 : Ref sig .tc := ⟨.hbm, 1931, rfl⟩
abbrev main_v1498 : Ref sig .tc := ⟨.hbm, 1932, rfl⟩
abbrev main_v1499 : Ref sig .tc := ⟨.hbm, 1933, rfl⟩
abbrev main_cst_343 : Ref sig .tc := ⟨.hbm, 1934, rfl⟩
abbrev main_v1500 : Ref sig .tc := ⟨.hbm, 1935, rfl⟩
abbrev main_v1501 : Ref sig .tc := ⟨.hbm, 1936, rfl⟩
abbrev main_v1502 : Ref sig .tc := ⟨.hbm, 1937, rfl⟩
abbrev main_v1503 : Ref sig .tc := ⟨.hbm, 1938, rfl⟩
abbrev main_cst_344 : Ref sig .tc := ⟨.hbm, 1939, rfl⟩
abbrev main_v1504 : Ref sig .tc := ⟨.hbm, 1940, rfl⟩
abbrev main_v1505 : Ref sig .tc := ⟨.hbm, 1941, rfl⟩
abbrev main_v1506 : Ref sig .tc := ⟨.hbm, 1942, rfl⟩
abbrev main_v1507 : Ref sig .tc := ⟨.hbm, 1943, rfl⟩
abbrev main_v1508 : Ref sig .tc := ⟨.hbm, 1944, rfl⟩
abbrev main_v1509 : Ref sig .tc := ⟨.hbm, 1945, rfl⟩
abbrev main_c_345 : Ref sig .tc := ⟨.hbm, 1946, rfl⟩
abbrev main_v1510 : Ref sig .tc := ⟨.hbm, 1947, rfl⟩
abbrev main_v1511 : Ref sig .tc := ⟨.hbm, 1948, rfl⟩
abbrev main_v1512 : Ref sig .tc := ⟨.hbm, 1949, rfl⟩
abbrev main_v1513 : Ref sig .tc := ⟨.hbm, 1950, rfl⟩
abbrev main_c_346 : Ref sig .tc := ⟨.hbm, 1951, rfl⟩
abbrev main_v1514 : Ref sig .tc := ⟨.hbm, 1952, rfl⟩
abbrev main_v1515 : Ref sig .tc := ⟨.hbm, 1953, rfl⟩
abbrev main_c_347 : Ref sig .tc := ⟨.hbm, 1954, rfl⟩
abbrev main_v1516 : Ref sig .tc := ⟨.hbm, 1955, rfl⟩
abbrev main_v1517 : Ref sig .tc := ⟨.hbm, 1956, rfl⟩
abbrev main_v1518 : Ref sig .tc := ⟨.hbm, 1957, rfl⟩
abbrev main_v1519 : Ref sig .tc := ⟨.hbm, 1958, rfl⟩
abbrev main_v1520 : Ref sig .tc := ⟨.hbm, 1959, rfl⟩
abbrev main_c_348 : Ref sig .tc := ⟨.hbm, 1960, rfl⟩
abbrev main_v1521 : Ref sig .tc := ⟨.hbm, 1961, rfl⟩
abbrev main_v1522 : Ref sig .tc := ⟨.hbm, 1962, rfl⟩
abbrev main_c_349 : Ref sig .tc := ⟨.hbm, 1963, rfl⟩
abbrev main_v1523 : Ref sig .tc := ⟨.hbm, 1964, rfl⟩
abbrev main_v1524 : Ref sig .tc := ⟨.hbm, 1965, rfl⟩
abbrev main_v1525 : Ref sig .tc := ⟨.hbm, 1966, rfl⟩
abbrev main_c_350 : Ref sig .tc := ⟨.hbm, 1967, rfl⟩
abbrev main_v1526 : Ref sig .tc := ⟨.hbm, 1968, rfl⟩
abbrev main_v1527 : Ref sig .tc := ⟨.hbm, 1969, rfl⟩
abbrev main_v1528 : Ref sig .tc := ⟨.hbm, 1970, rfl⟩
abbrev main_v1529 : Ref sig .tc := ⟨.hbm, 1971, rfl⟩
abbrev main_v1530 : Ref sig .tc := ⟨.hbm, 1972, rfl⟩
abbrev main_v1531 : Ref sig .tc := ⟨.hbm, 1973, rfl⟩
abbrev main_c_351 : Ref sig .tc := ⟨.hbm, 1974, rfl⟩
abbrev main_v1532 : Ref sig .tc := ⟨.hbm, 1975, rfl⟩
abbrev main_v1533 : Ref sig .tc := ⟨.hbm, 1976, rfl⟩
abbrev main_c_352 : Ref sig .tc := ⟨.hbm, 1977, rfl⟩
abbrev main_v1534 : Ref sig .tc := ⟨.hbm, 1978, rfl⟩
abbrev main_v1535 : Ref sig .tc := ⟨.hbm, 1979, rfl⟩
abbrev main_v1536 : Ref sig .tc := ⟨.hbm, 1980, rfl⟩
abbrev main_v1537 : Ref sig .tc := ⟨.hbm, 1981, rfl⟩
abbrev main_v1538 : Ref sig .tc := ⟨.hbm, 1982, rfl⟩
abbrev main_v1539 : Ref sig .tc := ⟨.hbm, 1983, rfl⟩
abbrev main_v1540 : Ref sig .tc := ⟨.hbm, 1984, rfl⟩
abbrev main_cst_353 : Ref sig .tc := ⟨.hbm, 1985, rfl⟩
abbrev main_v1541 : Ref sig .tc := ⟨.hbm, 1986, rfl⟩
abbrev main_v1542 : Ref sig .tc := ⟨.hbm, 1987, rfl⟩
abbrev main_v1543 : Ref sig .tc := ⟨.hbm, 1988, rfl⟩
abbrev main_v1544 : Ref sig .tc := ⟨.hbm, 1989, rfl⟩
abbrev main_cst_354 : Ref sig .tc := ⟨.hbm, 1990, rfl⟩
abbrev main_v1545 : Ref sig .tc := ⟨.hbm, 1991, rfl⟩
abbrev main_v1546 : Ref sig .tc := ⟨.hbm, 1992, rfl⟩
abbrev main_v1547 : Ref sig .tc := ⟨.hbm, 1993, rfl⟩
abbrev main_v1548 : Ref sig .tc := ⟨.hbm, 1994, rfl⟩
abbrev main_v1549 : Ref sig .tc := ⟨.hbm, 1995, rfl⟩
abbrev main_v1550 : Ref sig .tc := ⟨.hbm, 1996, rfl⟩
abbrev main_v1551 : Ref sig .tc := ⟨.hbm, 1997, rfl⟩
abbrev main_v1552 : Ref sig .tc := ⟨.hbm, 1998, rfl⟩
abbrev main_c_355 : Ref sig .tc := ⟨.hbm, 1999, rfl⟩
abbrev main_v1553 : Ref sig .tc := ⟨.hbm, 2000, rfl⟩
abbrev main_v1554 : Ref sig .tc := ⟨.hbm, 2001, rfl⟩
abbrev main_v1555 : Ref sig .tc := ⟨.hbm, 2002, rfl⟩
abbrev main_v1556 : Ref sig .tc := ⟨.hbm, 2003, rfl⟩
abbrev main_c_356 : Ref sig .tc := ⟨.hbm, 2004, rfl⟩
abbrev main_v1557 : Ref sig .tc := ⟨.hbm, 2005, rfl⟩
abbrev main_v1558 : Ref sig .tc := ⟨.hbm, 2006, rfl⟩
abbrev main_c_357 : Ref sig .tc := ⟨.hbm, 2007, rfl⟩
abbrev main_v1559 : Ref sig .tc := ⟨.hbm, 2008, rfl⟩
abbrev main_v1560 : Ref sig .tc := ⟨.hbm, 2009, rfl⟩
abbrev main_v1561 : Ref sig .tc := ⟨.hbm, 2010, rfl⟩
abbrev main_v1562 : Ref sig .tc := ⟨.hbm, 2011, rfl⟩
abbrev main_v1563 : Ref sig .tc := ⟨.hbm, 2012, rfl⟩
abbrev main_c_358 : Ref sig .tc := ⟨.hbm, 2013, rfl⟩
abbrev main_v1564 : Ref sig .tc := ⟨.hbm, 2014, rfl⟩
abbrev main_v1565 : Ref sig .tc := ⟨.hbm, 2015, rfl⟩
abbrev main_c_359 : Ref sig .tc := ⟨.hbm, 2016, rfl⟩
abbrev main_v1566 : Ref sig .tc := ⟨.hbm, 2017, rfl⟩
abbrev main_v1567 : Ref sig .tc := ⟨.hbm, 2018, rfl⟩
abbrev main_v1568 : Ref sig .tc := ⟨.hbm, 2019, rfl⟩
abbrev main_c_360 : Ref sig .tc := ⟨.hbm, 2020, rfl⟩
abbrev main_v1569 : Ref sig .tc := ⟨.hbm, 2021, rfl⟩
abbrev main_v1570 : Ref sig .tc := ⟨.hbm, 2022, rfl⟩
abbrev main_v1571 : Ref sig .tc := ⟨.hbm, 2023, rfl⟩
abbrev main_v1572 : Ref sig .tc := ⟨.hbm, 2024, rfl⟩
abbrev main_v1573 : Ref sig .tc := ⟨.hbm, 2025, rfl⟩
abbrev main_v1574 : Ref sig .tc := ⟨.hbm, 2026, rfl⟩
abbrev main_c_361 : Ref sig .tc := ⟨.hbm, 2027, rfl⟩
abbrev main_v1575 : Ref sig .tc := ⟨.hbm, 2028, rfl⟩
abbrev main_v1576 : Ref sig .tc := ⟨.hbm, 2029, rfl⟩
abbrev main_c_362 : Ref sig .tc := ⟨.hbm, 2030, rfl⟩
abbrev main_v1577 : Ref sig .tc := ⟨.hbm, 2031, rfl⟩
abbrev main_v1578 : Ref sig .tc := ⟨.hbm, 2032, rfl⟩
abbrev main_v1579 : Ref sig .tc := ⟨.hbm, 2033, rfl⟩
abbrev main_v1580 : Ref sig .tc := ⟨.hbm, 2034, rfl⟩
abbrev main_v1581 : Ref sig .tc := ⟨.hbm, 2035, rfl⟩
abbrev main_v1582 : Ref sig .tc := ⟨.hbm, 2036, rfl⟩
abbrev main_v1583 : Ref sig .tc := ⟨.hbm, 2037, rfl⟩
abbrev main_cst_363 : Ref sig .tc := ⟨.hbm, 2038, rfl⟩
abbrev main_v1584 : Ref sig .tc := ⟨.hbm, 2039, rfl⟩
abbrev main_v1585 : Ref sig .tc := ⟨.hbm, 2040, rfl⟩
abbrev main_v1586 : Ref sig .tc := ⟨.hbm, 2041, rfl⟩
abbrev main_v1587 : Ref sig .tc := ⟨.hbm, 2042, rfl⟩
abbrev main_v1588 : Ref sig .tc := ⟨.hbm, 2043, rfl⟩
abbrev main_v1589 : Ref sig .tc := ⟨.hbm, 2044, rfl⟩
abbrev main_cst_364 : Ref sig .tc := ⟨.hbm, 2045, rfl⟩
abbrev main_v1590 : Ref sig .tc := ⟨.hbm, 2046, rfl⟩
abbrev main_v1591 : Ref sig .tc := ⟨.hbm, 2047, rfl⟩
abbrev main_v1592 : Ref sig .tc := ⟨.hbm, 2048, rfl⟩
abbrev main_v1593 : Ref sig .tc := ⟨.hbm, 2049, rfl⟩
abbrev main_v1594 : Ref sig .tc := ⟨.hbm, 2050, rfl⟩
abbrev main_v1595 : Ref sig .tc := ⟨.hbm, 2051, rfl⟩
abbrev main_c_365 : Ref sig .tc := ⟨.hbm, 2052, rfl⟩
abbrev main_v1596 : Ref sig .tc := ⟨.hbm, 2053, rfl⟩
abbrev main_v1597 : Ref sig .tc := ⟨.hbm, 2054, rfl⟩
abbrev main_v1598 : Ref sig .tc := ⟨.hbm, 2055, rfl⟩
abbrev main_v1599 : Ref sig .tc := ⟨.hbm, 2056, rfl⟩
abbrev main_c_366 : Ref sig .tc := ⟨.hbm, 2057, rfl⟩
abbrev main_v1600 : Ref sig .tc := ⟨.hbm, 2058, rfl⟩
abbrev main_v1601 : Ref sig .tc := ⟨.hbm, 2059, rfl⟩
abbrev main_c_367 : Ref sig .tc := ⟨.hbm, 2060, rfl⟩
abbrev main_v1602 : Ref sig .tc := ⟨.hbm, 2061, rfl⟩
abbrev main_v1603 : Ref sig .tc := ⟨.hbm, 2062, rfl⟩
abbrev main_v1604 : Ref sig .tc := ⟨.hbm, 2063, rfl⟩
abbrev main_v1605 : Ref sig .tc := ⟨.hbm, 2064, rfl⟩
abbrev main_v1606 : Ref sig .tc := ⟨.hbm, 2065, rfl⟩
abbrev main_c_368 : Ref sig .tc := ⟨.hbm, 2066, rfl⟩
abbrev main_v1607 : Ref sig .tc := ⟨.hbm, 2067, rfl⟩
abbrev main_v1608 : Ref sig .tc := ⟨.hbm, 2068, rfl⟩
abbrev main_c_369 : Ref sig .tc := ⟨.hbm, 2069, rfl⟩
abbrev main_v1609 : Ref sig .tc := ⟨.hbm, 2070, rfl⟩
abbrev main_v1610 : Ref sig .tc := ⟨.hbm, 2071, rfl⟩
abbrev main_v1611 : Ref sig .tc := ⟨.hbm, 2072, rfl⟩
abbrev main_c_370 : Ref sig .tc := ⟨.hbm, 2073, rfl⟩
abbrev main_v1612 : Ref sig .tc := ⟨.hbm, 2074, rfl⟩
abbrev main_v1613 : Ref sig .tc := ⟨.hbm, 2075, rfl⟩
abbrev main_v1614 : Ref sig .tc := ⟨.hbm, 2076, rfl⟩
abbrev main_v1615 : Ref sig .tc := ⟨.hbm, 2077, rfl⟩
abbrev main_v1616 : Ref sig .tc := ⟨.hbm, 2078, rfl⟩
abbrev main_v1617 : Ref sig .tc := ⟨.hbm, 2079, rfl⟩
abbrev main_c_371 : Ref sig .tc := ⟨.hbm, 2080, rfl⟩
abbrev main_v1618 : Ref sig .tc := ⟨.hbm, 2081, rfl⟩
abbrev main_v1619 : Ref sig .tc := ⟨.hbm, 2082, rfl⟩
abbrev main_c_372 : Ref sig .tc := ⟨.hbm, 2083, rfl⟩
abbrev main_v1620 : Ref sig .tc := ⟨.hbm, 2084, rfl⟩
abbrev main_v1621 : Ref sig .tc := ⟨.hbm, 2085, rfl⟩
abbrev main_v1622 : Ref sig .tc := ⟨.hbm, 2086, rfl⟩
abbrev main_v1623 : Ref sig .tc := ⟨.hbm, 2087, rfl⟩
abbrev main_v1624 : Ref sig .tc := ⟨.hbm, 2088, rfl⟩
abbrev main_v1625 : Ref sig .tc := ⟨.hbm, 2089, rfl⟩
abbrev main_v1626 : Ref sig .tc := ⟨.hbm, 2090, rfl⟩
abbrev main_cst_373 : Ref sig .tc := ⟨.hbm, 2091, rfl⟩
abbrev main_v1627 : Ref sig .tc := ⟨.hbm, 2092, rfl⟩
abbrev main_v1628 : Ref sig .tc := ⟨.hbm, 2093, rfl⟩
abbrev main_v1629 : Ref sig .tc := ⟨.hbm, 2094, rfl⟩
abbrev main_v1630 : Ref sig .tc := ⟨.hbm, 2095, rfl⟩
abbrev main_v1631 : Ref sig .tc := ⟨.hbm, 2096, rfl⟩
abbrev main_v1632 : Ref sig .tc := ⟨.hbm, 2097, rfl⟩
abbrev main_v1633 : Ref sig .tc := ⟨.hbm, 2098, rfl⟩
abbrev main_v1634 : Ref sig .tc := ⟨.hbm, 2099, rfl⟩
abbrev main_v1635 : Ref sig .tc := ⟨.hbm, 2100, rfl⟩
abbrev main_v1636 : Ref sig .tc := ⟨.hbm, 2101, rfl⟩
abbrev main_c_374 : Ref sig .tc := ⟨.hbm, 2102, rfl⟩
abbrev main_v1637 : Ref sig .tc := ⟨.hbm, 2103, rfl⟩
abbrev main_v1638 : Ref sig .tc := ⟨.hbm, 2104, rfl⟩
abbrev main_v1639 : Ref sig .tc := ⟨.hbm, 2105, rfl⟩
abbrev main_v1640 : Ref sig .tc := ⟨.hbm, 2106, rfl⟩
abbrev main_c_375 : Ref sig .tc := ⟨.hbm, 2107, rfl⟩
abbrev main_v1641 : Ref sig .tc := ⟨.hbm, 2108, rfl⟩
abbrev main_v1642 : Ref sig .tc := ⟨.hbm, 2109, rfl⟩
abbrev main_c_376 : Ref sig .tc := ⟨.hbm, 2110, rfl⟩
abbrev main_v1643 : Ref sig .tc := ⟨.hbm, 2111, rfl⟩
abbrev main_v1644 : Ref sig .tc := ⟨.hbm, 2112, rfl⟩
abbrev main_v1645 : Ref sig .tc := ⟨.hbm, 2113, rfl⟩
abbrev main_v1646 : Ref sig .tc := ⟨.hbm, 2114, rfl⟩
abbrev main_v1647 : Ref sig .tc := ⟨.hbm, 2115, rfl⟩
abbrev main_c_377 : Ref sig .tc := ⟨.hbm, 2116, rfl⟩
abbrev main_v1648 : Ref sig .tc := ⟨.hbm, 2117, rfl⟩
abbrev main_v1649 : Ref sig .tc := ⟨.hbm, 2118, rfl⟩
abbrev main_c_378 : Ref sig .tc := ⟨.hbm, 2119, rfl⟩
abbrev main_v1650 : Ref sig .tc := ⟨.hbm, 2120, rfl⟩
abbrev main_v1651 : Ref sig .tc := ⟨.hbm, 2121, rfl⟩
abbrev main_v1652 : Ref sig .tc := ⟨.hbm, 2122, rfl⟩
abbrev main_c_379 : Ref sig .tc := ⟨.hbm, 2123, rfl⟩
abbrev main_v1653 : Ref sig .tc := ⟨.hbm, 2124, rfl⟩
abbrev main_v1654 : Ref sig .tc := ⟨.hbm, 2125, rfl⟩
abbrev main_v1655 : Ref sig .tc := ⟨.hbm, 2126, rfl⟩
abbrev main_v1656 : Ref sig .tc := ⟨.hbm, 2127, rfl⟩
abbrev main_v1657 : Ref sig .tc := ⟨.hbm, 2128, rfl⟩
abbrev main_v1658 : Ref sig .tc := ⟨.hbm, 2129, rfl⟩
abbrev main_c_380 : Ref sig .tc := ⟨.hbm, 2130, rfl⟩
abbrev main_v1659 : Ref sig .tc := ⟨.hbm, 2131, rfl⟩
abbrev main_v1660 : Ref sig .tc := ⟨.hbm, 2132, rfl⟩
abbrev main_c_381 : Ref sig .tc := ⟨.hbm, 2133, rfl⟩
abbrev main_v1661 : Ref sig .tc := ⟨.hbm, 2134, rfl⟩
abbrev main_v1662 : Ref sig .tc := ⟨.hbm, 2135, rfl⟩
abbrev main_v1663 : Ref sig .tc := ⟨.hbm, 2136, rfl⟩
abbrev main_v1664 : Ref sig .tc := ⟨.hbm, 2137, rfl⟩
abbrev main_v1665 : Ref sig .tc := ⟨.hbm, 2138, rfl⟩
abbrev main_v1666 : Ref sig .tc := ⟨.hbm, 2139, rfl⟩
abbrev main_v1667 : Ref sig .tc := ⟨.hbm, 2140, rfl⟩
abbrev main_v1668 : Ref sig .tc := ⟨.hbm, 2141, rfl⟩
abbrev main_v1669 : Ref sig .tc := ⟨.hbm, 2142, rfl⟩
abbrev main_cst_382 : Ref sig .tc := ⟨.hbm, 2143, rfl⟩
abbrev main_v1670 : Ref sig .tc := ⟨.hbm, 2144, rfl⟩
abbrev main_v1671 : Ref sig .tc := ⟨.hbm, 2145, rfl⟩
abbrev main_v1672 : Ref sig .tc := ⟨.hbm, 2146, rfl⟩
abbrev main_v1673 : Ref sig .tc := ⟨.hbm, 2147, rfl⟩
abbrev main_cst_383 : Ref sig .tc := ⟨.hbm, 2148, rfl⟩
abbrev main_v1674 : Ref sig .tc := ⟨.hbm, 2149, rfl⟩
abbrev main_v1675 : Ref sig .tc := ⟨.hbm, 2150, rfl⟩
abbrev main_v1676 : Ref sig .tc := ⟨.hbm, 2151, rfl⟩
abbrev main_v1677 : Ref sig .tc := ⟨.hbm, 2152, rfl⟩
abbrev main_v1678 : Ref sig .tc := ⟨.hbm, 2153, rfl⟩
abbrev main_v1679 : Ref sig .tc := ⟨.hbm, 2154, rfl⟩
abbrev main_c_384 : Ref sig .tc := ⟨.hbm, 2155, rfl⟩
abbrev main_v1680 : Ref sig .tc := ⟨.hbm, 2156, rfl⟩
abbrev main_v1681 : Ref sig .tc := ⟨.hbm, 2157, rfl⟩
abbrev main_v1682 : Ref sig .tc := ⟨.hbm, 2158, rfl⟩
abbrev main_v1683 : Ref sig .tc := ⟨.hbm, 2159, rfl⟩
abbrev main_c_385 : Ref sig .tc := ⟨.hbm, 2160, rfl⟩
abbrev main_v1684 : Ref sig .tc := ⟨.hbm, 2161, rfl⟩
abbrev main_v1685 : Ref sig .tc := ⟨.hbm, 2162, rfl⟩
abbrev main_c_386 : Ref sig .tc := ⟨.hbm, 2163, rfl⟩
abbrev main_v1686 : Ref sig .tc := ⟨.hbm, 2164, rfl⟩
abbrev main_v1687 : Ref sig .tc := ⟨.hbm, 2165, rfl⟩
abbrev main_v1688 : Ref sig .tc := ⟨.hbm, 2166, rfl⟩
abbrev main_v1689 : Ref sig .tc := ⟨.hbm, 2167, rfl⟩
abbrev main_v1690 : Ref sig .tc := ⟨.hbm, 2168, rfl⟩
abbrev main_c_387 : Ref sig .tc := ⟨.hbm, 2169, rfl⟩
abbrev main_v1691 : Ref sig .tc := ⟨.hbm, 2170, rfl⟩
abbrev main_v1692 : Ref sig .tc := ⟨.hbm, 2171, rfl⟩
abbrev main_c_388 : Ref sig .tc := ⟨.hbm, 2172, rfl⟩
abbrev main_v1693 : Ref sig .tc := ⟨.hbm, 2173, rfl⟩
abbrev main_v1694 : Ref sig .tc := ⟨.hbm, 2174, rfl⟩
abbrev main_v1695 : Ref sig .tc := ⟨.hbm, 2175, rfl⟩
abbrev main_c_389 : Ref sig .tc := ⟨.hbm, 2176, rfl⟩
abbrev main_v1696 : Ref sig .tc := ⟨.hbm, 2177, rfl⟩
abbrev main_v1697 : Ref sig .tc := ⟨.hbm, 2178, rfl⟩
abbrev main_v1698 : Ref sig .tc := ⟨.hbm, 2179, rfl⟩
abbrev main_v1699 : Ref sig .tc := ⟨.hbm, 2180, rfl⟩
abbrev main_v1700 : Ref sig .tc := ⟨.hbm, 2181, rfl⟩
abbrev main_v1701 : Ref sig .tc := ⟨.hbm, 2182, rfl⟩
abbrev main_c_390 : Ref sig .tc := ⟨.hbm, 2183, rfl⟩
abbrev main_v1702 : Ref sig .tc := ⟨.hbm, 2184, rfl⟩
abbrev main_v1703 : Ref sig .tc := ⟨.hbm, 2185, rfl⟩
abbrev main_c_391 : Ref sig .tc := ⟨.hbm, 2186, rfl⟩
abbrev main_v1704 : Ref sig .tc := ⟨.hbm, 2187, rfl⟩
abbrev main_v1705 : Ref sig .tc := ⟨.hbm, 2188, rfl⟩
abbrev main_v1706 : Ref sig .tc := ⟨.hbm, 2189, rfl⟩
abbrev main_v1707 : Ref sig .tc := ⟨.hbm, 2190, rfl⟩
abbrev main_v1708 : Ref sig .tc := ⟨.hbm, 2191, rfl⟩
abbrev main_v1709 : Ref sig .tc := ⟨.hbm, 2192, rfl⟩
abbrev main_v1710 : Ref sig .tc := ⟨.hbm, 2193, rfl⟩
abbrev main_v1711 : Ref sig .tc := ⟨.hbm, 2194, rfl⟩
abbrev main_v1712 : Ref sig .tc := ⟨.hbm, 2195, rfl⟩
abbrev main_cst_392 : Ref sig .tc := ⟨.hbm, 2196, rfl⟩
abbrev main_v1713 : Ref sig .tc := ⟨.hbm, 2197, rfl⟩
abbrev main_v1714 : Ref sig .tc := ⟨.hbm, 2198, rfl⟩
abbrev main_v1715 : Ref sig .tc := ⟨.hbm, 2199, rfl⟩
abbrev main_v1716 : Ref sig .tc := ⟨.hbm, 2200, rfl⟩
abbrev main_v1717 : Ref sig .tc := ⟨.hbm, 2201, rfl⟩
abbrev main_v1718 : Ref sig .tc := ⟨.hbm, 2202, rfl⟩
abbrev main_v1719 : Ref sig .tc := ⟨.hbm, 2203, rfl⟩
abbrev main_v1720 : Ref sig .tc := ⟨.hbm, 2204, rfl⟩
abbrev main_c_393 : Ref sig .tc := ⟨.hbm, 2205, rfl⟩
abbrev main_v1721 : Ref sig .tc := ⟨.hbm, 2206, rfl⟩
abbrev main_v1722 : Ref sig .tc := ⟨.hbm, 2207, rfl⟩
abbrev main_v1723 : Ref sig .tc := ⟨.hbm, 2208, rfl⟩
abbrev main_v1724 : Ref sig .tc := ⟨.hbm, 2209, rfl⟩
abbrev main_c_394 : Ref sig .tc := ⟨.hbm, 2210, rfl⟩
abbrev main_v1725 : Ref sig .tc := ⟨.hbm, 2211, rfl⟩
abbrev main_v1726 : Ref sig .tc := ⟨.hbm, 2212, rfl⟩
abbrev main_c_395 : Ref sig .tc := ⟨.hbm, 2213, rfl⟩
abbrev main_v1727 : Ref sig .tc := ⟨.hbm, 2214, rfl⟩
abbrev main_v1728 : Ref sig .tc := ⟨.hbm, 2215, rfl⟩
abbrev main_v1729 : Ref sig .tc := ⟨.hbm, 2216, rfl⟩
abbrev main_v1730 : Ref sig .tc := ⟨.hbm, 2217, rfl⟩
abbrev main_v1731 : Ref sig .tc := ⟨.hbm, 2218, rfl⟩
abbrev main_c_396 : Ref sig .tc := ⟨.hbm, 2219, rfl⟩
abbrev main_v1732 : Ref sig .tc := ⟨.hbm, 2220, rfl⟩
abbrev main_v1733 : Ref sig .tc := ⟨.hbm, 2221, rfl⟩
abbrev main_c_397 : Ref sig .tc := ⟨.hbm, 2222, rfl⟩
abbrev main_v1734 : Ref sig .tc := ⟨.hbm, 2223, rfl⟩
abbrev main_v1735 : Ref sig .tc := ⟨.hbm, 2224, rfl⟩
abbrev main_v1736 : Ref sig .tc := ⟨.hbm, 2225, rfl⟩
abbrev main_c_398 : Ref sig .tc := ⟨.hbm, 2226, rfl⟩
abbrev main_v1737 : Ref sig .tc := ⟨.hbm, 2227, rfl⟩
abbrev main_v1738 : Ref sig .tc := ⟨.hbm, 2228, rfl⟩
abbrev main_v1739 : Ref sig .tc := ⟨.hbm, 2229, rfl⟩
abbrev main_v1740 : Ref sig .tc := ⟨.hbm, 2230, rfl⟩
abbrev main_v1741 : Ref sig .tc := ⟨.hbm, 2231, rfl⟩
abbrev main_v1742 : Ref sig .tc := ⟨.hbm, 2232, rfl⟩
abbrev main_c_399 : Ref sig .tc := ⟨.hbm, 2233, rfl⟩
abbrev main_v1743 : Ref sig .tc := ⟨.hbm, 2234, rfl⟩
abbrev main_v1744 : Ref sig .tc := ⟨.hbm, 2235, rfl⟩
abbrev main_c_400 : Ref sig .tc := ⟨.hbm, 2236, rfl⟩
abbrev main_v1745 : Ref sig .tc := ⟨.hbm, 2237, rfl⟩
abbrev main_v1746 : Ref sig .tc := ⟨.hbm, 2238, rfl⟩
abbrev main_v1747 : Ref sig .tc := ⟨.hbm, 2239, rfl⟩
abbrev main_v1748 : Ref sig .tc := ⟨.hbm, 2240, rfl⟩
abbrev main_v1749 : Ref sig .tc := ⟨.hbm, 2241, rfl⟩
abbrev main_v1750 : Ref sig .tc := ⟨.hbm, 2242, rfl⟩
abbrev main_v1751 : Ref sig .tc := ⟨.hbm, 2243, rfl⟩
abbrev main_v1752 : Ref sig .tc := ⟨.hbm, 2244, rfl⟩
abbrev main_v1753 : Ref sig .tc := ⟨.hbm, 2245, rfl⟩
abbrev main_v1754 : Ref sig .tc := ⟨.hbm, 2246, rfl⟩
abbrev main_v1755 : Ref sig .tc := ⟨.hbm, 2247, rfl⟩
abbrev main_cst_401 : Ref sig .tc := ⟨.hbm, 2248, rfl⟩
abbrev main_v1756 : Ref sig .tc := ⟨.hbm, 2249, rfl⟩
abbrev main_v1757 : Ref sig .tc := ⟨.hbm, 2250, rfl⟩
abbrev main_v1758 : Ref sig .tc := ⟨.hbm, 2251, rfl⟩
abbrev main_v1759 : Ref sig .tc := ⟨.hbm, 2252, rfl⟩
abbrev main_v1760 : Ref sig .tc := ⟨.hbm, 2253, rfl⟩
abbrev main_v1761 : Ref sig .tc := ⟨.hbm, 2254, rfl⟩
abbrev main_c_402 : Ref sig .tc := ⟨.hbm, 2255, rfl⟩
abbrev main_v1762 : Ref sig .tc := ⟨.hbm, 2256, rfl⟩
abbrev main_v1763 : Ref sig .tc := ⟨.hbm, 2257, rfl⟩
abbrev main_v1764 : Ref sig .tc := ⟨.hbm, 2258, rfl⟩
abbrev main_v1765 : Ref sig .tc := ⟨.hbm, 2259, rfl⟩
abbrev main_c_403 : Ref sig .tc := ⟨.hbm, 2260, rfl⟩
abbrev main_v1766 : Ref sig .tc := ⟨.hbm, 2261, rfl⟩
abbrev main_v1767 : Ref sig .tc := ⟨.hbm, 2262, rfl⟩
abbrev main_c_404 : Ref sig .tc := ⟨.hbm, 2263, rfl⟩
abbrev main_v1768 : Ref sig .tc := ⟨.hbm, 2264, rfl⟩
abbrev main_v1769 : Ref sig .tc := ⟨.hbm, 2265, rfl⟩
abbrev main_v1770 : Ref sig .tc := ⟨.hbm, 2266, rfl⟩
abbrev main_v1771 : Ref sig .tc := ⟨.hbm, 2267, rfl⟩
abbrev main_v1772 : Ref sig .tc := ⟨.hbm, 2268, rfl⟩
abbrev main_c_405 : Ref sig .tc := ⟨.hbm, 2269, rfl⟩
abbrev main_v1773 : Ref sig .tc := ⟨.hbm, 2270, rfl⟩
abbrev main_v1774 : Ref sig .tc := ⟨.hbm, 2271, rfl⟩
abbrev main_c_406 : Ref sig .tc := ⟨.hbm, 2272, rfl⟩
abbrev main_v1775 : Ref sig .tc := ⟨.hbm, 2273, rfl⟩
abbrev main_v1776 : Ref sig .tc := ⟨.hbm, 2274, rfl⟩
abbrev main_v1777 : Ref sig .tc := ⟨.hbm, 2275, rfl⟩
abbrev main_c_407 : Ref sig .tc := ⟨.hbm, 2276, rfl⟩
abbrev main_v1778 : Ref sig .tc := ⟨.hbm, 2277, rfl⟩
abbrev main_v1779 : Ref sig .tc := ⟨.hbm, 2278, rfl⟩
abbrev main_v1780 : Ref sig .tc := ⟨.hbm, 2279, rfl⟩
abbrev main_v1781 : Ref sig .tc := ⟨.hbm, 2280, rfl⟩
abbrev main_v1782 : Ref sig .tc := ⟨.hbm, 2281, rfl⟩
abbrev main_v1783 : Ref sig .tc := ⟨.hbm, 2282, rfl⟩
abbrev main_c_408 : Ref sig .tc := ⟨.hbm, 2283, rfl⟩
abbrev main_v1784 : Ref sig .tc := ⟨.hbm, 2284, rfl⟩
abbrev main_v1785 : Ref sig .tc := ⟨.hbm, 2285, rfl⟩
abbrev main_c_409 : Ref sig .tc := ⟨.hbm, 2286, rfl⟩
abbrev main_v1786 : Ref sig .tc := ⟨.hbm, 2287, rfl⟩
abbrev main_v1787 : Ref sig .tc := ⟨.hbm, 2288, rfl⟩
abbrev main_v1788 : Ref sig .tc := ⟨.hbm, 2289, rfl⟩
abbrev main_v1789 : Ref sig .tc := ⟨.hbm, 2290, rfl⟩
abbrev main_v1790 : Ref sig .tc := ⟨.hbm, 2291, rfl⟩
abbrev main_v1791 : Ref sig .tc := ⟨.hbm, 2292, rfl⟩
abbrev main_v1792 : Ref sig .tc := ⟨.hbm, 2293, rfl⟩
abbrev main_v1793 : Ref sig .tc := ⟨.hbm, 2294, rfl⟩
abbrev main_v1794 : Ref sig .tc := ⟨.hbm, 2295, rfl⟩
abbrev main_v1795 : Ref sig .tc := ⟨.hbm, 2296, rfl⟩
abbrev main_v1796 : Ref sig .tc := ⟨.hbm, 2297, rfl⟩
abbrev main_v1797 : Ref sig .tc := ⟨.hbm, 2298, rfl⟩
abbrev main_v1798 : Ref sig .tc := ⟨.hbm, 2299, rfl⟩
abbrev main_v1799 : Ref sig .tc := ⟨.hbm, 2300, rfl⟩
abbrev main_v1800 : Ref sig .tc := ⟨.hbm, 2301, rfl⟩
abbrev main_c_410 : Ref sig .tc := ⟨.hbm, 2302, rfl⟩
abbrev main_v1801 : Ref sig .tc := ⟨.hbm, 2303, rfl⟩
abbrev main_v1802 : Ref sig .tc := ⟨.hbm, 2304, rfl⟩
abbrev main_v1803 : Ref sig .tc := ⟨.hbm, 2305, rfl⟩
abbrev main_v1804 : Ref sig .tc := ⟨.hbm, 2306, rfl⟩
abbrev main_c_411 : Ref sig .tc := ⟨.hbm, 2307, rfl⟩
abbrev main_v1805 : Ref sig .tc := ⟨.hbm, 2308, rfl⟩
abbrev main_v1806 : Ref sig .tc := ⟨.hbm, 2309, rfl⟩
abbrev main_c_412 : Ref sig .tc := ⟨.hbm, 2310, rfl⟩
abbrev main_v1807 : Ref sig .tc := ⟨.hbm, 2311, rfl⟩
abbrev main_v1808 : Ref sig .tc := ⟨.hbm, 2312, rfl⟩
abbrev main_v1809 : Ref sig .tc := ⟨.hbm, 2313, rfl⟩
abbrev main_v1810 : Ref sig .tc := ⟨.hbm, 2314, rfl⟩
abbrev main_v1811 : Ref sig .tc := ⟨.hbm, 2315, rfl⟩
abbrev main_c_413 : Ref sig .tc := ⟨.hbm, 2316, rfl⟩
abbrev main_v1812 : Ref sig .tc := ⟨.hbm, 2317, rfl⟩
abbrev main_v1813 : Ref sig .tc := ⟨.hbm, 2318, rfl⟩
abbrev main_c_414 : Ref sig .tc := ⟨.hbm, 2319, rfl⟩
abbrev main_v1814 : Ref sig .tc := ⟨.hbm, 2320, rfl⟩
abbrev main_v1815 : Ref sig .tc := ⟨.hbm, 2321, rfl⟩
abbrev main_v1816 : Ref sig .tc := ⟨.hbm, 2322, rfl⟩
abbrev main_c_415 : Ref sig .tc := ⟨.hbm, 2323, rfl⟩
abbrev main_v1817 : Ref sig .tc := ⟨.hbm, 2324, rfl⟩
abbrev main_v1818 : Ref sig .tc := ⟨.hbm, 2325, rfl⟩
abbrev main_v1819 : Ref sig .tc := ⟨.hbm, 2326, rfl⟩
abbrev main_v1820 : Ref sig .tc := ⟨.hbm, 2327, rfl⟩
abbrev main_v1821 : Ref sig .tc := ⟨.hbm, 2328, rfl⟩
abbrev main_v1822 : Ref sig .tc := ⟨.hbm, 2329, rfl⟩
abbrev main_c_416 : Ref sig .tc := ⟨.hbm, 2330, rfl⟩
abbrev main_v1823 : Ref sig .tc := ⟨.hbm, 2331, rfl⟩
abbrev main_v1824 : Ref sig .tc := ⟨.hbm, 2332, rfl⟩
abbrev main_c_417 : Ref sig .tc := ⟨.hbm, 2333, rfl⟩
abbrev main_v1825 : Ref sig .tc := ⟨.hbm, 2334, rfl⟩
abbrev main_v1826 : Ref sig .tc := ⟨.hbm, 2335, rfl⟩
abbrev main_v1827 : Ref sig .tc := ⟨.hbm, 2336, rfl⟩
abbrev main_v1828 : Ref sig .tc := ⟨.hbm, 2337, rfl⟩
abbrev main_v1829 : Ref sig .tc := ⟨.hbm, 2338, rfl⟩
abbrev main_v1830 : Ref sig .tc := ⟨.hbm, 2339, rfl⟩
abbrev main_v1831 : Ref sig .tc := ⟨.hbm, 2340, rfl⟩
abbrev main_cst_418 : Ref sig .tc := ⟨.hbm, 2341, rfl⟩
abbrev main_v1832 : Ref sig .tc := ⟨.hbm, 2342, rfl⟩
abbrev main_c_419 : Ref sig .tc := ⟨.hbm, 2343, rfl⟩
abbrev main_v1833 : Ref sig .tc := ⟨.hbm, 2344, rfl⟩
abbrev main_v1834 : Ref sig .tc := ⟨.hbm, 2345, rfl⟩
abbrev main_c_420 : Ref sig .tc := ⟨.hbm, 2346, rfl⟩
abbrev main_v1835 : Ref sig .tc := ⟨.hbm, 2347, rfl⟩
abbrev main_v1836 : Ref sig .tc := ⟨.hbm, 2348, rfl⟩
abbrev main_v1837 : Ref sig .tc := ⟨.hbm, 2349, rfl⟩
abbrev main_v1838 : Ref sig .tc := ⟨.hbm, 2350, rfl⟩
abbrev main_cst_421 : Ref sig .tc := ⟨.hbm, 2351, rfl⟩
abbrev main_v1839 : Ref sig .tc := ⟨.hbm, 2352, rfl⟩
abbrev main_v1840 : Ref sig .tc := ⟨.hbm, 2353, rfl⟩
abbrev main_cst_422 : Ref sig .tc := ⟨.hbm, 2354, rfl⟩
abbrev main_call8_v0 : Ref sig .tc := ⟨.hbm, 2355, rfl⟩
abbrev main_call8_v1 : Ref sig .tc := ⟨.hbm, 2356, rfl⟩
abbrev main_v1841 : Ref sig .tc := ⟨.hbm, 2357, rfl⟩
abbrev main_v1842 : Ref sig .tc := ⟨.hbm, 2358, rfl⟩
abbrev main_v1843 : Ref sig .tc := ⟨.hbm, 2359, rfl⟩
abbrev main_v1844 : Ref sig .tc := ⟨.hbm, 2360, rfl⟩
abbrev main_v1845 : Ref sig .tc := ⟨.hbm, 2361, rfl⟩
abbrev main_v1846 : Ref sig .tc := ⟨.hbm, 2362, rfl⟩
abbrev main_v1847 : Ref sig .tc := ⟨.hbm, 2363, rfl⟩
abbrev main_v1848 : Ref sig .tc := ⟨.hbm, 2364, rfl⟩
abbrev main_v1849 : Ref sig .tc := ⟨.hbm, 2365, rfl⟩
abbrev main_call9_cst : Ref sig .tc := ⟨.hbm, 2366, rfl⟩
abbrev main_call9_v0 : Ref sig .tc := ⟨.hbm, 2367, rfl⟩
abbrev main_call9_v1 : Ref sig .tc := ⟨.hbm, 2368, rfl⟩
abbrev main_call9_cst_0 : Ref sig .tc := ⟨.hbm, 2369, rfl⟩
abbrev main_call9_v2 : Ref sig .tc := ⟨.hbm, 2370, rfl⟩
abbrev main_call9_v3 : Ref sig .tc := ⟨.hbm, 2371, rfl⟩
abbrev main_call9_cst_1 : Ref sig .tc := ⟨.hbm, 2372, rfl⟩
abbrev main_call9_call0_v0 : Ref sig .tc := ⟨.hbm, 2373, rfl⟩
abbrev main_call9_call0_v1 : Ref sig .tc := ⟨.hbm, 2374, rfl⟩
abbrev main_call9_v4 : Ref sig .tc := ⟨.hbm, 2375, rfl⟩
abbrev main_call9_v5 : Ref sig .tc := ⟨.hbm, 2376, rfl⟩
abbrev main_call9_cst_2 : Ref sig .tc := ⟨.hbm, 2377, rfl⟩
abbrev main_call9_v6 : Ref sig .tc := ⟨.hbm, 2378, rfl⟩
abbrev main_call9_v7 : Ref sig .tc := ⟨.hbm, 2379, rfl⟩
abbrev main_v1850 : Ref sig .tc := ⟨.hbm, 2380, rfl⟩
abbrev main_cst_423 : Ref sig .tc := ⟨.hbm, 2381, rfl⟩
abbrev main_v1851 : Ref sig .tc := ⟨.hbm, 2382, rfl⟩
abbrev main_v1852 : Ref sig .tc := ⟨.hbm, 2383, rfl⟩
abbrev main_v1853 : Ref sig .tc := ⟨.hbm, 2384, rfl⟩
abbrev main_v1854 : Ref sig .tc := ⟨.hbm, 2385, rfl⟩
abbrev main_v1855 : Ref sig .tc := ⟨.hbm, 2386, rfl⟩
abbrev main_v1856 : Ref sig .tc := ⟨.hbm, 2387, rfl⟩
abbrev main_c_424 : Ref sig .tc := ⟨.hbm, 2388, rfl⟩
abbrev main_v1857 : Ref sig .tc := ⟨.hbm, 2389, rfl⟩
abbrev main_v1858 : Ref sig .tc := ⟨.hbm, 2390, rfl⟩
abbrev main_c_425 : Ref sig .tc := ⟨.hbm, 2391, rfl⟩
abbrev main_v1859 : Ref sig .tc := ⟨.hbm, 2392, rfl⟩
abbrev main_v1860 : Ref sig .tc := ⟨.hbm, 2393, rfl⟩
abbrev main_v1861 : Ref sig .tc := ⟨.hbm, 2394, rfl⟩
abbrev main_v1862 : Ref sig .tc := ⟨.hbm, 2395, rfl⟩
abbrev main_v1863 : Ref sig .tc := ⟨.hbm, 2396, rfl⟩
abbrev main_cst_426 : Ref sig .tc := ⟨.hbm, 2397, rfl⟩
abbrev main_v1864 : Ref sig .tc := ⟨.hbm, 2398, rfl⟩
abbrev main_v1865 : Ref sig .tc := ⟨.hbm, 2399, rfl⟩
abbrev main_v1866 : Ref sig .tc := ⟨.hbm, 2400, rfl⟩
abbrev main_cst_427 : Ref sig .tc := ⟨.hbm, 2401, rfl⟩
abbrev main_v1867 : Ref sig .tc := ⟨.hbm, 2402, rfl⟩
abbrev main_v1868 : Ref sig .tc := ⟨.hbm, 2403, rfl⟩
abbrev main_v1869 : Ref sig .tc := ⟨.hbm, 2404, rfl⟩
abbrev main_v1870 : Ref sig .tc := ⟨.hbm, 2405, rfl⟩
abbrev main_cst_428 : Ref sig .tc := ⟨.hbm, 2406, rfl⟩
abbrev main_v1871 : Ref sig .tc := ⟨.hbm, 2407, rfl⟩
abbrev main_v1872 : Ref sig .tc := ⟨.hbm, 2408, rfl⟩
abbrev main_v1873 : Ref sig .tc := ⟨.hbm, 2409, rfl⟩
abbrev main_v1874 : Ref sig .tc := ⟨.hbm, 2410, rfl⟩
abbrev main_cst_429 : Ref sig .tc := ⟨.hbm, 2411, rfl⟩
abbrev main_v1875 : Ref sig .tc := ⟨.hbm, 2412, rfl⟩
abbrev main_v1876 : Ref sig .tc := ⟨.hbm, 2413, rfl⟩
abbrev main_v1877 : Ref sig .tc := ⟨.hbm, 2414, rfl⟩
abbrev main_v1878 : Ref sig .tc := ⟨.hbm, 2415, rfl⟩
abbrev main_v1879 : Ref sig .tc := ⟨.hbm, 2416, rfl⟩
abbrev main_v1880 : Ref sig .tc := ⟨.hbm, 2417, rfl⟩
abbrev main_c_430 : Ref sig .tc := ⟨.hbm, 2418, rfl⟩
abbrev main_v1881 : Ref sig .tc := ⟨.hbm, 2419, rfl⟩
abbrev main_v1882 : Ref sig .tc := ⟨.hbm, 2420, rfl⟩
abbrev main_v1883 : Ref sig .tc := ⟨.hbm, 2421, rfl⟩
abbrev main_v1884 : Ref sig .tc := ⟨.hbm, 2422, rfl⟩
abbrev main_c_431 : Ref sig .tc := ⟨.hbm, 2423, rfl⟩
abbrev main_v1885 : Ref sig .tc := ⟨.hbm, 2424, rfl⟩
abbrev main_v1886 : Ref sig .tc := ⟨.hbm, 2425, rfl⟩
abbrev main_c_432 : Ref sig .tc := ⟨.hbm, 2426, rfl⟩
abbrev main_v1887 : Ref sig .tc := ⟨.hbm, 2427, rfl⟩
abbrev main_v1888 : Ref sig .tc := ⟨.hbm, 2428, rfl⟩
abbrev main_v1889 : Ref sig .tc := ⟨.hbm, 2429, rfl⟩
abbrev main_v1890 : Ref sig .tc := ⟨.hbm, 2430, rfl⟩
abbrev main_v1891 : Ref sig .tc := ⟨.hbm, 2431, rfl⟩
abbrev main_c_433 : Ref sig .tc := ⟨.hbm, 2432, rfl⟩
abbrev main_v1892 : Ref sig .tc := ⟨.hbm, 2433, rfl⟩
abbrev main_v1893 : Ref sig .tc := ⟨.hbm, 2434, rfl⟩
abbrev main_c_434 : Ref sig .tc := ⟨.hbm, 2435, rfl⟩
abbrev main_v1894 : Ref sig .tc := ⟨.hbm, 2436, rfl⟩
abbrev main_v1895 : Ref sig .tc := ⟨.hbm, 2437, rfl⟩
abbrev main_v1896 : Ref sig .tc := ⟨.hbm, 2438, rfl⟩
abbrev main_c_435 : Ref sig .tc := ⟨.hbm, 2439, rfl⟩
abbrev main_v1897 : Ref sig .tc := ⟨.hbm, 2440, rfl⟩
abbrev main_v1898 : Ref sig .tc := ⟨.hbm, 2441, rfl⟩
abbrev main_v1899 : Ref sig .tc := ⟨.hbm, 2442, rfl⟩
abbrev main_v1900 : Ref sig .tc := ⟨.hbm, 2443, rfl⟩
abbrev main_v1901 : Ref sig .tc := ⟨.hbm, 2444, rfl⟩
abbrev main_v1902 : Ref sig .tc := ⟨.hbm, 2445, rfl⟩
abbrev main_c_436 : Ref sig .tc := ⟨.hbm, 2446, rfl⟩
abbrev main_v1903 : Ref sig .tc := ⟨.hbm, 2447, rfl⟩
abbrev main_v1904 : Ref sig .tc := ⟨.hbm, 2448, rfl⟩
abbrev main_c_437 : Ref sig .tc := ⟨.hbm, 2449, rfl⟩
abbrev main_v1905 : Ref sig .tc := ⟨.hbm, 2450, rfl⟩
abbrev main_v1906 : Ref sig .tc := ⟨.hbm, 2451, rfl⟩
abbrev main_v1907 : Ref sig .tc := ⟨.hbm, 2452, rfl⟩
abbrev main_v1908 : Ref sig .tc := ⟨.hbm, 2453, rfl⟩
abbrev main_v1909 : Ref sig .tc := ⟨.hbm, 2454, rfl⟩
abbrev main_v1910 : Ref sig .tc := ⟨.hbm, 2455, rfl⟩
abbrev main_v1911 : Ref sig .tc := ⟨.hbm, 2456, rfl⟩
abbrev main_cst_438 : Ref sig .tc := ⟨.hbm, 2457, rfl⟩
abbrev main_v1912 : Ref sig .tc := ⟨.hbm, 2458, rfl⟩
abbrev main_v1913 : Ref sig .tc := ⟨.hbm, 2459, rfl⟩
abbrev main_v1914 : Ref sig .tc := ⟨.hbm, 2460, rfl⟩
abbrev main_v1915 : Ref sig .tc := ⟨.hbm, 2461, rfl⟩
abbrev main_cst_439 : Ref sig .tc := ⟨.hbm, 2462, rfl⟩
abbrev main_v1916 : Ref sig .tc := ⟨.hbm, 2463, rfl⟩
abbrev main_v1917 : Ref sig .tc := ⟨.hbm, 2464, rfl⟩
abbrev main_v1918 : Ref sig .tc := ⟨.hbm, 2465, rfl⟩
abbrev main_v1919 : Ref sig .tc := ⟨.hbm, 2466, rfl⟩
abbrev main_v1920 : Ref sig .tc := ⟨.hbm, 2467, rfl⟩
abbrev main_v1921 : Ref sig .tc := ⟨.hbm, 2468, rfl⟩
abbrev main_v1922 : Ref sig .tc := ⟨.hbm, 2469, rfl⟩
abbrev main_v1923 : Ref sig .tc := ⟨.hbm, 2470, rfl⟩
abbrev main_c_440 : Ref sig .tc := ⟨.hbm, 2471, rfl⟩
abbrev main_v1924 : Ref sig .tc := ⟨.hbm, 2472, rfl⟩
abbrev main_v1925 : Ref sig .tc := ⟨.hbm, 2473, rfl⟩
abbrev main_v1926 : Ref sig .tc := ⟨.hbm, 2474, rfl⟩
abbrev main_v1927 : Ref sig .tc := ⟨.hbm, 2475, rfl⟩
abbrev main_c_441 : Ref sig .tc := ⟨.hbm, 2476, rfl⟩
abbrev main_v1928 : Ref sig .tc := ⟨.hbm, 2477, rfl⟩
abbrev main_v1929 : Ref sig .tc := ⟨.hbm, 2478, rfl⟩
abbrev main_c_442 : Ref sig .tc := ⟨.hbm, 2479, rfl⟩
abbrev main_v1930 : Ref sig .tc := ⟨.hbm, 2480, rfl⟩
abbrev main_v1931 : Ref sig .tc := ⟨.hbm, 2481, rfl⟩
abbrev main_v1932 : Ref sig .tc := ⟨.hbm, 2482, rfl⟩
abbrev main_v1933 : Ref sig .tc := ⟨.hbm, 2483, rfl⟩
abbrev main_v1934 : Ref sig .tc := ⟨.hbm, 2484, rfl⟩
abbrev main_c_443 : Ref sig .tc := ⟨.hbm, 2485, rfl⟩
abbrev main_v1935 : Ref sig .tc := ⟨.hbm, 2486, rfl⟩
abbrev main_v1936 : Ref sig .tc := ⟨.hbm, 2487, rfl⟩
abbrev main_c_444 : Ref sig .tc := ⟨.hbm, 2488, rfl⟩
abbrev main_v1937 : Ref sig .tc := ⟨.hbm, 2489, rfl⟩
abbrev main_v1938 : Ref sig .tc := ⟨.hbm, 2490, rfl⟩
abbrev main_v1939 : Ref sig .tc := ⟨.hbm, 2491, rfl⟩
abbrev main_c_445 : Ref sig .tc := ⟨.hbm, 2492, rfl⟩
abbrev main_v1940 : Ref sig .tc := ⟨.hbm, 2493, rfl⟩
abbrev main_v1941 : Ref sig .tc := ⟨.hbm, 2494, rfl⟩
abbrev main_v1942 : Ref sig .tc := ⟨.hbm, 2495, rfl⟩
abbrev main_v1943 : Ref sig .tc := ⟨.hbm, 2496, rfl⟩
abbrev main_v1944 : Ref sig .tc := ⟨.hbm, 2497, rfl⟩
abbrev main_v1945 : Ref sig .tc := ⟨.hbm, 2498, rfl⟩
abbrev main_c_446 : Ref sig .tc := ⟨.hbm, 2499, rfl⟩
abbrev main_v1946 : Ref sig .tc := ⟨.hbm, 2500, rfl⟩
abbrev main_v1947 : Ref sig .tc := ⟨.hbm, 2501, rfl⟩
abbrev main_c_447 : Ref sig .tc := ⟨.hbm, 2502, rfl⟩
abbrev main_v1948 : Ref sig .tc := ⟨.hbm, 2503, rfl⟩
abbrev main_v1949 : Ref sig .tc := ⟨.hbm, 2504, rfl⟩
abbrev main_v1950 : Ref sig .tc := ⟨.hbm, 2505, rfl⟩
abbrev main_v1951 : Ref sig .tc := ⟨.hbm, 2506, rfl⟩
abbrev main_v1952 : Ref sig .tc := ⟨.hbm, 2507, rfl⟩
abbrev main_v1953 : Ref sig .tc := ⟨.hbm, 2508, rfl⟩
abbrev main_v1954 : Ref sig .tc := ⟨.hbm, 2509, rfl⟩
abbrev main_cst_448 : Ref sig .tc := ⟨.hbm, 2510, rfl⟩
abbrev main_v1955 : Ref sig .tc := ⟨.hbm, 2511, rfl⟩
abbrev main_v1956 : Ref sig .tc := ⟨.hbm, 2512, rfl⟩
abbrev main_v1957 : Ref sig .tc := ⟨.hbm, 2513, rfl⟩
abbrev main_v1958 : Ref sig .tc := ⟨.hbm, 2514, rfl⟩
abbrev main_v1959 : Ref sig .tc := ⟨.hbm, 2515, rfl⟩
abbrev main_v1960 : Ref sig .tc := ⟨.hbm, 2516, rfl⟩
abbrev main_cst_449 : Ref sig .tc := ⟨.hbm, 2517, rfl⟩
abbrev main_v1961 : Ref sig .tc := ⟨.hbm, 2518, rfl⟩
abbrev main_v1962 : Ref sig .tc := ⟨.hbm, 2519, rfl⟩
abbrev main_v1963 : Ref sig .tc := ⟨.hbm, 2520, rfl⟩
abbrev main_v1964 : Ref sig .tc := ⟨.hbm, 2521, rfl⟩
abbrev main_v1965 : Ref sig .tc := ⟨.hbm, 2522, rfl⟩
abbrev main_v1966 : Ref sig .tc := ⟨.hbm, 2523, rfl⟩
abbrev main_c_450 : Ref sig .tc := ⟨.hbm, 2524, rfl⟩
abbrev main_v1967 : Ref sig .tc := ⟨.hbm, 2525, rfl⟩
abbrev main_v1968 : Ref sig .tc := ⟨.hbm, 2526, rfl⟩
abbrev main_v1969 : Ref sig .tc := ⟨.hbm, 2527, rfl⟩
abbrev main_v1970 : Ref sig .tc := ⟨.hbm, 2528, rfl⟩
abbrev main_c_451 : Ref sig .tc := ⟨.hbm, 2529, rfl⟩
abbrev main_v1971 : Ref sig .tc := ⟨.hbm, 2530, rfl⟩
abbrev main_v1972 : Ref sig .tc := ⟨.hbm, 2531, rfl⟩
abbrev main_c_452 : Ref sig .tc := ⟨.hbm, 2532, rfl⟩
abbrev main_v1973 : Ref sig .tc := ⟨.hbm, 2533, rfl⟩
abbrev main_v1974 : Ref sig .tc := ⟨.hbm, 2534, rfl⟩
abbrev main_v1975 : Ref sig .tc := ⟨.hbm, 2535, rfl⟩
abbrev main_v1976 : Ref sig .tc := ⟨.hbm, 2536, rfl⟩
abbrev main_v1977 : Ref sig .tc := ⟨.hbm, 2537, rfl⟩
abbrev main_c_453 : Ref sig .tc := ⟨.hbm, 2538, rfl⟩
abbrev main_v1978 : Ref sig .tc := ⟨.hbm, 2539, rfl⟩
abbrev main_v1979 : Ref sig .tc := ⟨.hbm, 2540, rfl⟩
abbrev main_c_454 : Ref sig .tc := ⟨.hbm, 2541, rfl⟩
abbrev main_v1980 : Ref sig .tc := ⟨.hbm, 2542, rfl⟩
abbrev main_v1981 : Ref sig .tc := ⟨.hbm, 2543, rfl⟩
abbrev main_v1982 : Ref sig .tc := ⟨.hbm, 2544, rfl⟩
abbrev main_c_455 : Ref sig .tc := ⟨.hbm, 2545, rfl⟩
abbrev main_v1983 : Ref sig .tc := ⟨.hbm, 2546, rfl⟩
abbrev main_v1984 : Ref sig .tc := ⟨.hbm, 2547, rfl⟩
abbrev main_v1985 : Ref sig .tc := ⟨.hbm, 2548, rfl⟩
abbrev main_v1986 : Ref sig .tc := ⟨.hbm, 2549, rfl⟩
abbrev main_v1987 : Ref sig .tc := ⟨.hbm, 2550, rfl⟩
abbrev main_v1988 : Ref sig .tc := ⟨.hbm, 2551, rfl⟩
abbrev main_c_456 : Ref sig .tc := ⟨.hbm, 2552, rfl⟩
abbrev main_v1989 : Ref sig .tc := ⟨.hbm, 2553, rfl⟩
abbrev main_v1990 : Ref sig .tc := ⟨.hbm, 2554, rfl⟩
abbrev main_c_457 : Ref sig .tc := ⟨.hbm, 2555, rfl⟩
abbrev main_v1991 : Ref sig .tc := ⟨.hbm, 2556, rfl⟩
abbrev main_v1992 : Ref sig .tc := ⟨.hbm, 2557, rfl⟩
abbrev main_v1993 : Ref sig .tc := ⟨.hbm, 2558, rfl⟩
abbrev main_v1994 : Ref sig .tc := ⟨.hbm, 2559, rfl⟩
abbrev main_v1995 : Ref sig .tc := ⟨.hbm, 2560, rfl⟩
abbrev main_v1996 : Ref sig .tc := ⟨.hbm, 2561, rfl⟩
abbrev main_v1997 : Ref sig .tc := ⟨.hbm, 2562, rfl⟩
abbrev main_cst_458 : Ref sig .tc := ⟨.hbm, 2563, rfl⟩
abbrev main_v1998 : Ref sig .tc := ⟨.hbm, 2564, rfl⟩
abbrev main_v1999 : Ref sig .tc := ⟨.hbm, 2565, rfl⟩
abbrev main_v2000 : Ref sig .tc := ⟨.hbm, 2566, rfl⟩
abbrev main_v2001 : Ref sig .tc := ⟨.hbm, 2567, rfl⟩
abbrev main_v2002 : Ref sig .tc := ⟨.hbm, 2568, rfl⟩
abbrev main_v2003 : Ref sig .tc := ⟨.hbm, 2569, rfl⟩
abbrev main_v2004 : Ref sig .tc := ⟨.hbm, 2570, rfl⟩
abbrev main_v2005 : Ref sig .tc := ⟨.hbm, 2571, rfl⟩
abbrev main_v2006 : Ref sig .tc := ⟨.hbm, 2572, rfl⟩
abbrev main_v2007 : Ref sig .tc := ⟨.hbm, 2573, rfl⟩
abbrev main_c_459 : Ref sig .tc := ⟨.hbm, 2574, rfl⟩
abbrev main_v2008 : Ref sig .tc := ⟨.hbm, 2575, rfl⟩
abbrev main_v2009 : Ref sig .tc := ⟨.hbm, 2576, rfl⟩
abbrev main_v2010 : Ref sig .tc := ⟨.hbm, 2577, rfl⟩
abbrev main_v2011 : Ref sig .tc := ⟨.hbm, 2578, rfl⟩
abbrev main_c_460 : Ref sig .tc := ⟨.hbm, 2579, rfl⟩
abbrev main_v2012 : Ref sig .tc := ⟨.hbm, 2580, rfl⟩
abbrev main_v2013 : Ref sig .tc := ⟨.hbm, 2581, rfl⟩
abbrev main_c_461 : Ref sig .tc := ⟨.hbm, 2582, rfl⟩
abbrev main_v2014 : Ref sig .tc := ⟨.hbm, 2583, rfl⟩
abbrev main_v2015 : Ref sig .tc := ⟨.hbm, 2584, rfl⟩
abbrev main_v2016 : Ref sig .tc := ⟨.hbm, 2585, rfl⟩
abbrev main_v2017 : Ref sig .tc := ⟨.hbm, 2586, rfl⟩
abbrev main_v2018 : Ref sig .tc := ⟨.hbm, 2587, rfl⟩
abbrev main_c_462 : Ref sig .tc := ⟨.hbm, 2588, rfl⟩
abbrev main_v2019 : Ref sig .tc := ⟨.hbm, 2589, rfl⟩
abbrev main_v2020 : Ref sig .tc := ⟨.hbm, 2590, rfl⟩
abbrev main_c_463 : Ref sig .tc := ⟨.hbm, 2591, rfl⟩
abbrev main_v2021 : Ref sig .tc := ⟨.hbm, 2592, rfl⟩
abbrev main_v2022 : Ref sig .tc := ⟨.hbm, 2593, rfl⟩
abbrev main_v2023 : Ref sig .tc := ⟨.hbm, 2594, rfl⟩
abbrev main_c_464 : Ref sig .tc := ⟨.hbm, 2595, rfl⟩
abbrev main_v2024 : Ref sig .tc := ⟨.hbm, 2596, rfl⟩
abbrev main_v2025 : Ref sig .tc := ⟨.hbm, 2597, rfl⟩
abbrev main_v2026 : Ref sig .tc := ⟨.hbm, 2598, rfl⟩
abbrev main_v2027 : Ref sig .tc := ⟨.hbm, 2599, rfl⟩
abbrev main_v2028 : Ref sig .tc := ⟨.hbm, 2600, rfl⟩
abbrev main_v2029 : Ref sig .tc := ⟨.hbm, 2601, rfl⟩
abbrev main_c_465 : Ref sig .tc := ⟨.hbm, 2602, rfl⟩
abbrev main_v2030 : Ref sig .tc := ⟨.hbm, 2603, rfl⟩
abbrev main_v2031 : Ref sig .tc := ⟨.hbm, 2604, rfl⟩
abbrev main_c_466 : Ref sig .tc := ⟨.hbm, 2605, rfl⟩
abbrev main_v2032 : Ref sig .tc := ⟨.hbm, 2606, rfl⟩
abbrev main_v2033 : Ref sig .tc := ⟨.hbm, 2607, rfl⟩
abbrev main_v2034 : Ref sig .tc := ⟨.hbm, 2608, rfl⟩
abbrev main_v2035 : Ref sig .tc := ⟨.hbm, 2609, rfl⟩
abbrev main_v2036 : Ref sig .tc := ⟨.hbm, 2610, rfl⟩
abbrev main_v2037 : Ref sig .tc := ⟨.hbm, 2611, rfl⟩
abbrev main_v2038 : Ref sig .tc := ⟨.hbm, 2612, rfl⟩
abbrev main_v2039 : Ref sig .tc := ⟨.hbm, 2613, rfl⟩
abbrev main_v2040 : Ref sig .tc := ⟨.hbm, 2614, rfl⟩
abbrev main_cst_467 : Ref sig .tc := ⟨.hbm, 2615, rfl⟩
abbrev main_v2041 : Ref sig .tc := ⟨.hbm, 2616, rfl⟩
abbrev main_v2042 : Ref sig .tc := ⟨.hbm, 2617, rfl⟩
abbrev main_v2043 : Ref sig .tc := ⟨.hbm, 2618, rfl⟩
abbrev main_v2044 : Ref sig .tc := ⟨.hbm, 2619, rfl⟩
abbrev main_cst_468 : Ref sig .tc := ⟨.hbm, 2620, rfl⟩
abbrev main_v2045 : Ref sig .tc := ⟨.hbm, 2621, rfl⟩
abbrev main_v2046 : Ref sig .tc := ⟨.hbm, 2622, rfl⟩
abbrev main_v2047 : Ref sig .tc := ⟨.hbm, 2623, rfl⟩
abbrev main_v2048 : Ref sig .tc := ⟨.hbm, 2624, rfl⟩
abbrev main_v2049 : Ref sig .tc := ⟨.hbm, 2625, rfl⟩
abbrev main_v2050 : Ref sig .tc := ⟨.hbm, 2626, rfl⟩
abbrev main_c_469 : Ref sig .tc := ⟨.hbm, 2627, rfl⟩
abbrev main_v2051 : Ref sig .tc := ⟨.hbm, 2628, rfl⟩
abbrev main_v2052 : Ref sig .tc := ⟨.hbm, 2629, rfl⟩
abbrev main_v2053 : Ref sig .tc := ⟨.hbm, 2630, rfl⟩
abbrev main_v2054 : Ref sig .tc := ⟨.hbm, 2631, rfl⟩
abbrev main_c_470 : Ref sig .tc := ⟨.hbm, 2632, rfl⟩
abbrev main_v2055 : Ref sig .tc := ⟨.hbm, 2633, rfl⟩
abbrev main_v2056 : Ref sig .tc := ⟨.hbm, 2634, rfl⟩
abbrev main_c_471 : Ref sig .tc := ⟨.hbm, 2635, rfl⟩
abbrev main_v2057 : Ref sig .tc := ⟨.hbm, 2636, rfl⟩
abbrev main_v2058 : Ref sig .tc := ⟨.hbm, 2637, rfl⟩
abbrev main_v2059 : Ref sig .tc := ⟨.hbm, 2638, rfl⟩
abbrev main_v2060 : Ref sig .tc := ⟨.hbm, 2639, rfl⟩
abbrev main_v2061 : Ref sig .tc := ⟨.hbm, 2640, rfl⟩
abbrev main_c_472 : Ref sig .tc := ⟨.hbm, 2641, rfl⟩
abbrev main_v2062 : Ref sig .tc := ⟨.hbm, 2642, rfl⟩
abbrev main_v2063 : Ref sig .tc := ⟨.hbm, 2643, rfl⟩
abbrev main_c_473 : Ref sig .tc := ⟨.hbm, 2644, rfl⟩
abbrev main_v2064 : Ref sig .tc := ⟨.hbm, 2645, rfl⟩
abbrev main_v2065 : Ref sig .tc := ⟨.hbm, 2646, rfl⟩
abbrev main_v2066 : Ref sig .tc := ⟨.hbm, 2647, rfl⟩
abbrev main_c_474 : Ref sig .tc := ⟨.hbm, 2648, rfl⟩
abbrev main_v2067 : Ref sig .tc := ⟨.hbm, 2649, rfl⟩
abbrev main_v2068 : Ref sig .tc := ⟨.hbm, 2650, rfl⟩
abbrev main_v2069 : Ref sig .tc := ⟨.hbm, 2651, rfl⟩
abbrev main_v2070 : Ref sig .tc := ⟨.hbm, 2652, rfl⟩
abbrev main_v2071 : Ref sig .tc := ⟨.hbm, 2653, rfl⟩
abbrev main_v2072 : Ref sig .tc := ⟨.hbm, 2654, rfl⟩
abbrev main_c_475 : Ref sig .tc := ⟨.hbm, 2655, rfl⟩
abbrev main_v2073 : Ref sig .tc := ⟨.hbm, 2656, rfl⟩
abbrev main_v2074 : Ref sig .tc := ⟨.hbm, 2657, rfl⟩
abbrev main_c_476 : Ref sig .tc := ⟨.hbm, 2658, rfl⟩
abbrev main_v2075 : Ref sig .tc := ⟨.hbm, 2659, rfl⟩
abbrev main_v2076 : Ref sig .tc := ⟨.hbm, 2660, rfl⟩
abbrev main_v2077 : Ref sig .tc := ⟨.hbm, 2661, rfl⟩
abbrev main_v2078 : Ref sig .tc := ⟨.hbm, 2662, rfl⟩
abbrev main_v2079 : Ref sig .tc := ⟨.hbm, 2663, rfl⟩
abbrev main_v2080 : Ref sig .tc := ⟨.hbm, 2664, rfl⟩
abbrev main_v2081 : Ref sig .tc := ⟨.hbm, 2665, rfl⟩
abbrev main_v2082 : Ref sig .tc := ⟨.hbm, 2666, rfl⟩
abbrev main_v2083 : Ref sig .tc := ⟨.hbm, 2667, rfl⟩
abbrev main_cst_477 : Ref sig .tc := ⟨.hbm, 2668, rfl⟩
abbrev main_v2084 : Ref sig .tc := ⟨.hbm, 2669, rfl⟩
abbrev main_v2085 : Ref sig .tc := ⟨.hbm, 2670, rfl⟩
abbrev main_v2086 : Ref sig .tc := ⟨.hbm, 2671, rfl⟩
abbrev main_v2087 : Ref sig .tc := ⟨.hbm, 2672, rfl⟩
abbrev main_v2088 : Ref sig .tc := ⟨.hbm, 2673, rfl⟩
abbrev main_v2089 : Ref sig .tc := ⟨.hbm, 2674, rfl⟩
abbrev main_v2090 : Ref sig .tc := ⟨.hbm, 2675, rfl⟩
abbrev main_v2091 : Ref sig .tc := ⟨.hbm, 2676, rfl⟩
abbrev main_c_478 : Ref sig .tc := ⟨.hbm, 2677, rfl⟩
abbrev main_v2092 : Ref sig .tc := ⟨.hbm, 2678, rfl⟩
abbrev main_v2093 : Ref sig .tc := ⟨.hbm, 2679, rfl⟩
abbrev main_v2094 : Ref sig .tc := ⟨.hbm, 2680, rfl⟩
abbrev main_v2095 : Ref sig .tc := ⟨.hbm, 2681, rfl⟩
abbrev main_c_479 : Ref sig .tc := ⟨.hbm, 2682, rfl⟩
abbrev main_v2096 : Ref sig .tc := ⟨.hbm, 2683, rfl⟩
abbrev main_v2097 : Ref sig .tc := ⟨.hbm, 2684, rfl⟩
abbrev main_c_480 : Ref sig .tc := ⟨.hbm, 2685, rfl⟩
abbrev main_v2098 : Ref sig .tc := ⟨.hbm, 2686, rfl⟩
abbrev main_v2099 : Ref sig .tc := ⟨.hbm, 2687, rfl⟩
abbrev main_v2100 : Ref sig .tc := ⟨.hbm, 2688, rfl⟩
abbrev main_v2101 : Ref sig .tc := ⟨.hbm, 2689, rfl⟩
abbrev main_v2102 : Ref sig .tc := ⟨.hbm, 2690, rfl⟩
abbrev main_c_481 : Ref sig .tc := ⟨.hbm, 2691, rfl⟩
abbrev main_v2103 : Ref sig .tc := ⟨.hbm, 2692, rfl⟩
abbrev main_v2104 : Ref sig .tc := ⟨.hbm, 2693, rfl⟩
abbrev main_c_482 : Ref sig .tc := ⟨.hbm, 2694, rfl⟩
abbrev main_v2105 : Ref sig .tc := ⟨.hbm, 2695, rfl⟩
abbrev main_v2106 : Ref sig .tc := ⟨.hbm, 2696, rfl⟩
abbrev main_v2107 : Ref sig .tc := ⟨.hbm, 2697, rfl⟩
abbrev main_c_483 : Ref sig .tc := ⟨.hbm, 2698, rfl⟩
abbrev main_v2108 : Ref sig .tc := ⟨.hbm, 2699, rfl⟩
abbrev main_v2109 : Ref sig .tc := ⟨.hbm, 2700, rfl⟩
abbrev main_v2110 : Ref sig .tc := ⟨.hbm, 2701, rfl⟩
abbrev main_v2111 : Ref sig .tc := ⟨.hbm, 2702, rfl⟩
abbrev main_v2112 : Ref sig .tc := ⟨.hbm, 2703, rfl⟩
abbrev main_v2113 : Ref sig .tc := ⟨.hbm, 2704, rfl⟩
abbrev main_c_484 : Ref sig .tc := ⟨.hbm, 2705, rfl⟩
abbrev main_v2114 : Ref sig .tc := ⟨.hbm, 2706, rfl⟩
abbrev main_v2115 : Ref sig .tc := ⟨.hbm, 2707, rfl⟩
abbrev main_c_485 : Ref sig .tc := ⟨.hbm, 2708, rfl⟩
abbrev main_v2116 : Ref sig .tc := ⟨.hbm, 2709, rfl⟩
abbrev main_v2117 : Ref sig .tc := ⟨.hbm, 2710, rfl⟩
abbrev main_v2118 : Ref sig .tc := ⟨.hbm, 2711, rfl⟩
abbrev main_v2119 : Ref sig .tc := ⟨.hbm, 2712, rfl⟩
abbrev main_v2120 : Ref sig .tc := ⟨.hbm, 2713, rfl⟩
abbrev main_v2121 : Ref sig .tc := ⟨.hbm, 2714, rfl⟩
abbrev main_v2122 : Ref sig .tc := ⟨.hbm, 2715, rfl⟩
abbrev main_v2123 : Ref sig .tc := ⟨.hbm, 2716, rfl⟩
abbrev main_v2124 : Ref sig .tc := ⟨.hbm, 2717, rfl⟩
abbrev main_v2125 : Ref sig .tc := ⟨.hbm, 2718, rfl⟩
abbrev main_v2126 : Ref sig .tc := ⟨.hbm, 2719, rfl⟩
abbrev main_cst_486 : Ref sig .tc := ⟨.hbm, 2720, rfl⟩
abbrev main_v2127 : Ref sig .tc := ⟨.hbm, 2721, rfl⟩
abbrev main_v2128 : Ref sig .tc := ⟨.hbm, 2722, rfl⟩
abbrev main_v2129 : Ref sig .tc := ⟨.hbm, 2723, rfl⟩
abbrev main_v2130 : Ref sig .tc := ⟨.hbm, 2724, rfl⟩
abbrev main_v2131 : Ref sig .tc := ⟨.hbm, 2725, rfl⟩
abbrev main_v2132 : Ref sig .tc := ⟨.hbm, 2726, rfl⟩
abbrev main_c_487 : Ref sig .tc := ⟨.hbm, 2727, rfl⟩
abbrev main_v2133 : Ref sig .tc := ⟨.hbm, 2728, rfl⟩
abbrev main_v2134 : Ref sig .tc := ⟨.hbm, 2729, rfl⟩
abbrev main_v2135 : Ref sig .tc := ⟨.hbm, 2730, rfl⟩
abbrev main_v2136 : Ref sig .tc := ⟨.hbm, 2731, rfl⟩
abbrev main_c_488 : Ref sig .tc := ⟨.hbm, 2732, rfl⟩
abbrev main_v2137 : Ref sig .tc := ⟨.hbm, 2733, rfl⟩
abbrev main_v2138 : Ref sig .tc := ⟨.hbm, 2734, rfl⟩
abbrev main_c_489 : Ref sig .tc := ⟨.hbm, 2735, rfl⟩
abbrev main_v2139 : Ref sig .tc := ⟨.hbm, 2736, rfl⟩
abbrev main_v2140 : Ref sig .tc := ⟨.hbm, 2737, rfl⟩
abbrev main_v2141 : Ref sig .tc := ⟨.hbm, 2738, rfl⟩
abbrev main_v2142 : Ref sig .tc := ⟨.hbm, 2739, rfl⟩
abbrev main_v2143 : Ref sig .tc := ⟨.hbm, 2740, rfl⟩
abbrev main_c_490 : Ref sig .tc := ⟨.hbm, 2741, rfl⟩
abbrev main_v2144 : Ref sig .tc := ⟨.hbm, 2742, rfl⟩
abbrev main_v2145 : Ref sig .tc := ⟨.hbm, 2743, rfl⟩
abbrev main_c_491 : Ref sig .tc := ⟨.hbm, 2744, rfl⟩
abbrev main_v2146 : Ref sig .tc := ⟨.hbm, 2745, rfl⟩
abbrev main_v2147 : Ref sig .tc := ⟨.hbm, 2746, rfl⟩
abbrev main_v2148 : Ref sig .tc := ⟨.hbm, 2747, rfl⟩
abbrev main_c_492 : Ref sig .tc := ⟨.hbm, 2748, rfl⟩
abbrev main_v2149 : Ref sig .tc := ⟨.hbm, 2749, rfl⟩
abbrev main_v2150 : Ref sig .tc := ⟨.hbm, 2750, rfl⟩
abbrev main_v2151 : Ref sig .tc := ⟨.hbm, 2751, rfl⟩
abbrev main_v2152 : Ref sig .tc := ⟨.hbm, 2752, rfl⟩
abbrev main_v2153 : Ref sig .tc := ⟨.hbm, 2753, rfl⟩
abbrev main_v2154 : Ref sig .tc := ⟨.hbm, 2754, rfl⟩
abbrev main_c_493 : Ref sig .tc := ⟨.hbm, 2755, rfl⟩
abbrev main_v2155 : Ref sig .tc := ⟨.hbm, 2756, rfl⟩
abbrev main_v2156 : Ref sig .tc := ⟨.hbm, 2757, rfl⟩
abbrev main_c_494 : Ref sig .tc := ⟨.hbm, 2758, rfl⟩
abbrev main_v2157 : Ref sig .tc := ⟨.hbm, 2759, rfl⟩
abbrev main_v2158 : Ref sig .tc := ⟨.hbm, 2760, rfl⟩
abbrev main_v2159 : Ref sig .tc := ⟨.hbm, 2761, rfl⟩
abbrev main_v2160 : Ref sig .tc := ⟨.hbm, 2762, rfl⟩
abbrev main_v2161 : Ref sig .tc := ⟨.hbm, 2763, rfl⟩
abbrev main_v2162 : Ref sig .tc := ⟨.hbm, 2764, rfl⟩
abbrev main_v2163 : Ref sig .tc := ⟨.hbm, 2765, rfl⟩
abbrev main_v2164 : Ref sig .tc := ⟨.hbm, 2766, rfl⟩
abbrev main_v2165 : Ref sig .tc := ⟨.hbm, 2767, rfl⟩
abbrev main_v2166 : Ref sig .tc := ⟨.hbm, 2768, rfl⟩
abbrev main_v2167 : Ref sig .tc := ⟨.hbm, 2769, rfl⟩
abbrev main_v2168 : Ref sig .tc := ⟨.hbm, 2770, rfl⟩
abbrev main_v2169 : Ref sig .tc := ⟨.hbm, 2771, rfl⟩
abbrev main_v2170 : Ref sig .tc := ⟨.hbm, 2772, rfl⟩
abbrev main_v2171 : Ref sig .tc := ⟨.hbm, 2773, rfl⟩
abbrev main_c_495 : Ref sig .tc := ⟨.hbm, 2774, rfl⟩
abbrev main_v2172 : Ref sig .tc := ⟨.hbm, 2775, rfl⟩
abbrev main_v2173 : Ref sig .tc := ⟨.hbm, 2776, rfl⟩
abbrev main_v2174 : Ref sig .tc := ⟨.hbm, 2777, rfl⟩
abbrev main_v2175 : Ref sig .tc := ⟨.hbm, 2778, rfl⟩
abbrev main_c_496 : Ref sig .tc := ⟨.hbm, 2779, rfl⟩
abbrev main_v2176 : Ref sig .tc := ⟨.hbm, 2780, rfl⟩
abbrev main_v2177 : Ref sig .tc := ⟨.hbm, 2781, rfl⟩
abbrev main_c_497 : Ref sig .tc := ⟨.hbm, 2782, rfl⟩
abbrev main_v2178 : Ref sig .tc := ⟨.hbm, 2783, rfl⟩
abbrev main_v2179 : Ref sig .tc := ⟨.hbm, 2784, rfl⟩
abbrev main_v2180 : Ref sig .tc := ⟨.hbm, 2785, rfl⟩
abbrev main_v2181 : Ref sig .tc := ⟨.hbm, 2786, rfl⟩
abbrev main_v2182 : Ref sig .tc := ⟨.hbm, 2787, rfl⟩
abbrev main_c_498 : Ref sig .tc := ⟨.hbm, 2788, rfl⟩
abbrev main_v2183 : Ref sig .tc := ⟨.hbm, 2789, rfl⟩
abbrev main_v2184 : Ref sig .tc := ⟨.hbm, 2790, rfl⟩
abbrev main_c_499 : Ref sig .tc := ⟨.hbm, 2791, rfl⟩
abbrev main_v2185 : Ref sig .tc := ⟨.hbm, 2792, rfl⟩
abbrev main_v2186 : Ref sig .tc := ⟨.hbm, 2793, rfl⟩
abbrev main_v2187 : Ref sig .tc := ⟨.hbm, 2794, rfl⟩
abbrev main_c_500 : Ref sig .tc := ⟨.hbm, 2795, rfl⟩
abbrev main_v2188 : Ref sig .tc := ⟨.hbm, 2796, rfl⟩
abbrev main_v2189 : Ref sig .tc := ⟨.hbm, 2797, rfl⟩
abbrev main_v2190 : Ref sig .tc := ⟨.hbm, 2798, rfl⟩
abbrev main_v2191 : Ref sig .tc := ⟨.hbm, 2799, rfl⟩
abbrev main_v2192 : Ref sig .tc := ⟨.hbm, 2800, rfl⟩
abbrev main_v2193 : Ref sig .tc := ⟨.hbm, 2801, rfl⟩
abbrev main_c_501 : Ref sig .tc := ⟨.hbm, 2802, rfl⟩
abbrev main_v2194 : Ref sig .tc := ⟨.hbm, 2803, rfl⟩
abbrev main_v2195 : Ref sig .tc := ⟨.hbm, 2804, rfl⟩
abbrev main_c_502 : Ref sig .tc := ⟨.hbm, 2805, rfl⟩
abbrev main_v2196 : Ref sig .tc := ⟨.hbm, 2806, rfl⟩
abbrev main_v2197 : Ref sig .tc := ⟨.hbm, 2807, rfl⟩
abbrev main_v2198 : Ref sig .tc := ⟨.hbm, 2808, rfl⟩
abbrev main_v2199 : Ref sig .tc := ⟨.hbm, 2809, rfl⟩
abbrev main_v2200 : Ref sig .tc := ⟨.hbm, 2810, rfl⟩
abbrev main_v2201 : Ref sig .tc := ⟨.hbm, 2811, rfl⟩
abbrev main_v2202 : Ref sig .tc := ⟨.hbm, 2812, rfl⟩
abbrev main_cst_503 : Ref sig .tc := ⟨.hbm, 2813, rfl⟩
abbrev main_v2203 : Ref sig .tc := ⟨.hbm, 2814, rfl⟩
abbrev main_c_504 : Ref sig .tc := ⟨.hbm, 2815, rfl⟩
abbrev main_v2204 : Ref sig .tc := ⟨.hbm, 2816, rfl⟩
abbrev main_v2205 : Ref sig .tc := ⟨.hbm, 2817, rfl⟩
abbrev main_c_505 : Ref sig .tc := ⟨.hbm, 2818, rfl⟩
abbrev main_v2206 : Ref sig .tc := ⟨.hbm, 2819, rfl⟩
abbrev main_v2207 : Ref sig .tc := ⟨.hbm, 2820, rfl⟩
abbrev main_v2208 : Ref sig .tc := ⟨.hbm, 2821, rfl⟩
abbrev main_v2209 : Ref sig .tc := ⟨.hbm, 2822, rfl⟩
abbrev main_cst_506 : Ref sig .tc := ⟨.hbm, 2823, rfl⟩
abbrev main_v2210 : Ref sig .tc := ⟨.hbm, 2824, rfl⟩
abbrev main_v2211 : Ref sig .tc := ⟨.hbm, 2825, rfl⟩
abbrev main_cst_507 : Ref sig .tc := ⟨.hbm, 2826, rfl⟩
abbrev main_call10_v0 : Ref sig .tc := ⟨.hbm, 2827, rfl⟩
abbrev main_call10_v1 : Ref sig .tc := ⟨.hbm, 2828, rfl⟩
abbrev main_v2212 : Ref sig .tc := ⟨.hbm, 2829, rfl⟩
abbrev main_v2213 : Ref sig .tc := ⟨.hbm, 2830, rfl⟩
abbrev main_v2214 : Ref sig .tc := ⟨.hbm, 2831, rfl⟩
abbrev main_v2215 : Ref sig .tc := ⟨.hbm, 2832, rfl⟩
abbrev main_v2216 : Ref sig .tc := ⟨.hbm, 2833, rfl⟩
abbrev main_v2217 : Ref sig .tc := ⟨.hbm, 2834, rfl⟩
abbrev main_v2218 : Ref sig .tc := ⟨.hbm, 2835, rfl⟩
abbrev main_v2219 : Ref sig .tc := ⟨.hbm, 2836, rfl⟩
abbrev main_v2220 : Ref sig .tc := ⟨.hbm, 2837, rfl⟩
abbrev main_call11_cst : Ref sig .tc := ⟨.hbm, 2838, rfl⟩
abbrev main_call11_v0 : Ref sig .tc := ⟨.hbm, 2839, rfl⟩
abbrev main_call11_v1 : Ref sig .tc := ⟨.hbm, 2840, rfl⟩
abbrev main_call11_cst_0 : Ref sig .tc := ⟨.hbm, 2841, rfl⟩
abbrev main_call11_v2 : Ref sig .tc := ⟨.hbm, 2842, rfl⟩
abbrev main_call11_v3 : Ref sig .tc := ⟨.hbm, 2843, rfl⟩
abbrev main_call11_cst_1 : Ref sig .tc := ⟨.hbm, 2844, rfl⟩
abbrev main_call11_call0_v0 : Ref sig .tc := ⟨.hbm, 2845, rfl⟩
abbrev main_call11_call0_v1 : Ref sig .tc := ⟨.hbm, 2846, rfl⟩
abbrev main_call11_v4 : Ref sig .tc := ⟨.hbm, 2847, rfl⟩
abbrev main_call11_v5 : Ref sig .tc := ⟨.hbm, 2848, rfl⟩
abbrev main_call11_cst_2 : Ref sig .tc := ⟨.hbm, 2849, rfl⟩
abbrev main_call11_v6 : Ref sig .tc := ⟨.hbm, 2850, rfl⟩
abbrev main_call11_v7 : Ref sig .tc := ⟨.hbm, 2851, rfl⟩
abbrev main_v2221 : Ref sig .tc := ⟨.hbm, 2852, rfl⟩
abbrev main_v2222 : Ref sig .tc := ⟨.hbm, 2853, rfl⟩
abbrev main_v2223 : Ref sig .tc := ⟨.hbm, 2854, rfl⟩
abbrev main_v2224 : Ref sig .tc := ⟨.hbm, 2855, rfl⟩
abbrev main_v2225 : Ref sig .tc := ⟨.hbm, 2856, rfl⟩
abbrev main_call12_cst : Ref sig .tc := ⟨.hbm, 2857, rfl⟩
abbrev main_call12_v0 : Ref sig .tc := ⟨.hbm, 2858, rfl⟩
abbrev main_call12_v1 : Ref sig .tc := ⟨.hbm, 2859, rfl⟩
abbrev main_call12_cst_0 : Ref sig .tc := ⟨.hbm, 2860, rfl⟩
abbrev main_call12_v2 : Ref sig .tc := ⟨.hbm, 2861, rfl⟩
abbrev main_call12_v3 : Ref sig .tc := ⟨.hbm, 2862, rfl⟩
abbrev main_call12_cst_1 : Ref sig .tc := ⟨.hbm, 2863, rfl⟩
abbrev main_call12_call0_v0 : Ref sig .tc := ⟨.hbm, 2864, rfl⟩
abbrev main_call12_call0_v1 : Ref sig .tc := ⟨.hbm, 2865, rfl⟩
abbrev main_call12_v4 : Ref sig .tc := ⟨.hbm, 2866, rfl⟩
abbrev main_call12_v5 : Ref sig .tc := ⟨.hbm, 2867, rfl⟩
abbrev main_call12_cst_2 : Ref sig .tc := ⟨.hbm, 2868, rfl⟩
abbrev main_call12_v6 : Ref sig .tc := ⟨.hbm, 2869, rfl⟩
abbrev main_call12_v7 : Ref sig .tc := ⟨.hbm, 2870, rfl⟩
abbrev main_v2226 : Ref sig .tc := ⟨.hbm, 2871, rfl⟩
abbrev main_v2227 : Ref sig .tc := ⟨.hbm, 2872, rfl⟩
abbrev main_v2228 : Ref sig .tc := ⟨.hbm, 2873, rfl⟩
abbrev main_v2229 : Ref sig .tc := ⟨.hbm, 2874, rfl⟩
abbrev main_v2230 : Ref sig .tc := ⟨.hbm, 2875, rfl⟩
abbrev main_call13_cst : Ref sig .tc := ⟨.hbm, 2876, rfl⟩
abbrev main_call13_v0 : Ref sig .tc := ⟨.hbm, 2877, rfl⟩
abbrev main_call13_cst_0 : Ref sig .tc := ⟨.hbm, 2878, rfl⟩
abbrev main_call13_v1 : Ref sig .tc := ⟨.hbm, 2879, rfl⟩
abbrev main_call13_v2 : Ref sig .tc := ⟨.hbm, 2880, rfl⟩
abbrev main_call13_v3 : Ref sig .tc := ⟨.hbm, 2881, rfl⟩
abbrev main_call13_v4 : Ref sig .tc := ⟨.hbm, 2882, rfl⟩
abbrev main_call13_v5 : Ref sig .tc := ⟨.hbm, 2883, rfl⟩
abbrev main_call13_v6 : Ref sig .tc := ⟨.hbm, 2884, rfl⟩
abbrev main_call13_cst_1 : Ref sig .tc := ⟨.hbm, 2885, rfl⟩
abbrev main_call13_v7 : Ref sig .tc := ⟨.hbm, 2886, rfl⟩
abbrev main_call13_v8 : Ref sig .tc := ⟨.hbm, 2887, rfl⟩
abbrev main_call13_v9 : Ref sig .tc := ⟨.hbm, 2888, rfl⟩
abbrev main_call13_v10 : Ref sig .tc := ⟨.hbm, 2889, rfl⟩
abbrev main_v2231 : Ref sig .tc := ⟨.hbm, 2890, rfl⟩

abbrev nD : Nat := 1
abbrev τ : Topo := Topo.v7x

variable {F : FTy → Type} [FloatOps F]
-- ==== Proof.Scatter.lean ====
/-
  What one accumulating scatter of rows computes, and what eight of them in a row compute, over the extended reals.
  A scatter takes `E` update rows of `C` entries and adds row `e` into row `idx e` of an `N × C` table.
-/
module

public import Idealize.ShloMosaic.Lib.Routing.OpsPair
public import Idealize.ShloMosaic.Lib.ValueIdx
public import Idealize.ShloMosaic.Lib.IdealHost
public import Idealize.ShloMosaic.PureOps.Ideal

@[expose] public section

noncomputable section

open scoped BigOperators

namespace Cert.Spline

open Idealize.ShloMosaic Idealize.ShloMosaic.ValueIdx Idealize.ShloMosaic.Routing

/-- The dimension numbers of a scatter of whole rows: the updates' second axis is the window, the table's first axis is
indexed, one index word per row. -/
def RowScatter {N C E : ℕ} (d : ScatterDims (shape2 N C) (shape2 E 1) (shape2 E C)) : Prop :=
  d.updateWindowDims = [1] ∧ d.insertedWindowDims = [0] ∧ d.scatterDimsToOperandDims = [0] ∧ d.indexVectorDim = 1

/-- Entry `c'` of update row `e` lands at `(r, c)` exactly when the row's index word, read signed, is `r`, and `c' = c`. -/
theorem row_lands {N C E w : ℕ} (d : ScatterDims (shape2 N C) (shape2 E 1) (shape2 E C)) (hd : RowScatter d)
    (idx : IVec (shape2 E 1) w) (e : Fin E) (c' : Fin C) (r : Fin N) (c : Fin C) :
    d.resultIdx? (ix2 e c') idx = some (ix2 r c) ↔ (idx (ix2 e 0)).toInt = r.val ∧ c' = c := by
  obtain ⟨uw, iw, sd, iv, wf⟩ := d
  obtain ⟨h1, h2, h3, h4⟩ := hd
  dsimp only at h1 h2 h3 h4
  subst h1 h2 h3 h4
  rw [resultIdx?_ix2]
  have hs0 : (ScatterDims.mk (s := shape2 N C) (si := shape2 E 1) (u := shape2 E C) [1] [0] [0] 1 wf).start (ix2 e c') idx 0
      = (idx (ix2 e 0)).toInt := by
    unfold ScatterDims.start
    rw [dif_pos (by simp)]
    congr 2
    funext b
    match b with
    | ⟨0, _⟩ => rfl
    | ⟨1, _⟩ => rfl
  have hs1 : (ScatterDims.mk (s := shape2 N C) (si := shape2 E 1) (u := shape2 E C) [1] [0] [0] 1 wf).start (ix2 e c') idx 1 = 0 := by
    unfold ScatterDims.start
    rw [dif_neg (by simp)]
  have hw0 : (ScatterDims.mk (s := shape2 N C) (si := shape2 E 1) (u := shape2 E C) [1] [0] [0] 1 wf).window (ix2 e c') 0 = 0 := rfl
  have hw1 : (ScatterDims.mk (s := shape2 N C) (si := shape2 E 1) (u := shape2 E C) [1] [0] [0] 1 wf).window (ix2 e c') 1 = c'.val := rfl
  rw [hs0, hs1, hw0, hw1, Fin.ext_iff]
  omega

/-- One accumulating scatter of rows, read at `(r, c)`: the table's entry plus the sum, over the update rows whose index is
`r`, of their entry `c`. -/
theorem scatterAdd_rows {N C E w : ℕ} {φ : FTy} (d : ScatterDims (shape2 N C) (shape2 E 1) (shape2 E C)) (hd : RowScatter d)
    (x : FVec Ideal (shape2 N C) φ) (idx : IVec (shape2 E 1) w) (upd : FVec Ideal (shape2 E C) φ) (r : Fin N) (c : Fin C) :
    Host.scatterAdd d x idx upd (ix2 r c)
      = x (ix2 r c) + ∑ e : Fin E, if (idx (ix2 e 0)).toInt = r.val then upd (ix2 e c) else 0 := by
  show Ideal.hostScatterAdd d x idx upd (ix2 r c) = _
  unfold Ideal.hostScatterAdd
  rw [Finset.sum_filter, sum_idx2]
  refine congrArg (x (ix2 r c) + ·) (Finset.sum_congr rfl fun e _ => ?_)
  simp only [row_lands d hd]
  by_cases h : (idx (ix2 e 0)).toInt = r.val
  · simp only [h, true_and, if_true]
    rw [Finset.sum_ite_eq' Finset.univ c]
    simp
  · simp [h]

/-- The dimension numbers of a scatter of single numbers into a vector. -/
def PointScatter {N E : ℕ} (d : ScatterDims (shape1 N) (shape2 E 1) (shape1 E)) : Prop :=
  d.updateWindowDims = [] ∧ d.insertedWindowDims = [0] ∧ d.scatterDimsToOperandDims = [0] ∧ d.indexVectorDim = 1

/-- Update `e` of a scatter of numbers lands at `r` exactly when its index word, read signed, is `r`. -/
theorem point_lands {N E w : ℕ} (d : ScatterDims (shape1 N) (shape2 E 1) (shape1 E)) (hd : PointScatter d)
    (idx : IVec (shape2 E 1) w) (e : Fin E) (r : Fin N) :
    d.resultIdx? (ix1 e) idx = some (ix1 r) ↔ (idx (ix2 e 0)).toInt = r.val := by
  obtain ⟨uw, iw, sd, iv, wf⟩ := d
  obtain ⟨h1, h2, h3, h4⟩ := hd
  dsimp only at h1 h2 h3 h4
  subst h1 h2 h3 h4
  rw [resultIdx?_ix1]
  have hs0 : (ScatterDims.mk (s := shape1 N) (si := shape2 E 1) (u := shape1 E) [] [0] [0] 1 wf).start (ix1 e) idx 0
      = (idx (ix2 e 0)).toInt := by
    unfold ScatterDims.start
    rw [dif_pos (by simp)]
    congr 2
    funext b
    match b with
    | ⟨0, _⟩ => rfl
    | ⟨1, _⟩ => rfl
  have hw0 : (ScatterDims.mk (s := shape1 N) (si := shape2 E 1) (u := shape1 E) [] [0] [0] 1 wf).window (ix1 e) 0 = 0 := rfl
  rw [hs0, hw0]
  omega

/-- A scatter of numbers, read at `r`: the vector's entry plus the sum of the updates whose index is `r`. -/
theorem scatterAdd_points {N E w : ℕ} {φ : FTy} (d : ScatterDims (shape1 N) (shape2 E 1) (shape1 E)) (hd : PointScatter d)
    (x : FVec Ideal (shape1 N) φ) (idx : IVec (shape2 E 1) w) (upd : FVec Ideal (shape1 E) φ) (r : Fin N) :
    Host.scatterAdd d x idx upd (ix1 r)
      = x (ix1 r) + ∑ e : Fin E, if (idx (ix2 e 0)).toInt = r.val then upd (ix1 e) else 0 := by
  show Ideal.hostScatterAdd d x idx upd (ix1 r) = _
  unfold Ideal.hostScatterAdd
  rw [Finset.sum_filter]
  refine congrArg (x (ix1 r) + ·) ?_
  rw [← Equiv.sum_comp (⟨fun e => ix1 e, fun j => j 0, fun _ => rfl, fun j => (eq_ix1 j).symm⟩ : Fin E ≃ (shape1 E).Idx)]
  exact Finset.sum_congr rfl fun e _ => by
    show (if d.resultIdx? (ix1 e) idx = some (ix1 r) then upd (ix1 e) else 0) = _
    simp only [point_lands d hd]

end Cert.Spline

end
-- ==== Proof.Edge.lean ====
/-
  The edge quantities of the spline convolution: the eight corner weights and bucket numbers of every edge, the eight
  accumulating scatters into the buckets, the node degrees, and how the buckets of the two programs compare.

  Everything is over the extended reals. `E` is the number of edges; there are 10000 nodes and 125 spline kernels, and a
  bucket is a pair of a node `n` and a kernel `k`: number `n * 125 + k` in one program, `k * 10000 + n` in the other.
-/
module

public import proofs.«01_k».proof.Proof.Scatter
public import Idealize.ShloMosaic.Lib.ValueLayout
public import Idealize.ShloMosaic.Lib.Pointwise.ElementwiseCore
public import Idealize.ShloMosaic.Lib.Pipeline.Value

@[expose] public section

noncomputable section

open scoped BigOperators

namespace Cert.Spline

open Idealize.ShloMosaic Idealize.ShloMosaic.ValueIdx Idealize.ShloMosaic.Routing

/-- The shape of a scalar. -/
abbrev shape0' : Shape := ⟨0, ![]⟩

/-! ## Side conditions of the layout operations, at any extents -/

theorem bc0 (T : Shape) : shape0'.BroadcastsInDim T ![] := ⟨fun a => a.elim0, fun a => a.elim0⟩

theorem bcCol (E : ℕ) : (shape1 E).BroadcastsInDim (shape2 E 1) ![0] :=
  ⟨fun a b _ => Subsingleton.elim a b, fun a => .inr (by obtain rfl : a = 0 := Subsingleton.elim _ _; rfl)⟩

theorem bcRow (E : ℕ) : (shape1 E).BroadcastsInDim (shape2 1 E) ![1] :=
  ⟨fun a b _ => Subsingleton.elim a b, fun a => .inr (by obtain rfl : a = 0 := Subsingleton.elim _ _; rfl)⟩

theorem bcCols (E C : ℕ) : (shape2 E 1).BroadcastsInDim (shape2 E C) ![0, 1] :=
  ⟨fun a b h => by
    match a, b with
    | ⟨0, _⟩, ⟨0, _⟩ => rfl
    | ⟨1, _⟩, ⟨1, _⟩ => rfl
    | ⟨0, _⟩, ⟨1, _⟩ => exact absurd (congrArg Fin.val h) Nat.zero_ne_one
    | ⟨1, _⟩, ⟨0, _⟩ => exact absurd (congrArg Fin.val h) Nat.one_ne_zero,
   fun a => by
    match a with
    | ⟨0, _⟩ => exact .inr rfl
    | ⟨1, _⟩ => exact .inl rfl⟩

theorem bcRows (E C : ℕ) : (shape2 1 C).BroadcastsInDim (shape2 E C) ![0, 1] :=
  ⟨fun a b h => by
    match a, b with
    | ⟨0, _⟩, ⟨0, _⟩ => rfl
    | ⟨1, _⟩, ⟨1, _⟩ => rfl
    | ⟨0, _⟩, ⟨1, _⟩ => exact absurd (congrArg Fin.val h) Nat.zero_ne_one
    | ⟨1, _⟩, ⟨0, _⟩ => exact absurd (congrArg Fin.val h) Nat.one_ne_zero,
   fun a => by
    match a with
    | ⟨0, _⟩ => exact .inl rfl
    | ⟨1, _⟩ => exact .inr rfl⟩

theorem castCol (E : ℕ) : (shape2 E 1).ShapeCasts (shape1 E) := by
  show (shape1 E).numel = (shape2 E 1).numel
  simp [Shape.numel, Fin.prod_univ_two]

theorem castRow (E : ℕ) : (shape2 1 E).ShapeCasts (shape1 E) := by
  show (shape1 E).numel = (shape2 1 E).numel
  simp [Shape.numel, Fin.prod_univ_two]

theorem sliceCol {E : ℕ} (k : ℕ) (hk : k < 3) : (shape2 E 3).Slices ![0, k] (shape2 E 1) :=
  ⟨rfl, fun a => by
    match a with
    | ⟨0, _⟩ => show 0 + E ≤ E; omega
    | ⟨1, _⟩ => show k + 1 ≤ 3; omega⟩

theorem sliceRow {E m : ℕ} (k : ℕ) (hk : k < m) : (shape2 m E).Slices ![k, 0] (shape2 1 E) :=
  ⟨rfl, fun a => by
    match a with
    | ⟨0, _⟩ => show k + 1 ≤ m; omega
    | ⟨1, _⟩ => show 0 + E ≤ E; omega⟩

/-! ## Words and numbers repeated over a vector -/

/-- The word `w`, once per edge. -/
def words {E : ℕ} (w : BitVec 32) : IVec (shape1 E) 32 := broadcastInDim (shape1 E) ![] (bc0 _) (constantI shape0' 32 w)

@[simp] theorem words_apply {E : ℕ} (w : BitVec 32) (i : (shape1 E).Idx) : words (E := E) w i = w := by
  unfold words; rw [broadcastInDim_scalar_apply]; rfl

/-- The number with bits `w`, at every place of a shape. -/
def nums (T : Shape) (w : BitVec 32) : FVec Ideal T .f32 := broadcastInDim T ![] (bc0 _) (constant shape0' .f32 w)

@[simp] theorem nums_zero (T : Shape) (i : T.Idx) : nums T 0x00000000#32 i = (0 : EReal) := by
  unfold nums; rw [broadcastInDim_scalar_apply]; exact Ideal.ofBits_zero_f32

@[simp] theorem nums_one (T : Shape) (i : T.Idx) : nums T 0x3F800000#32 i = (1 : EReal) := by
  unfold nums; rw [broadcastInDim_scalar_apply]; exact Ideal.ofBits_one_f32

/-- One column of an `E × 3` table, as a vector. -/
def pick {E : ℕ} {α : Type} (k : ℕ) (hk : k < 3) (x : (shape2 E 3).Idx → α) : (shape1 E).Idx → α :=
  shapeCast (shape1 E) (extractStridedSlice (shape2 E 1) ![0, k] x (sliceCol k hk)) (castCol E)

theorem pick_apply {E : ℕ} {α : Type} (k : ℕ) (hk : k < 3) (x : (shape2 E 3).Idx → α) (e : Fin E) :
    pick k hk x (ix1 e) = x (ix2 e ⟨k, hk⟩) := by
  unfold pick
  rw [shapeCast_apply _ _ _ (ix2 e (0 : Fin 1)) (by
    rw [Shape.rowMajor_val_one, Shape.rowMajor_val_two]; show e.val * 1 + 0 = e.val; omega)]
  exact slice2_axis1_apply k x _ e 0 ⟨k, hk⟩ rfl

/-- One row of an `m × E` table, as a vector. -/
def row {E m : ℕ} {α : Type} (k : ℕ) (hk : k < m) (x : (shape2 m E).Idx → α) : (shape1 E).Idx → α :=
  shapeCast (shape1 E) (extractStridedSlice (shape2 1 E) ![k, 0] x (sliceRow k hk)) (castRow E)

theorem row_apply {E m : ℕ} {α : Type} (k : ℕ) (hk : k < m) (x : (shape2 m E).Idx → α) (e : Fin E) :
    row k hk x (ix1 e) = x (ix2 ⟨k, hk⟩ e) := by
  unfold row
  rw [shapeCast_apply _ _ _ (ix2 (0 : Fin 1) e) (by
    rw [Shape.rowMajor_val_one, Shape.rowMajor_val_two]; show 0 * E + e.val = e.val; omega)]
  exact slice2_axis0_apply k x _ 0 e ⟨k, hk⟩ rfl

/-! ## Corner weights and bucket numbers -/

/-- The two integer offsets of a corner along one axis. -/
def bit (s : Bool) : BitVec 32 := cond s 1#32 0#32

/-- A corner's factor along one axis: the fraction, or one minus the fraction. -/
def side {E : ℕ} (s : Bool) (u : FVec Ideal (shape1 E) .f32) : FVec Ideal (shape1 E) .f32 :=
  cond s u (subf (nums (shape1 E) 0x3F800000#32) u)

/-- The weight of corner `(s0, s1, s2)` of every edge. -/
def weight {E : ℕ} (f : FVec Ideal (shape2 E 3) .f32) (s0 s1 s2 : Bool) : FVec Ideal (shape1 E) .f32 :=
  mulf (mulf (side s0 (pick 0 (by decide) f)) (side s1 (pick 1 (by decide) f))) (side s2 (pick 2 (by decide) f))

/-- The spline kernel of corner `(s0, s1, s2)` of every edge. -/
def spline {E : ℕ} (i0 : IVec (shape2 E 3) 32) (s0 s1 s2 : Bool) : IVec (shape1 E) 32 :=
  addi (addi (addi (pick 0 (by decide) i0) (words (bit s0))) (muli (addi (pick 1 (by decide) i0) (words (bit s1))) (words 5#32)))
    (muli (addi (pick 2 (by decide) i0) (words (bit s2))) (words 25#32))

/-- The reference's bucket number: kernel-major. -/
def refBucket {E : ℕ} (i0 : IVec (shape2 E 3) 32) (col : IVec (shape1 E) 32) (s0 s1 s2 : Bool) : IVec (shape1 E) 32 :=
  addi (muli (spline i0 s0 s1 s2) (words 10000#32)) col

/-- The kernel's bucket number: node-major. -/
def kerBucket {E : ℕ} (i0 : IVec (shape2 E 3) 32) (col : IVec (shape1 E) 32) (s0 s1 s2 : Bool) : IVec (shape1 E) 32 :=
  addi (muli col (words 125#32)) (spline i0 s0 s1 s2)

/-- Indices with a negative one taken from the end of an axis of extent `M`, as a column. -/
def wrapped {E : ℕ} (M : BitVec 32) (t : IVec (shape1 E) 32) : IVec (shape2 E 1) 32 :=
  broadcastInDim (shape2 E 1) ![0] (bcCol E) (select (cmpi .slt t (words 0#32)) (addi t (words M)) t)

/-- A column built from a vector reads the vector. -/
theorem col_apply {E : ℕ} {α : Type} (x : (shape1 E).Idx → α) (e : Fin E) :
    broadcastInDim (shape2 E 1) ![0] (bcCol E) x (ix2 e 0) = x (ix1 e) :=
  broadcastInDim_apply _ _ _ _ _ fun a => by
    obtain rfl : a = 0 := Subsingleton.elim _ _
    show e.val = if E = 1 then 0 else e.val
    have := e.isLt
    split <;> omega

/-- An index that is not negative is its own wrapped index. -/
theorem wrapped_apply {E : ℕ} (M : BitVec 32) (t : IVec (shape1 E) 32) (e : Fin E) (h : 0 ≤ (t (ix1 e)).toInt) :
    wrapped M t (ix2 e 0) = t (ix1 e) := by
  unfold wrapped
  rw [col_apply]
  show Scalar.select (Scalar.cmpi .slt (t (ix1 e)) (words 0#32 (ix1 e))) _ _ = _
  rw [words_apply]
  have : Scalar.cmpi .slt (t (ix1 e)) 0#32 = 0#1 := by
    show BitVec.ofBool ((t (ix1 e)).slt 0#32) = 0#1
    rw [BitVec.slt, decide_eq_false (by simpa using h)]
    rfl
  rw [this]; rfl

/-! ## Eight scatters into the buckets -/

/-- How the column of weights is spread over the entries of a row. -/
def Spreads {E C : ℕ} (spread : FVec Ideal (shape2 E 1) .f32 → FVec Ideal (shape2 E C) .f32) : Prop :=
  ∀ y e c, spread y (ix2 e c) = y (ix2 e 0)

theorem spreads_id {E : ℕ} : Spreads (E := E) (C := 1) id := fun y e c => by rw [Subsingleton.elim c 0]; rfl

theorem spreads_cols {E C : ℕ} : Spreads (E := E) (C := C) (broadcastInDim (shape2 E C) ![0, 1] (bcCols E C)) := fun y e c =>
  broadcastInDim_apply _ _ _ _ _ fun a => by
    match a with
    | ⟨0, _⟩ =>
      show e.val = if E = 1 then 0 else e.val
      have := e.isLt
      split <;> omega
    | ⟨1, _⟩ => rfl

section Buckets

variable {E C : ℕ} (d : ScatterDims (shape2 1250000 C) (shape2 E 1) (shape2 E C))
  (spread : FVec Ideal (shape2 E 1) .f32 → FVec Ideal (shape2 E C) .f32)

/-- One corner's scatter: every edge adds its source row times its weight into its bucket. -/
def corner (b : FVec Ideal (shape1 E) .f32) (t : IVec (shape1 E) 32) (src : FVec Ideal (shape2 E C) .f32)
    (x : FVec Ideal (shape2 1250000 C) .f32) : FVec Ideal (shape2 1250000 C) .f32 :=
  Host.scatterAdd d x (wrapped 1250000#32 t) (mulf (spread (broadcastInDim (shape2 E 1) ![0] (bcCol E) b)) src)

/-- The eight corners' scatters, from buckets of zeros. -/
def buckets (b : Bool → Bool → Bool → FVec Ideal (shape1 E) .f32) (t : Bool → Bool → Bool → IVec (shape1 E) 32)
    (src : FVec Ideal (shape2 E C) .f32) : FVec Ideal (shape2 1250000 C) .f32 :=
  corner d spread (b true true true) (t true true true) src
  (corner d spread (b true true false) (t true true false) src
  (corner d spread (b true false true) (t true false true) src
  (corner d spread (b true false false) (t true false false) src
  (corner d spread (b false true true) (t false true true) src
  (corner d spread (b false true false) (t false true false) src
  (corner d spread (b false false true) (t false false true) src
  (corner d spread (b false false false) (t false false false) src
    (nums (shape2 1250000 C) 0x00000000#32))))))))

variable {d spread}

theorem corner_apply (hd : RowScatter d) (hs : Spreads spread) (b : FVec Ideal (shape1 E) .f32) (t : IVec (shape1 E) 32)
    (src : FVec Ideal (shape2 E C) .f32) (x : FVec Ideal (shape2 1250000 C) .f32) (r : Fin 1250000) (c : Fin C)
    (ht : ∀ e, 0 ≤ (t (ix1 e)).toInt) :
    corner d spread b t src x (ix2 r c)
      = (x (ix2 r c) + ∑ e : Fin E, if (t (ix1 e)).toInt = r.val then b (ix1 e) * src (ix2 e c) else 0 : EReal) := by
  unfold corner
  rw [scatterAdd_rows d hd]
  refine congrArg (x (ix2 r c) + ·) (Finset.sum_congr rfl fun e _ => ?_)
  rw [wrapped_apply _ _ _ (ht e)]
  show (if _ then (spread _ (ix2 e c) * src (ix2 e c) : EReal) else 0) = _
  rw [hs, col_apply]

end Buckets

/-- A nonnegative finite factor passes through a finite sum of extended reals. -/
theorem mul_sum_of_nonneg {ι : Type} (s : Finset ι) (a : EReal) (h0 : 0 ≤ a) (ht : a ≠ ⊤) (f : ι → EReal) :
    a * ∑ i ∈ s, f i = ∑ i ∈ s, a * f i := by
  classical
  induction s using Finset.induction_on with
  | empty => simp
  | insert i s hi ih => rw [Finset.sum_insert hi, Finset.sum_insert hi, EReal.left_distrib_of_nonneg_of_ne_top h0 ht, ih]

/-- The bucket numbers do not overflow: under the drawn ranges both are the numbers their formulas say, and they name the
same pair of a node and a spline kernel. -/
theorem bucket_iff {E : ℕ} (i0 : IVec (shape2 E 3) 32) (col : IVec (shape1 E) 32)
    (hi : ∀ e k, 0 ≤ (i0 (ix2 e k)).toInt ∧ (i0 (ix2 e k)).toInt < 4)
    (hc : ∀ e, 0 ≤ (col (ix1 e)).toInt ∧ (col (ix1 e)).toInt < 10000) (s0 s1 s2 : Bool) (e : Fin E) :
    0 ≤ (kerBucket i0 col s0 s1 s2 (ix1 e)).toInt ∧ 0 ≤ (refBucket i0 col s0 s1 s2 (ix1 e)).toInt ∧
    ∀ (n : Fin 10000) (k : Fin 125),
      ((kerBucket i0 col s0 s1 s2 (ix1 e)).toInt = n.val * 125 + k.val ↔
        (refBucket i0 col s0 s1 s2 (ix1 e)).toInt = k.val * 10000 + n.val) ∧
      ((kerBucket i0 col s0 s1 s2 (ix1 e)).toInt = n.val * 125 + k.val → (col (ix1 e)).toInt = n.val) := by
  have hK : kerBucket i0 col s0 s1 s2 (ix1 e) = col (ix1 e) * 125#32
      + (i0 (ix2 e 0) + bit s0 + (i0 (ix2 e 1) + bit s1) * 5#32 + (i0 (ix2 e 2) + bit s2) * 25#32) := by
    show col (ix1 e) * words 125#32 (ix1 e) + (pick 0 _ i0 (ix1 e) + words (bit s0) (ix1 e)
      + (pick 1 _ i0 (ix1 e) + words (bit s1) (ix1 e)) * words 5#32 (ix1 e)
      + (pick 2 _ i0 (ix1 e) + words (bit s2) (ix1 e)) * words 25#32 (ix1 e)) = _
    simp only [words_apply, pick_apply]; rfl
  have hR : refBucket i0 col s0 s1 s2 (ix1 e) = (i0 (ix2 e 0) + bit s0 + (i0 (ix2 e 1) + bit s1) * 5#32
      + (i0 (ix2 e 2) + bit s2) * 25#32) * 10000#32 + col (ix1 e) := by
    show (pick 0 _ i0 (ix1 e) + words (bit s0) (ix1 e)
      + (pick 1 _ i0 (ix1 e) + words (bit s1) (ix1 e)) * words 5#32 (ix1 e)
      + (pick 2 _ i0 (ix1 e) + words (bit s2) (ix1 e)) * words 25#32 (ix1 e)) * words 10000#32 (ix1 e) + col (ix1 e) = _
    simp only [words_apply, pick_apply]; rfl
  rw [hK, hR]
  obtain ⟨a0, a1⟩ := hi e 0
  obtain ⟨b0, b1⟩ := hi e 1
  obtain ⟨c0, c1⟩ := hi e 2
  obtain ⟨q0, q1⟩ := hc e
  generalize i0 (ix2 e 0) = x at *
  generalize i0 (ix2 e 1) = y at *
  generalize i0 (ix2 e 2) = z at *
  generalize col (ix1 e) = w at *
  have hb : ∀ s, (bit s).toNat ≤ 1 := by decide
  have hs0 := hb s0
  have hs1 := hb s1
  have hs2 := hb s2
  generalize bit s0 = u0 at *
  generalize bit s1 = u1 at *
  generalize bit s2 = u2 at *
  have nat (v : BitVec 32) (M : ℕ) (h0 : 0 ≤ v.toInt) (h1 : v.toInt < M) (hM : M ≤ 2 ^ 31) : v.toInt = v.toNat ∧ v.toNat < M := by
    rw [BitVec.toInt_eq_toNat_cond] at *
    have := v.isLt
    split at h0 <;> split at h1 <;> split <;> omega
  obtain ⟨-, x1⟩ := nat x 4 a0 a1 (by norm_num)
  obtain ⟨-, y1⟩ := nat y 4 b0 b1 (by norm_num)
  obtain ⟨-, z1⟩ := nat z 4 c0 c1 (by norm_num)
  obtain ⟨w2, w1⟩ := nat w 10000 q0 q1 (by norm_num)
  have hk : (w * 125#32 + (x + u0 + (y + u1) * 5#32 + (z + u2) * 25#32)).toNat
      = w.toNat * 125 + (x.toNat + u0.toNat + (y.toNat + u1.toNat) * 5 + (z.toNat + u2.toNat) * 25) := by
    simp only [BitVec.toNat_add, BitVec.toNat_mul, BitVec.toNat_ofNat]; omega
  have hr : ((x + u0 + (y + u1) * 5#32 + (z + u2) * 25#32) * 10000#32 + w).toNat
      = (x.toNat + u0.toNat + (y.toNat + u1.toNat) * 5 + (z.toNat + u2.toNat) * 25) * 10000 + w.toNat := by
    simp only [BitVec.toNat_add, BitVec.toNat_mul, BitVec.toNat_ofNat]; omega
  rw [BitVec.toInt_eq_toNat_of_lt (by omega), BitVec.toInt_eq_toNat_of_lt (by omega), hk, hr, w2]
  refine ⟨by omega, by omega, fun n k => ?_⟩
  have := n.isLt
  have := k.isLt
  omega

/-- The two programs' buckets: at node `n` and spline kernel `k` the kernel's holds `v n` times the reference's, when its
weights carry the factor `v (col e)`, nonnegative and finite. -/
theorem buckets_scaled {E C : ℕ} (dK dR : ScatterDims (shape2 1250000 C) (shape2 E 1) (shape2 E C)) (hdK : RowScatter dK) (hdR : RowScatter dR)
    (spread : FVec Ideal (shape2 E 1) .f32 → FVec Ideal (shape2 E C) .f32) (hs : Spreads spread)
    (i0 : IVec (shape2 E 3) 32) (col : IVec (shape1 E) 32)
    (hi : ∀ e k, 0 ≤ (i0 (ix2 e k)).toInt ∧ (i0 (ix2 e k)).toInt < 4)
    (hc : ∀ e, 0 ≤ (col (ix1 e)).toInt ∧ (col (ix1 e)).toInt < 10000)
    (v : Fin 10000 → EReal) (hv0 : ∀ n, 0 ≤ v n) (hvt : ∀ n, v n ≠ ⊤)
    (bK bR : Bool → Bool → Bool → FVec Ideal (shape1 E) .f32)
    (hb : ∀ s0 s1 s2 e n, (col (ix1 e)).toInt = n.val → bK s0 s1 s2 (ix1 e) = (bR s0 s1 s2 (ix1 e) * v n : EReal))
    (src : FVec Ideal (shape2 E C) .f32) (n : Fin 10000) (k : Fin 125) (rK rR : Fin 1250000) (hrK : rK.val = n.val * 125 + k.val)
    (hrR : rR.val = k.val * 10000 + n.val) (c : Fin C) :
    buckets dK spread bK (kerBucket i0 col) src (ix2 rK c) = (v n * buckets dR spread bR (refBucket i0 col) src (ix2 rR c) : EReal) := by
  have step (s0 s1 s2 : Bool) (x y : FVec Ideal (shape2 1250000 C) .f32) (h : x (ix2 rK c) = (v n * y (ix2 rR c) : EReal)) :
      corner dK spread (bK s0 s1 s2) (kerBucket i0 col s0 s1 s2) src x (ix2 rK c)
        = (v n * corner dR spread (bR s0 s1 s2) (refBucket i0 col s0 s1 s2) src y (ix2 rR c) : EReal) := by
    rw [corner_apply hdK hs _ _ _ _ _ _ fun e => (bucket_iff i0 col hi hc s0 s1 s2 e).1,
      corner_apply hdR hs _ _ _ _ _ _ fun e => (bucket_iff i0 col hi hc s0 s1 s2 e).2.1,
      EReal.left_distrib_of_nonneg_of_ne_top (hv0 n) (hvt n), mul_sum_of_nonneg _ _ (hv0 n) (hvt n), h]
    refine congrArg (v n * y (ix2 rR c) + ·) (Finset.sum_congr rfl fun e _ => ?_)
    obtain ⟨h1, h2⟩ := (bucket_iff i0 col hi hc s0 s1 s2 e).2.2 n k
    rw [hrK, hrR]
    push_cast
    by_cases hk : (kerBucket i0 col s0 s1 s2 (ix1 e)).toInt = n.val * 125 + k.val
    · rw [if_pos hk, if_pos (h1.1 hk), hb _ _ _ _ n (h2 hk), mul_comm (bR s0 s1 s2 (ix1 e) : EReal), mul_assoc]
    · rw [if_neg hk, if_neg (fun h => hk (h1.2 h)), mul_zero]
  unfold buckets
  iterate 8 refine step _ _ _ _ _ ?_
  simp

end Cert.Spline

end
-- ==== Proof.Layer.lean ====
/-
  One graph convolution layer of the two programs, over the extended reals: the kernel's dense form (node-major buckets
  already divided by the node degree, flattened into one matrix product) against the reference's (kernel-major buckets, a
  contraction over kernels and channels, then a division by the degree). The two agree entry by entry.
-/
module

public import proofs.«01_k».proof.Proof.Edge
public import Idealize.ShloMosaic.Lib.StackMember
public import Idealize.ShloMosaic.Lib.MatmulPlain
public import Idealize.ShloMosaic.Lib.TwoAxisContraction

@[expose] public section

noncomputable section

open scoped BigOperators

namespace Cert.Spline

open Idealize.ShloMosaic Idealize.ShloMosaic.ValueIdx Idealize.ShloMosaic.Routing

/-! ## Node degrees -/

/-- How many edges end at each node, but at least one. -/
def degree {E : ℕ} (d : ScatterDims (shape1 10000) (shape2 E 1) (shape1 E)) (col : IVec (shape1 E) 32) : FVec Ideal (shape1 10000) .f32 :=
  maximumf (nums (shape1 10000) 0x3F800000#32)
    (Host.scatterAdd d (nums (shape1 10000) 0x00000000#32) (wrapped 10000#32 col) (nums (shape1 E) 0x3F800000#32))

/-- A sum of ones and zeros is a nonnegative real. -/
theorem count_real {ι : Type} (s : Finset ι) (p : ι → Prop) [DecidablePred p] :
    ∃ r : ℝ, 0 ≤ r ∧ ∑ e ∈ s, (if p e then (1 : EReal) else 0) = (r : EReal) := by
  classical
  induction s using Finset.induction_on with
  | empty => exact ⟨0, le_rfl, by simp⟩
  | insert i s hi ih =>
    obtain ⟨r, h0, hr⟩ := ih
    rw [Finset.sum_insert hi, hr]
    by_cases h : p i
    · exact ⟨1 + r, by linarith, by rw [if_pos h]; push_cast; rfl⟩
    · exact ⟨r, h0, by rw [if_neg h, zero_add]⟩

/-- A clipped degree is a real number, one or more. -/
theorem degree_real {E : ℕ} (d : ScatterDims (shape1 10000) (shape2 E 1) (shape1 E)) (hd : PointScatter d) (col : IVec (shape1 E) 32)
    (n : Fin 10000) : ∃ r : ℝ, 1 ≤ r ∧ degree d col (ix1 n) = (r : EReal) := by
  obtain ⟨r, h0, hr⟩ := count_real Finset.univ fun e : Fin E => (wrapped 10000#32 col (ix2 e 0)).toInt = n.val
  refine ⟨max 1 r, le_max_left _ _, ?_⟩
  show max (nums (shape1 10000) 0x3F800000#32 (ix1 n) : EReal) (Host.scatterAdd d _ _ _ (ix1 n)) = _
  rw [scatterAdd_points d hd, nums_one, nums_zero]
  simp only [nums_one]
  rw [hr, zero_add]
  rw [← EReal.coe_one]
  exact (EReal.coe_strictMono.monotone.map_max).symm

/-- One over the clipped degree. -/
def invDegree {E : ℕ} (d : ScatterDims (shape1 10000) (shape2 E 1) (shape1 E)) (col : IVec (shape1 E) 32) : FVec Ideal (shape1 10000) .f32 :=
  Host.divf (nums (shape1 10000) 0x3F800000#32) (degree d col)

theorem invDegree_apply {E : ℕ} (d : ScatterDims (shape1 10000) (shape2 E 1) (shape1 E)) (col : IVec (shape1 E) 32) (n : Fin 10000) :
    invDegree d col (ix1 n) = Ideal.div 1 (degree d col (ix1 n)) := by
  show Ideal.div (nums (shape1 10000) 0x3F800000#32 (ix1 n)) _ = _
  rw [nums_one]

/-- The reciprocal of a clipped degree is nonnegative and finite, and dividing by the degree multiplies by it. -/
theorem invDegree_spec {E : ℕ} (d : ScatterDims (shape1 10000) (shape2 E 1) (shape1 E)) (hd : PointScatter d) (col : IVec (shape1 E) 32)
    (n : Fin 10000) : (0 : EReal) ≤ invDegree d col (ix1 n) ∧ (invDegree d col (ix1 n) : EReal) ≠ ⊤ ∧
      ∀ x : EReal, Ideal.div x (degree d col (ix1 n)) = (invDegree d col (ix1 n) : EReal) * x := by
  obtain ⟨r, h1, hr⟩ := degree_real d hd col n
  have hne : r ≠ 0 := by linarith
  rw [invDegree_apply, hr, Ideal.div_coe hne, one_mul]
  refine ⟨by exact_mod_cast (by positivity : (0 : ℝ) ≤ 1 / r), EReal.coe_ne_top _, fun x => ?_⟩
  rw [Ideal.div_coe hne, mul_comm]

/-- The dimension numbers of a gather of single numbers. -/
def PointGather {N E : ℕ} (d : GatherDims (shape1 N) (shape2 E 1) (shape1 E)) : Prop :=
  d.offsetDims = [] ∧ d.collapsedSliceDims = [0] ∧ d.operandBatchingDims = [] ∧ d.startIndicesBatchingDims = [] ∧
    d.startIndexMap = [0] ∧ d.indexVectorDim = 1 ∧ d.sliceSizes = ![1]

/-- A gather of numbers reads, for each index in range, the entry it names. -/
theorem gather_points {N E w : ℕ} {α : Type} (d : GatherDims (shape1 N) (shape2 E 1) (shape1 E)) (hd : PointGather d)
    (x : (shape1 N).Idx → α) (idx : IVec (shape2 E 1) w) (e : Fin E) (n : Fin N) (h : (idx (ix2 e 0)).toInt = n.val) :
    Host.gather d x idx (ix1 e) = x (ix1 n) := by
  obtain ⟨od, cs, ob, sb, sm, iv, sz, wf⟩ := d
  obtain ⟨h1, h2, h3, h4, h5, h6, h7⟩ := hd
  dsimp only at h1 h2 h3 h4 h5 h6 h7
  subst h1 h2 h3 h4 h5 h6 h7
  unfold Host.gather
  congr 1
  funext a
  obtain rfl : a = 0 := Subsingleton.elim _ _
  refine Fin.ext ?_
  show GatherDims.start _ (ix1 e) idx 0 + GatherDims.batchCoord _ (ix1 e) 0 + GatherDims.offCoord _ (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  have hi : (idx (ix2 e 0)).toInt.toNat = n.val := by rw [h]; rfl
  have : (GatherDims.mk (s := shape1 N) (si := shape2 E 1) (t := shape1 E) [] [0] [] [] [0] 1 ![1] wf).siIdx (ix1 e) ⟨0, by simp⟩
      = ix2 e 0 := by
    funext b
    match b with
    | ⟨0, _⟩ => rfl
    | ⟨1, _⟩ => rfl
  show min (idx (GatherDims.siIdx _ (ix1 e) ⟨0, _⟩)).toInt.toNat (N - 1) = n.val
  rw [this, hi]
  have := n.isLt
  omega

/-! ## The activation -/

/-- The exponential linear unit. -/
def elu (x : EReal) : EReal := if 0 < x then x else Ideal.exp x - 1

/-- The unit as the reference computes it, with the exponential's argument guarded. -/
def refElu {T : Shape} (x : FVec Ideal T .f32) : FVec Ideal T .f32 :=
  select (cmpf .ogt x (nums T 0x00000000#32)) x
    (mulf (nums T 0x3F800000#32) (Host.expm1 (select (cmpf .ogt x (nums T 0x00000000#32)) (nums T 0x00000000#32) x)))

/-- A comparison with zero selects as the order does. -/
theorem select_pos (x a b : EReal) : Scalar.select (Ideal.cmp .ogt x 0) a b = if 0 < x then a else b := by
  unfold Ideal.cmp
  by_cases h : (0 : EReal) < x
  · rw [if_pos h]; simp [Scalar.select, h]
  · rw [if_neg h]; simp [Scalar.select, h]

theorem refElu_apply {T : Shape} (x : FVec Ideal T .f32) (i : T.Idx) : refElu x i = elu (x i) := by
  show Scalar.select (Ideal.cmp .ogt (x i) (nums T 0x00000000#32 i)) (x i)
    ((nums T 0x3F800000#32 i : EReal) * (Ideal.exp (Scalar.select (Ideal.cmp .ogt (x i) (nums T 0x00000000#32 i))
      (nums T 0x00000000#32 i) (x i)) - 1)) = _
  rw [nums_zero, nums_one, select_pos, select_pos, one_mul]
  unfold elu
  by_cases h : (0 : EReal) < x i
  · rw [if_pos h, if_pos h]
  · rw [if_neg h, if_neg h, if_neg h]

/-! ## The contractions -/

/-- The dimension numbers of the reference's contraction over kernels and channels. -/
def StackDot {K N C D : ℕ} (d : DotDims (shape3 K N C) (shape3 K C D) (shape2 N D)) : Prop :=
  d.lhsContracting = [2, 0] ∧ d.rhsContracting = [1, 0] ∧ d.lhsNonContracting = [1] ∧ d.rhsNonContracting = [2] ∧
    d.lhsBatch = [] ∧ d.rhsBatch = []

/-- The contraction over kernels and channels is the double sum. -/
theorem dot_stack {K N C D : ℕ} (d : DotDims (shape3 K N C) (shape3 K C D) (shape2 N D)) (hd : StackDot d)
    (A : FVec Ideal (shape3 K N C) .f32) (W : FVec Ideal (shape3 K C D) .f32) (n : Fin N) (o : Fin D) :
    Host.dotGeneral d none A W (ix2 n o) = (∑ i : Fin C, ∑ k : Fin K, A (ix3 k n i) * W (ix3 k i o) : EReal) := by
  obtain ⟨lc, rc, ln, rn, lb, rb, wf⟩ := d
  obtain ⟨h1, h2, h3, h4, h5, h6⟩ := hd
  dsimp only at h1 h2 h3 h4 h5 h6
  subst h1 h2 h3 h4 h5 h6
  generalize hD : DotDims.mk (sl := shape3 K N C) (sr := shape3 K C D) (so := shape2 N D) [2, 0] [1, 0] [1] [2] [] [] wf = dd
  have hr : dd.contr.rank = 2 := by subst hD; rfl
  have c0 : dd.contr.size ⟨0, by omega⟩ = C := by subst hD; rfl
  have c1 : dd.contr.size ⟨1, by omega⟩ = K := by subst hD; rfl
  show FloatOps.dotGeneral dd none _ A W (ix2 n o) = _
  rw [Ideal.dotGeneral_apply, sum_contr2 dd C K hr c0 c1]
  refine Finset.sum_congr rfl fun i _ => Finset.sum_congr rfl fun k _ => ?_
  have v0 := contrEquiv2_symm_val0 dd C K hr c0 c1 (i, k)
  have v1 := contrEquiv2_symm_val1 dd C K hr c0 c1 (i, k)
  have el : dd.lhsIdx (ix2 n o) ((contrEquiv2 dd C K hr c0 c1).symm (i, k)) = ix3 k n i := by
    funext ax; apply Fin.ext
    subst hD
    match ax with
    | ⟨0, _⟩ => simp [DotDims.lhsIdx]; exact v1
    | ⟨1, _⟩ => simp [DotDims.lhsIdx]; rfl
    | ⟨2, _⟩ => simp [DotDims.lhsIdx]; exact v0
  have er : dd.rhsIdx (ix2 n o) ((contrEquiv2 dd C K hr c0 c1).symm (i, k)) = ix3 k i o := by
    funext ax; apply Fin.ext
    subst hD
    match ax with
    | ⟨0, _⟩ => simp [DotDims.rhsIdx]; exact v1
    | ⟨1, _⟩ => simp [DotDims.rhsIdx]; exact v0
    | ⟨2, _⟩ => simp [DotDims.rhsIdx]; rfl
  rw [el, er]

/-- The dimension numbers of a plain matrix product. -/
def PlainDot {m k n : ℕ} (d : DotDims (shape2 m k) (shape2 k n) (shape2 m n)) : Prop :=
  d.lhsContracting = [1] ∧ d.rhsContracting = [0] ∧ d.lhsNonContracting = [0] ∧ d.rhsNonContracting = [1] ∧
    d.lhsBatch = [] ∧ d.rhsBatch = []

theorem PlainDot.eq {m k n : ℕ} {d : DotDims (shape2 m k) (shape2 k n) (shape2 m n)} (hd : PlainDot d) : d = DotDims.plain m k n := by
  obtain ⟨lc, rc, ln, rn, lb, rb, wf⟩ := d
  obtain ⟨h1, h2, h3, h4, h5, h6⟩ := hd
  dsimp only at h1 h2 h3 h4 h5 h6
  subst h1 h2 h3 h4 h5 h6
  rfl

/-- A plain matrix product, entry by entry. -/
theorem dot_plain {m k n : ℕ} (d : DotDims (shape2 m k) (shape2 k n) (shape2 m n)) (hd : PlainDot d)
    (A : FVec Ideal (shape2 m k) .f32) (B : FVec Ideal (shape2 k n) .f32) (a : Fin m) (b : Fin n) :
    Host.dotGeneral d none A B (ix2 a b) = (∑ c : Fin k, A (ix2 a c) * B (ix2 c b) : EReal) := by
  rw [hd.eq]; exact StackMember.dotGeneral_plain_apply none A B a b

/-! ## A row repeated over the nodes -/

/-- A vector added to every row. -/
def rows {N D : ℕ} (b : FVec Ideal (shape1 D) .f32) : FVec Ideal (shape2 N D) .f32 :=
  broadcastInDim (shape2 N D) ![0, 1] (bcRows N D) (broadcastInDim (shape2 1 D) ![1] (bcRow D) b)

theorem rows_apply {N D : ℕ} (b : FVec Ideal (shape1 D) .f32) (n : Fin N) (o : Fin D) : rows b (ix2 n o) = b (ix1 o) := by
  unfold rows
  rw [broadcastInDim_apply ![0, 1] _ _ _ (ix2 (0 : Fin 1) o) fun a => by
    match a with
    | ⟨0, _⟩ => rfl
    | ⟨1, _⟩ =>
      show o.val = if D = 1 then 0 else o.val
      have := o.isLt
      split <;> omega]
  refine broadcastInDim_apply _ _ _ _ _ fun a => ?_
  obtain rfl : a = 0 := Subsingleton.elim _ _
  show o.val = if D = 1 then 0 else o.val
  have := o.isLt
  split <;> omega

/-! ## The layer -/

theorem castStack' (K N C : ℕ) : (shape2 (K * N) C).ShapeCasts (shape3 K N C) := by
  show (shape3 K N C).numel = (shape2 (K * N) C).numel
  unfold Shape.numel
  rw [Fin.prod_univ_two, Fin.prod_univ_three]
  rfl

theorem castStack (C : ℕ) : (shape2 1250000 C).ShapeCasts (shape3 125 10000 C) := castStack' 125 10000 C

/-- The reference's layer before its activation. -/
def refPre {C D : ℕ} (dA : DotDims (shape3 125 10000 C) (shape3 125 C D) (shape2 10000 D)) (dX : DotDims (shape2 10000 C) (shape2 C D) (shape2 10000 D))
    (A : FVec Ideal (shape2 1250000 C) .f32) (deg : FVec Ideal (shape1 10000) .f32) (x : FVec Ideal (shape2 10000 C) .f32)
    (W : FVec Ideal (shape3 125 C D) .f32) (root : FVec Ideal (shape2 C D) .f32) (b : FVec Ideal (shape1 D) .f32) : FVec Ideal (shape2 10000 D) .f32 :=
  addf (addf (Host.divf (Host.dotGeneral dA none (shapeCast (shape3 125 10000 C) A (castStack C)) W)
      (broadcastInDim (shape2 10000 D) ![0, 1] (bcCols 10000 D) (broadcastInDim (shape2 10000 1) ![0] (bcCol 10000) deg)))
    (Host.dotGeneral dX none x root)) (rows b)

theorem refPre_apply {C D : ℕ} (dA : DotDims (shape3 125 10000 C) (shape3 125 C D) (shape2 10000 D)) (hA : StackDot dA)
    (dX : DotDims (shape2 10000 C) (shape2 C D) (shape2 10000 D)) (hX : PlainDot dX)
    (A : FVec Ideal (shape2 1250000 C) .f32) (deg : FVec Ideal (shape1 10000) .f32) (x : FVec Ideal (shape2 10000 C) .f32)
    (W : FVec Ideal (shape3 125 C D) .f32) (root : FVec Ideal (shape2 C D) .f32) (b : FVec Ideal (shape1 D) .f32) (n : Fin 10000) (o : Fin D) :
    refPre dA dX A deg x W root b (ix2 n o)
      = (Ideal.div (∑ k : Fin 125, ∑ i : Fin C, A (ix2 ⟨k.val * 10000 + n.val, by omega⟩ i) * W (ix3 k i o)) (deg (ix1 n))
          + (∑ c : Fin C, x (ix2 n c) * root (ix2 c o)) + b (ix1 o) : EReal) := by
  show ((Ideal.div (Host.dotGeneral dA none _ W (ix2 n o)) (broadcastInDim (s := shape2 10000 1) (shape2 10000 D) ![0, 1] (bcCols 10000 D) _ (ix2 n o))
    + Host.dotGeneral dX none x root (ix2 n o)) + rows b (ix2 n o) : EReal) = _
  rw [dot_stack dA hA, dot_plain dX hX, rows_apply, spreads_cols, col_apply, Finset.sum_comm]
  congr 3
  refine Finset.sum_congr rfl fun k _ => Finset.sum_congr rfl fun i _ => ?_
  rw [shapeCast_apply _ _ _ (ix2 ⟨k.val * 10000 + n.val, by omega⟩ i) (by
    rw [Shape.rowMajor_val_two, Shape.rowMajor_val_three]; rfl)]

/-- The kernel's layer: a product with the flattened weights, the root product, the bias, and the activation. -/
def kerLayer {Q C D : ℕ} (a2 : FVec Ideal (shape2 10000 Q) .f32) (x : FVec Ideal (shape2 10000 C) .f32) (wf : FVec Ideal (shape2 Q D) .f32)
    (root : FVec Ideal (shape2 C D) .f32) (b : FVec Ideal (shape2 1 D) .f32) : FVec Ideal (shape2 10000 D) .f32 := fun j =>
  elu (((∑ q : Fin Q, a2 (ix2 (j 0) q) * wf (ix2 q (j 1))) + ∑ c : Fin C, x (ix2 (j 0) c) * root (ix2 c (j 1))) + b (ix2 0 (j 1)) : EReal)

/-- A sum over `K * C` places is a double sum. -/
theorem sum_flat {K C Q : ℕ} (hQ : Q = K * C) (f : Fin Q → EReal) :
    ∑ q : Fin Q, f q = ∑ k : Fin K, ∑ i : Fin C, f ⟨k.val * C + i.val, by
      subst hQ; have h1 := k.isLt; have h2 := i.isLt
      calc k.val * C + i.val < k.val * C + C := by omega
        _ = (k.val + 1) * C := by ring
        _ ≤ K * C := Nat.mul_le_mul_right _ h1⟩ := by
  subst hQ
  rw [← Equiv.sum_comp finProdFinEquiv, Fintype.sum_prod_type]
  refine Finset.sum_congr rfl fun k _ => Finset.sum_congr rfl fun i _ => congrArg f (Fin.ext ?_)
  show i.val + C * k.val = k.val * C + i.val
  ring

/-- The layers of the two programs agree, when the kernel's buckets are the reference's times one over the degree. -/
theorem layer_eq {E Q C D : ℕ} (hQ : Q = 125 * C) (dP : ScatterDims (shape1 10000) (shape2 E 1) (shape1 E)) (hP : PointScatter dP)
    (dA : DotDims (shape3 125 10000 C) (shape3 125 C D) (shape2 10000 D)) (hA : StackDot dA)
    (dX : DotDims (shape2 10000 C) (shape2 C D) (shape2 10000 D)) (hX : PlainDot dX)
    (col : IVec (shape1 E) 32) (AK AR : FVec Ideal (shape2 1250000 C) .f32)
    (hAK : ∀ (n : Fin 10000) (k : Fin 125) (i : Fin C), AK (ix2 ⟨n.val * 125 + k.val, by omega⟩ i)
      = (invDegree dP col (ix1 n) * AR (ix2 ⟨k.val * 10000 + n.val, by omega⟩ i) : EReal))
    (x : FVec Ideal (shape2 10000 C) .f32) (W : FVec Ideal (shape3 125 C D) .f32) (root : FVec Ideal (shape2 C D) .f32)
    (b : FVec Ideal (shape1 D) .f32) (h1 : (shape2 1250000 C).ShapeCasts (shape2 10000 Q)) (h2 : (shape3 125 C D).ShapeCasts (shape2 Q D))
    (h3 : (shape1 D).ShapeCasts (shape2 1 D)) :
    kerLayer (shapeCast (shape2 10000 Q) AK h1) x (shapeCast (shape2 Q D) W h2) root (shapeCast (shape2 1 D) b h3)
      = refElu (refPre dA dX AR (degree dP col) x W root b) := by
  funext j
  obtain ⟨n, o, rfl⟩ : ∃ (n : Fin 10000) (o : Fin D), j = ix2 n o := ⟨j 0, j 1, eq_ix2 j⟩
  rw [refElu_apply, refPre_apply dA hA dX hX]
  obtain ⟨v0, vt, hv⟩ := invDegree_spec dP hP col n
  rw [hv]
  show elu (((∑ q : Fin Q, shapeCast (shape2 10000 Q) AK h1 (ix2 n q) * shapeCast (shape2 Q D) W h2 (ix2 q o))
    + ∑ c : Fin C, x (ix2 n c) * root (ix2 c o)) + shapeCast (shape2 1 D) b h3 (ix2 0 o) : EReal) = _
  congr 1
  rw [sum_flat hQ]
  congr 2
  · rw [mul_sum_of_nonneg _ _ v0 vt]
    refine Finset.sum_congr rfl fun k _ => ?_
    rw [mul_sum_of_nonneg _ _ v0 vt]
    refine Finset.sum_congr rfl fun i _ => ?_
    rw [shapeCast_apply AK _ _ (ix2 ⟨n.val * 125 + k.val, by omega⟩ i) (by
        rw [Shape.rowMajor_val_two, Shape.rowMajor_val_two]
        show (n.val * 125 + k.val) * C + i.val = n.val * Q + (k.val * C + i.val)
        subst hQ; ring),
      shapeCast_apply W _ _ (ix3 k i o) (by
        rw [Shape.rowMajor_val_two, Shape.rowMajor_val_three]; rfl), hAK, mul_assoc]
  · rw [shapeCast_apply b _ _ (ix1 o) (by
      rw [Shape.rowMajor_val_one, Shape.rowMajor_val_two]; show o.val = 0 * D + o.val; omega)]

end Cert.Spline

end
-- ==== Proof.Range.lean ====
/-
  What the precondition says of the integers the programs compute: target nodes lie in [0, 10000), and the lower corner of
  an edge's cell, the whole part of four times a coordinate in [0, 1), lies in [0, 4).
-/
module

public import proofs.«01_k».proof.Proof.Edge

@[expose] public section

noncomputable section

open scoped BigOperators

namespace Cert.Spline

open Idealize.ShloMosaic Idealize.ShloMosaic.ValueIdx Idealize.ShloMosaic.Routing

variable {E : ℕ}

/-- Coordinates in units of a cell: four cells along each axis. -/
def cells (p : FVec Ideal (shape2 E 3) .f32) : FVec Ideal (shape2 E 3) .f32 := mulf p (nums (shape2 E 3) 0x40800000#32)

/-- The lower corner of the cell. -/
def lower (p : FVec Ideal (shape2 E 3) .f32) : IVec (shape2 E 3) 32 := fptosi 32 (Host.floor (cells p))

/-- The place within the cell. -/
def within (p : FVec Ideal (shape2 E 3) .f32) : FVec Ideal (shape2 E 3) .f32 := subf (cells p) (Host.floor (cells p))

theorem ofBits_four : Ideal.ofBits .f32 0x40800000#32 = ((4 : ℝ) : EReal) := by
  simp [Ideal.ofBits, Ideal.ieee]
  rw [← EReal.coe_mul]; norm_num

theorem bit_and (a b : Bool) (h : BitVec.ofBool a &&& BitVec.ofBool b = 1#1) : a = true ∧ b = true := by
  revert h; revert a b; decide

/-- The target nodes' range. -/
theorem col_range (col : IVec (shape1 E) 32)
    (h : andi (cmpi .sge col (words 0#32)) (cmpi .slt col (words 10000#32)) = fun _ => 1#1) (e : Fin E) :
    0 ≤ (col (ix1 e)).toInt ∧ (col (ix1 e)).toInt < 10000 := by
  have := congrFun h (ix1 e)
  obtain ⟨h1, h2⟩ := bit_and ((words (E := E) 0#32 (ix1 e)).sle (col (ix1 e))) ((col (ix1 e)).slt (words 10000#32 (ix1 e))) this
  rw [words_apply, BitVec.sle, decide_eq_true_iff] at h1
  rw [words_apply, BitVec.slt, decide_eq_true_iff] at h2
  exact ⟨h1, h2⟩

/-- The lower corners' range. -/
theorem lower_range (p : FVec Ideal (shape2 E 3) .f32)
    (h : andi (cmpf .oge p (nums (shape2 E 3) 0x00000000#32)) (cmpf .olt p (nums (shape2 E 3) 0x3F800000#32)) = fun _ => 1#1)
    (e : Fin E) (k : Fin 3) : 0 ≤ (lower p (ix2 e k)).toInt ∧ (lower p (ix2 e k)).toInt < 4 := by
  have := congrFun h (ix2 e k)
  have h' : Ideal.cmp .oge (p (ix2 e k)) (nums (shape2 E 3) 0x00000000#32 (ix2 e k))
      &&& Ideal.cmp .olt (p (ix2 e k)) (nums (shape2 E 3) 0x3F800000#32 (ix2 e k)) = 1#1 := this
  rw [nums_zero, nums_one] at h'
  obtain ⟨h1, h2⟩ := bit_and _ _ h'
  show 0 ≤ (Ideal.fptosi 32 (Ideal.liftRound Int.floor ((p (ix2 e k) : EReal) * nums (shape2 E 3) 0x40800000#32 (ix2 e k)))).toInt ∧
    (Ideal.fptosi 32 (Ideal.liftRound Int.floor ((p (ix2 e k) : EReal) * nums (shape2 E 3) 0x40800000#32 (ix2 e k)))).toInt < 4
  have h4 : nums (shape2 E 3) 0x40800000#32 (ix2 e k) = ((4 : ℝ) : EReal) := by
    unfold nums; rw [broadcastInDim_scalar_apply]; exact ofBits_four
  rw [h4]
  generalize (p (ix2 e k) : EReal) = x at h1 h2 ⊢
  simp only [decide_eq_true_eq] at h1 h2
  induction x using EReal.rec with
  | bot => exact absurd h1 (by simp)
  | top => exact absurd h2 (by simp)
  | coe r =>
    have r0 : (0 : ℝ) ≤ r := by exact_mod_cast h1
    have r1 : r < 1 := by exact_mod_cast h2
    rw [← EReal.coe_mul, Ideal.liftRound_coe]
    have f0 : 0 ≤ ⌊r * 4⌋ := Int.floor_nonneg.2 (by linarith)
    have f1 : ⌊r * 4⌋ < 4 := Int.floor_lt.2 (by push_cast; linarith)
    unfold Ideal.fptosi
    rw [Ideal.toIntClamped_coe, if_pos (by exact_mod_cast f0), Int.floor_intCast, BitVec.toInt_ofInt]
    generalize ⌊r * 4⌋ = z at f0 f1
    have : max (-((2 ^ (32 - 1) : ℕ) : ℤ)) (min (((2 ^ (32 - 1) : ℕ) : ℤ) - 1) z) = z := by
      norm_num; omega
    rw [this, Int.bmod_eq_of_le (by norm_num; omega) (by norm_num; omega)]
    exact ⟨f0, f1⟩

end Cert.Spline

end
-- ==== Proof.Stack.lean ====
/-
  The kernel's tables of corner weights and bucket numbers: eight vectors, one per corner, stacked as the rows of a matrix,
  and read back one row at a time.
-/
module

public import proofs.«01_k».proof.Proof.Layer
public import proofs.«01_k».proof.Proof.Range

@[expose] public section

noncomputable section

open scoped BigOperators

namespace Cert.Spline

open Idealize.ShloMosaic Idealize.ShloMosaic.ValueIdx Idealize.ShloMosaic.Routing

variable {E : ℕ}

/-- A vector as a one-row matrix. -/
def asRow {α : Type} (x : (shape1 E).Idx → α) : (shape2 1 E).Idx → α := broadcastInDim (shape2 1 E) ![1] (bcRow E) x

theorem asRow_apply {α : Type} (x : (shape1 E).Idx → α) (e : Fin E) : asRow x (ix2 0 e) = x (ix1 e) := by
  unfold asRow
  refine broadcastInDim_apply _ _ _ _ _ fun a => ?_
  obtain rfl : a = 0 := Subsingleton.elim _ _
  show e.val = if E = 1 then 0 else e.val
  have := e.isLt
  split <;> omega

/-- The eight corners' rows, in the order of the corners. -/
def cornerRows {α : Type} (g : Bool → Bool → Bool → (shape1 E).Idx → α) : List ((s : Shape) × (s.Idx → α)) :=
  [⟨shape2 1 E, asRow (g false false false)⟩, ⟨shape2 1 E, asRow (g false false true)⟩, ⟨shape2 1 E, asRow (g false true false)⟩,
    ⟨shape2 1 E, asRow (g false true true)⟩, ⟨shape2 1 E, asRow (g true false false)⟩, ⟨shape2 1 E, asRow (g true false true)⟩,
    ⟨shape2 1 E, asRow (g true true false)⟩, ⟨shape2 1 E, asRow (g true true true)⟩]

/-- The table of the eight corners. -/
def table {α : Type} (g : Bool → Bool → Bool → (shape1 E).Idx → α)
    (h : Shape.Concatenates ((cornerRows g).map (·.1)) (shape2 8 E) 0) : (shape2 8 E).Idx → α :=
  concatenate (shape2 8 E) 0 (cornerRows g) h

/-- A corner's row number. -/
def place (s0 s1 s2 : Bool) : ℕ := cond s0 (cond s1 (cond s2 7 6) (cond s2 5 4)) (cond s1 (cond s2 3 2) (cond s2 1 0))

theorem place_lt (s0 s1 s2 : Bool) : place s0 s1 s2 < 8 := by revert s0 s1 s2; decide

/-- The row of a corner is the corner's vector. -/
theorem row_table {α : Type} (g : Bool → Bool → Bool → (shape1 E).Idx → α)
    (h : Shape.Concatenates ((cornerRows g).map (·.1)) (shape2 8 E) 0) (s0 s1 s2 : Bool) :
    row (place s0 s1 s2) (place_lt s0 s1 s2) (table g h) = g s0 s1 s2 := by
  funext j
  obtain ⟨e, rfl⟩ : ∃ e : Fin E, j = ix1 e := ⟨j 0, eq_ix1 j⟩
  rw [row_apply, ← asRow_apply (g s0 s1 s2)]
  have piece (k : ℕ) (hk : k < 8) (x : (shape1 E).Idx → α) (hx : (cornerRows g)[k]'hk = ⟨shape2 1 E, asRow x⟩)
      (hp : ((((cornerRows g).take k).map (·.1)).map fun s : Shape => if h : s.rank = (shape2 8 E).rank then s.size ((0 : Fin 2).cast h.symm) else 0).sum = k) :
      table g h (ix2 ⟨k, hk⟩ e) = asRow x (ix2 0 e) :=
    concatenate_apply_piece (t := shape2 8 E) 0 (cornerRows g) h _ k hk (shape2 1 E) (asRow x) hx rfl k hp (ix2 0 e)
      (fun b hb => by
        match b with
        | ⟨0, _⟩ => exact absurd rfl hb
        | ⟨1, _⟩ => rfl) rfl
  cases s0 <;> cases s1 <;> cases s2 <;> exact piece _ _ _ rfl rfl

/-- The kernel's corner weights: the reference's times the reciprocal degree of the edge's target. -/
def kerWeight (dG : GatherDims (shape1 10000) (shape2 E 1) (shape1 E)) (inv : FVec Ideal (shape1 10000) .f32) (f : FVec Ideal (shape2 E 3) .f32)
    (col : IVec (shape1 E) 32) (s0 s1 s2 : Bool) : FVec Ideal (shape1 E) .f32 :=
  mulf (weight f s0 s1 s2) (Host.gather dG inv (wrapped 10000#32 col))

/-- An edge whose target is node `n` has the weight times node `n`'s entry. -/
theorem kerWeight_apply (dG : GatherDims (shape1 10000) (shape2 E 1) (shape1 E)) (hG : PointGather dG) (inv : FVec Ideal (shape1 10000) .f32)
    (f : FVec Ideal (shape2 E 3) .f32) (col : IVec (shape1 E) 32) (s0 s1 s2 : Bool) (e : Fin E) (n : Fin 10000) (h : (col (ix1 e)).toInt = n.val) :
    kerWeight dG inv f col s0 s1 s2 (ix1 e) = (weight f s0 s1 s2 (ix1 e) * inv (ix1 n) : EReal) := by
  show (weight f s0 s1 s2 (ix1 e) * Host.gather dG inv _ (ix1 e) : EReal) = _
  rw [gather_points dG hG _ _ _ n]
  rw [wrapped_apply _ _ _ (by omega), h]

/-- The kernel's eight scatters from its tables are the scatters of the corners' own vectors. -/
def tableBuckets {C : ℕ} (d : ScatterDims (shape2 1250000 C) (shape2 E 1) (shape2 E C))
    (spread : FVec Ideal (shape2 E 1) .f32 → FVec Ideal (shape2 E C) .f32) (B : FVec Ideal (shape2 8 E) .f32) (T : IVec (shape2 8 E) 32)
    (src : FVec Ideal (shape2 E C) .f32) : FVec Ideal (shape2 1250000 C) .f32 :=
  buckets d spread (fun s0 s1 s2 => row (place s0 s1 s2) (place_lt s0 s1 s2) B) (fun s0 s1 s2 => row (place s0 s1 s2) (place_lt s0 s1 s2) T) src

theorem tableBuckets_eq {C : ℕ} (d : ScatterDims (shape2 1250000 C) (shape2 E 1) (shape2 E C))
    (spread : FVec Ideal (shape2 E 1) .f32 → FVec Ideal (shape2 E C) .f32) (b : Bool → Bool → Bool → FVec Ideal (shape1 E) .f32)
    (t : Bool → Bool → Bool → IVec (shape1 E) 32) (hb : Shape.Concatenates ((cornerRows b).map (·.1)) (shape2 8 E) 0)
    (ht : Shape.Concatenates ((cornerRows t).map (·.1)) (shape2 8 E) 0) (src : FVec Ideal (shape2 E C) .f32) :
    tableBuckets d spread (table b hb) (table t ht) src = buckets d spread b t src := by
  unfold tableBuckets
  congr 1
  · funext s0 s1 s2; exact row_table b hb s0 s1 s2
  · funext s0 s1 s2; exact row_table t ht s0 s1 s2

/-- A layer of the two programs, from the same features and the same edges: the outputs agree. -/
theorem conv_eq {Q C D : ℕ} (hQ : Q = 125 * C) (spread : FVec Ideal (shape2 E 1) .f32 → FVec Ideal (shape2 E C) .f32) (hs : Spreads spread)
    (dK dR : ScatterDims (shape2 1250000 C) (shape2 E 1) (shape2 E C)) (hdK : RowScatter dK) (hdR : RowScatter dR)
    (dP : ScatterDims (shape1 10000) (shape2 E 1) (shape1 E)) (hP : PointScatter dP)
    (dG : GatherDims (shape1 10000) (shape2 E 1) (shape1 E)) (hG : PointGather dG)
    (dA : DotDims (shape3 125 10000 C) (shape3 125 C D) (shape2 10000 D)) (hA : StackDot dA)
    (dX : DotDims (shape2 10000 C) (shape2 C D) (shape2 10000 D)) (hX : PlainDot dX)
    (i0 : IVec (shape2 E 3) 32) (f : FVec Ideal (shape2 E 3) .f32) (col : IVec (shape1 E) 32)
    (hi : ∀ e k, 0 ≤ (i0 (ix2 e k)).toInt ∧ (i0 (ix2 e k)).toInt < 4)
    (hc : ∀ e, 0 ≤ (col (ix1 e)).toInt ∧ (col (ix1 e)).toInt < 10000)
    (hb : Shape.Concatenates ((cornerRows (kerWeight dG (invDegree dP col) f col)).map (·.1)) (shape2 8 E) 0)
    (ht : Shape.Concatenates ((cornerRows (kerBucket i0 col)).map (·.1)) (shape2 8 E) 0)
    (src : FVec Ideal (shape2 E C) .f32)
    (x : FVec Ideal (shape2 10000 C) .f32) (W : FVec Ideal (shape3 125 C D) .f32) (root : FVec Ideal (shape2 C D) .f32)
    (b : FVec Ideal (shape1 D) .f32) (h1 : (shape2 1250000 C).ShapeCasts (shape2 10000 Q)) (h2 : (shape3 125 C D).ShapeCasts (shape2 Q D))
    (h3 : (shape1 D).ShapeCasts (shape2 1 D)) :
    kerLayer (shapeCast (shape2 10000 Q) (tableBuckets dK spread (table (kerWeight dG (invDegree dP col) f col) hb) (table (kerBucket i0 col) ht) src) h1)
        x (shapeCast (shape2 Q D) W h2) root (shapeCast (shape2 1 D) b h3)
      = refElu (refPre dA dX (buckets dR spread (weight f) (refBucket i0 col) src) (degree dP col) x W root b) := by
  rw [tableBuckets_eq]
  refine layer_eq hQ dP hP dA hA dX hX col _ _ (fun n k i => ?_) x W root b h1 h2 h3
  exact buckets_scaled dK dR hdK hdR spread hs i0 col hi hc (fun n => invDegree dP col (ix1 n))
    (fun n => (invDegree_spec dP hP col n).1) (fun n => (invDegree_spec dP hP col n).2.1) _ _
    (fun s0 s1 s2 e n h => kerWeight_apply dG hG _ f col s0 s1 s2 e n h) src n k _ _ rfl rfl i

end Cert.Spline

end
-- ==== Proof.Head.lean ====
/-
  The classifier head of the two programs, over the extended reals: two dense layers and a row-wise log-softmax. The kernel
  computes it on 6912 columns, the last 22 of them padding with weight zero and bias minus infinity; on the 6890 columns it
  keeps, its log-softmax is the reference's.
-/
module

public import proofs.«01_k».proof.Proof.Layer
public import Idealize.ShloMosaic.Lib.KernelVsHost
public import Idealize.ShloMosaic.Lib.Routing.OpsSet

@[expose] public section

noncomputable section

open scoped BigOperators

namespace Cert.Spline

open Idealize.ShloMosaic Idealize.ShloMosaic.ValueIdx Idealize.ShloMosaic.Routing

/-! ## Log-softmax of a row, and padding -/

/-- The largest entry of a row. -/
def rowMax {n : ℕ} (z : Fin n → EReal) : EReal := Finset.univ.fold max ⊥ z

/-- The log-softmax of a row. -/
def logSoftmax {n : ℕ} (z : Fin n → EReal) (c : Fin n) : EReal :=
  z c - rowMax z - Ideal.log (∑ q, Ideal.exp (z q - rowMax z))

/-- Entries of minus infinity do not change the largest entry. -/
theorem rowMax_pad {M P : ℕ} (h : M ≤ P) (z : Fin M → EReal) (z' : Fin P → EReal) (hz : ∀ c : Fin M, z' (c.castLE h) = z c)
    (hb : ∀ c : Fin P, M ≤ c.val → z' c = ⊥) : rowMax z' = rowMax z := by
  unfold rowMax
  refine le_antisymm ?_ ?_
  · refine Finset.fold_max_le _ |>.2 ⟨bot_le, fun c _ => ?_⟩
    by_cases hc : c.val < M
    · exact Finset.le_fold_max _ |>.2 (.inr ⟨⟨c.val, hc⟩, Finset.mem_univ _, (hz ⟨c.val, hc⟩).le⟩)
    · rw [hb c (by omega)]; exact bot_le
  · refine Finset.fold_max_le _ |>.2 ⟨bot_le, fun c _ => ?_⟩
    exact Finset.le_fold_max _ |>.2 (.inr ⟨c.castLE h, Finset.mem_univ _, (hz c).ge⟩)

/-- Entries of minus infinity do not change the log-softmax of the others. -/
theorem logSoftmax_pad {M P : ℕ} (h : M ≤ P) (z : Fin M → EReal) (z' : Fin P → EReal) (hz : ∀ c : Fin M, z' (c.castLE h) = z c)
    (hb : ∀ c : Fin P, M ≤ c.val → z' c = ⊥) (c : Fin M) : logSoftmax z' (c.castLE h) = logSoftmax z c := by
  unfold logSoftmax
  rw [rowMax_pad h z z' hz hb, hz]
  congr 2
  obtain ⟨k, rfl⟩ := Nat.exists_eq_add_of_le h
  rw [Fin.sum_univ_add]
  rw [Finset.sum_eq_zero (s := (Finset.univ : Finset (Fin k))) fun i _ => by
    rw [hb (Fin.natAdd M i) (by simp), EReal.bot_sub, Ideal.exp_bot], add_zero]
  exact Finset.sum_congr rfl fun i _ => by rw [← hz i]; rfl

/-! ## The reference's head -/

/-- The reference's first dense layer before its activation, and its logits: the same form at two sizes. -/
def dense {N C D : ℕ} (d : DotDims (shape2 N C) (shape2 C D) (shape2 N D)) (x : FVec Ideal (shape2 N C) .f32)
    (w : FVec Ideal (shape2 C D) .f32) (b : FVec Ideal (shape1 D) .f32) : FVec Ideal (shape2 N D) .f32 :=
  addf (Host.dotGeneral d none x w) (rows b)

theorem dense_apply {N C D : ℕ} (d : DotDims (shape2 N C) (shape2 C D) (shape2 N D)) (hd : PlainDot d) (x : FVec Ideal (shape2 N C) .f32)
    (w : FVec Ideal (shape2 C D) .f32) (b : FVec Ideal (shape1 D) .f32) (n : Fin N) (o : Fin D) :
    dense d x w b (ix2 n o) = ((∑ c : Fin C, x (ix2 n c) * w (ix2 c o)) + b (ix1 o) : EReal) := by
  show (Host.dotGeneral d none x w (ix2 n o) + rows b (ix2 n o) : EReal) = _
  rw [dot_plain d hd, rows_apply]

theorem reducesRow (N D : ℕ) : (shape2 N D).Reduces [1] (shape1 N) :=
  ⟨rfl, Nat.one_pos, fun b => by obtain rfl : b = 0 := Subsingleton.elim _ _; rfl⟩

theorem reducesToRow (N D : ℕ) : (shape2 N D).ReducesTo [1] (shape1 N) :=
  ⟨rfl, fun b => by obtain rfl : b = 0 := Subsingleton.elim _ _; rfl⟩

theorem lift_row {N D : ℕ} (h : (shape2 N D).Reduces [1] (shape1 N)) (n : Fin N) (k : Fin D) : h.lift (ix1 n) k = ix2 n k := by
  funext a
  match a with
  | ⟨0, _⟩ => rfl
  | ⟨1, _⟩ => rfl

theorem one_numel : 0 < shape0'.numel := by unfold Shape.numel; simp

/-- The logits less the row's largest logit. -/
def centered {N D : ℕ} (z : FVec Ideal (shape2 N D) .f32) : FVec Ideal (shape2 N D) .f32 :=
  subf z (broadcastInDim (shape2 N D) ![0, 1] (bcCols N D) (broadcastInDim (shape2 N 1) ![0] (bcCol N)
    (maximumf (nums (shape1 N) 0xFF800000#32)
      (Host.reduce FloatOps.maximumf z (constant shape0' .f32 0xFF800000#32) (reducesToRow N D) one_numel))))

/-- The reference's log-softmax. -/
def refLogSoftmax {N D : ℕ} (z : FVec Ideal (shape2 N D) .f32) : FVec Ideal (shape2 N D) .f32 :=
  subf (centered z) (broadcastInDim (shape2 N D) ![0, 1] (bcCols N D) (Host.log (broadcastInDim (s := shape1 N) (shape2 N 1) ![0] (bcCol N)
    (Host.reduceAdd (Host.exp (centered z)) (constant shape0' .f32 0x00000000#32) (reducesToRow N D) one_numel))))

theorem ofBits_neg_inf : Ideal.ofBits .f32 0xFF800000#32 = ⊥ := by
  simp [Ideal.ofBits, Ideal.ieee]

theorem centered_apply {N D : ℕ} (z : FVec Ideal (shape2 N D) .f32) (n : Fin N) (o : Fin D) :
    centered z (ix2 n o) = (z (ix2 n o) - rowMax (fun c => z (ix2 n c)) : EReal) := by
  show (z (ix2 n o) - broadcastInDim (s := shape2 N 1) (shape2 N D) ![0, 1] (bcCols N D) _ (ix2 n o) : EReal) = _
  rw [spreads_cols, col_apply]
  congr 1
  show max (nums (shape1 N) 0xFF800000#32 (ix1 n) : EReal) (Host.reduce FloatOps.maximumf z _ _ _ (ix1 n)) = _
  rw [Host.reduce_eq_fold_single _ _ _ _ (reducesRow N D)]
  have h1 : nums (shape1 N) 0xFF800000#32 (ix1 n) = (⊥ : EReal) := by
    unfold nums; rw [broadcastInDim_scalar_apply]; exact ofBits_neg_inf
  rw [h1, max_eq_right bot_le]
  show Finset.univ.fold max (Ideal.ofBits .f32 0xFF800000#32) (z ∘ (reducesRow N D).lift (ix1 n)) = _
  rw [ofBits_neg_inf]
  unfold rowMax
  congr 1
  funext c
  exact congrArg z (lift_row _ n c)

theorem refLogSoftmax_apply {N D : ℕ} (z : FVec Ideal (shape2 N D) .f32) (n : Fin N) (o : Fin D) :
    refLogSoftmax z (ix2 n o) = logSoftmax (fun c => z (ix2 n c)) o := by
  show (centered z (ix2 n o) - broadcastInDim (s := shape2 N 1) (shape2 N D) ![0, 1] (bcCols N D) _ (ix2 n o) : EReal) = _
  rw [spreads_cols, centered_apply]
  unfold logSoftmax
  congr 1
  show Ideal.log (broadcastInDim (s := shape1 N) (shape2 N 1) ![0] (bcCol N) _ (ix2 n 0)) = _
  rw [col_apply]
  congr 1
  show Ideal.hostReduceAdd _ _ _ (ix1 n) = _
  rw [Ideal.hostReduceAdd_single _ (reducesRow N D)]
  show (Ideal.ofBits .f32 0x00000000#32 + ∑ k : Fin D, Ideal.exp (centered z ((reducesRow N D).lift (ix1 n) k)) : EReal) = _
  rw [Ideal.ofBits_zero_f32, zero_add]
  exact Finset.sum_congr rfl fun c _ => by rw [lift_row, centered_apply]

/-! ## The kernel's head -/

/-- The kernel's head on `P` columns, of which the first `M` carry a bias. -/
def kerHead {N C D P : ℕ} (M : ℕ) (h : FVec Ideal (shape2 N C) .f32) (w1 : FVec Ideal (shape2 C D) .f32) (b1 : FVec Ideal (shape2 1 D) .f32)
    (w2 : FVec Ideal (shape2 D P) .f32) (b2 : FVec Ideal (shape2 1 P) .f32) : FVec Ideal (shape2 N P) .f32 := fun j =>
  logSoftmax (fun c : Fin P => ((∑ q : Fin D, elu ((∑ i : Fin C, h (ix2 (j 0) i) * w1 (ix2 i q)) + b1 (ix2 0 q)) * w2 (ix2 q c))
    + (if c.val < M then b2 (ix2 0 c) else ⊥) : EReal)) (j 1)

/-- On the columns that carry a bias, the kernel's head is the reference's. -/
theorem head_eq {N C D M P : ℕ} (hMP : M ≤ P) (d1 : DotDims (shape2 N C) (shape2 C D) (shape2 N D)) (h1 : PlainDot d1)
    (d2 : DotDims (shape2 N D) (shape2 D M) (shape2 N M)) (h2 : PlainDot d2)
    (h : FVec Ideal (shape2 N C) .f32) (w1 : FVec Ideal (shape2 C D) .f32) (b1 : FVec Ideal (shape1 D) .f32)
    (w2 : FVec Ideal (shape2 D M) .f32) (b2 : FVec Ideal (shape1 M) .f32) (b1' : FVec Ideal (shape2 1 D) .f32)
    (w2' : FVec Ideal (shape2 D P) .f32) (b2' : FVec Ideal (shape2 1 P) .f32) (hb1 : ∀ q, b1' (ix2 0 q) = b1 (ix1 q))
    (hw : ∀ q (c : Fin P), w2' (ix2 q c) = (if hc : c.val < M then w2 (ix2 q ⟨c.val, hc⟩) else (0 : EReal)))
    (hb2 : ∀ c : Fin M, b2' (ix2 0 (c.castLE hMP)) = b2 (ix1 c)) (n : Fin N) (c : Fin M) :
    kerHead M h w1 b1' w2' b2' (ix2 n (c.castLE hMP))
      = refLogSoftmax (dense d2 (refElu (dense d1 h w1 b1)) w2 b2) (ix2 n c) := by
  rw [refLogSoftmax_apply]
  refine logSoftmax_pad hMP _ _ (fun c => ?_) (fun c hc => ?_) c
  · show ((∑ q : Fin D, elu ((∑ i : Fin C, h (ix2 n i) * w1 (ix2 i q)) + b1' (ix2 0 q)) * w2' (ix2 q (c.castLE hMP)))
      + (if (c.castLE hMP).val < M then b2' (ix2 0 (c.castLE hMP)) else ⊥) : EReal) = _
    rw [if_pos (show (c.castLE hMP).val < M from c.isLt), hb2, dense_apply d2 h2]
    congr 1
    refine Finset.sum_congr rfl fun q _ => ?_
    rw [hw, dif_pos (show (c.castLE hMP).val < M from c.isLt), refElu_apply, dense_apply d1 h1, hb1]
    rfl
  · show ((∑ q : Fin D, elu ((∑ i : Fin C, h (ix2 n i) * w1 (ix2 i q)) + b1' (ix2 0 q)) * w2' (ix2 q c))
      + (if c.val < M then b2' (ix2 0 c) else ⊥) : EReal) = _
    rw [if_neg (by omega), EReal.add_bot]

/-! ## The padded weights and bias -/

/-- The dimension numbers of writing a narrower matrix into the leading columns of a wider one. -/
def ColumnsScatter {D M P : ℕ} (d : ScatterDims (shape2 D P) (shape1 1) (shape2 D M)) : Prop :=
  d.updateWindowDims = [0, 1] ∧ d.insertedWindowDims = [] ∧ d.scatterDimsToOperandDims = [1] ∧ d.indexVectorDim = 0

/-- Written at column 0, the narrower matrix fills the leading columns and leaves the rest. -/
theorem scatter_columns {D M P : ℕ} (hMP : M ≤ P) (d : ScatterDims (shape2 D P) (shape1 1) (shape2 D M)) (hd : ColumnsScatter d)
    (x : FVec Ideal (shape2 D P) .f32) (idx : IVec (shape1 1) 32) (hidx : (idx (ix1 0)).toInt = 0) (w : FVec Ideal (shape2 D M) .f32) (q : Fin D) (c : Fin P) :
    Host.scatter d (fun _ b => b) x idx w (ix2 q c) = if hc : c.val < M then w (ix2 q ⟨c.val, hc⟩) else x (ix2 q c) := by
  have lands : ∀ (q' : Fin D) (c' : Fin M), d.resultIdx? (ix2 q' c') idx = some (ix2 q c) ↔ q'.val = q.val ∧ c'.val = c.val := by
    intro q' c'
    obtain ⟨uw, iw, sd, iv, wf⟩ := d
    obtain ⟨h1, h2, h3, h4⟩ := hd
    dsimp only at h1 h2 h3 h4
    subst h1 h2 h3 h4
    rw [resultIdx?_ix2]
    have hs0 : (ScatterDims.mk (s := shape2 D P) (si := shape1 1) (u := shape2 D M) [0, 1] [] [1] 0 wf).start (ix2 q' c') idx 0 = 0 := by
      unfold ScatterDims.start
      rw [dif_neg (by simp)]
    have hs1 : (ScatterDims.mk (s := shape2 D P) (si := shape1 1) (u := shape2 D M) [0, 1] [] [1] 0 wf).start (ix2 q' c') idx 1 = 0 := by
      unfold ScatterDims.start
      rw [dif_pos (by simp), ← hidx]
      congr 2
      funext b
      obtain rfl : b = 0 := Subsingleton.elim _ _
      rfl
    have hw0 : (ScatterDims.mk (s := shape2 D P) (si := shape1 1) (u := shape2 D M) [0, 1] [] [1] 0 wf).window (ix2 q' c') 0 = q'.val := rfl
    have hw1 : (ScatterDims.mk (s := shape2 D P) (si := shape1 1) (u := shape2 D M) [0, 1] [] [1] 0 wf).window (ix2 q' c') 1 = c'.val := rfl
    rw [hs0, hs1, hw0, hw1]
    omega
  by_cases hc : c.val < M
  · rw [dif_pos hc]
    refine scatter_set_hit d x idx w _ _ (fun k hk => ?_) (ix2 q ⟨c.val, hc⟩) ((lands _ _).2 ⟨rfl, rfl⟩)
    obtain ⟨q', c', rfl⟩ : ∃ (q' : Fin D) (c' : Fin M), k = ix2 q' c' := ⟨k 0, k 1, eq_ix2 k⟩
    obtain ⟨e1, e2⟩ := (lands q' c').1 hk
    rw [Fin.ext e1, show c' = ⟨c.val, hc⟩ from Fin.ext e2]
  · rw [dif_neg hc]
    refine scatter_set_miss d x idx w _ fun k hk => ?_
    obtain ⟨q', c', rfl⟩ : ∃ (q' : Fin D) (c' : Fin M), k = ix2 q' c' := ⟨k 0, k 1, eq_ix2 k⟩
    have := ((lands q' c').1 hk).2
    omega

/-- The dimension numbers of writing a vector into the leading places of a one-row matrix. -/
def RowScatterSet {M P : ℕ} (d : ScatterDims (shape2 1 P) (shape1 2) (shape1 M)) : Prop :=
  d.updateWindowDims = [0] ∧ d.insertedWindowDims = [0] ∧ d.scatterDimsToOperandDims = [0, 1] ∧ d.indexVectorDim = 0

/-- Written at place (0, 0), the vector fills the leading places. -/
theorem scatter_row {M P : ℕ} (hMP : M ≤ P) (d : ScatterDims (shape2 1 P) (shape1 2) (shape1 M)) (hd : RowScatterSet d)
    (x : FVec Ideal (shape2 1 P) .f32) (idx : IVec (shape1 2) 32) (hidx : ∀ b, (idx (ix1 b)).toInt = 0) (w : FVec Ideal (shape1 M) .f32) (c : Fin M) :
    Host.scatter d (fun _ b => b) x idx w (ix2 0 (c.castLE hMP)) = w (ix1 c) := by
  have lands : ∀ c' : Fin M, d.resultIdx? (ix1 c') idx = some (ix2 0 (c.castLE hMP)) ↔ c'.val = c.val := by
    intro c'
    obtain ⟨uw, iw, sd, iv, wf⟩ := d
    obtain ⟨h1, h2, h3, h4⟩ := hd
    dsimp only at h1 h2 h3 h4
    subst h1 h2 h3 h4
    rw [resultIdx?_ix2]
    have hs0 : (ScatterDims.mk (s := shape2 1 P) (si := shape1 2) (u := shape1 M) [0] [0] [0, 1] 0 wf).start (ix1 c') idx 0 = 0 := by
      unfold ScatterDims.start
      rw [dif_pos (by simp), eq_ix1 (ScatterDims.siIdx _ _ _)]
      exact hidx _
    have hs1 : (ScatterDims.mk (s := shape2 1 P) (si := shape1 2) (u := shape1 M) [0] [0] [0, 1] 0 wf).start (ix1 c') idx 1 = 0 := by
      unfold ScatterDims.start
      rw [dif_pos (by simp), eq_ix1 (ScatterDims.siIdx _ _ _)]
      exact hidx _
    have hw0 : (ScatterDims.mk (s := shape2 1 P) (si := shape1 2) (u := shape1 M) [0] [0] [0, 1] 0 wf).window (ix1 c') 0 = 0 := rfl
    have hw1 : (ScatterDims.mk (s := shape2 1 P) (si := shape1 2) (u := shape1 M) [0] [0] [0, 1] 0 wf).window (ix1 c') 1 = c'.val := rfl
    rw [hs0, hs1, hw0, hw1]
    show ((0 : ℤ) + (0 : ℕ) = (0 : ℕ) ∧ (0 : ℤ) + (c'.val : ℕ) = (c.val : ℕ)) ↔ _
    omega
  refine scatter_set_hit d x idx w _ _ (fun k hk => ?_) (ix1 c) ((lands c).2 rfl)
  obtain ⟨c', rfl⟩ : ∃ c' : Fin M, k = ix1 c' := ⟨k 0, eq_ix1 k⟩
  rw [Fin.ext ((lands c').1 hk)]

end Cert.Spline

end
-- ==== Proof.Ref.lean ====
/-
  What the reference computes, over the extended reals: six spline convolutions, each from the features before it, and the head.
-/
module

public import proofs.«01_k».proof.Proof.Stack
public import proofs.«01_k».proof.Proof.Head
public import proofs.«01_k».proof.Proof.Range
public import proofs.«01_k».proof.Proof.Gen.ReferenceIdeal.Run

@[expose] public section

noncomputable section

namespace Cert.Spline

open Idealize.ShloMosaic
open Idealize.ShloMosaic.ValueIdx Idealize.ShloMosaic.Routing
open Cert.ReferenceIdeal Cert.ReferenceIdeal.Gen Cert.ReferenceIdeal.Value

/-- A spline convolution and its activation, from the edges' pseudo-coordinates and targets and the sources' features. -/
def refConv {C D : ℕ} (dR : ScatterDims (shape2 1250000 C) (shape2 320000 1) (shape2 320000 C))
    (spread : FVec Ideal (shape2 320000 1) .f32 → FVec Ideal (shape2 320000 C) .f32)
    (dA : DotDims (shape3 125 10000 C) (shape3 125 C D) (shape2 10000 D)) (dX : DotDims (shape2 10000 C) (shape2 C D) (shape2 10000 D))
    (dP : ScatterDims (shape1 10000) (shape2 320000 1) (shape1 320000)) (p : FVec Ideal (shape2 320000 3) .f32)
    (col : IVec (shape1 320000) 32) (src : FVec Ideal (shape2 320000 C) .f32) (x : FVec Ideal (shape2 10000 C) .f32)
    (W : FVec Ideal (shape3 125 C D) .f32) (root : FVec Ideal (shape2 C D) .f32) (b : FVec Ideal (shape1 D) .f32) :
    FVec Ideal (shape2 10000 D) .f32 :=
  refElu (refPre dA dX (buckets dR spread (weight (within p)) (refBucket (lower p) col) src) (degree dP col) x W root b)

variable (V : Valuation τ sig (Elt Ideal))

/-- The reference's first layer. -/
theorem ref_layer1 : res_main_v366 V = refConv scatter_S1250000x1_S320000x1_S320000x1_1_0_0_1 id
    dot_S125x10000x1_S125x1x32_S10000x32_20_10_1_2_n_n dot_S10000x1_S1x32_S10000x32_1_0_0_1_n_n
    scatter_S10000_S320000x1_S320000_n_0_0_1 (V (Proc.devRef .tc main_arg2)) (row (m := 2) 1 (by decide) (V (Proc.devRef .tc main_arg1)))
    (Host.gather gather_S10000x1_S320000x1_S320000x1_1_0_n_n_0_1_11 (V (Proc.devRef .tc main_arg0))
      (wrapped 10000#32 (row (m := 2) 0 (by decide) (V (Proc.devRef .tc main_arg1)))))
    (V (Proc.devRef .tc main_arg0)) (V (Proc.devRef .tc main_arg3)) (V (Proc.devRef .tc main_arg4)) (V (Proc.devRef .tc main_arg5)) := rfl

/-- The reference's layer 2, from the layer before it. -/
theorem ref_layer2 : res_main_v737 V = refConv scatter_S1250000x32_S320000x1_S320000x32_1_0_0_1
    (broadcastInDim (shape2 320000 32) ![0, 1] (bcCols 320000 32))
    dot_S125x10000x32_S125x32x64_S10000x64_20_10_1_2_n_n dot_S10000x32_S32x64_S10000x64_1_0_0_1_n_n
    scatter_S10000_S320000x1_S320000_n_0_0_1 (V (Proc.devRef .tc main_arg2)) (row (m := 2) 1 (by decide) (V (Proc.devRef .tc main_arg1)))
    (Host.gather gather_S10000x32_S320000x1_S320000x32_1_0_n_n_0_1_132 (res_main_v366 V)
      (wrapped 10000#32 (row (m := 2) 0 (by decide) (V (Proc.devRef .tc main_arg1)))))
    (res_main_v366 V) (V (Proc.devRef .tc main_arg6)) (V (Proc.devRef .tc main_arg7)) (V (Proc.devRef .tc main_arg8)) := rfl

/-- The reference's layer 3, from the layer before it. -/
theorem ref_layer3 : res_main_v1108 V = refConv scatter_S1250000x64_S320000x1_S320000x64_1_0_0_1
    (broadcastInDim (shape2 320000 64) ![0, 1] (bcCols 320000 64))
    dot_S125x10000x64_S125x64x64_S10000x64_20_10_1_2_n_n dot_S10000x64_S64x64_S10000x64_1_0_0_1_n_n
    scatter_S10000_S320000x1_S320000_n_0_0_1 (V (Proc.devRef .tc main_arg2)) (row (m := 2) 1 (by decide) (V (Proc.devRef .tc main_arg1)))
    (Host.gather gather_S10000x64_S320000x1_S320000x64_1_0_n_n_0_1_164 (res_main_v737 V)
      (wrapped 10000#32 (row (m := 2) 0 (by decide) (V (Proc.devRef .tc main_arg1)))))
    (res_main_v737 V) (V (Proc.devRef .tc main_arg9)) (V (Proc.devRef .tc main_arg10)) (V (Proc.devRef .tc main_arg11)) := rfl

/-- The reference's layer 4, from the layer before it. -/
theorem ref_layer4 : res_main_v1479 V = refConv scatter_S1250000x64_S320000x1_S320000x64_1_0_0_1
    (broadcastInDim (shape2 320000 64) ![0, 1] (bcCols 320000 64))
    dot_S125x10000x64_S125x64x64_S10000x64_20_10_1_2_n_n dot_S10000x64_S64x64_S10000x64_1_0_0_1_n_n
    scatter_S10000_S320000x1_S320000_n_0_0_1 (V (Proc.devRef .tc main_arg2)) (row (m := 2) 1 (by decide) (V (Proc.devRef .tc main_arg1)))
    (Host.gather gather_S10000x64_S320000x1_S320000x64_1_0_n_n_0_1_164 (res_main_v1108 V)
      (wrapped 10000#32 (row (m := 2) 0 (by decide) (V (Proc.devRef .tc main_arg1)))))
    (res_main_v1108 V) (V (Proc.devRef .tc main_arg12)) (V (Proc.devRef .tc main_arg13)) (V (Proc.devRef .tc main_arg14)) := rfl

/-- The reference's layer 5, from the layer before it. -/
theorem ref_layer5 : res_main_v1850 V = refConv scatter_S1250000x64_S320000x1_S320000x64_1_0_0_1
    (broadcastInDim (shape2 320000 64) ![0, 1] (bcCols 320000 64))
    dot_S125x10000x64_S125x64x64_S10000x64_20_10_1_2_n_n dot_S10000x64_S64x64_S10000x64_1_0_0_1_n_n
    scatter_S10000_S320000x1_S320000_n_0_0_1 (V (Proc.devRef .tc main_arg2)) (row (m := 2) 1 (by decide) (V (Proc.devRef .tc main_arg1)))
    (Host.gather gather_S10000x64_S320000x1_S320000x64_1_0_n_n_0_1_164 (res_main_v1479 V)
      (wrapped 10000#32 (row (m := 2) 0 (by decide) (V (Proc.devRef .tc main_arg1)))))
    (res_main_v1479 V) (V (Proc.devRef .tc main_arg15)) (V (Proc.devRef .tc main_arg16)) (V (Proc.devRef .tc main_arg17)) := rfl

/-- The reference's layer 6, from the layer before it. -/
theorem ref_layer6 : refElu (T := S10000x64) (res_main_v2220 V) = refConv scatter_S1250000x64_S320000x1_S320000x64_1_0_0_1
    (broadcastInDim (shape2 320000 64) ![0, 1] (bcCols 320000 64))
    dot_S125x10000x64_S125x64x64_S10000x64_20_10_1_2_n_n dot_S10000x64_S64x64_S10000x64_1_0_0_1_n_n
    scatter_S10000_S320000x1_S320000_n_0_0_1 (V (Proc.devRef .tc main_arg2)) (row (m := 2) 1 (by decide) (V (Proc.devRef .tc main_arg1)))
    (Host.gather gather_S10000x64_S320000x1_S320000x64_1_0_n_n_0_1_164 (res_main_v1850 V)
      (wrapped 10000#32 (row (m := 2) 0 (by decide) (V (Proc.devRef .tc main_arg1)))))
    (res_main_v1850 V) (V (Proc.devRef .tc main_arg18)) (V (Proc.devRef .tc main_arg19)) (V (Proc.devRef .tc main_arg20)) := rfl

/-- The reference's result, from its last layer. -/
theorem ref_head : subf (res_main_call13_v5 V) (broadcastInDim S10000x6890 ![0, 1] bcast_S10000x1_S10000x6890_0_1
      (Host.log (broadcastInDim S10000x1 ![0] bcast_S10000_S10000x1_0 (Host.reduceAdd (Host.exp (res_main_call13_v5 V))
        (constant S_ .f32 0x00000000#32) reducesTo_S10000x6890_S10000_d1 h_S_))))
    = refLogSoftmax (dense dot_S10000x256_S256x6890_S10000x6890_1_0_0_1_n_n
        (refElu (dense dot_S10000x64_S64x256_S10000x256_1_0_0_1_n_n (refElu (T := S10000x64) (res_main_v2220 V))
          (V (Proc.devRef .tc main_arg21)) (V (Proc.devRef .tc main_arg22))))
        (V (Proc.devRef .tc main_arg23)) (V (Proc.devRef .tc main_arg24))) := rfl

end Cert.Spline

end
-- ==== Proof.HostA.lean ====
/-
  What the kernel's host code holds before the layers 2 to 6: the buckets of each layer's scatters from the tables of corner
  weights and bucket numbers, and the flattened weights and biases.
-/
module

public import proofs.«01_k».proof.Proof.Stack
public import proofs.«01_k».proof.Proof.Gen.KernelIdeal.Launch
public import Idealize.ShloMosaic.Lib.StableHlo.RunRead
public import Idealize.ShloMosaic.Lib.StableHlo.RunClose

@[expose] public section

noncomputable section

namespace Cert.Spline

open Idealize.ShloMosaic Idealize.ShloMosaic.ValueIdx Idealize.ShloMosaic.Routing
open Cert.KernelIdeal Cert.KernelIdeal.Gen

/-- The kernel's buckets of 32 channels, from the tables and the features. -/
def buckets32 (B : FVec Ideal (shape2 8 320000) .f32) (T : IVec (shape2 8 320000) 32) (from' : IVec (shape1 320000) 32)
    (x : FVec Ideal (shape2 10000 32) .f32) : FVec Ideal (shape2 1250000 32) .f32 :=
  tableBuckets scatter_S1250000x32_S320000x1_S320000x32_1_0_0_1 (broadcastInDim (shape2 320000 32) ![0, 1] (bcCols 320000 32)) B T
    (Host.gather gather_S10000x32_S320000x1_S320000x32_1_0_n_n_0_1_132 x (wrapped 10000#32 from'))

/-- The kernel's buckets of 64 channels. -/
def buckets64 (B : FVec Ideal (shape2 8 320000) .f32) (T : IVec (shape2 8 320000) 32) (from' : IVec (shape1 320000) 32)
    (x : FVec Ideal (shape2 10000 64) .f32) : FVec Ideal (shape2 1250000 64) .f32 :=
  tableBuckets scatter_S1250000x64_S320000x1_S320000x64_1_0_0_1 (broadcastInDim (shape2 320000 64) ![0, 1] (bcCols 320000 64)) B T
    (Host.gather gather_S10000x64_S320000x1_S320000x64_1_0_n_n_0_1_164 x (wrapped 10000#32 from'))

variable (V : Valuation τ sig (Elt Ideal))

set_option maxRecDepth 9756 in
set_option maxHeartbeats 4000000 in
/-- The left factor of the product of layer 2: the layer's buckets, one row per node. -/
theorem host1_buckets : StableHlo.after (hostOps1 (F := Ideal)) V (Proc.devRef .tc main_v547)
    = shapeCast (shape2 10000 4000) (buckets32 (V (Proc.devRef .tc main_v301)) (V (Proc.devRef .tc main_v310))
        (V (Proc.devRef .tc main_v1)) (V (Proc.devRef .tc main_v426))) shapeCasts_S1250000x32_S10000x4000 := by
  after_reads_simp
  rfl

/-- The flattened weights of layer 2. -/
theorem host1_weights : StableHlo.after (hostOps1 (F := Ideal)) V (Proc.devRef .tc main_v548)
    = shapeCast (shape2 4000 64) (V (Proc.devRef .tc main_arg6)) shapeCasts_S125x32x64_S4000x64 := by
  after_reads_simp
  rfl

/-- The bias of layer 2 as a row. -/
theorem host1_bias : StableHlo.after (hostOps1 (F := Ideal)) V (Proc.devRef .tc main_v549)
    = shapeCast (shape2 1 64) (V (Proc.devRef .tc main_arg8)) shapeCasts_S64_S1x64 := by
  after_reads_simp
  rfl

set_option maxRecDepth 9756 in
set_option maxHeartbeats 4000000 in
/-- The left factor of the product of layer 3: the layer's buckets, one row per node. -/
theorem host2_buckets : StableHlo.after (hostOps2 (F := Ideal)) V (Proc.devRef .tc main_v671)
    = shapeCast (shape2 10000 8000) (buckets64 (V (Proc.devRef .tc main_v301)) (V (Proc.devRef .tc main_v310))
        (V (Proc.devRef .tc main_v1)) (V (Proc.devRef .tc main_v550))) shapeCasts_S1250000x64_S10000x8000 := by
  after_reads_simp
  rfl

/-- The flattened weights of layer 3. -/
theorem host2_weights : StableHlo.after (hostOps2 (F := Ideal)) V (Proc.devRef .tc main_v672)
    = shapeCast (shape2 8000 64) (V (Proc.devRef .tc main_arg9)) shapeCasts_S125x64x64_S8000x64 := by
  after_reads_simp
  rfl

/-- The bias of layer 3 as a row. -/
theorem host2_bias : StableHlo.after (hostOps2 (F := Ideal)) V (Proc.devRef .tc main_v673)
    = shapeCast (shape2 1 64) (V (Proc.devRef .tc main_arg11)) shapeCasts_S64_S1x64 := by
  after_reads_simp
  rfl

set_option maxRecDepth 9756 in
set_option maxHeartbeats 4000000 in
/-- The left factor of the product of layer 4: the layer's buckets, one row per node. -/
theorem host3_buckets : StableHlo.after (hostOps3 (F := Ideal)) V (Proc.devRef .tc main_v795)
    = shapeCast (shape2 10000 8000) (buckets64 (V (Proc.devRef .tc main_v301)) (V (Proc.devRef .tc main_v310))
        (V (Proc.devRef .tc main_v1)) (V (Proc.devRef .tc main_v674))) shapeCasts_S1250000x64_S10000x8000 := by
  after_reads_simp
  rfl

/-- The flattened weights of layer 4. -/
theorem host3_weights : StableHlo.after (hostOps3 (F := Ideal)) V (Proc.devRef .tc main_v796)
    = shapeCast (shape2 8000 64) (V (Proc.devRef .tc main_arg12)) shapeCasts_S125x64x64_S8000x64 := by
  after_reads_simp
  rfl

/-- The bias of layer 4 as a row. -/
theorem host3_bias : StableHlo.after (hostOps3 (F := Ideal)) V (Proc.devRef .tc main_v797)
    = shapeCast (shape2 1 64) (V (Proc.devRef .tc main_arg14)) shapeCasts_S64_S1x64 := by
  after_reads_simp
  rfl

set_option maxRecDepth 9756 in
set_option maxHeartbeats 4000000 in
/-- The left factor of the product of layer 5: the layer's buckets, one row per node. -/
theorem host4_buckets : StableHlo.after (hostOps4 (F := Ideal)) V (Proc.devRef .tc main_v919)
    = shapeCast (shape2 10000 8000) (buckets64 (V (Proc.devRef .tc main_v301)) (V (Proc.devRef .tc main_v310))
        (V (Proc.devRef .tc main_v1)) (V (Proc.devRef .tc main_v798))) shapeCasts_S1250000x64_S10000x8000 := by
  after_reads_simp
  rfl

/-- The flattened weights of layer 5. -/
theorem host4_weights : StableHlo.after (hostOps4 (F := Ideal)) V (Proc.devRef .tc main_v920)
    = shapeCast (shape2 8000 64) (V (Proc.devRef .tc main_arg15)) shapeCasts_S125x64x64_S8000x64 := by
  after_reads_simp
  rfl

/-- The bias of layer 5 as a row. -/
theorem host4_bias : StableHlo.after (hostOps4 (F := Ideal)) V (Proc.devRef .tc main_v921)
    = shapeCast (shape2 1 64) (V (Proc.devRef .tc main_arg17)) shapeCasts_S64_S1x64 := by
  after_reads_simp
  rfl

set_option maxRecDepth 9756 in
set_option maxHeartbeats 4000000 in
/-- The left factor of the product of layer 6: the layer's buckets, one row per node. -/
theorem host5_buckets : StableHlo.after (hostOps5 (F := Ideal)) V (Proc.devRef .tc main_v1043)
    = shapeCast (shape2 10000 8000) (buckets64 (V (Proc.devRef .tc main_v301)) (V (Proc.devRef .tc main_v310))
        (V (Proc.devRef .tc main_v1)) (V (Proc.devRef .tc main_v922))) shapeCasts_S1250000x64_S10000x8000 := by
  after_reads_simp
  rfl

/-- The flattened weights of layer 6. -/
theorem host5_weights : StableHlo.after (hostOps5 (F := Ideal)) V (Proc.devRef .tc main_v1044)
    = shapeCast (shape2 8000 64) (V (Proc.devRef .tc main_arg18)) shapeCasts_S125x64x64_S8000x64 := by
  after_reads_simp
  rfl

/-- The bias of layer 6 as a row. -/
theorem host5_bias : StableHlo.after (hostOps5 (F := Ideal)) V (Proc.devRef .tc main_v1045)
    = shapeCast (shape2 1 64) (V (Proc.devRef .tc main_arg20)) shapeCasts_S64_S1x64 := by
  after_reads_simp
  rfl

end Cert.Spline

end
-- ==== Proof.HostB.lean ====
/-
  What the kernel's host code holds before the first layer: the edge quantities, the clipped degrees, the tables of corner
  weights and bucket numbers, the first layer's buckets, and its flattened weight and bias; and what it holds before and
  after the head.
-/
module

public import proofs.«01_k».proof.Proof.Stack
public import proofs.«01_k».proof.Proof.Gen.KernelIdeal.Launch
public import Idealize.ShloMosaic.Lib.StableHlo.RunRead
public import Idealize.ShloMosaic.Lib.StableHlo.RunClose

@[expose] public section

noncomputable section

namespace Cert.Spline

open Idealize.ShloMosaic Idealize.ShloMosaic.ValueIdx Idealize.ShloMosaic.Routing
open Cert.KernelIdeal Cert.KernelIdeal.Gen

/-- The kernel's buckets of one channel, from the tables and the features. -/
def buckets1 (B : FVec Ideal (shape2 8 320000) .f32) (T : IVec (shape2 8 320000) 32) (from' : IVec (shape1 320000) 32)
    (x : FVec Ideal (shape2 10000 1) .f32) : FVec Ideal (shape2 1250000 1) .f32 :=
  tableBuckets scatter_S1250000x1_S320000x1_S320000x1_1_0_0_1 id B T
    (Host.gather gather_S10000x1_S320000x1_S320000x1_1_0_n_n_0_1_11 x (wrapped 10000#32 from'))

/-- Eight rows of 320000 stack to a matrix of eight rows. -/
theorem eightRows {α : Type} (g : Bool → Bool → Bool → (shape1 320000).Idx → α) :
    Shape.Concatenates ((cornerRows g).map (·.1)) (shape2 8 320000) 0 :=
  concatenates_S1x320000_S1x320000_S1x320000_S1x320000_S1x320000_S1x320000_S1x320000_S1x320000_S8x320000_d0

/-- The table of the kernel's corner weights. -/
def weightTable (deg : FVec Ideal (shape1 10000) .f32) (f : FVec Ideal (shape2 320000 3) .f32) (col : IVec (shape1 320000) 32) :
    FVec Ideal (shape2 8 320000) .f32 :=
  table (kerWeight gather_S10000_S320000x1_S320000_n_0_n_n_0_1_1 (Host.divf (nums (shape1 10000) 0x3F800000#32) deg) f col) (eightRows _)

/-- The table of the kernel's bucket numbers. -/
def bucketTable (i0 : IVec (shape2 320000 3) 32) (col : IVec (shape1 320000) 32) : IVec (shape2 8 320000) 32 :=
  table (kerBucket i0 col) (eightRows _)

variable (V : Valuation τ sig (Elt Ideal))

set_option maxRecDepth 9756 in
set_option maxHeartbeats 4000000 in
/-- The edges' sources. -/
theorem host0_source : StableHlo.after (hostOps0 (F := Ideal)) V (Proc.devRef .tc main_v1)
    = row 0 (by decide) (V (Proc.devRef .tc main_arg1)) := by
  after_reads_simp
  rfl

/-- The edges' targets. -/
theorem host0_target : StableHlo.after (hostOps0 (F := Ideal)) V (Proc.devRef .tc main_v3)
    = row 1 (by decide) (V (Proc.devRef .tc main_arg1)) := by
  after_reads_simp
  rfl

/-- The cells' lower corners. -/
theorem host0_lower : StableHlo.after (hostOps0 (F := Ideal)) V (Proc.devRef .tc main_v7) = lower (V (Proc.devRef .tc main_arg2)) := by
  after_reads_simp
  rfl

/-- The places within the cells. -/
theorem host0_within : StableHlo.after (hostOps0 (F := Ideal)) V (Proc.devRef .tc main_v9) = within (V (Proc.devRef .tc main_arg2)) := by
  after_reads_simp
  rfl

/-- The clipped degrees, over the first two stretches. -/
theorem host0_degree : StableHlo.after (hostOps0_1 (F := Ideal)) (StableHlo.after (hostOps0 (F := Ideal)) V) (Proc.devRef .tc main_v19)
    = degree scatter_S10000_S320000x1_S320000_n_0_0_1 (row 1 (by decide) (V (Proc.devRef .tc main_arg1))) := by
  after_reads_simp
  rfl

set_option maxRecDepth 9756 in
set_option maxHeartbeats 4000000 in
/-- The table of weights. -/
theorem host0_weights : StableHlo.after (hostOps0_2 (F := Ideal)) V (Proc.devRef .tc main_v301)
    = weightTable (V (Proc.devRef .tc main_v19)) (V (Proc.devRef .tc main_v9)) (V (Proc.devRef .tc main_v3)) := by
  after_reads_simp
  rfl

set_option maxRecDepth 9756 in
set_option maxHeartbeats 4000000 in
/-- The table of bucket numbers. -/
theorem host0_buckets : StableHlo.after (hostOps0_2 (F := Ideal)) V (Proc.devRef .tc main_v310)
    = bucketTable (V (Proc.devRef .tc main_v7)) (V (Proc.devRef .tc main_v3)) := by
  after_reads_simp
  rfl

/-- The stretch before the first layer, cut behind its two tables. -/
theorem host0_cut : StableHlo.after (hostOps0_2 (F := Ideal)) V
    = StableHlo.after ((hostOps0_2 (F := Ideal)).drop 354) (StableHlo.after ((hostOps0_2 (F := Ideal)).take 354) V) := by
  rw [← StableHlo.after_append, List.take_append_drop]

set_option maxRecDepth 9756 in
set_option maxHeartbeats 4000000 in
/-- The left factor of the first layer's product, from what the stretch leaves in the tables. -/
theorem host0_features : StableHlo.after (hostOps0_2 (F := Ideal)) V (Proc.devRef .tc main_v423)
    = shapeCast (shape2 10000 125) (buckets1 (StableHlo.after (hostOps0_2 (F := Ideal)) V (Proc.devRef .tc main_v301))
        (StableHlo.after (hostOps0_2 (F := Ideal)) V (Proc.devRef .tc main_v310)) (StableHlo.after (hostOps0_2 (F := Ideal)) V (Proc.devRef .tc main_v1))
        (StableHlo.after (hostOps0_2 (F := Ideal)) V (Proc.devRef .tc main_arg0))) shapeCasts_S1250000x1_S10000x125 := by
  rw [host0_cut]
  generalize StableHlo.after ((hostOps0_2 (F := Ideal)).take 354) V = W
  after_reads_simp
  rfl

set_option maxRecDepth 9756 in
set_option maxHeartbeats 4000000 in
/-- The first layer's flattened weights. -/
theorem host0_flat : StableHlo.after (hostOps0_2 (F := Ideal)) V (Proc.devRef .tc main_v424)
    = shapeCast (shape2 125 32) (V (Proc.devRef .tc main_arg3)) shapeCasts_S125x1x32_S125x32 := by
  after_reads_simp
  rfl

set_option maxRecDepth 9756 in
set_option maxHeartbeats 4000000 in
/-- The first layer's bias as a row. -/
theorem host0_bias : StableHlo.after (hostOps0_2 (F := Ideal)) V (Proc.devRef .tc main_v425)
    = shapeCast (shape2 1 32) (V (Proc.devRef .tc main_arg5)) shapeCasts_S32_S1x32 := by
  after_reads_simp
  rfl

/-- The index vector of the padded bias: two zeros. -/
def twoZeros : IVec (shape1 2) 32 :=
  concatenate (shape1 2) 0 [⟨shape1 1, words (E := 1) 0#32⟩, ⟨shape1 1, words (E := 1) 0#32⟩] concatenates_S1_S1_S2_d0

/-- The last layer's weights, written into a wider matrix of zeros. -/
theorem host6_weights : StableHlo.after (hostOps6 (F := Ideal)) V (Proc.devRef .tc main_v1049)
    = Host.scatter scatter_S256x6912_S1_S256x6890_01_n_1_0 (fun _ b => b) (nums (shape2 256 6912) 0x00000000#32) (words (E := 1) 0#32)
        (V (Proc.devRef .tc main_arg23)) := by
  after_reads_simp
  rfl

/-- The last layer's bias, written into a wider row. -/
theorem host6_bias : StableHlo.after (hostOps6 (F := Ideal)) V (Proc.devRef .tc main_v1054)
    = Host.scatter scatter_S1x6912_S2_S6890_0_0_01_0 (fun _ b => b) (nums (shape2 1 6912) 0xF149F2CA#32) twoZeros (V (Proc.devRef .tc main_arg24)) := by
  after_reads_simp
  rfl

/-- The first dense layer's bias as a row. -/
theorem host6_bias1 : StableHlo.after (hostOps6 (F := Ideal)) V (Proc.devRef .tc main_v1055)
    = shapeCast (shape2 1 256) (V (Proc.devRef .tc main_arg22)) shapeCasts_S256_S1x256 := by
  after_reads_simp
  rfl

/-- The result: the leading columns of the head's output. -/
theorem host7_result : StableHlo.after (hostOps7 (F := Ideal)) V (Proc.devRef .tc main_v1057)
    = extractStridedSlice (shape2 10000 6890) ![0, 0] (V (Proc.devRef .tc main_v1056)) slices_S10000x6912_S10000x6890_0_0 := by
  after_reads_simp

end Cert.Spline

end
-- ==== Proof.Net.lean ====
/-
  A layer of the kernel, from its tables of corner weights and bucket numbers, is the reference's spline convolution.
-/
module

public import proofs.«01_k».proof.Proof.Ref
public import proofs.«01_k».proof.Proof.HostA
public import proofs.«01_k».proof.Proof.HostB

@[expose] public section

noncomputable section

namespace Cert.Spline

open Idealize.ShloMosaic
open Idealize.ShloMosaic.ValueIdx Idealize.ShloMosaic.Routing
open Cert.KernelIdeal Cert.KernelIdeal.Gen

/-- The reference's layer with one channel in. -/
def net1 (x : FVec Ideal (shape2 10000 1) .f32) (e : IVec (shape2 2 320000) 32) (p : FVec Ideal (shape2 320000 3) .f32)
    (W : FVec Ideal (shape3 125 1 32) .f32) (root : FVec Ideal (shape2 1 32) .f32) (b : FVec Ideal (shape1 32) .f32) :
    FVec Ideal (shape2 10000 32) .f32 :=
  refConv Cert.ReferenceIdeal.scatter_S1250000x1_S320000x1_S320000x1_1_0_0_1 id
    Cert.ReferenceIdeal.dot_S125x10000x1_S125x1x32_S10000x32_20_10_1_2_n_n Cert.ReferenceIdeal.dot_S10000x1_S1x32_S10000x32_1_0_0_1_n_n
    Cert.ReferenceIdeal.scatter_S10000_S320000x1_S320000_n_0_0_1 p (row 1 (by decide) e)
    (Host.gather Cert.ReferenceIdeal.gather_S10000x1_S320000x1_S320000x1_1_0_n_n_0_1_11 x (wrapped 10000#32 (row 0 (by decide) e))) x W root b

/-- The reference's layer with 32 channels in. -/
def net32 (x : FVec Ideal (shape2 10000 32) .f32) (e : IVec (shape2 2 320000) 32) (p : FVec Ideal (shape2 320000 3) .f32)
    (W : FVec Ideal (shape3 125 32 64) .f32) (root : FVec Ideal (shape2 32 64) .f32) (b : FVec Ideal (shape1 64) .f32) :
    FVec Ideal (shape2 10000 64) .f32 :=
  refConv Cert.ReferenceIdeal.scatter_S1250000x32_S320000x1_S320000x32_1_0_0_1 (broadcastInDim (shape2 320000 32) ![0, 1] (bcCols 320000 32))
    Cert.ReferenceIdeal.dot_S125x10000x32_S125x32x64_S10000x64_20_10_1_2_n_n Cert.ReferenceIdeal.dot_S10000x32_S32x64_S10000x64_1_0_0_1_n_n
    Cert.ReferenceIdeal.scatter_S10000_S320000x1_S320000_n_0_0_1 p (row 1 (by decide) e)
    (Host.gather Cert.ReferenceIdeal.gather_S10000x32_S320000x1_S320000x32_1_0_n_n_0_1_132 x (wrapped 10000#32 (row 0 (by decide) e))) x W root b

/-- The reference's layer with 64 channels in. -/
def net64 (x : FVec Ideal (shape2 10000 64) .f32) (e : IVec (shape2 2 320000) 32) (p : FVec Ideal (shape2 320000 3) .f32)
    (W : FVec Ideal (shape3 125 64 64) .f32) (root : FVec Ideal (shape2 64 64) .f32) (b : FVec Ideal (shape1 64) .f32) :
    FVec Ideal (shape2 10000 64) .f32 :=
  refConv Cert.ReferenceIdeal.scatter_S1250000x64_S320000x1_S320000x64_1_0_0_1 (broadcastInDim (shape2 320000 64) ![0, 1] (bcCols 320000 64))
    Cert.ReferenceIdeal.dot_S125x10000x64_S125x64x64_S10000x64_20_10_1_2_n_n Cert.ReferenceIdeal.dot_S10000x64_S64x64_S10000x64_1_0_0_1_n_n
    Cert.ReferenceIdeal.scatter_S10000_S320000x1_S320000_n_0_0_1 p (row 1 (by decide) e)
    (Host.gather Cert.ReferenceIdeal.gather_S10000x64_S320000x1_S320000x64_1_0_n_n_0_1_164 x (wrapped 10000#32 (row 0 (by decide) e))) x W root b

/-- The ranges the claim asks for: each edge's lower corner is one of four along each axis, and its target is a node. -/
def Ranges (e : IVec (shape2 2 320000) 32) (p : FVec Ideal (shape2 320000 3) .f32) : Prop :=
  (∀ i k, 0 ≤ (lower p (ix2 i k)).toInt ∧ (lower p (ix2 i k)).toInt < 4) ∧
    ∀ i, 0 ≤ (row (m := 2) 1 (by decide) e (ix1 i)).toInt ∧ (row (m := 2) 1 (by decide) e (ix1 i)).toInt < 10000

/-- The kernel's table of weights, from the edges and their pseudo-coordinates. -/
def weightsOf (e : IVec (shape2 2 320000) 32) (p : FVec Ideal (shape2 320000 3) .f32) : FVec Ideal (shape2 8 320000) .f32 :=
  weightTable (degree scatter_S10000_S320000x1_S320000_n_0_0_1 (row 1 (by decide) e)) (within p) (row 1 (by decide) e)

/-- The kernel's table of bucket numbers, from the edges and their pseudo-coordinates. -/
def bucketsOf (e : IVec (shape2 2 320000) 32) (p : FVec Ideal (shape2 320000 3) .f32) : IVec (shape2 8 320000) 32 :=
  bucketTable (lower p) (row 1 (by decide) e)

/-- The kernel's layer with one channel in is the reference's. -/
theorem kernel_net1 (e : IVec (shape2 2 320000) 32) (p : FVec Ideal (shape2 320000 3) .f32) (h : Ranges e p)
    (x : FVec Ideal (shape2 10000 1) .f32) (W : FVec Ideal (shape3 125 1 32) .f32) (root : FVec Ideal (shape2 1 32) .f32)
    (b : FVec Ideal (shape1 32) .f32) :
    kerLayer (shapeCast (shape2 10000 125) (buckets1 (weightsOf e p) (bucketsOf e p) (row 0 (by decide) e) x) shapeCasts_S1250000x1_S10000x125)
      x (shapeCast (shape2 125 32) W shapeCasts_S125x1x32_S125x32) root (shapeCast (shape2 1 32) b shapeCasts_S32_S1x32)
      = net1 x e p W root b := by
  unfold net1 refConv weightsOf bucketsOf weightTable bucketTable buckets1
  exact conv_eq rfl id spreads_id _ _ ⟨rfl, rfl, rfl, rfl⟩ ⟨rfl, rfl, rfl, rfl⟩ _ ⟨rfl, rfl, rfl, rfl⟩ _ ⟨rfl, rfl, rfl, rfl, rfl, rfl, rfl⟩ _
    ⟨rfl, rfl, rfl, rfl, rfl, rfl⟩ _ ⟨rfl, rfl, rfl, rfl, rfl, rfl⟩ (lower p) (within p) _ h.1 h.2 _ _ _ _ _ _ _ _ _ _

/-- The kernel's layer with 32 channels in is the reference's. -/
theorem kernel_net32 (e : IVec (shape2 2 320000) 32) (p : FVec Ideal (shape2 320000 3) .f32) (h : Ranges e p)
    (x : FVec Ideal (shape2 10000 32) .f32) (W : FVec Ideal (shape3 125 32 64) .f32) (root : FVec Ideal (shape2 32 64) .f32)
    (b : FVec Ideal (shape1 64) .f32) :
    kerLayer (shapeCast (shape2 10000 4000) (buckets32 (weightsOf e p) (bucketsOf e p) (row 0 (by decide) e) x) shapeCasts_S1250000x32_S10000x4000)
      x (shapeCast (shape2 4000 64) W shapeCasts_S125x32x64_S4000x64) root (shapeCast (shape2 1 64) b shapeCasts_S64_S1x64)
      = net32 x e p W root b := by
  unfold net32 refConv weightsOf bucketsOf weightTable bucketTable buckets32
  exact conv_eq rfl _ spreads_cols _ _ ⟨rfl, rfl, rfl, rfl⟩ ⟨rfl, rfl, rfl, rfl⟩ _ ⟨rfl, rfl, rfl, rfl⟩ _ ⟨rfl, rfl, rfl, rfl, rfl, rfl, rfl⟩ _
    ⟨rfl, rfl, rfl, rfl, rfl, rfl⟩ _ ⟨rfl, rfl, rfl, rfl, rfl, rfl⟩ (lower p) (within p) _ h.1 h.2 _ _ _ _ _ _ _ _ _ _

/-- The kernel's layer with 64 channels in is the reference's. -/
theorem kernel_net64 (e : IVec (shape2 2 320000) 32) (p : FVec Ideal (shape2 320000 3) .f32) (h : Ranges e p)
    (x : FVec Ideal (shape2 10000 64) .f32) (W : FVec Ideal (shape3 125 64 64) .f32) (root : FVec Ideal (shape2 64 64) .f32)
    (b : FVec Ideal (shape1 64) .f32) :
    kerLayer (shapeCast (shape2 10000 8000) (buckets64 (weightsOf e p) (bucketsOf e p) (row 0 (by decide) e) x) shapeCasts_S1250000x64_S10000x8000)
      x (shapeCast (shape2 8000 64) W shapeCasts_S125x64x64_S8000x64) root (shapeCast (shape2 1 64) b shapeCasts_S64_S1x64)
      = net64 x e p W root b := by
  unfold net64 refConv weightsOf bucketsOf weightTable bucketTable buckets64
  exact conv_eq rfl _ spreads_cols _ _ ⟨rfl, rfl, rfl, rfl⟩ ⟨rfl, rfl, rfl, rfl⟩ _ ⟨rfl, rfl, rfl, rfl⟩ _ ⟨rfl, rfl, rfl, rfl, rfl, rfl, rfl⟩ _
    ⟨rfl, rfl, rfl, rfl, rfl, rfl⟩ _ ⟨rfl, rfl, rfl, rfl, rfl, rfl⟩ (lower p) (within p) _ h.1 h.2 _ _ _ _ _ _ _ _ _ _

end Cert.Spline

end
-- ==== Proof.Block.lean ====
/-
  What one grid point of the kernel's seven calls computes, over the extended reals: 400 rows of a layer from 400 rows of the
  buckets and of the features, and 400 rows of the head from 400 rows of the last layer.
-/
module

public import proofs.«01_k».proof.Proof.Head
public import Idealize.ShloMosaic.Lib.KernelVsHost
public import Idealize.ShloMosaic.Lib.ValueLayout
public import Idealize.ShloMosaic.Lib.Pipeline.Value

@[expose] public section

noncomputable section

open scoped BigOperators

namespace Cert.Spline

open Idealize.ShloMosaic Idealize.ShloMosaic.ValueIdx Idealize.ShloMosaic.Routing

/-- The activation as the kernel computes it. -/
def blockElu {T : Shape} (x : FVec Ideal T .f32) : FVec Ideal T .f32 :=
  select (cmpf .ogt x (broadcast T (Scalar.ofBits .f32 0x00000000#32 : Ideal .f32))) x
    (subf (exp x) (broadcast T (Scalar.ofBits .f32 0x3F800000#32 : Ideal .f32)))

theorem blockElu_apply {T : Shape} (x : FVec Ideal T .f32) (i : T.Idx) : blockElu x i = elu (x i) := by
  show Scalar.select (Ideal.cmp .ogt (x i) (Ideal.ofBits .f32 0x00000000#32)) (x i)
    (Ideal.exp (x i) - Ideal.ofBits .f32 0x3F800000#32 : EReal) = _
  rw [Ideal.ofBits_zero_f32, Ideal.ofBits_one_f32, select_pos]
  rfl

/-- A product of the kernel, entry by entry. -/
theorem matmul_entry {m k n : ℕ} (d : DotDims (shape2 m k) (shape2 k n) (shape2 m n)) (hd : PlainDot d)
    (A : FVec Ideal (shape2 m k) .f32) (B : FVec Ideal (shape2 k n) .f32) (a : Fin m) (b : Fin n) :
    matmul d none A B (constant (shape2 m n) .f32 0x00000000#32) (ix2 a b) = (∑ c : Fin k, A (ix2 a c) * B (ix2 c b) : EReal) := by
  rw [matmul_zero_eq_dotGeneral, dot_plain d hd]

/-- One block of a layer. -/
def layerBlock {M Q C D : ℕ} (dA : DotDims (shape2 M Q) (shape2 Q D) (shape2 M D)) (dX : DotDims (shape2 M C) (shape2 C D) (shape2 M D))
    (hb : (shape2 1 D).Broadcasts (shape2 M D)) (a2 : FVec Ideal (shape2 M Q) .f32) (wf : FVec Ideal (shape2 Q D) .f32)
    (x : FVec Ideal (shape2 M C) .f32) (root : FVec Ideal (shape2 C D) .f32) (b : FVec Ideal (shape2 1 D) .f32) :
    FVec Ideal (shape2 M D) .f32 :=
  blockElu (addf (addf (matmul dA none a2 wf (constant (shape2 M D) .f32 0x00000000#32))
    (matmul dX none x root (constant (shape2 M D) .f32 0x00000000#32))) (broadcastTo (shape2 M D) b hb))

/-- A block of a layer whose rows are rows of the whole arrays is those rows of the layer. -/
theorem layerBlock_eq {M Q C D : ℕ} (dA : DotDims (shape2 M Q) (shape2 Q D) (shape2 M D)) (hA : PlainDot dA)
    (dX : DotDims (shape2 M C) (shape2 C D) (shape2 M D)) (hX : PlainDot dX) (hb : (shape2 1 D).Broadcasts (shape2 M D))
    (a2 : FVec Ideal (shape2 M Q) .f32) (wf : FVec Ideal (shape2 Q D) .f32) (x : FVec Ideal (shape2 M C) .f32)
    (root : FVec Ideal (shape2 C D) .f32) (b : FVec Ideal (shape2 1 D) .f32) (A2 : FVec Ideal (shape2 10000 Q) .f32)
    (X : FVec Ideal (shape2 10000 C) .f32) (r : Fin M) (n : Fin 10000) (hA2 : ∀ q, a2 (ix2 r q) = A2 (ix2 n q))
    (hXX : ∀ c, x (ix2 r c) = X (ix2 n c)) (o : Fin D) :
    layerBlock dA dX hb a2 wf x root b (ix2 r o) = kerLayer A2 X wf root b (ix2 n o) := by
  unfold layerBlock
  rw [blockElu_apply]
  show elu (matmul dA none a2 wf _ (ix2 r o) + matmul dX none x root _ (ix2 r o) + broadcastTo (shape2 M D) b hb (ix2 r o) : EReal) = _
  rw [matmul_entry dA hA, matmul_entry dX hX, broadcastTo_1b_ab_apply]
  simp only [hA2, hXX]
  rfl

/-- The same at an index of the block and the index of the array that lies `t` blocks of 400 rows down. -/
theorem layerBlock_at {Q C D : ℕ} {dA : DotDims (shape2 400 Q) (shape2 Q D) (shape2 400 D)} (hA : PlainDot dA)
    {dX : DotDims (shape2 400 C) (shape2 C D) (shape2 400 D)} (hX : PlainDot dX) {hb : (shape2 1 D).Broadcasts (shape2 400 D)}
    {a2 : FVec Ideal (shape2 400 Q) .f32} {wf Wf : FVec Ideal (shape2 Q D) .f32} {x : FVec Ideal (shape2 400 C) .f32}
    {root Root : FVec Ideal (shape2 C D) .f32} {b B : FVec Ideal (shape2 1 D) .f32} {A2 : FVec Ideal (shape2 10000 Q) .f32}
    {X : FVec Ideal (shape2 10000 C) .f32} (t : ℕ)
    (hA2 : ∀ (r : Fin 400) (n : Fin 10000) (q : Fin Q), n.val = t * 400 + r.val → a2 (ix2 r q) = A2 (ix2 n q))
    (hXX : ∀ (r : Fin 400) (n : Fin 10000) (q : Fin C), n.val = t * 400 + r.val → x (ix2 r q) = X (ix2 n q))
    (hw : wf = Wf) (hr : root = Root) (hB : b = B) (y : (shape2 400 D).Idx) (i : (shape2 10000 D).Idx)
    (h0 : (i 0).val = t * 400 + (y 0).val) (h1 : (i 1).val = (y 1).val) :
    layerBlock dA dX hb a2 wf x root b y = kerLayer A2 X Wf Root B i := by
  subst hw hr hB
  obtain ⟨r, o, rfl⟩ : ∃ r o, y = ix2 r o := ⟨y 0, y 1, eq_ix2 y⟩
  obtain ⟨n, o', rfl⟩ : ∃ n o', i = ix2 n o' := ⟨i 0, i 1, eq_ix2 i⟩
  obtain rfl : o' = o := Fin.ext h1
  exact layerBlock_eq dA hA dX hX hb a2 wf x root b A2 X r n (fun q => hA2 r n q h0) (fun q => hXX r n q h0) o'

/-- Block number zero starts at the array's start. -/
theorem place_fixed {I S : Fin 2 → ℕ} (h : I = ![0, 0]) (a : Fin 2) (v : ℕ) : I a * S a + 1 * v = v := by
  subst h
  match a with
  | ⟨0, _⟩ => show 0 * _ + 1 * _ = _; omega
  | ⟨1, _⟩ => show 0 * _ + 1 * _ = _; omega

/-- Block number `t` of 400 rows starts `400 * t` rows down. -/
theorem place_rows {A B Q t : ℕ} {I S : Fin 2 → ℕ} (h : I = ![t, 0]) (hS : S 0 = 400) {r : Fin A} {n : Fin B} (q : Fin Q)
    (hn : n.val = t * 400 + r.val) (a : Fin 2) : I a * S a + 1 * (ix2 r q a).val = (ix2 n q a).val := by
  subst h
  match a with
  | ⟨0, _⟩ => show t * S 0 + 1 * r.val = n.val; rw [hS]; omega
  | ⟨1, _⟩ => show 0 * _ + 1 * q.val = q.val; omega

/-! ## The head -/

/-- The logits of one block: two dense layers, and minus infinity in place of the bias from the column `limit` on. -/
def blockLogits {M C D P : ℕ} (limit : BitVec 32) (bot : Ideal .f32) (d1 : DotDims (shape2 M C) (shape2 C D) (shape2 M D))
    (d2 : DotDims (shape2 M D) (shape2 D P) (shape2 M P)) (hb1 : (shape2 1 D).Broadcasts (shape2 M D))
    (hb2 : (shape2 1 P).Broadcasts (shape2 M P)) (hio : (shape2 1 P).Iotas .tc 32 [1])
    (h : FVec Ideal (shape2 M C) .f32) (w1 : FVec Ideal (shape2 C D) .f32) (b1 : FVec Ideal (shape2 1 D) .f32)
    (w2 : FVec Ideal (shape2 D P) .f32) (b2 : FVec Ideal (shape2 1 P) .f32) : FVec Ideal (shape2 M P) .f32 :=
  addf (matmul d2 none (blockElu (addf (matmul d1 none h w1 (constant (shape2 M D) .f32 0x00000000#32))
      (broadcastTo (shape2 M D) b1 hb1))) w2 (constant (shape2 M P) .f32 0x00000000#32))
    (broadcastTo (shape2 M P) (select (cmpi .slt (iota .tc (shape2 1 P) 32 [1] hio) (broadcast (shape2 1 P) limit)) b2
      (broadcast (shape2 1 P) bot)) hb2)

/-- The logits less each row's largest. -/
def blockCentered {M P : ℕ} (hc : (shape1 M).ShapeCasts (shape2 M 1)) (hs : (shape2 M 1).Broadcasts (shape2 M P))
    (hr : (shape2 M P).Reduces [1] (shape1 M)) (z : FVec Ideal (shape2 M P) .f32) : FVec Ideal (shape2 M P) .f32 :=
  subf z (broadcastTo (shape2 M P) (shapeCast (shape2 M 1)
    (multiReduction .maximumf [1] (shape1 M) z 0xFF800000#32 hr (.inl rfl) rfl) hc) hs)

/-- The log-softmax of each row of a block. -/
def blockSoftmax {M P : ℕ} (hc : (shape1 M).ShapeCasts (shape2 M 1)) (hs : (shape2 M 1).Broadcasts (shape2 M P))
    (hr : (shape2 M P).Reduces [1] (shape1 M)) (z : FVec Ideal (shape2 M P) .f32) : FVec Ideal (shape2 M P) .f32 :=
  subf (blockCentered hc hs hr z) (broadcastTo (shape2 M P) (log (shapeCast (shape2 M 1)
    (multiReduction .add [1] (shape1 M) (exp (blockCentered hc hs hr z)) 0x00000000#32 hr (.inl rfl) rfl) hc)) hs)

/-- A column repeated over the lanes reads its row's entry. -/
theorem column_apply {M P : ℕ} {α : Type} (v : (shape2 M 1).Idx → α) (h : (shape2 M 1).Broadcasts (shape2 M P)) (r : Fin M) (c : Fin P) :
    broadcastTo (shape2 M P) v h (ix2 r c) = v (ix2 r 0) := by
  refine broadcastTo_apply v h (ix2 r c) (ix2 r 0) fun ax => ?_
  match ax with
  | ⟨0, _⟩ =>
    by_cases hM : M = 1
    · subst hM; exact (Nat.lt_one_iff.mp r.isLt).trans (if_pos rfl).symm
    · exact (if_neg hM).symm
  | ⟨1, _⟩ => rfl

/-- A vector stood up as a column. -/
theorem upright_apply {M : ℕ} {α : Type} (v : (shape1 M).Idx → α) (h : (shape1 M).ShapeCasts (shape2 M 1)) (r : Fin M) :
    shapeCast (shape2 M 1) v h (ix2 r 0) = v (ix1 r) := by
  rw [shapeCast_apply _ _ _ (ix1 r) (by rw [Shape.rowMajor_val_one, Shape.rowMajor_val_two]; show r.val = r.val * 1 + 0; omega)]

theorem blockCentered_apply {M P : ℕ} (hc : (shape1 M).ShapeCasts (shape2 M 1)) (hs : (shape2 M 1).Broadcasts (shape2 M P))
    (hr : (shape2 M P).Reduces [1] (shape1 M)) (z : FVec Ideal (shape2 M P) .f32) (r : Fin M) (c : Fin P) :
    blockCentered hc hs hr z (ix2 r c) = (z (ix2 r c) - rowMax (fun q => z (ix2 r q)) : EReal) := by
  show (z (ix2 r c) - broadcastTo (shape2 M P) _ hs (ix2 r c) : EReal) = _
  rw [column_apply, upright_apply]
  refine congrArg (fun w => (z (ix2 r c) - w : EReal))
    ((Ideal.multiReduction_maximumf_single z 0xFF800000#32 hr (.inl rfl) rfl (ix1 r)).trans ?_)
  have e : (FloatOps.ofBits (F := Ideal) .f32 0xFF800000#32 : EReal) = ⊥ := ofBits_neg_inf
  rw [e]
  unfold rowMax
  congr 1
  funext q
  exact congrArg z (lift_row hr r q)

/-- The block's log-softmax is the log-softmax of its rows. -/
theorem blockSoftmax_apply {M P : ℕ} (hc : (shape1 M).ShapeCasts (shape2 M 1)) (hs : (shape2 M 1).Broadcasts (shape2 M P))
    (hr : (shape2 M P).Reduces [1] (shape1 M)) (z : FVec Ideal (shape2 M P) .f32) (r : Fin M) (c : Fin P) :
    blockSoftmax hc hs hr z (ix2 r c) = logSoftmax (fun q => z (ix2 r q)) c := by
  show (blockCentered hc hs hr z (ix2 r c) - broadcastTo (shape2 M P) _ hs (ix2 r c) : EReal) = _
  rw [column_apply, blockCentered_apply]
  show (_ - Ideal.log (shapeCast (shape2 M 1) _ hc (ix2 r 0)) : EReal) = _
  rw [upright_apply]
  unfold logSoftmax
  refine congrArg (fun w => (z (ix2 r c) - rowMax (fun q => z (ix2 r q)) - Ideal.log w : EReal))
    ((Ideal.multiReduction_add_single _ 0x00000000#32 hr (.inl rfl) rfl (ix1 r)).trans ?_)
  refine Finset.sum_congr rfl fun q _ => ?_
  show Ideal.exp (blockCentered hc hs hr z (hr.lift (ix1 r) q)) = _
  exact congrArg Ideal.exp ((congrArg _ (lift_row hr r q)).trans (blockCentered_apply hc hs hr z r q))

/-- The lanes below 6890 are told apart by a comparison of words. -/
theorem lane_select (c : Fin 6912) (a b : EReal) :
    Scalar.select (IntOp.cmpi .slt (BitVec.ofNat 32 c.val) 6890#32) a b = if c.val < 6890 then a else b := by
  have h : IntOp.cmpi .slt (BitVec.ofNat 32 c.val) 6890#32 = if c.val < 6890 then 1#1 else 0#1 := by
    have h1 := c.isLt
    have h2 : (BitVec.ofNat 32 c.val).toInt = c.val := by
      rw [BitVec.toInt_eq_toNat_of_lt] <;> rw [BitVec.toNat_ofNat] <;> omega
    have h3 : (6890#32).toInt = 6890 := by decide
    by_cases hc : c.val < 6890
    · simp [IntOp.cmpi, BitVec.slt, h2, h3, hc]
    · simp [IntOp.cmpi, BitVec.slt, h2, h3, hc]
  rw [h]
  split <;> simp [Scalar.select]

/-- A block of the head whose rows are rows of the whole array is those rows of the head. -/
theorem headBlock_eq {M C D : ℕ} (bot : Ideal .f32) (hbot : bot = (⊥ : EReal)) (d1 : DotDims (shape2 M C) (shape2 C D) (shape2 M D))
    (h1 : PlainDot d1) (d2 : DotDims (shape2 M D) (shape2 D 6912) (shape2 M 6912)) (h2 : PlainDot d2)
    (hb1 : (shape2 1 D).Broadcasts (shape2 M D)) (hb2 : (shape2 1 6912).Broadcasts (shape2 M 6912))
    (hio : (shape2 1 6912).Iotas .tc 32 [1]) (hc : (shape1 M).ShapeCasts (shape2 M 1))
    (hs : (shape2 M 1).Broadcasts (shape2 M 6912)) (hr : (shape2 M 6912).Reduces [1] (shape1 M))
    (h : FVec Ideal (shape2 M C) .f32) (w1 : FVec Ideal (shape2 C D) .f32) (b1 : FVec Ideal (shape2 1 D) .f32)
    (w2 : FVec Ideal (shape2 D 6912) .f32) (b2 : FVec Ideal (shape2 1 6912) .f32) (H : FVec Ideal (shape2 10000 C) .f32)
    (r : Fin M) (n : Fin 10000) (hH : ∀ c, h (ix2 r c) = H (ix2 n c)) (o : Fin 6912) :
    blockSoftmax hc hs hr (blockLogits 6890#32 bot d1 d2 hb1 hb2 hio h w1 b1 w2 b2) (ix2 r o) = kerHead 6890 H w1 b1 w2 b2 (ix2 n o) := by
  rw [blockSoftmax_apply]
  show logSoftmax _ o = logSoftmax _ o
  congr 1
  funext c
  unfold blockLogits
  show (matmul d2 none _ w2 _ (ix2 r c) + broadcastTo (shape2 M 6912) _ hb2 (ix2 r c) : EReal) = _
  rw [matmul_entry d2 h2, broadcastTo_1b_ab_apply]
  congr 1
  · refine Finset.sum_congr rfl fun q _ => ?_
    rw [blockElu_apply]
    show elu (matmul d1 none h w1 _ (ix2 r q) + broadcastTo (shape2 M D) b1 hb1 (ix2 r q) : EReal) * _ = _
    rw [matmul_entry d1 h1, broadcastTo_1b_ab_apply]
    simp only [hH]
  · show Scalar.select (IntOp.cmpi .slt (iota .tc (shape2 1 6912) 32 [1] hio (ix2 0 c)) 6890#32) (b2 (ix2 0 c)) bot = _
    rw [iota_single_apply, hbot]
    exact lane_select c _ _

/-- The same at an index of the block and the index of the array that lies `t` blocks of 400 rows down. -/
theorem headBlock_at {C D : ℕ} {bot : Ideal .f32} (hbot : bot = (⊥ : EReal)) {d1 : DotDims (shape2 400 C) (shape2 C D) (shape2 400 D)}
    (h1 : PlainDot d1) {d2 : DotDims (shape2 400 D) (shape2 D 6912) (shape2 400 6912)} (h2 : PlainDot d2)
    {hb1 : (shape2 1 D).Broadcasts (shape2 400 D)} {hb2 : (shape2 1 6912).Broadcasts (shape2 400 6912)}
    {hio : (shape2 1 6912).Iotas .tc 32 [1]} {hc : (shape1 400).ShapeCasts (shape2 400 1)}
    {hs : (shape2 400 1).Broadcasts (shape2 400 6912)} {hr : (shape2 400 6912).Reduces [1] (shape1 400)}
    {h : FVec Ideal (shape2 400 C) .f32} {w1 W1 : FVec Ideal (shape2 C D) .f32} {b1 B1 : FVec Ideal (shape2 1 D) .f32}
    {w2 W2 : FVec Ideal (shape2 D 6912) .f32} {b2 B2 : FVec Ideal (shape2 1 6912) .f32} {H : FVec Ideal (shape2 10000 C) .f32} (t : ℕ)
    (hH : ∀ (r : Fin 400) (n : Fin 10000) (q : Fin C), n.val = t * 400 + r.val → h (ix2 r q) = H (ix2 n q))
    (hw1 : w1 = W1) (hB1 : b1 = B1) (hw2 : w2 = W2) (hB2 : b2 = B2) (y : (shape2 400 6912).Idx) (i : (shape2 10000 6912).Idx)
    (i0 : (i 0).val = t * 400 + (y 0).val) (i1 : (i 1).val = (y 1).val) :
    blockSoftmax hc hs hr (blockLogits 6890#32 bot d1 d2 hb1 hb2 hio h w1 b1 w2 b2) y = kerHead 6890 H W1 B1 W2 B2 i := by
  subst hw1 hB1 hw2 hB2
  obtain ⟨r, o, rfl⟩ : ∃ r o, y = ix2 r o := ⟨y 0, y 1, eq_ix2 y⟩
  obtain ⟨n, o', rfl⟩ : ∃ n o', i = ix2 n o' := ⟨i 0, i 1, eq_ix2 i⟩
  obtain rfl : o' = o := Fin.ext i1
  exact headBlock_eq bot hbot d1 h1 d2 h2 hb1 hb2 hio hc hs hr h w1 b1 w2 b2 H r n (fun q => hH r n q i0) o'

end Cert.Spline

end
-- ==== Proof.Regions.lean ====
/-
  The arrays that the kernel's seven calls leave, over the extended reals, as functions of the arrays they find.
-/
module

public import proofs.«01_k».proof.Proof.Block
public import proofs.«01_k».proof.Proof.Gen.KernelIdeal.Frame
public import Idealize.ShloMosaic.Lib.Pipeline.ValueKit

@[expose] public section

noncomputable section

namespace Cert.Spline

open Idealize.ShloMosaic hiding ix1 ix2
open Idealize.ShloMosaic.ValueIdx Idealize.ShloMosaic.Routing Idealize.ShloMosaic.TcCoe
open Cert.KernelIdeal Cert.KernelIdeal.Gen
open Idealize.ShloMosaic.Pipeline (Dat)

variable (V : (c : Dev nD) → (b : Ref sig .tc) → Buf (Elt Ideal) ((c : Thread nD τ).loc b))

/-- The first row of block `t`, and its first lane. -/
theorem first_row (t v : ℕ) : t * 400 + 1 * v = t * 400 + v := by omega

theorem first_lane (s v : ℕ) : 0 * s + 1 * v = v := by omega

/-- What one point of layer 1's call computes. -/
theorem payload0 (v0 : Vec Ideal S400x125 .f32) (v2 : Vec Ideal S125x32 .f32) (v5 : Vec Ideal S400x1 .f32)
    (v6 : Vec Ideal S1x32 .f32) (v9 : Vec Ideal S1x32 .f32) : k0_pay1 v0 v2 v5 v6 v9
      = layerBlock dot_S400x125_S125x32_S400x32_1_0_0_1_n_n dot_S400x1_S1x32_S400x32_1_0_0_1_n_n broadcasts_S1x32_S400x32 v0 v2 v5 v6 v9 := by
  simp only [k0_pay1, shapeCast_self]
  rfl

/-- What one point of layer 2's call computes. -/
theorem payload1 (v0 : Vec Ideal S400x4000 .f32) (v2 : Vec Ideal S4000x64 .f32) (v5 : Vec Ideal S400x32 .f32)
    (v7 : Vec Ideal S32x64 .f32) (v10 : Vec Ideal S1x64 .f32) : k1_pay1 v0 v2 v5 v7 v10
      = layerBlock dot_S400x4000_S4000x64_S400x64_1_0_0_1_n_n dot_S400x32_S32x64_S400x64_1_0_0_1_n_n broadcasts_S1x64_S400x64 v0 v2 v5 v7 v10 := by
  simp only [k1_pay1, shapeCast_self]
  rfl

/-- What one point of the calls of the layers 3 to 6 computes. -/
theorem payload2 (v0 : Vec Ideal S400x8000 .f32) (v2 : Vec Ideal S8000x64 .f32) (v5 : Vec Ideal S400x64 .f32)
    (v7 : Vec Ideal S64x64 .f32) (v10 : Vec Ideal S1x64 .f32) : k2_pay1 v0 v2 v5 v7 v10
      = layerBlock dot_S400x8000_S8000x64_S400x64_1_0_0_1_n_n dot_S400x64_S64x64_S400x64_1_0_0_1_n_n broadcasts_S1x64_S400x64 v0 v2 v5 v7 v10 := by
  simp only [k2_pay1, shapeCast_self]
  rfl

/-- Which block of each array the points of layer 1's call work on. -/
theorem places0 : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] :=
  (by decide +kernel : ∀ t : Fin grid0.N, _)

/-- The array that layer 1's call leaves. -/
theorem region0 (c : Dev nD) : (dat0 V c).arrAt 5 cfg0.N
    = kerLayer (V c main_v423) (V c main_arg0) (V c main_v424) (V c main_arg4) (V c main_v425) := by
  refine (dat0 V c).arrAt_eq_of_covers 5 _ (by decide +kernel) fun t hf y => ?_
  obtain ⟨h0, h1, h2, h3, h4, h5⟩ := places0 t
  blk_simp
  rw [after0_5]
  frame_out
  rw [payload0]
  refine layerBlock_at ⟨rfl, rfl, rfl, rfl, rfl, rfl⟩ ⟨rfl, rfl, rfl, rfl, rfl, rfl⟩ t.val
    (fun r n q h => congrArg (V c main_v423) (funext fun a => Fin.ext (place_rows h0 rfl q h a)))
    (fun r n q h => congrArg (V c main_arg0) (funext fun a => Fin.ext (place_rows h1 rfl q h a)))
    (funext fun j => congrArg (V c main_v424) (funext fun a => Fin.ext (place_fixed h2 a (j a).val)))
    (funext fun j => congrArg (V c main_arg4) (funext fun a => Fin.ext (place_fixed h3 a (j a).val)))
    (funext fun j => congrArg (V c main_v425) (funext fun a => Fin.ext (place_fixed h4 a (j a).val))) y _
    ((congrArg (fun I : Fin 2 → ℕ => I 0 * 400 + 1 * (y 0).val) h5).trans (first_row t.val _))
    ((congrArg (fun I : Fin 2 → ℕ => I 1 * _ + 1 * (y 1).val) h5).trans (first_lane _ _))

/-- Which block of each array the points of layer 2's call work on. -/
theorem places1 : ∀ t : Fin cfg1.N, win1_0.index t = ![t.val, 0] ∧ win1_1.index t = ![t.val, 0] ∧ win1_2.index t = ![0, 0]
    ∧ win1_3.index t = ![0, 0] ∧ win1_4.index t = ![0, 0] ∧ win1_5.index t = ![t.val, 0] :=
  (by decide +kernel : ∀ t : Fin grid1.N, _)

/-- The array that layer 2's call leaves. -/
theorem region1 (c : Dev nD) : (dat1 V c).arrAt 5 cfg1.N
    = kerLayer (V c main_v547) (V c main_v426) (V c main_v548) (V c main_arg7) (V c main_v549) := by
  refine (dat1 V c).arrAt_eq_of_covers 5 _ (by decide +kernel) fun t hf y => ?_
  obtain ⟨h0, h1, h2, h3, h4, h5⟩ := places1 t
  blk_simp
  rw [after1_5]
  frame_out
  rw [payload1]
  refine layerBlock_at ⟨rfl, rfl, rfl, rfl, rfl, rfl⟩ ⟨rfl, rfl, rfl, rfl, rfl, rfl⟩ t.val
    (fun r n q h => congrArg (V c main_v547) (funext fun a => Fin.ext (place_rows h0 rfl q h a)))
    (fun r n q h => congrArg (V c main_v426) (funext fun a => Fin.ext (place_rows h1 rfl q h a)))
    (funext fun j => congrArg (V c main_v548) (funext fun a => Fin.ext (place_fixed h2 a (j a).val)))
    (funext fun j => congrArg (V c main_arg7) (funext fun a => Fin.ext (place_fixed h3 a (j a).val)))
    (funext fun j => congrArg (V c main_v549) (funext fun a => Fin.ext (place_fixed h4 a (j a).val))) y _
    ((congrArg (fun I : Fin 2 → ℕ => I 0 * 400 + 1 * (y 0).val) h5).trans (first_row t.val _))
    ((congrArg (fun I : Fin 2 → ℕ => I 1 * _ + 1 * (y 1).val) h5).trans (first_lane _ _))

/-- Which block of each array the points of layer 3's call work on. -/
theorem places2 : ∀ t : Fin cfg2.N, win2_0.index t = ![t.val, 0] ∧ win2_1.index t = ![t.val, 0] ∧ win2_2.index t = ![0, 0]
    ∧ win2_3.index t = ![0, 0] ∧ win2_4.index t = ![0, 0] ∧ win2_5.index t = ![t.val, 0] :=
  (by decide +kernel : ∀ t : Fin grid2.N, _)

/-- The array that layer 3's call leaves. -/
theorem region2 (c : Dev nD) : (dat2 V c).arrAt 5 cfg2.N
    = kerLayer (V c main_v671) (V c main_v550) (V c main_v672) (V c main_arg10) (V c main_v673) := by
  refine (dat2 V c).arrAt_eq_of_covers 5 _ (by decide +kernel) fun t hf y => ?_
  obtain ⟨h0, h1, h2, h3, h4, h5⟩ := places2 t
  blk_simp
  rw [after2_5]
  frame_out
  rw [payload2]
  refine layerBlock_at ⟨rfl, rfl, rfl, rfl, rfl, rfl⟩ ⟨rfl, rfl, rfl, rfl, rfl, rfl⟩ t.val
    (fun r n q h => congrArg (V c main_v671) (funext fun a => Fin.ext (place_rows h0 rfl q h a)))
    (fun r n q h => congrArg (V c main_v550) (funext fun a => Fin.ext (place_rows h1 rfl q h a)))
    (funext fun j => congrArg (V c main_v672) (funext fun a => Fin.ext (place_fixed h2 a (j a).val)))
    (funext fun j => congrArg (V c main_arg10) (funext fun a => Fin.ext (place_fixed h3 a (j a).val)))
    (funext fun j => congrArg (V c main_v673) (funext fun a => Fin.ext (place_fixed h4 a (j a).val))) y _
    ((congrArg (fun I : Fin 2 → ℕ => I 0 * 400 + 1 * (y 0).val) h5).trans (first_row t.val _))
    ((congrArg (fun I : Fin 2 → ℕ => I 1 * _ + 1 * (y 1).val) h5).trans (first_lane _ _))

/-- Which block of each array the points of layer 4's call work on. -/
theorem places3 : ∀ t : Fin cfg3.N, win3_0.index t = ![t.val, 0] ∧ win3_1.index t = ![t.val, 0] ∧ win3_2.index t = ![0, 0]
    ∧ win3_3.index t = ![0, 0] ∧ win3_4.index t = ![0, 0] ∧ win3_5.index t = ![t.val, 0] :=
  (by decide +kernel : ∀ t : Fin grid3.N, _)

/-- The array that layer 4's call leaves. -/
theorem region3 (c : Dev nD) : (dat3 V c).arrAt 5 cfg3.N
    = kerLayer (V c main_v795) (V c main_v674) (V c main_v796) (V c main_arg13) (V c main_v797) := by
  refine (dat3 V c).arrAt_eq_of_covers 5 _ (by decide +kernel) fun t hf y => ?_
  obtain ⟨h0, h1, h2, h3, h4, h5⟩ := places3 t
  blk_simp
  rw [after3_5]
  frame_out
  rw [show k3_pay1 (F := Ideal) = k2_pay1 from rfl, payload2]
  refine layerBlock_at ⟨rfl, rfl, rfl, rfl, rfl, rfl⟩ ⟨rfl, rfl, rfl, rfl, rfl, rfl⟩ t.val
    (fun r n q h => congrArg (V c main_v795) (funext fun a => Fin.ext (place_rows h0 rfl q h a)))
    (fun r n q h => congrArg (V c main_v674) (funext fun a => Fin.ext (place_rows h1 rfl q h a)))
    (funext fun j => congrArg (V c main_v796) (funext fun a => Fin.ext (place_fixed h2 a (j a).val)))
    (funext fun j => congrArg (V c main_arg13) (funext fun a => Fin.ext (place_fixed h3 a (j a).val)))
    (funext fun j => congrArg (V c main_v797) (funext fun a => Fin.ext (place_fixed h4 a (j a).val))) y _
    ((congrArg (fun I : Fin 2 → ℕ => I 0 * 400 + 1 * (y 0).val) h5).trans (first_row t.val _))
    ((congrArg (fun I : Fin 2 → ℕ => I 1 * _ + 1 * (y 1).val) h5).trans (first_lane _ _))

/-- Which block of each array the points of layer 5's call work on. -/
theorem places4 : ∀ t : Fin cfg4.N, win4_0.index t = ![t.val, 0] ∧ win4_1.index t = ![t.val, 0] ∧ win4_2.index t = ![0, 0]
    ∧ win4_3.index t = ![0, 0] ∧ win4_4.index t = ![0, 0] ∧ win4_5.index t = ![t.val, 0] :=
  (by decide +kernel : ∀ t : Fin grid4.N, _)

/-- The array that layer 5's call leaves. -/
theorem region4 (c : Dev nD) : (dat4 V c).arrAt 5 cfg4.N
    = kerLayer (V c main_v919) (V c main_v798) (V c main_v920) (V c main_arg16) (V c main_v921) := by
  refine (dat4 V c).arrAt_eq_of_covers 5 _ (by decide +kernel) fun t hf y => ?_
  obtain ⟨h0, h1, h2, h3, h4, h5⟩ := places4 t
  blk_simp
  rw [after4_5]
  frame_out
  rw [show k4_pay1 (F := Ideal) = k2_pay1 from rfl, payload2]
  refine layerBlock_at ⟨rfl, rfl, rfl, rfl, rfl, rfl⟩ ⟨rfl, rfl, rfl, rfl, rfl, rfl⟩ t.val
    (fun r n q h => congrArg (V c main_v919) (funext fun a => Fin.ext (place_rows h0 rfl q h a)))
    (fun r n q h => congrArg (V c main_v798) (funext fun a => Fin.ext (place_rows h1 rfl q h a)))
    (funext fun j => congrArg (V c main_v920) (funext fun a => Fin.ext (place_fixed h2 a (j a).val)))
    (funext fun j => congrArg (V c main_arg16) (funext fun a => Fin.ext (place_fixed h3 a (j a).val)))
    (funext fun j => congrArg (V c main_v921) (funext fun a => Fin.ext (place_fixed h4 a (j a).val))) y _
    ((congrArg (fun I : Fin 2 → ℕ => I 0 * 400 + 1 * (y 0).val) h5).trans (first_row t.val _))
    ((congrArg (fun I : Fin 2 → ℕ => I 1 * _ + 1 * (y 1).val) h5).trans (first_lane _ _))

/-- Which block of each array the points of layer 6's call work on. -/
theorem places5 : ∀ t : Fin cfg5.N, win5_0.index t = ![t.val, 0] ∧ win5_1.index t = ![t.val, 0] ∧ win5_2.index t = ![0, 0]
    ∧ win5_3.index t = ![0, 0] ∧ win5_4.index t = ![0, 0] ∧ win5_5.index t = ![t.val, 0] :=
  (by decide +kernel : ∀ t : Fin grid5.N, _)

/-- The array that layer 6's call leaves. -/
theorem region5 (c : Dev nD) : (dat5 V c).arrAt 5 cfg5.N
    = kerLayer (V c main_v1043) (V c main_v922) (V c main_v1044) (V c main_arg19) (V c main_v1045) := by
  refine (dat5 V c).arrAt_eq_of_covers 5 _ (by decide +kernel) fun t hf y => ?_
  obtain ⟨h0, h1, h2, h3, h4, h5⟩ := places5 t
  blk_simp
  rw [after5_5]
  frame_out
  rw [show k5_pay1 (F := Ideal) = k2_pay1 from rfl, payload2]
  refine layerBlock_at ⟨rfl, rfl, rfl, rfl, rfl, rfl⟩ ⟨rfl, rfl, rfl, rfl, rfl, rfl⟩ t.val
    (fun r n q h => congrArg (V c main_v1043) (funext fun a => Fin.ext (place_rows h0 rfl q h a)))
    (fun r n q h => congrArg (V c main_v922) (funext fun a => Fin.ext (place_rows h1 rfl q h a)))
    (funext fun j => congrArg (V c main_v1044) (funext fun a => Fin.ext (place_fixed h2 a (j a).val)))
    (funext fun j => congrArg (V c main_arg19) (funext fun a => Fin.ext (place_fixed h3 a (j a).val)))
    (funext fun j => congrArg (V c main_v1045) (funext fun a => Fin.ext (place_fixed h4 a (j a).val))) y _
    ((congrArg (fun I : Fin 2 → ℕ => I 0 * 400 + 1 * (y 0).val) h5).trans (first_row t.val _))
    ((congrArg (fun I : Fin 2 → ℕ => I 1 * _ + 1 * (y 1).val) h5).trans (first_lane _ _))

/-- What one point of the head's call computes. -/
theorem payload6 (v0 : Vec Ideal S400x64 .f32) (v2 : Vec Ideal S64x256 .f32) (v4 : Vec Ideal S1x256 .f32)
    (v14 : Vec Ideal S256x6912 .f32) (v20 : Vec Ideal S1x6912 .f32) : k6_pay1 v0 v2 v4 v14 v20
      = blockSoftmax shapeCasts_S400_S400x1 broadcasts_S400x1_S400x6912 reduces_S400x6912_S400
        (blockLogits 6890#32 (Named.named κ "masked_bias" 0xF149F2CA#32) dot_S400x64_S64x256_S400x256_1_0_0_1_n_n
          dot_S400x256_S256x6912_S400x6912_1_0_0_1_n_n broadcasts_S1x256_S400x256 broadcasts_S1x6912_S400x6912 iota_S1x6912_d1_w32
          v0 v2 v4 v14 v20) := by
  simp only [k6_pay1, shapeCast_self]
  rfl

/-- Which block of each array the points of the head's call work on. -/
theorem places6 : ∀ t : Fin cfg6.N, win6_0.index t = ![t.val, 0] ∧ win6_1.index t = ![0, 0] ∧ win6_2.index t = ![0, 0]
    ∧ win6_3.index t = ![0, 0] ∧ win6_4.index t = ![0, 0] ∧ win6_5.index t = ![t.val, 0] :=
  (by decide +kernel : ∀ t : Fin grid6.N, _)

/-- The array that the head's call leaves. -/
theorem region6 (c : Dev nD) : (dat6 V c).arrAt 5 cfg6.N
    = kerHead 6890 (V c main_v1046) (V c main_arg21) (V c main_v1055) (V c main_v1049) (V c main_v1054) := by
  refine (dat6 V c).arrAt_eq_of_covers 5 _ (by decide +kernel) fun t hf y => ?_
  obtain ⟨h0, h1, h2, h3, h4, h5⟩ := places6 t
  blk_simp
  rw [after6_5]
  frame_out
  rw [payload6]
  refine headBlock_at rfl ⟨rfl, rfl, rfl, rfl, rfl, rfl⟩ ⟨rfl, rfl, rfl, rfl, rfl, rfl⟩ t.val
    (fun r n q h => congrArg (V c main_v1046) (funext fun a => Fin.ext (place_rows h0 rfl q h a)))
    (funext fun j => congrArg (V c main_arg21) (funext fun a => Fin.ext (place_fixed h1 a (j a).val)))
    (funext fun j => congrArg (V c main_v1055) (funext fun a => Fin.ext (place_fixed h2 a (j a).val)))
    (funext fun j => congrArg (V c main_v1049) (funext fun a => Fin.ext (place_fixed h3 a (j a).val)))
    (funext fun j => congrArg (V c main_v1054) (funext fun a => Fin.ext (place_fixed h4 a (j a).val))) y _
    ((congrArg (fun I : Fin 2 → ℕ => I 0 * 400 + 1 * (y 0).val) h5).trans (first_row t.val _))
    ((congrArg (fun I : Fin 2 → ℕ => I 1 * _ + 1 * (y 1).val) h5).trans (first_lane _ _))

end Cert.Spline

end
-- ==== Proof.Chain.lean ====
/-
  The kernel's run through its seven launches: what each launch leaves, as a function of the arguments.
-/
module

public import proofs.«01_k».proof.Proof.Net
public import proofs.«01_k».proof.Proof.Regions

@[expose] public section

noncomputable section

namespace Cert.Spline

open Idealize.ShloMosaic hiding ix1 ix2
open Idealize.ShloMosaic.ValueIdx Idealize.ShloMosaic.Routing Idealize.ShloMosaic.TcCoe
open Cert.KernelIdeal Cert.KernelIdeal.Gen

/-- A launch on the buckets of one channel leaves the reference's layer, whatever names its operands have. -/
theorem step1 {e : IVec (shape2 2 320000) 32} {p : FVec Ideal (shape2 320000 3) .f32} (h : Ranges e p)
    {s : IVec (shape1 320000) 32} {B : FVec Ideal (shape2 8 320000) .f32} {T : IVec (shape2 8 320000) 32}
    (ht : s = row 0 (by decide) e ∧ B = weightsOf e p ∧ T = bucketsOf e p)
    {x y x' : FVec Ideal (shape2 10000 1) .f32} (hx : x' = x) (hy : y = x)
    {W W' : FVec Ideal (shape3 125 1 32) .f32} (hW : W' = W) {root root' : FVec Ideal (shape2 1 32) .f32} (hr : root' = root)
    {b b' : FVec Ideal (shape1 32) .f32} (hb : b' = b)
    {X : FVec Ideal (shape2 10000 125) .f32} (hX : X = shapeCast (shape2 10000 125) (buckets1 B T s x') shapeCasts_S1250000x1_S10000x125)
    {Wf : FVec Ideal (shape2 125 32) .f32} (hWf : Wf = shapeCast (shape2 125 32) W' shapeCasts_S125x1x32_S125x32)
    {bf : FVec Ideal (shape2 1 32) .f32} (hbf : bf = shapeCast (shape2 1 32) b' shapeCasts_S32_S1x32) :
    kerLayer X y Wf root' bf = net1 x e p W root b := by
  obtain ⟨rfl, rfl, rfl⟩ := ht
  subst hx hy hW hr hb hX hWf hbf
  exact kernel_net1 e p h _ _ _ _

/-- A launch on the buckets of 32 channels leaves the reference's layer, whatever names its operands have. -/
theorem step32 {e : IVec (shape2 2 320000) 32} {p : FVec Ideal (shape2 320000 3) .f32} (h : Ranges e p)
    {s : IVec (shape1 320000) 32} {B : FVec Ideal (shape2 8 320000) .f32} {T : IVec (shape2 8 320000) 32}
    (ht : s = row 0 (by decide) e ∧ B = weightsOf e p ∧ T = bucketsOf e p)
    {x y x' : FVec Ideal (shape2 10000 32) .f32} (hx : x' = x) (hy : y = x)
    {W W' : FVec Ideal (shape3 125 32 64) .f32} (hW : W' = W) {root root' : FVec Ideal (shape2 32 64) .f32} (hr : root' = root)
    {b b' : FVec Ideal (shape1 64) .f32} (hb : b' = b)
    {X : FVec Ideal (shape2 10000 4000) .f32} (hX : X = shapeCast (shape2 10000 4000) (buckets32 B T s x') shapeCasts_S1250000x32_S10000x4000)
    {Wf : FVec Ideal (shape2 4000 64) .f32} (hWf : Wf = shapeCast (shape2 4000 64) W' shapeCasts_S125x32x64_S4000x64)
    {bf : FVec Ideal (shape2 1 64) .f32} (hbf : bf = shapeCast (shape2 1 64) b' shapeCasts_S64_S1x64) :
    kerLayer X y Wf root' bf = net32 x e p W root b := by
  obtain ⟨rfl, rfl, rfl⟩ := ht
  subst hx hy hW hr hb hX hWf hbf
  exact kernel_net32 e p h _ _ _ _

/-- A launch on the buckets of 64 channels leaves the reference's layer, whatever names its operands have. -/
theorem step64 {e : IVec (shape2 2 320000) 32} {p : FVec Ideal (shape2 320000 3) .f32} (h : Ranges e p)
    {s : IVec (shape1 320000) 32} {B : FVec Ideal (shape2 8 320000) .f32} {T : IVec (shape2 8 320000) 32}
    (ht : s = row 0 (by decide) e ∧ B = weightsOf e p ∧ T = bucketsOf e p)
    {x y x' : FVec Ideal (shape2 10000 64) .f32} (hx : x' = x) (hy : y = x)
    {W W' : FVec Ideal (shape3 125 64 64) .f32} (hW : W' = W) {root root' : FVec Ideal (shape2 64 64) .f32} (hr : root' = root)
    {b b' : FVec Ideal (shape1 64) .f32} (hb : b' = b)
    {X : FVec Ideal (shape2 10000 8000) .f32} (hX : X = shapeCast (shape2 10000 8000) (buckets64 B T s x') shapeCasts_S1250000x64_S10000x8000)
    {Wf : FVec Ideal (shape2 8000 64) .f32} (hWf : Wf = shapeCast (shape2 8000 64) W' shapeCasts_S125x64x64_S8000x64)
    {bf : FVec Ideal (shape2 1 64) .f32} (hbf : bf = shapeCast (shape2 1 64) b' shapeCasts_S64_S1x64) :
    kerLayer X y Wf root' bf = net64 x e p W root b := by
  obtain ⟨rfl, rfl, rfl⟩ := ht
  subst hx hy hW hr hb hX hWf hbf
  exact kernel_net64 e p h _ _ _ _

variable (m : (ℓ : Loc nD τ sig) → Buf (Elt Ideal) ℓ) (ρ : Dev nD → PrngReg)

/-- The contents of an argument at the start. -/
abbrev argOf (c : Dev nD) (r : Ref sig .tc) : Buf (Elt Ideal) ((c : Thread nD τ).loc r) := m ((c : Thread nD τ).loc r)

/-- The reference's features after the first layer, from the kernel's arguments. -/
def feats1 (c : Dev nD) : FVec Ideal (shape2 10000 32) .f32 :=
  net1 (argOf m c main_arg0) (argOf m c main_arg1) (argOf m c main_arg2) (argOf m c main_arg3) (argOf m c main_arg4) (argOf m c main_arg5)

/-- The reference's features after two layers. -/
def feats2 (c : Dev nD) : FVec Ideal (shape2 10000 64) .f32 :=
  net32 (feats1 m c) (argOf m c main_arg1) (argOf m c main_arg2) (argOf m c main_arg6) (argOf m c main_arg7) (argOf m c main_arg8)

/-- The reference's features after three layers. -/
def feats3 (c : Dev nD) : FVec Ideal (shape2 10000 64) .f32 :=
  net64 (feats2 m c) (argOf m c main_arg1) (argOf m c main_arg2) (argOf m c main_arg9) (argOf m c main_arg10) (argOf m c main_arg11)

/-- The reference's features after four layers. -/
def feats4 (c : Dev nD) : FVec Ideal (shape2 10000 64) .f32 :=
  net64 (feats3 m c) (argOf m c main_arg1) (argOf m c main_arg2) (argOf m c main_arg12) (argOf m c main_arg13) (argOf m c main_arg14)

/-- The reference's features after five layers. -/
def feats5 (c : Dev nD) : FVec Ideal (shape2 10000 64) .f32 :=
  net64 (feats4 m c) (argOf m c main_arg1) (argOf m c main_arg2) (argOf m c main_arg15) (argOf m c main_arg16) (argOf m c main_arg17)

/-- The reference's features after six layers. -/
def feats6 (c : Dev nD) : FVec Ideal (shape2 10000 64) .f32 :=
  net64 (feats5 m c) (argOf m c main_arg1) (argOf m c main_arg2) (argOf m c main_arg18) (argOf m c main_arg19) (argOf m c main_arg20)

/-- A state of the buffers holds the edges' sources and the two tables. -/
def Tables (c : Dev nD) (W : Valuation τ sig (Elt Ideal)) : Prop :=
  W (Proc.devRef .tc main_v1) = row (m := 2) 0 (by decide) (argOf m c main_arg1) ∧
    W (Proc.devRef .tc main_v301) = weightsOf (argOf m c main_arg1) (argOf m c main_arg2) ∧
    W (Proc.devRef .tc main_v310) = bucketsOf (argOf m c main_arg1) (argOf m c main_arg2)

/-- The sources and the tables are in place before the first launch. -/
theorem tables3 (c : Dev nD) : Tables m c (W3 m ρ c) := by
  have target : W2 m ρ c (Proc.devRef .tc main_v3) = row (m := 2) 1 (by decide) (argOf m c main_arg1) :=
    (W2_of m ρ c main_v3 (by decide)).trans (host0_target _)
  refine ⟨?_, ?_, ?_⟩
  · exact ((W3_of m ρ c main_v1 (by decide)).trans (W2_of m ρ c main_v1 (by decide))).trans (host0_source _)
  · refine (host0_weights _).trans ?_
    rw [target, (W2_of m ρ c main_v9 (by decide)).trans (host0_within _)]
    exact congrArg (fun d => weightTable d _ _) (host0_degree _)
  · refine (host0_buckets _).trans ?_
    rw [target, (W2_of m ρ c main_v7 (by decide)).trans (host0_lower _)]
    rfl

/-- Where the sources and the tables stay, they are still in place. -/
theorem Tables.stay {m : (ℓ : Loc nD τ sig) → Buf (Elt Ideal) ℓ} {c : Dev nD} {W W' : Valuation τ sig (Elt Ideal)} (t : Tables m c W)
    (h : ∀ r ∈ [main_v1, main_v301, main_v310], W' (Proc.devRef .tc r) = W (Proc.devRef .tc r)) : Tables m c W' :=
  ⟨(h _ (by decide)).trans t.1, (h _ (by decide)).trans t.2.1, (h _ (by decide)).trans t.2.2⟩

theorem tables4 (c : Dev nD) : Tables m c (W4 m ρ c) :=
  (tables3 m ρ c).stay fun r hr => W4_of m ρ c r ((by decide +kernel : ∀ r ∈ [main_v1, main_v301, main_v310], ∀ w, Pipeline.arrRef spec0 w = r → (cfg0.win w).isOut = false) r hr)

theorem tables5 (c : Dev nD) : Tables m c (W5 m ρ c) :=
  (tables4 m ρ c).stay fun r hr => W5_of m ρ c r ((by decide +kernel : ∀ r ∈ [main_v1, main_v301, main_v310], r ∉ hostOps1_W) r hr)

theorem tables6 (c : Dev nD) : Tables m c (W6 m ρ c) :=
  (tables5 m ρ c).stay fun r hr => W6_of m ρ c r ((by decide +kernel : ∀ r ∈ [main_v1, main_v301, main_v310], ∀ w, Pipeline.arrRef spec1 w = r → (cfg1.win w).isOut = false) r hr)

theorem tables7 (c : Dev nD) : Tables m c (W7 m ρ c) :=
  (tables6 m ρ c).stay fun r hr => W7_of m ρ c r ((by decide +kernel : ∀ r ∈ [main_v1, main_v301, main_v310], r ∉ hostOps2_W) r hr)

theorem tables8 (c : Dev nD) : Tables m c (W8 m ρ c) :=
  (tables7 m ρ c).stay fun r hr => W8_of m ρ c r ((by decide +kernel : ∀ r ∈ [main_v1, main_v301, main_v310], ∀ w, Pipeline.arrRef spec2 w = r → (cfg2.win w).isOut = false) r hr)

theorem tables9 (c : Dev nD) : Tables m c (W9 m ρ c) :=
  (tables8 m ρ c).stay fun r hr => W9_of m ρ c r ((by decide +kernel : ∀ r ∈ [main_v1, main_v301, main_v310], r ∉ hostOps3_W) r hr)

theorem tables10 (c : Dev nD) : Tables m c (W10 m ρ c) :=
  (tables9 m ρ c).stay fun r hr => W10_of m ρ c r ((by decide +kernel : ∀ r ∈ [main_v1, main_v301, main_v310], ∀ w, Pipeline.arrRef spec3 w = r → (cfg3.win w).isOut = false) r hr)

theorem tables11 (c : Dev nD) : Tables m c (W11 m ρ c) :=
  (tables10 m ρ c).stay fun r hr => W11_of m ρ c r ((by decide +kernel : ∀ r ∈ [main_v1, main_v301, main_v310], r ∉ hostOps4_W) r hr)

theorem tables12 (c : Dev nD) : Tables m c (W12 m ρ c) :=
  (tables11 m ρ c).stay fun r hr => W12_of m ρ c r ((by decide +kernel : ∀ r ∈ [main_v1, main_v301, main_v310], ∀ w, Pipeline.arrRef spec4 w = r → (cfg4.win w).isOut = false) r hr)

/-- The first launch leaves the reference's first layer. -/
theorem layer1 (c : Dev nD) (h : Ranges (argOf m c main_arg1) (argOf m c main_arg2)) : W4 m ρ c (Proc.devRef .tc main_v426) = feats1 m c :=
  (W4_arr m ρ c 5).trans ((region0 _ c).trans (step1 h (tables3 m ρ c) (W3_args m ρ c main_arg0 (by decide)) (W3_args m ρ c main_arg0 (by decide))
    (W2_args m ρ c main_arg3 (by decide)) (W3_args m ρ c main_arg4 (by decide)) (W2_args m ρ c main_arg5 (by decide))
    (host0_features _) (host0_flat _) (host0_bias _)))

/-- Launch 2 leaves the reference's layer 2. -/
theorem layer2 (c : Dev nD) (h : Ranges (argOf m c main_arg1) (argOf m c main_arg2)) : W6 m ρ c (Proc.devRef .tc main_v550) = feats2 m c :=
  (W6_arr m ρ c 5).trans ((region1 _ c).trans (step32 h (tables4 m ρ c) (layer1 m ρ c h)
    ((W5_of m ρ c main_v426 (by decide +kernel)).trans (layer1 m ρ c h)) (W4_args m ρ c main_arg6 (by decide))
    (W5_args m ρ c main_arg7 (by decide)) (W4_args m ρ c main_arg8 (by decide))
    (host1_buckets _) (host1_weights _) (host1_bias _)))

/-- Launch 3 leaves the reference's layer 3. -/
theorem layer3 (c : Dev nD) (h : Ranges (argOf m c main_arg1) (argOf m c main_arg2)) : W8 m ρ c (Proc.devRef .tc main_v674) = feats3 m c :=
  (W8_arr m ρ c 5).trans ((region2 _ c).trans (step64 h (tables6 m ρ c) (layer2 m ρ c h)
    ((W7_of m ρ c main_v550 (by decide +kernel)).trans (layer2 m ρ c h)) (W6_args m ρ c main_arg9 (by decide))
    (W7_args m ρ c main_arg10 (by decide)) (W6_args m ρ c main_arg11 (by decide))
    (host2_buckets _) (host2_weights _) (host2_bias _)))

/-- Launch 4 leaves the reference's layer 4. -/
theorem layer4 (c : Dev nD) (h : Ranges (argOf m c main_arg1) (argOf m c main_arg2)) : W10 m ρ c (Proc.devRef .tc main_v798) = feats4 m c :=
  (W10_arr m ρ c 5).trans ((region3 _ c).trans (step64 h (tables8 m ρ c) (layer3 m ρ c h)
    ((W9_of m ρ c main_v674 (by decide +kernel)).trans (layer3 m ρ c h)) (W8_args m ρ c main_arg12 (by decide))
    (W9_args m ρ c main_arg13 (by decide)) (W8_args m ρ c main_arg14 (by decide))
    (host3_buckets _) (host3_weights _) (host3_bias _)))

/-- Launch 5 leaves the reference's layer 5. -/
theorem layer5 (c : Dev nD) (h : Ranges (argOf m c main_arg1) (argOf m c main_arg2)) : W12 m ρ c (Proc.devRef .tc main_v922) = feats5 m c :=
  (W12_arr m ρ c 5).trans ((region4 _ c).trans (step64 h (tables10 m ρ c) (layer4 m ρ c h)
    ((W11_of m ρ c main_v798 (by decide +kernel)).trans (layer4 m ρ c h)) (W10_args m ρ c main_arg15 (by decide))
    (W11_args m ρ c main_arg16 (by decide)) (W10_args m ρ c main_arg17 (by decide))
    (host4_buckets _) (host4_weights _) (host4_bias _)))

/-- Launch 6 leaves the reference's layer 6. -/
theorem layer6 (c : Dev nD) (h : Ranges (argOf m c main_arg1) (argOf m c main_arg2)) : W14 m ρ c (Proc.devRef .tc main_v1046) = feats6 m c :=
  (W14_arr m ρ c 5).trans ((region5 _ c).trans (step64 h (tables12 m ρ c) (layer5 m ρ c h)
    ((W13_of m ρ c main_v922 (by decide +kernel)).trans (layer5 m ρ c h)) (W12_args m ρ c main_arg18 (by decide))
    (W13_args m ρ c main_arg19 (by decide)) (W12_args m ρ c main_arg20 (by decide))
    (host5_buckets _) (host5_weights _) (host5_bias _)))

end Cert.Spline

end
-- ==== Proof.Final.lean ====
/-
  The kernel's result and the reference's are one function of the arguments.
-/
module

public import proofs.«01_k».proof.Proof.Chain

@[expose] public section

noncomputable section

namespace Cert.Spline

open Idealize.ShloMosaic hiding ix1 ix2 eq_ix2
open Idealize.ShloMosaic.ValueIdx Idealize.ShloMosaic.Routing Idealize.ShloMosaic.TcCoe
open Cert.KernelIdeal Cert.KernelIdeal.Gen

/-- The reference's head: two dense layers and the logarithm of the softmax. -/
def headOf (h : FVec Ideal (shape2 10000 64) .f32) (w1 : FVec Ideal (shape2 64 256) .f32) (b1 : FVec Ideal (shape1 256) .f32)
    (w2 : FVec Ideal (shape2 256 6890) .f32) (b2 : FVec Ideal (shape1 6890) .f32) : FVec Ideal (shape2 10000 6890) .f32 :=
  refLogSoftmax (dense Cert.ReferenceIdeal.dot_S10000x256_S256x6890_S10000x6890_1_0_0_1_n_n
    (refElu (dense Cert.ReferenceIdeal.dot_S10000x64_S64x256_S10000x256_1_0_0_1_n_n h w1 b1)) w2 b2)

/-- Both entries of the padded bias's index vector are zero. -/
theorem twoZeros_toInt (b : Fin 2) : (twoZeros (ix1 b)).toInt = 0 := by
  fin_cases b <;> rfl

/-- The leading columns of the kernel's head, on the padded weights and bias, are the reference's head. -/
theorem kernel_head {h h' : FVec Ideal (shape2 10000 64) .f32} (hh : h' = h) {w1 w1' : FVec Ideal (shape2 64 256) .f32} (hw1 : w1' = w1)
    {b1 b1' : FVec Ideal (shape1 256) .f32} (hb1 : b1' = b1) {w2 w2' : FVec Ideal (shape2 256 6890) .f32} (hw2 : w2' = w2)
    {b2 b2' : FVec Ideal (shape1 6890) .f32} (hb2 : b2' = b2)
    {B1 : FVec Ideal (shape2 1 256) .f32} (hB1 : B1 = shapeCast (shape2 1 256) b1' shapeCasts_S256_S1x256)
    {W2 : FVec Ideal (shape2 256 6912) .f32}
    (hW2 : W2 = Host.scatter scatter_S256x6912_S1_S256x6890_01_n_1_0 (fun _ b => b) (nums (shape2 256 6912) 0x00000000#32) (words (E := 1) 0#32) w2')
    {B2 : FVec Ideal (shape2 1 6912) .f32}
    (hB2 : B2 = Host.scatter scatter_S1x6912_S2_S6890_0_0_01_0 (fun _ b => b) (nums (shape2 1 6912) 0xF149F2CA#32) twoZeros b2')
    {y : FVec Ideal (shape2 10000 6912) .f32} (hy : y = kerHead 6890 h' w1' B1 W2 B2) :
    extractStridedSlice (shape2 10000 6890) ![0, 0] y slices_S10000x6912_S10000x6890_0_0 = headOf h w1 b1 w2 b2 := by
  subst hh hw1 hb1 hw2 hb2
  funext j
  obtain ⟨n, o, rfl⟩ : ∃ n o, j = ix2 n o := ⟨j 0, j 1, eq_ix2 j⟩
  have hMP : (6890 : ℕ) ≤ 6912 := by decide
  refine (extractStridedSlice_apply _ _ _ _ (ix2 n (o.castLE hMP)) (fun a => ?_)).trans ?_
  · match a with
    | ⟨0, _⟩ => exact (Nat.zero_add _).symm
    | ⟨1, _⟩ => exact (Nat.zero_add _).symm
  · refine (congrFun hy _).trans (head_eq hMP _ ⟨rfl, rfl, rfl, rfl, rfl, rfl⟩ _ ⟨rfl, rfl, rfl, rfl, rfl, rfl⟩ _ _ _ _ _ _ _ _ (fun q => ?_) (fun q c => ?_) (fun c => ?_) n o)
    · refine (congrFun hB1 _).trans (shapeCast_apply _ _ _ (ix1 q) (by rw [Shape.rowMajor_val_one, Shape.rowMajor_val_two]; show q.val = 0 * 256 + q.val; omega))
    · refine ((congrFun hW2 _).trans (scatter_columns hMP _ ⟨rfl, rfl, rfl, rfl⟩ _ _ rfl _ q c)).trans ?_
      split
      · rfl
      · exact nums_zero _ _
    · exact (congrFun hB2 _).trans (scatter_row hMP _ ⟨rfl, rfl, rfl, rfl⟩ _ _ twoZeros_toInt _ c)

variable (m : (ℓ : Loc nD τ sig) → Buf (Elt Ideal) ℓ) (ρ : Dev nD → PrngReg)

/-- The kernel's result, from its arguments, is the reference's function of them. -/
theorem kernel_result (c : Dev nD) (h : Ranges (argOf m c main_arg1) (argOf m c main_arg2)) : W17 m ρ c (Proc.devRef .tc main_v1057)
    = headOf (feats6 m c) (argOf m c main_arg21) (argOf m c main_arg22) (argOf m c main_arg23) (argOf m c main_arg24) :=
  (host7_result _).trans (kernel_head ((W15_of m ρ c main_v1046 (by decide +kernel)).trans (layer6 m ρ c h))
    (W15_args m ρ c main_arg21 (by decide)) (W14_args m ρ c main_arg22 (by decide)) (W14_args m ρ c main_arg23 (by decide))
    (W14_args m ρ c main_arg24 (by decide)) (host6_bias1 _) (host6_weights _) (host6_bias _) ((W16_arr m ρ c 5).trans (region6 _ c)))

/-- A function of six arguments takes equal arguments to equal values. -/
theorem congr6 {α₁ α₂ α₃ α₄ α₅ α₆ β : Type} (f : α₁ → α₂ → α₃ → α₄ → α₅ → α₆ → β) {x₁ y₁ : α₁} {x₂ y₂ : α₂} {x₃ y₃ : α₃} {x₄ y₄ : α₄}
    {x₅ y₅ : α₅} {x₆ y₆ : α₆} (h₁ : x₁ = y₁) (h₂ : x₂ = y₂) (h₃ : x₃ = y₃) (h₄ : x₄ = y₄) (h₅ : x₅ = y₅) (h₆ : x₆ = y₆) :
    f x₁ x₂ x₃ x₄ x₅ x₆ = f y₁ y₂ y₃ y₄ y₅ y₆ := by
  subst h₁ h₂ h₃ h₄ h₅ h₆; rfl

/-- A function of five arguments takes equal arguments to equal values. -/
theorem congr5 {α₁ α₂ α₃ α₄ α₅ β : Type} (f : α₁ → α₂ → α₃ → α₄ → α₅ → β) {x₁ y₁ : α₁} {x₂ y₂ : α₂} {x₃ y₃ : α₃} {x₄ y₄ : α₄}
    {x₅ y₅ : α₅} (h₁ : x₁ = y₁) (h₂ : x₂ = y₂) (h₃ : x₃ = y₃) (h₄ : x₄ = y₄) (h₅ : x₅ = y₅) : f x₁ x₂ x₃ x₄ x₅ = f y₁ y₂ y₃ y₄ y₅ :=
  congr6 (fun a b c d e (_ : Unit) => f a b c d e) h₁ h₂ h₃ h₄ h₅ (rfl : () = ())

/-- The reference's result, from arguments that are the kernel's, is the same function of them. -/
theorem ref_result (c : Dev nD) (V : Valuation Cert.ReferenceIdeal.τ Cert.ReferenceIdeal.sig (Elt Ideal))
    (h : V (Proc.devRef .tc Cert.ReferenceIdeal.main_arg0) = argOf m c main_arg0
      ∧ V (Proc.devRef .tc Cert.ReferenceIdeal.main_arg1) = argOf m c main_arg1
      ∧ V (Proc.devRef .tc Cert.ReferenceIdeal.main_arg2) = argOf m c main_arg2
      ∧ V (Proc.devRef .tc Cert.ReferenceIdeal.main_arg3) = argOf m c main_arg3
      ∧ V (Proc.devRef .tc Cert.ReferenceIdeal.main_arg4) = argOf m c main_arg4
      ∧ V (Proc.devRef .tc Cert.ReferenceIdeal.main_arg5) = argOf m c main_arg5
      ∧ V (Proc.devRef .tc Cert.ReferenceIdeal.main_arg6) = argOf m c main_arg6
      ∧ V (Proc.devRef .tc Cert.ReferenceIdeal.main_arg7) = argOf m c main_arg7
      ∧ V (Proc.devRef .tc Cert.ReferenceIdeal.main_arg8) = argOf m c main_arg8
      ∧ V (Proc.devRef .tc Cert.ReferenceIdeal.main_arg9) = argOf m c main_arg9
      ∧ V (Proc.devRef .tc Cert.ReferenceIdeal.main_arg10) = argOf m c main_arg10
      ∧ V (Proc.devRef .tc Cert.ReferenceIdeal.main_arg11) = argOf m c main_arg11
      ∧ V (Proc.devRef .tc Cert.ReferenceIdeal.main_arg12) = argOf m c main_arg12
      ∧ V (Proc.devRef .tc Cert.ReferenceIdeal.main_arg13) = argOf m c main_arg13
      ∧ V (Proc.devRef .tc Cert.ReferenceIdeal.main_arg14) = argOf m c main_arg14
      ∧ V (Proc.devRef .tc Cert.ReferenceIdeal.main_arg15) = argOf m c main_arg15
      ∧ V (Proc.devRef .tc Cert.ReferenceIdeal.main_arg16) = argOf m c main_arg16
      ∧ V (Proc.devRef .tc Cert.ReferenceIdeal.main_arg17) = argOf m c main_arg17
      ∧ V (Proc.devRef .tc Cert.ReferenceIdeal.main_arg18) = argOf m c main_arg18
      ∧ V (Proc.devRef .tc Cert.ReferenceIdeal.main_arg19) = argOf m c main_arg19
      ∧ V (Proc.devRef .tc Cert.ReferenceIdeal.main_arg20) = argOf m c main_arg20
      ∧ V (Proc.devRef .tc Cert.ReferenceIdeal.main_arg21) = argOf m c main_arg21
      ∧ V (Proc.devRef .tc Cert.ReferenceIdeal.main_arg22) = argOf m c main_arg22
      ∧ V (Proc.devRef .tc Cert.ReferenceIdeal.main_arg23) = argOf m c main_arg23
      ∧ V (Proc.devRef .tc Cert.ReferenceIdeal.main_arg24) = argOf m c main_arg24) :
    subf (Cert.ReferenceIdeal.Value.res_main_call13_v5 V) (broadcastInDim Cert.ReferenceIdeal.S10000x6890 ![0, 1] Cert.ReferenceIdeal.Gen.bcast_S10000x1_S10000x6890_0_1
      (Host.log (broadcastInDim Cert.ReferenceIdeal.S10000x1 ![0] Cert.ReferenceIdeal.Gen.bcast_S10000_S10000x1_0
        (Host.reduceAdd (Host.exp (Cert.ReferenceIdeal.Value.res_main_call13_v5 V)) (constant Cert.ReferenceIdeal.S_ .f32 0x00000000#32)
          Cert.ReferenceIdeal.Gen.reducesTo_S10000x6890_S10000_d1 Cert.ReferenceIdeal.Gen.h_S_))))
    = headOf (feats6 m c) (argOf m c main_arg21) (argOf m c main_arg22) (argOf m c main_arg23) (argOf m c main_arg24) := by
  obtain ⟨h0, h1, h2, h3, h4, h5, h6, h7, h8, h9, h10, h11, h12, h13, h14, h15, h16, h17, h18, h19, h20, h21, h22, h23, h24⟩ := h
  have f1 : Cert.ReferenceIdeal.Value.res_main_v366 V = feats1 m c := (ref_layer1 V).trans (congr6 net1 h0 h1 h2 h3 h4 h5)
  have f2 : Cert.ReferenceIdeal.Value.res_main_v737 V = feats2 m c := (ref_layer2 V).trans (congr6 net32 f1 h1 h2 h6 h7 h8)
  have f3 : Cert.ReferenceIdeal.Value.res_main_v1108 V = feats3 m c := (ref_layer3 V).trans (congr6 net64 f2 h1 h2 h9 h10 h11)
  have f4 : Cert.ReferenceIdeal.Value.res_main_v1479 V = feats4 m c := (ref_layer4 V).trans (congr6 net64 f3 h1 h2 h12 h13 h14)
  have f5 : Cert.ReferenceIdeal.Value.res_main_v1850 V = feats5 m c := (ref_layer5 V).trans (congr6 net64 f4 h1 h2 h15 h16 h17)
  exact (ref_head V).trans (congr5 headOf ((ref_layer6 V).trans (congr6 net64 f5 h1 h2 h18 h19 h20)) h21 h22 h23 h24)

end Cert.Spline

end
-- ==== Proof.ValueRun.lean ====
/-
  The kernel's run over the extended reals: every buffer of the TensorCores ends at the contents of the fold through the program.
-/
module

public import proofs.«01_k».proof.Proof.Gen.KernelIdeal.Frame

@[expose] public section

set_option maxRecDepth 16384

noncomputable section

namespace Cert.Spline

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (ρ : Dev nD → PrngReg)

set_option backward.isDefEq.respectTransparency.types false in
/-- The kernel ends, and every buffer that outlives the program's launches then holds what the last step of the fold holds. -/
theorem value_run : θ_run (Cert.KernelIdeal.defs (F := Ideal)) (onTc (τ := τ) (Cert.KernelIdeal.main (F := Ideal))) ⟨m, fun _ => 0, ρ⟩
    (fun r => ∀ c : Dev nD, ∀ b ∈ Pipeline.ucRefs τ sig, r.2.mem (((c : Thread nD τ)).1, b) = W17 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h _ => h)

end Cert.Spline

end
-- ==== Proof.lean ====
/- The certificate of the claims of proofs.«01_k».proof.Defs. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import proofs.«01_k».proof.Proof.ValueRun
public import Idealize.ShloMosaic.Adequacy
public import Idealize.ShloMosaic.Init

@[expose] public section

noncomputable section

namespace Cert.Proof

open Idealize.ShloMosaic Idealize.SL.Sem Cert.Spline Cert.KernelIdeal Cert.KernelIdeal.Gen

/-- The side conditions of the precondition's operations. -/
instance preFacts : Cert.Pre_drawn_ranges.Facts where
  slices_S2x320000_S1x320000_1_0 := sliceRow 1 (by decide)
  shapeCasts_S1x320000_S320000 := castRow _
  bcast_S_S320000 := bc0 _
  bcast_S_S320000x3 := bc0 _

/-- The precondition bounds the lower corners and the targets. -/
theorem ranges (m : (ℓ : Loc nD τ sig) → Buf (Elt Ideal) ℓ) (h : Cert.Pre_KernelIdeal_drawn_ranges m) (c : Dev nD) :
    Ranges (argOf m c main_arg1) (argOf m c main_arg2) :=
  ⟨fun i k => lower_range (E := 320000) _ (h c).2 i k, fun i => col_range (E := 320000) _ (h c).1 i⟩

/-- Over the extended reals the kernel computes what the reference computes. -/
theorem algebraic : Cert.algebraic_KernelIdeal_ReferenceIdeal_pre_drawn_ranges := by
  intro m g m' g' hpre hargs
  refine ⟨fun c => headOf (feats6 m c) (argOf m c main_arg21) (argOf m c main_arg22) (argOf m c main_arg23) (argOf m c main_arg24),
    (θ_run _ _ _).mono (fun r hv c => ⟨(hv c _ (mem_uc main_v1057 (by decide))).trans (kernel_result m g c (ranges m hpre c)), ?_⟩)
      (value_run m g),
    (θ_run _ _ _).mono (fun r hv c => ⟨(hv c).1.trans (ref_result m c _ (hargs c)), (hv c).2⟩)
      (Cert.ReferenceIdeal.Value.run (F := Ideal) m' g')⟩
  exact ⟨(hv c _ (mem_uc main_arg0 (by decide))).trans (W17_main_arg0 m g c),
    (hv c _ (mem_uc main_arg1 (by decide))).trans (W17_main_arg1 m g c),
    (hv c _ (mem_uc main_arg2 (by decide))).trans (W17_main_arg2 m g c),
    (hv c _ (mem_uc main_arg3 (by decide))).trans (W17_main_arg3 m g c),
    (hv c _ (mem_uc main_arg4 (by decide))).trans (W17_main_arg4 m g c),
    (hv c _ (mem_uc main_arg5 (by decide))).trans (W17_main_arg5 m g c),
    (hv c _ (mem_uc main_arg6 (by decide))).trans (W17_main_arg6 m g c),
    (hv c _ (mem_uc main_arg7 (by decide))).trans (W17_main_arg7 m g c),
    (hv c _ (mem_uc main_arg8 (by decide))).trans (W17_main_arg8 m g c),
    (hv c _ (mem_uc main_arg9 (by decide))).trans (W17_main_arg9 m g c),
    (hv c _ (mem_uc main_arg10 (by decide))).trans (W17_main_arg10 m g c),
    (hv c _ (mem_uc main_arg11 (by decide))).trans (W17_main_arg11 m g c),
    (hv c _ (mem_uc main_arg12 (by decide))).trans (W17_main_arg12 m g c),
    (hv c _ (mem_uc main_arg13 (by decide))).trans (W17_main_arg13 m g c),
    (hv c _ (mem_uc main_arg14 (by decide))).trans (W17_main_arg14 m g c),
    (hv c _ (mem_uc main_arg15 (by decide))).trans (W17_main_arg15 m g c),
    (hv c _ (mem_uc main_arg16 (by decide))).trans (W17_main_arg16 m g c),
    (hv c _ (mem_uc main_arg17 (by decide))).trans (W17_main_arg17 m g c),
    (hv c _ (mem_uc main_arg18 (by decide))).trans (W17_main_arg18 m g c),
    (hv c _ (mem_uc main_arg19 (by decide))).trans (W17_main_arg19 m g c),
    (hv c _ (mem_uc main_arg20 (by decide))).trans (W17_main_arg20 m g c),
    (hv c _ (mem_uc main_arg21 (by decide))).trans (W17_main_arg21 m g c),
    (hv c _ (mem_uc main_arg22 (by decide))).trans (W17_main_arg22 m g c),
    (hv c _ (mem_uc main_arg23 (by decide))).trans (W17_main_arg23 m g c),
    (hv c _ (mem_uc main_arg24 (by decide))).trans (W17_main_arg24 m g c)⟩

/-- The claims: each program's frame, that the named constant is the only thing changed, and that the kernel computes the reference. -/
theorem claim : Cert.Claim :=
  ⟨Cert.Kernel.Gen.facts, Cert.KernelIdeal.Gen.facts, Cert.ReferenceIdeal.Gen.facts, preFacts,
    fun m ρ _ => Cert.Kernel.Gen.frame m ρ,
    fun m ρ _ => Cert.KernelIdeal.Gen.frame m ρ,
    fun m ρ _ => Cert.KernelIdeal.Gen.frame m ρ,
    fun m ρ _ => (θ_run Cert.ReferenceIdeal.defs _ _).mono
      (fun r h => ⟨fun c => (h c).2, sem_eq_zero_of_no_sems (by decide) r.2⟩)
      (Cert.ReferenceIdeal.Value.run (F := Ideal) m ρ),
    fun m ρ _ => (θ_run Cert.ReferenceIdeal.defs _ _).mono
      (fun r h => ⟨fun c => (h c).2, sem_eq_zero_of_no_sems (by decide) r.2⟩)
      (Cert.ReferenceIdeal.Value.run (F := Ideal) m ρ),
    IdealRules.named_const.statement Cert.KernelIdeal.κ "masked_bias" .f32 0xF149F2CA#32 ⊥ rfl,
    algebraic⟩

end Cert.Proof

end
